-- ==== Defs.lean ====
def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowIdeal_finite_scores [hPre_finite_scores : Cert.Pre_finite_scores.Facts] (m : (ℓ : Loc Cert.WindowIdeal.nD Cert.WindowIdeal.τ Cert.WindowIdeal.sig) → Buf (Elt Ideal) ℓ) : Prop :=
  ∀ c : Dev Cert.WindowIdeal.nD,
    (Cert.Pre_finite_scores.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2))).1 = (fun _ => 1#1)
    ∧ (Cert.Pre_finite_scores.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2))).2 = (fun _ => 1#1)

def Pre_WindowRefIdeal (m : (ℓ : Loc Cert.WindowRefIdeal.nD Cert.WindowRefIdeal.τ Cert.WindowRefIdeal.sig) → Buf (Elt Ideal) ℓ) : Prop :=
  True

def Pre_WindowRefIdeal_finite_scores [hPre_finite_scores : Cert.Pre_finite_scores.Facts] (m : (ℓ : Loc Cert.WindowRefIdeal.nD Cert.WindowRefIdeal.τ Cert.WindowRefIdeal.sig) → Buf (Elt Ideal) ℓ) : Prop :=
  ∀ c : Dev Cert.WindowRefIdeal.nD,
    (Cert.Pre_finite_scores.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1)) (m ((c.tc : Thread Cert.WindowRefIdeal.nD Cert.WindowRefIdeal.τ).loc Cert.WindowRefIdeal.main_arg2))).1 = (fun _ => 1#1)
    ∧ (Cert.Pre_finite_scores.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1)) (m ((c.tc : Thread Cert.WindowRefIdeal.nD Cert.WindowRefIdeal.τ).loc Cert.WindowRefIdeal.main_arg2))).2 = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_MergeGates (m : (ℓ : Loc Cert.MergeGates.nD Cert.MergeGates.τ Cert.MergeGates.sig) → Buf (Elt Bits) ℓ) : Prop :=
  True

def Pre_MergeGatesIdeal (m : (ℓ : Loc Cert.MergeGatesIdeal.nD Cert.MergeGatesIdeal.τ Cert.MergeGatesIdeal.sig) → Buf (Elt Ideal) ℓ) : Prop :=
  True

def Pre_MergeGatesRefIdeal (m : (ℓ : Loc Cert.MergeGatesRefIdeal.nD Cert.MergeGatesRefIdeal.τ Cert.MergeGatesRefIdeal.sig) → Buf (Elt Ideal) ℓ) : Prop :=
  True

def Pre_GatedMerge (m : (ℓ : Loc Cert.GatedMerge.nD Cert.GatedMerge.τ Cert.GatedMerge.sig) → Buf (Elt Bits) ℓ) : Prop :=
  True

def Pre_GatedMergeIdeal (m : (ℓ : Loc Cert.GatedMergeIdeal.nD Cert.GatedMergeIdeal.τ Cert.GatedMergeIdeal.sig) → Buf (Elt Ideal) ℓ) : Prop :=
  True

def Pre_GatedMergeRefIdeal (m : (ℓ : Loc Cert.GatedMergeRefIdeal.nD Cert.GatedMergeRefIdeal.τ Cert.GatedMergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesRefIdeal (m : (ℓ : Loc Cert.ValuesRefIdeal.nD Cert.ValuesRefIdeal.τ Cert.ValuesRefIdeal.sig) → Buf (Elt Ideal) ℓ) : Prop :=
  True

def Pre_ChunkInputs (m : (ℓ : Loc Cert.ChunkInputs.nD Cert.ChunkInputs.τ Cert.ChunkInputs.sig) → Buf (Elt Bits) ℓ) : Prop :=
  True

def Pre_ChunkInputsIdeal (m : (ℓ : Loc Cert.ChunkInputsIdeal.nD Cert.ChunkInputsIdeal.τ Cert.ChunkInputsIdeal.sig) → Buf (Elt Ideal) ℓ) : Prop :=
  True

def Pre_ChunkInputsRefIdeal (m : (ℓ : Loc Cert.ChunkInputsRefIdeal.nD Cert.ChunkInputsRefIdeal.τ Cert.ChunkInputsRefIdeal.sig) → Buf (Elt Ideal) ℓ) : Prop :=
  True

def Pre_GatingInputs (m : (ℓ : Loc Cert.GatingInputs.nD Cert.GatingInputs.τ Cert.GatingInputs.sig) → Buf (Elt Bits) ℓ) : Prop :=
  True

def Pre_GatingInputsIdeal (m : (ℓ : Loc Cert.GatingInputsIdeal.nD Cert.GatingInputsIdeal.τ Cert.GatingInputsIdeal.sig) → Buf (Elt Ideal) ℓ) : Prop :=
  True

def Pre_GatingInputsRefIdeal (m : (ℓ : Loc Cert.GatingInputsRefIdeal.nD Cert.GatingInputsRefIdeal.τ Cert.GatingInputsRefIdeal.sig) → Buf (Elt Ideal) ℓ) : Prop :=
  True

def Pre_MobaQueries (m : (ℓ : Loc Cert.MobaQueries.nD Cert.MobaQueries.τ Cert.MobaQueries.sig) → Buf (Elt Bits) ℓ) : Prop :=
  True

def Pre_MobaQueriesIdeal (m : (ℓ : Loc Cert.MobaQueriesIdeal.nD Cert.MobaQueriesIdeal.τ Cert.MobaQueriesIdeal.sig) → Buf (Elt Ideal) ℓ) : Prop :=
  True

def Pre_MobaQueriesRefIdeal (m : (ℓ : Loc Cert.MobaQueriesRefIdeal.nD Cert.MobaQueriesRefIdeal.τ Cert.MobaQueriesRefIdeal.sig) → Buf (Elt Ideal) ℓ) : Prop :=
  True

def Pre_MobaKeys (m : (ℓ : Loc Cert.MobaKeys.nD Cert.MobaKeys.τ Cert.MobaKeys.sig) → Buf (Elt Bits) ℓ) : Prop :=
  True

def Pre_MobaKeysIdeal (m : (ℓ : Loc Cert.MobaKeysIdeal.nD Cert.MobaKeysIdeal.τ Cert.MobaKeysIdeal.sig) → Buf (Elt Ideal) ℓ) : Prop :=
  True

def Pre_MobaKeysRefIdeal (m : (ℓ : Loc Cert.MobaKeysRefIdeal.nD Cert.MobaKeysRefIdeal.τ Cert.MobaKeysRefIdeal.sig) → Buf (Elt Ideal) ℓ) : Prop :=
  True

def Pre_SparseKeys (m : (ℓ : Loc Cert.SparseKeys.nD Cert.SparseKeys.τ Cert.SparseKeys.sig) → Buf (Elt Bits) ℓ) : Prop :=
  True

def Pre_SparseKeysIdeal (m : (ℓ : Loc Cert.SparseKeysIdeal.nD Cert.SparseKeysIdeal.τ Cert.SparseKeysIdeal.sig) → Buf (Elt Ideal) ℓ) : Prop :=
  True

def Pre_SparseKeysRefIdeal (m : (ℓ : Loc Cert.SparseKeysRefIdeal.nD Cert.SparseKeysRefIdeal.τ Cert.SparseKeysRefIdeal.sig) → Buf (Elt Ideal) ℓ) : Prop :=
  True

def Pre_SparseQueries (m : (ℓ : Loc Cert.SparseQueries.nD Cert.SparseQueries.τ Cert.SparseQueries.sig) → Buf (Elt Bits) ℓ) : Prop :=
  True

def Pre_SparseQueriesIdeal (m : (ℓ : Loc Cert.SparseQueriesIdeal.nD Cert.SparseQueriesIdeal.τ Cert.SparseQueriesIdeal.sig) → Buf (Elt Ideal) ℓ) : Prop :=
  True

def Pre_SparseQueriesRefIdeal (m : (ℓ : Loc Cert.SparseQueriesRefIdeal.nD Cert.SparseQueriesRefIdeal.τ Cert.SparseQueriesRefIdeal.sig) → Buf (Elt Ideal) ℓ) : Prop :=
  True

def Pre_RowNorm (m : (ℓ : Loc Cert.RowNorm.nD Cert.RowNorm.τ Cert.RowNorm.sig) → Buf (Elt Bits) ℓ) : Prop :=
  True

def Pre_RowNormIdeal (m : (ℓ : Loc Cert.RowNormIdeal.nD Cert.RowNormIdeal.τ Cert.RowNormIdeal.sig) → Buf (Elt Ideal) ℓ) : Prop :=
  True

def Pre_RowNormRefIdeal (m : (ℓ : Loc Cert.RowNormRefIdeal.nD Cert.RowNormRefIdeal.τ Cert.RowNormRefIdeal.sig) → Buf (Elt Ideal) ℓ) : Prop :=
  True

def Pre_BranchGates (m : (ℓ : Loc Cert.BranchGates.nD Cert.BranchGates.τ Cert.BranchGates.sig) → Buf (Elt Bits) ℓ) : Prop :=
  True

def Pre_BranchGatesIdeal (m : (ℓ : Loc Cert.BranchGatesIdeal.nD Cert.BranchGatesIdeal.τ Cert.BranchGatesIdeal.sig) → Buf (Elt Ideal) ℓ) : Prop :=
  True

def Pre_BranchGatesRefIdeal (m : (ℓ : Loc Cert.BranchGatesRefIdeal.nD Cert.BranchGatesRefIdeal.τ Cert.BranchGatesRefIdeal.sig) → Buf (Elt Ideal) ℓ) : Prop :=
  True

def Pre_BranchSum (m : (ℓ : Loc Cert.BranchSum.nD Cert.BranchSum.τ Cert.BranchSum.sig) → Buf (Elt Bits) ℓ) : Prop :=
  True

def Pre_BranchSumIdeal (m : (ℓ : Loc Cert.BranchSumIdeal.nD Cert.BranchSumIdeal.τ Cert.BranchSumIdeal.sig) → Buf (Elt Ideal) ℓ) : Prop :=
  True

def Pre_BranchSumRefIdeal (m : (ℓ : Loc Cert.BranchSumRefIdeal.nD Cert.BranchSumRefIdeal.τ Cert.BranchSumRefIdeal.sig) → Buf (Elt Ideal) ℓ) : Prop :=
  True

def Pre_CompressValues (m : (ℓ : Loc Cert.CompressValues.nD Cert.CompressValues.τ Cert.CompressValues.sig) → Buf (Elt Bits) ℓ) : Prop :=
  True

def Pre_CompressValuesIdeal (m : (ℓ : Loc Cert.CompressValuesIdeal.nD Cert.CompressValuesIdeal.τ Cert.CompressValuesIdeal.sig) → Buf (Elt Ideal) ℓ) : Prop :=
  True

def Pre_CompressValuesRefIdeal (m : (ℓ : Loc Cert.CompressValuesRefIdeal.nD Cert.CompressValuesRefIdeal.τ Cert.CompressValuesRefIdeal.sig) → Buf (Elt Ideal) ℓ) : Prop :=
  True

def Pre_CompressKeys (m : (ℓ : Loc Cert.CompressKeys.nD Cert.CompressKeys.τ Cert.CompressKeys.sig) → Buf (Elt Bits) ℓ) : Prop :=
  True

def Pre_CompressKeysIdeal (m : (ℓ : Loc Cert.CompressKeysIdeal.nD Cert.CompressKeysIdeal.τ Cert.CompressKeysIdeal.sig) → Buf (Elt Ideal) ℓ) : Prop :=
  True

def Pre_CompressKeysRefIdeal (m : (ℓ : Loc Cert.CompressKeysRefIdeal.nD Cert.CompressKeysRefIdeal.τ Cert.CompressKeysRefIdeal.sig) → Buf (Elt Ideal) ℓ) : Prop :=
  True

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ r.2.sem = fun _ => 0)

def quiescent_WindowIdeal_pre_finite_scores [hWindowIdeal : Cert.WindowIdeal.Facts] [hPre_finite_scores : Cert.Pre_finite_scores.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal_finite_scores m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2))
      ∧ r.2.sem = fun _ => 0)

def quiescent_WindowRefIdeal_pre_finite_scores [hWindowRefIdeal : Cert.WindowRefIdeal.Facts] [hPre_finite_scores : Cert.Pre_finite_scores.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal_finite_scores m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_MergeGates [hMergeGates : Cert.MergeGates.Facts] : Prop :=
  ∀ (m : (ℓ : Loc Cert.MergeGates.nD Cert.MergeGates.τ Cert.MergeGates.sig) → Buf (Elt Bits) ℓ) (g : Dev Cert.MergeGates.nD → PrngReg), Pre_MergeGates m →
    θ_run (Cert.MergeGates.defs (F := Bits)) (onTc (τ := Cert.MergeGates.τ) (Cert.MergeGates.main (F := Bits))) ⟨m, fun _ => 0, g⟩ (fun r => (∀ c : Dev Cert.MergeGates.nD,
      r.2.mem ((c.tc : Thread Cert.MergeGates.nD Cert.MergeGates.τ).loc Cert.MergeGates.main_arg0) = m ((c.tc : Thread Cert.MergeGates.nD Cert.MergeGates.τ).loc Cert.MergeGates.main_arg0)
      ∧ r.2.mem ((c.tc : Thread Cert.MergeGates.nD Cert.MergeGates.τ).loc Cert.MergeGates.main_arg1) = m ((c.tc : Thread Cert.MergeGates.nD Cert.MergeGates.τ).loc Cert.MergeGates.main_arg1))
      ∧ r.2.sem = fun _ => 0)

def quiescent_MergeGatesIdeal [hMergeGatesIdeal : Cert.MergeGatesIdeal.Facts] : Prop :=
  ∀ (m : (ℓ : Loc Cert.MergeGatesIdeal.nD Cert.MergeGatesIdeal.τ Cert.MergeGatesIdeal.sig) → Buf (Elt Ideal) ℓ) (g : Dev Cert.MergeGatesIdeal.nD → PrngReg), Pre_MergeGatesIdeal m →
    θ_run (Cert.MergeGatesIdeal.defs (F := Ideal)) (onTc (τ := Cert.MergeGatesIdeal.τ) (Cert.MergeGatesIdeal.main (F := Ideal))) ⟨m, fun _ => 0, g⟩ (fun r => (∀ c : Dev Cert.MergeGatesIdeal.nD,
      r.2.mem ((c.tc : Thread Cert.MergeGatesIdeal.nD Cert.MergeGatesIdeal.τ).loc Cert.MergeGatesIdeal.main_arg0) = m ((c.tc : Thread Cert.MergeGatesIdeal.nD Cert.MergeGatesIdeal.τ).loc Cert.MergeGatesIdeal.main_arg0)
      ∧ r.2.mem ((c.tc : Thread Cert.MergeGatesIdeal.nD Cert.MergeGatesIdeal.τ).loc Cert.MergeGatesIdeal.main_arg1) = m ((c.tc : Thread Cert.MergeGatesIdeal.nD Cert.MergeGatesIdeal.τ).loc Cert.MergeGatesIdeal.main_arg1))
      ∧ r.2.sem = fun _ => 0)

def quiescent_MergeGatesRefIdeal [hMergeGatesRefIdeal : Cert.MergeGatesRefIdeal.Facts] : Prop :=
  ∀ (m : (ℓ : Loc Cert.MergeGatesRefIdeal.nD Cert.MergeGatesRefIdeal.τ Cert.MergeGatesRefIdeal.sig) → Buf (Elt Ideal) ℓ) (g : Dev Cert.MergeGatesRefIdeal.nD → PrngReg), Pre_MergeGatesRefIdeal m →
    θ_run (Cert.MergeGatesRefIdeal.defs (F := Ideal)) (onTc (τ := Cert.MergeGatesRefIdeal.τ) (Cert.MergeGatesRefIdeal.main (F := Ideal))) ⟨m, fun _ => 0, g⟩ (fun r => (∀ c : Dev Cert.MergeGatesRefIdeal.nD,
      r.2.mem ((c.tc : Thread Cert.MergeGatesRefIdeal.nD Cert.MergeGatesRefIdeal.τ).loc Cert.MergeGatesRefIdeal.main_arg0) = m ((c.tc : Thread Cert.MergeGatesRefIdeal.nD Cert.MergeGatesRefIdeal.τ).loc Cert.MergeGatesRefIdeal.main_arg0)
      ∧ r.2.mem ((c.tc : Thread Cert.MergeGatesRefIdeal.nD Cert.MergeGatesRefIdeal.τ).loc Cert.MergeGatesRefIdeal.main_arg1) = m ((c.tc : Thread Cert.MergeGatesRefIdeal.nD Cert.MergeGatesRefIdeal.τ).loc Cert.MergeGatesRefIdeal.main_arg1))
      ∧ r.2.sem = fun _ => 0)

def quiescent_GatedMerge [hGatedMerge : Cert.GatedMerge.Facts] : Prop :=
  ∀ (m : (ℓ : Loc Cert.GatedMerge.nD Cert.GatedMerge.τ Cert.GatedMerge.sig) → Buf (Elt Bits) ℓ) (g : Dev Cert.GatedMerge.nD → PrngReg), Pre_GatedMerge m →
    θ_run (Cert.GatedMerge.defs (F := Bits)) (onTc (τ := Cert.GatedMerge.τ) (Cert.GatedMerge.main (F := Bits))) ⟨m, fun _ => 0, g⟩ (fun r => (∀ c : Dev Cert.GatedMerge.nD,
      r.2.mem ((c.tc : Thread Cert.GatedMerge.nD Cert.GatedMerge.τ).loc Cert.GatedMerge.main_arg0) = m ((c.tc : Thread Cert.GatedMerge.nD Cert.GatedMerge.τ).loc Cert.GatedMerge.main_arg0)
      ∧ r.2.mem ((c.tc : Thread Cert.GatedMerge.nD Cert.GatedMerge.τ).loc Cert.GatedMerge.main_arg1) = m ((c.tc : Thread Cert.GatedMerge.nD Cert.GatedMerge.τ).loc Cert.GatedMerge.main_arg1)
      ∧ r.2.mem ((c.tc : Thread Cert.GatedMerge.nD Cert.GatedMerge.τ).loc Cert.GatedMerge.main_arg2) = m ((c.tc : Thread Cert.GatedMerge.nD Cert.GatedMerge.τ).loc Cert.GatedMerge.main_arg2)
      ∧ r.2.mem ((c.tc : Thread Cert.GatedMerge.nD Cert.GatedMerge.τ).loc Cert.GatedMerge.main_arg3) = m ((c.tc : Thread Cert.GatedMerge.nD Cert.GatedMerge.τ).loc Cert.GatedMerge.main_arg3)
      ∧ r.2.mem ((c.tc : Thread Cert.GatedMerge.nD Cert.GatedMerge.τ).loc Cert.GatedMerge.main_arg4) = m ((c.tc : Thread Cert.GatedMerge.nD Cert.GatedMerge.τ).loc Cert.GatedMerge.main_arg4)
      ∧ r.2.mem ((c.tc : Thread Cert.GatedMerge.nD Cert.GatedMerge.τ).loc Cert.GatedMerge.main_arg5) = m ((c.tc : Thread Cert.GatedMerge.nD Cert.GatedMerge.τ).loc Cert.GatedMerge.main_arg5)
      ∧ r.2.mem ((c.tc : Thread Cert.GatedMerge.nD Cert.GatedMerge.τ).loc Cert.GatedMerge.main_arg6) = m ((c.tc : Thread Cert.GatedMerge.nD Cert.GatedMerge.τ).loc Cert.GatedMerge.main_arg6))
      ∧ r.2.sem = fun _ => 0)

def quiescent_GatedMergeIdeal [hGatedMergeIdeal : Cert.GatedMergeIdeal.Facts] : Prop :=
  ∀ (m : (ℓ : Loc Cert.GatedMergeIdeal.nD Cert.GatedMergeIdeal.τ Cert.GatedMergeIdeal.sig) → Buf (Elt Ideal) ℓ) (g : Dev Cert.GatedMergeIdeal.nD → PrngReg), Pre_GatedMergeIdeal m →
    θ_run (Cert.GatedMergeIdeal.defs (F := Ideal)) (onTc (τ := Cert.GatedMergeIdeal.τ) (Cert.GatedMergeIdeal.main (F := Ideal))) ⟨m, fun _ => 0, g⟩ (fun r => (∀ c : Dev Cert.GatedMergeIdeal.nD,
      r.2.mem ((c.tc : Thread Cert.GatedMergeIdeal.nD Cert.GatedMergeIdeal.τ).loc Cert.GatedMergeIdeal.main_arg0) = m ((c.tc : Thread Cert.GatedMergeIdeal.nD Cert.GatedMergeIdeal.τ).loc Cert.GatedMergeIdeal.main_arg0)
      ∧ r.2.mem ((c.tc : Thread Cert.GatedMergeIdeal.nD Cert.GatedMergeIdeal.τ).loc Cert.GatedMergeIdeal.main_arg1) = m ((c.tc : Thread Cert.GatedMergeIdeal.nD Cert.GatedMergeIdeal.τ).loc Cert.GatedMergeIdeal.main_arg1)
      ∧ r.2.mem ((c.tc : Thread Cert.GatedMergeIdeal.nD Cert.GatedMergeIdeal.τ).loc Cert.GatedMergeIdeal.main_arg2) = m ((c.tc : Thread Cert.GatedMergeIdeal.nD Cert.GatedMergeIdeal.τ).loc Cert.GatedMergeIdeal.main_arg2)
      ∧ r.2.mem ((c.tc : Thread Cert.GatedMergeIdeal.nD Cert.GatedMergeIdeal.τ).loc Cert.GatedMergeIdeal.main_arg3) = m ((c.tc : Thread Cert.GatedMergeIdeal.nD Cert.GatedMergeIdeal.τ).loc Cert.GatedMergeIdeal.main_arg3)
      ∧ r.2.mem ((c.tc : Thread Cert.GatedMergeIdeal.nD Cert.GatedMergeIdeal.τ).loc Cert.GatedMergeIdeal.main_arg4) = m ((c.tc : Thread Cert.GatedMergeIdeal.nD Cert.GatedMergeIdeal.τ).loc Cert.GatedMergeIdeal.main_arg4)
      ∧ r.2.mem ((c.tc : Thread Cert.GatedMergeIdeal.nD Cert.GatedMergeIdeal.τ).loc Cert.GatedMergeIdeal.main_arg5) = m ((c.tc : Thread Cert.GatedMergeIdeal.nD Cert.GatedMergeIdeal.τ).loc Cert.GatedMergeIdeal.main_arg5)
      ∧ r.2.mem ((c.tc : Thread Cert.GatedMergeIdeal.nD Cert.GatedMergeIdeal.τ).loc Cert.GatedMergeIdeal.main_arg6) = m ((c.tc : Thread Cert.GatedMergeIdeal.nD Cert.GatedMergeIdeal.τ).loc Cert.GatedMergeIdeal.main_arg6))
      ∧ r.2.sem = fun _ => 0)

def quiescent_GatedMergeRefIdeal [hGatedMergeRefIdeal : Cert.GatedMergeRefIdeal.Facts] : Prop :=
  ∀ (m : (ℓ : Loc Cert.GatedMergeRefIdeal.nD Cert.GatedMergeRefIdeal.τ Cert.GatedMergeRefIdeal.sig) → Buf (Elt Ideal) ℓ) (g : Dev Cert.GatedMergeRefIdeal.nD → PrngReg), Pre_GatedMergeRefIdeal m →
    θ_run (Cert.GatedMergeRefIdeal.defs (F := Ideal)) (onTc (τ := Cert.GatedMergeRefIdeal.τ) (Cert.GatedMergeRefIdeal.main (F := Ideal))) ⟨m, fun _ => 0, g⟩ (fun r => (∀ c : Dev Cert.GatedMergeRefIdeal.nD,
      r.2.mem ((c.tc : Thread Cert.GatedMergeRefIdeal.nD Cert.GatedMergeRefIdeal.τ).loc Cert.GatedMergeRefIdeal.main_arg0) = m ((c.tc : Thread Cert.GatedMergeRefIdeal.nD Cert.GatedMergeRefIdeal.τ).loc Cert.GatedMergeRefIdeal.main_arg0)
      ∧ r.2.mem ((c.tc : Thread Cert.GatedMergeRefIdeal.nD Cert.GatedMergeRefIdeal.τ).loc Cert.GatedMergeRefIdeal.main_arg1) = m ((c.tc : Thread Cert.GatedMergeRefIdeal.nD Cert.GatedMergeRefIdeal.τ).loc Cert.GatedMergeRefIdeal.main_arg1)
      ∧ r.2.mem ((c.tc : Thread Cert.GatedMergeRefIdeal.nD Cert.GatedMergeRefIdeal.τ).loc Cert.GatedMergeRefIdeal.main_arg2) = m ((c.tc : Thread Cert.GatedMergeRefIdeal.nD Cert.GatedMergeRefIdeal.τ).loc Cert.GatedMergeRefIdeal.main_arg2)
      ∧ r.2.mem ((c.tc : Thread Cert.GatedMergeRefIdeal.nD Cert.GatedMergeRefIdeal.τ).loc Cert.GatedMergeRefIdeal.main_arg3) = m ((c.tc : Thread Cert.GatedMergeRefIdeal.nD Cert.GatedMergeRefIdeal.τ).loc Cert.GatedMergeRefIdeal.main_arg3)
      ∧ r.2.mem ((c.tc : Thread Cert.GatedMergeRefIdeal.nD Cert.GatedMergeRefIdeal.τ).loc Cert.GatedMergeRefIdeal.main_arg4) = m ((c.tc : Thread Cert.GatedMergeRefIdeal.nD Cert.GatedMergeRefIdeal.τ).loc Cert.GatedMergeRefIdeal.main_arg4)
      ∧ r.2.mem ((c.tc : Thread Cert.GatedMergeRefIdeal.nD Cert.GatedMergeRefIdeal.τ).loc Cert.GatedMergeRefIdeal.main_arg5) = m ((c.tc : Thread Cert.GatedMergeRefIdeal.nD Cert.GatedMergeRefIdeal.τ).loc Cert.GatedMergeRefIdeal.main_arg5)
      ∧ r.2.mem ((c.tc : Thread Cert.GatedMergeRefIdeal.nD Cert.GatedMergeRefIdeal.τ).loc Cert.GatedMergeRefIdeal.main_arg6) = m ((c.tc : Thread Cert.GatedMergeRefIdeal.nD Cert.GatedMergeRefIdeal.τ).loc Cert.GatedMergeRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1))
      ∧ r.2.sem = fun _ => 0)

def quiescent_ChunkInputs [hChunkInputs : Cert.ChunkInputs.Facts] : Prop :=
  ∀ (m : (ℓ : Loc Cert.ChunkInputs.nD Cert.ChunkInputs.τ Cert.ChunkInputs.sig) → Buf (Elt Bits) ℓ) (g : Dev Cert.ChunkInputs.nD → PrngReg), Pre_ChunkInputs m →
    θ_run (Cert.ChunkInputs.defs (F := Bits)) (onTc (τ := Cert.ChunkInputs.τ) (Cert.ChunkInputs.main (F := Bits))) ⟨m, fun _ => 0, g⟩ (fun r => (∀ c : Dev Cert.ChunkInputs.nD,
      r.2.mem ((c.tc : Thread Cert.ChunkInputs.nD Cert.ChunkInputs.τ).loc Cert.ChunkInputs.main_arg0) = m ((c.tc : Thread Cert.ChunkInputs.nD Cert.ChunkInputs.τ).loc Cert.ChunkInputs.main_arg0)
      ∧ r.2.mem ((c.tc : Thread Cert.ChunkInputs.nD Cert.ChunkInputs.τ).loc Cert.ChunkInputs.main_arg1) = m ((c.tc : Thread Cert.ChunkInputs.nD Cert.ChunkInputs.τ).loc Cert.ChunkInputs.main_arg1))
      ∧ r.2.sem = fun _ => 0)

def quiescent_ChunkInputsIdeal [hChunkInputsIdeal : Cert.ChunkInputsIdeal.Facts] : Prop :=
  ∀ (m : (ℓ : Loc Cert.ChunkInputsIdeal.nD Cert.ChunkInputsIdeal.τ Cert.ChunkInputsIdeal.sig) → Buf (Elt Ideal) ℓ) (g : Dev Cert.ChunkInputsIdeal.nD → PrngReg), Pre_ChunkInputsIdeal m →
    θ_run (Cert.ChunkInputsIdeal.defs (F := Ideal)) (onTc (τ := Cert.ChunkInputsIdeal.τ) (Cert.ChunkInputsIdeal.main (F := Ideal))) ⟨m, fun _ => 0, g⟩ (fun r => (∀ c : Dev Cert.ChunkInputsIdeal.nD,
      r.2.mem ((c.tc : Thread Cert.ChunkInputsIdeal.nD Cert.ChunkInputsIdeal.τ).loc Cert.ChunkInputsIdeal.main_arg0) = m ((c.tc : Thread Cert.ChunkInputsIdeal.nD Cert.ChunkInputsIdeal.τ).loc Cert.ChunkInputsIdeal.main_arg0)
      ∧ r.2.mem ((c.tc : Thread Cert.ChunkInputsIdeal.nD Cert.ChunkInputsIdeal.τ).loc Cert.ChunkInputsIdeal.main_arg1) = m ((c.tc : Thread Cert.ChunkInputsIdeal.nD Cert.ChunkInputsIdeal.τ).loc Cert.ChunkInputsIdeal.main_arg1))
      ∧ r.2.sem = fun _ => 0)

def quiescent_ChunkInputsRefIdeal [hChunkInputsRefIdeal : Cert.ChunkInputsRefIdeal.Facts] : Prop :=
  ∀ (m : (ℓ : Loc Cert.ChunkInputsRefIdeal.nD Cert.ChunkInputsRefIdeal.τ Cert.ChunkInputsRefIdeal.sig) → Buf (Elt Ideal) ℓ) (g : Dev Cert.ChunkInputsRefIdeal.nD → PrngReg), Pre_ChunkInputsRefIdeal m →
    θ_run (Cert.ChunkInputsRefIdeal.defs (F := Ideal)) (onTc (τ := Cert.ChunkInputsRefIdeal.τ) (Cert.ChunkInputsRefIdeal.main (F := Ideal))) ⟨m, fun _ => 0, g⟩ (fun r => (∀ c : Dev Cert.ChunkInputsRefIdeal.nD,
      r.2.mem ((c.tc : Thread Cert.ChunkInputsRefIdeal.nD Cert.ChunkInputsRefIdeal.τ).loc Cert.ChunkInputsRefIdeal.main_arg0) = m ((c.tc : Thread Cert.ChunkInputsRefIdeal.nD Cert.ChunkInputsRefIdeal.τ).loc Cert.ChunkInputsRefIdeal.main_arg0)
      ∧ r.2.mem ((c.tc : Thread Cert.ChunkInputsRefIdeal.nD Cert.ChunkInputsRefIdeal.τ).loc Cert.ChunkInputsRefIdeal.main_arg1) = m ((c.tc : Thread Cert.ChunkInputsRefIdeal.nD Cert.ChunkInputsRefIdeal.τ).loc Cert.ChunkInputsRefIdeal.main_arg1))
      ∧ r.2.sem = fun _ => 0)

def quiescent_GatingInputs [hGatingInputs : Cert.GatingInputs.Facts] : Prop :=
  ∀ (m : (ℓ : Loc Cert.GatingInputs.nD Cert.GatingInputs.τ Cert.GatingInputs.sig) → Buf (Elt Bits) ℓ) (g : Dev Cert.GatingInputs.nD → PrngReg), Pre_GatingInputs m →
    θ_run (Cert.GatingInputs.defs (F := Bits)) (onTc (τ := Cert.GatingInputs.τ) (Cert.GatingInputs.main (F := Bits))) ⟨m, fun _ => 0, g⟩ (fun r => (∀ c : Dev Cert.GatingInputs.nD,
      r.2.mem ((c.tc : Thread Cert.GatingInputs.nD Cert.GatingInputs.τ).loc Cert.GatingInputs.main_arg0) = m ((c.tc : Thread Cert.GatingInputs.nD Cert.GatingInputs.τ).loc Cert.GatingInputs.main_arg0)
      ∧ r.2.mem ((c.tc : Thread Cert.GatingInputs.nD Cert.GatingInputs.τ).loc Cert.GatingInputs.main_arg1) = m ((c.tc : Thread Cert.GatingInputs.nD Cert.GatingInputs.τ).loc Cert.GatingInputs.main_arg1))
      ∧ r.2.sem = fun _ => 0)

def quiescent_GatingInputsIdeal [hGatingInputsIdeal : Cert.GatingInputsIdeal.Facts] : Prop :=
  ∀ (m : (ℓ : Loc Cert.GatingInputsIdeal.nD Cert.GatingInputsIdeal.τ Cert.GatingInputsIdeal.sig) → Buf (Elt Ideal) ℓ) (g : Dev Cert.GatingInputsIdeal.nD → PrngReg), Pre_GatingInputsIdeal m →
    θ_run (Cert.GatingInputsIdeal.defs (F := Ideal)) (onTc (τ := Cert.GatingInputsIdeal.τ) (Cert.GatingInputsIdeal.main (F := Ideal))) ⟨m, fun _ => 0, g⟩ (fun r => (∀ c : Dev Cert.GatingInputsIdeal.nD,
      r.2.mem ((c.tc : Thread Cert.GatingInputsIdeal.nD Cert.GatingInputsIdeal.τ).loc Cert.GatingInputsIdeal.main_arg0) = m ((c.tc : Thread Cert.GatingInputsIdeal.nD Cert.GatingInputsIdeal.τ).loc Cert.GatingInputsIdeal.main_arg0)
      ∧ r.2.mem ((c.tc : Thread Cert.GatingInputsIdeal.nD Cert.GatingInputsIdeal.τ).loc Cert.GatingInputsIdeal.main_arg1) = m ((c.tc : Thread Cert.GatingInputsIdeal.nD Cert.GatingInputsIdeal.τ).loc Cert.GatingInputsIdeal.main_arg1))
      ∧ r.2.sem = fun _ => 0)

def quiescent_GatingInputsRefIdeal [hGatingInputsRefIdeal : Cert.GatingInputsRefIdeal.Facts] : Prop :=
  ∀ (m : (ℓ : Loc Cert.GatingInputsRefIdeal.nD Cert.GatingInputsRefIdeal.τ Cert.GatingInputsRefIdeal.sig) → Buf (Elt Ideal) ℓ) (g : Dev Cert.GatingInputsRefIdeal.nD → PrngReg), Pre_GatingInputsRefIdeal m →
    θ_run (Cert.GatingInputsRefIdeal.defs (F := Ideal)) (onTc (τ := Cert.GatingInputsRefIdeal.τ) (Cert.GatingInputsRefIdeal.main (F := Ideal))) ⟨m, fun _ => 0, g⟩ (fun r => (∀ c : Dev Cert.GatingInputsRefIdeal.nD,
      r.2.mem ((c.tc : Thread Cert.GatingInputsRefIdeal.nD Cert.GatingInputsRefIdeal.τ).loc Cert.GatingInputsRefIdeal.main_arg0) = m ((c.tc : Thread Cert.GatingInputsRefIdeal.nD Cert.GatingInputsRefIdeal.τ).loc Cert.GatingInputsRefIdeal.main_arg0)
      ∧ r.2.mem ((c.tc : Thread Cert.GatingInputsRefIdeal.nD Cert.GatingInputsRefIdeal.τ).loc Cert.GatingInputsRefIdeal.main_arg1) = m ((c.tc : Thread Cert.GatingInputsRefIdeal.nD Cert.GatingInputsRefIdeal.τ).loc Cert.GatingInputsRefIdeal.main_arg1))
      ∧ r.2.sem = fun _ => 0)

def quiescent_MobaQueries [hMobaQueries : Cert.MobaQueries.Facts] : Prop :=
  ∀ (m : (ℓ : Loc Cert.MobaQueries.nD Cert.MobaQueries.τ Cert.MobaQueries.sig) → Buf (Elt Bits) ℓ) (g : Dev Cert.MobaQueries.nD → PrngReg), Pre_MobaQueries m →
    θ_run (Cert.MobaQueries.defs (F := Bits)) (onTc (τ := Cert.MobaQueries.τ) (Cert.MobaQueries.main (F := Bits))) ⟨m, fun _ => 0, g⟩ (fun r => (∀ c : Dev Cert.MobaQueries.nD,
      r.2.mem ((c.tc : Thread Cert.MobaQueries.nD Cert.MobaQueries.τ).loc Cert.MobaQueries.main_arg0) = m ((c.tc : Thread Cert.MobaQueries.nD Cert.MobaQueries.τ).loc Cert.MobaQueries.main_arg0)
      ∧ r.2.mem ((c.tc : Thread Cert.MobaQueries.nD Cert.MobaQueries.τ).loc Cert.MobaQueries.main_arg1) = m ((c.tc : Thread Cert.MobaQueries.nD Cert.MobaQueries.τ).loc Cert.MobaQueries.main_arg1)
      ∧ r.2.mem ((c.tc : Thread Cert.MobaQueries.nD Cert.MobaQueries.τ).loc Cert.MobaQueries.main_arg2) = m ((c.tc : Thread Cert.MobaQueries.nD Cert.MobaQueries.τ).loc Cert.MobaQueries.main_arg2)
      ∧ r.2.mem ((c.tc : Thread Cert.MobaQueries.nD Cert.MobaQueries.τ).loc Cert.MobaQueries.main_arg3) = m ((c.tc : Thread Cert.MobaQueries.nD Cert.MobaQueries.τ).loc Cert.MobaQueries.main_arg3)
      ∧ r.2.mem ((c.tc : Thread Cert.MobaQueries.nD Cert.MobaQueries.τ).loc Cert.MobaQueries.main_arg4) = m ((c.tc : Thread Cert.MobaQueries.nD Cert.MobaQueries.τ).loc Cert.MobaQueries.main_arg4))
      ∧ r.2.sem = fun _ => 0)

def quiescent_MobaQueriesIdeal [hMobaQueriesIdeal : Cert.MobaQueriesIdeal.Facts] : Prop :=
  ∀ (m : (ℓ : Loc Cert.MobaQueriesIdeal.nD Cert.MobaQueriesIdeal.τ Cert.MobaQueriesIdeal.sig) → Buf (Elt Ideal) ℓ) (g : Dev Cert.MobaQueriesIdeal.nD → PrngReg), Pre_MobaQueriesIdeal m →
    θ_run (Cert.MobaQueriesIdeal.defs (F := Ideal)) (onTc (τ := Cert.MobaQueriesIdeal.τ) (Cert.MobaQueriesIdeal.main (F := Ideal))) ⟨m, fun _ => 0, g⟩ (fun r => (∀ c : Dev Cert.MobaQueriesIdeal.nD,
      r.2.mem ((c.tc : Thread Cert.MobaQueriesIdeal.nD Cert.MobaQueriesIdeal.τ).loc Cert.MobaQueriesIdeal.main_arg0) = m ((c.tc : Thread Cert.MobaQueriesIdeal.nD Cert.MobaQueriesIdeal.τ).loc Cert.MobaQueriesIdeal.main_arg0)
      ∧ r.2.mem ((c.tc : Thread Cert.MobaQueriesIdeal.nD Cert.MobaQueriesIdeal.τ).loc Cert.MobaQueriesIdeal.main_arg1) = m ((c.tc : Thread Cert.MobaQueriesIdeal.nD Cert.MobaQueriesIdeal.τ).loc Cert.MobaQueriesIdeal.main_arg1)
      ∧ r.2.mem ((c.tc : Thread Cert.MobaQueriesIdeal.nD Cert.MobaQueriesIdeal.τ).loc Cert.MobaQueriesIdeal.main_arg2) = m ((c.tc : Thread Cert.MobaQueriesIdeal.nD Cert.MobaQueriesIdeal.τ).loc Cert.MobaQueriesIdeal.main_arg2)
      ∧ r.2.mem ((c.tc : Thread Cert.MobaQueriesIdeal.nD Cert.MobaQueriesIdeal.τ).loc Cert.MobaQueriesIdeal.main_arg3) = m ((c.tc : Thread Cert.MobaQueriesIdeal.nD Cert.MobaQueriesIdeal.τ).loc Cert.MobaQueriesIdeal.main_arg3)
      ∧ r.2.mem ((c.tc : Thread Cert.MobaQueriesIdeal.nD Cert.MobaQueriesIdeal.τ).loc Cert.MobaQueriesIdeal.main_arg4) = m ((c.tc : Thread Cert.MobaQueriesIdeal.nD Cert.MobaQueriesIdeal.τ).loc Cert.MobaQueriesIdeal.main_arg4))
      ∧ r.2.sem = fun _ => 0)

def quiescent_MobaQueriesRefIdeal [hMobaQueriesRefIdeal : Cert.MobaQueriesRefIdeal.Facts] : Prop :=
  ∀ (m : (ℓ : Loc Cert.MobaQueriesRefIdeal.nD Cert.MobaQueriesRefIdeal.τ Cert.MobaQueriesRefIdeal.sig) → Buf (Elt Ideal) ℓ) (g : Dev Cert.MobaQueriesRefIdeal.nD → PrngReg), Pre_MobaQueriesRefIdeal m →
    θ_run (Cert.MobaQueriesRefIdeal.defs (F := Ideal)) (onTc (τ := Cert.MobaQueriesRefIdeal.τ) (Cert.MobaQueriesRefIdeal.main (F := Ideal))) ⟨m, fun _ => 0, g⟩ (fun r => (∀ c : Dev Cert.MobaQueriesRefIdeal.nD,
      r.2.mem ((c.tc : Thread Cert.MobaQueriesRefIdeal.nD Cert.MobaQueriesRefIdeal.τ).loc Cert.MobaQueriesRefIdeal.main_arg0) = m ((c.tc : Thread Cert.MobaQueriesRefIdeal.nD Cert.MobaQueriesRefIdeal.τ).loc Cert.MobaQueriesRefIdeal.main_arg0)
      ∧ r.2.mem ((c.tc : Thread Cert.MobaQueriesRefIdeal.nD Cert.MobaQueriesRefIdeal.τ).loc Cert.MobaQueriesRefIdeal.main_arg1) = m ((c.tc : Thread Cert.MobaQueriesRefIdeal.nD Cert.MobaQueriesRefIdeal.τ).loc Cert.MobaQueriesRefIdeal.main_arg1)
      ∧ r.2.mem ((c.tc : Thread Cert.MobaQueriesRefIdeal.nD Cert.MobaQueriesRefIdeal.τ).loc Cert.MobaQueriesRefIdeal.main_arg2) = m ((c.tc : Thread Cert.MobaQueriesRefIdeal.nD Cert.MobaQueriesRefIdeal.τ).loc Cert.MobaQueriesRefIdeal.main_arg2)
      ∧ r.2.mem ((c.tc : Thread Cert.MobaQueriesRefIdeal.nD Cert.MobaQueriesRefIdeal.τ).loc Cert.MobaQueriesRefIdeal.main_arg3) = m ((c.tc : Thread Cert.MobaQueriesRefIdeal.nD Cert.MobaQueriesRefIdeal.τ).loc Cert.MobaQueriesRefIdeal.main_arg3)
      ∧ r.2.mem ((c.tc : Thread Cert.MobaQueriesRefIdeal.nD Cert.MobaQueriesRefIdeal.τ).loc Cert.MobaQueriesRefIdeal.main_arg4) = m ((c.tc : Thread Cert.MobaQueriesRefIdeal.nD Cert.MobaQueriesRefIdeal.τ).loc Cert.MobaQueriesRefIdeal.main_arg4))
      ∧ r.2.sem = fun _ => 0)

def quiescent_MobaKeys [hMobaKeys : Cert.MobaKeys.Facts] : Prop :=
  ∀ (m : (ℓ : Loc Cert.MobaKeys.nD Cert.MobaKeys.τ Cert.MobaKeys.sig) → Buf (Elt Bits) ℓ) (g : Dev Cert.MobaKeys.nD → PrngReg), Pre_MobaKeys m →
    θ_run (Cert.MobaKeys.defs (F := Bits)) (onTc (τ := Cert.MobaKeys.τ) (Cert.MobaKeys.main (F := Bits))) ⟨m, fun _ => 0, g⟩ (fun r => (∀ c : Dev Cert.MobaKeys.nD,
      r.2.mem ((c.tc : Thread Cert.MobaKeys.nD Cert.MobaKeys.τ).loc Cert.MobaKeys.main_arg0) = m ((c.tc : Thread Cert.MobaKeys.nD Cert.MobaKeys.τ).loc Cert.MobaKeys.main_arg0)
      ∧ r.2.mem ((c.tc : Thread Cert.MobaKeys.nD Cert.MobaKeys.τ).loc Cert.MobaKeys.main_arg1) = m ((c.tc : Thread Cert.MobaKeys.nD Cert.MobaKeys.τ).loc Cert.MobaKeys.main_arg1)
      ∧ r.2.mem ((c.tc : Thread Cert.MobaKeys.nD Cert.MobaKeys.τ).loc Cert.MobaKeys.main_arg2) = m ((c.tc : Thread Cert.MobaKeys.nD Cert.MobaKeys.τ).loc Cert.MobaKeys.main_arg2)
      ∧ r.2.mem ((c.tc : Thread Cert.MobaKeys.nD Cert.MobaKeys.τ).loc Cert.MobaKeys.main_arg3) = m ((c.tc : Thread Cert.MobaKeys.nD Cert.MobaKeys.τ).loc Cert.MobaKeys.main_arg3)
      ∧ r.2.mem ((c.tc : Thread Cert.MobaKeys.nD Cert.MobaKeys.τ).loc Cert.MobaKeys.main_arg4) = m ((c.tc : Thread Cert.MobaKeys.nD Cert.MobaKeys.τ).loc Cert.MobaKeys.main_arg4))
      ∧ r.2.sem = fun _ => 0)

def quiescent_MobaKeysIdeal [hMobaKeysIdeal : Cert.MobaKeysIdeal.Facts] : Prop :=
  ∀ (m : (ℓ : Loc Cert.MobaKeysIdeal.nD Cert.MobaKeysIdeal.τ Cert.MobaKeysIdeal.sig) → Buf (Elt Ideal) ℓ) (g : Dev Cert.MobaKeysIdeal.nD → PrngReg), Pre_MobaKeysIdeal m →
    θ_run (Cert.MobaKeysIdeal.defs (F := Ideal)) (onTc (τ := Cert.MobaKeysIdeal.τ) (Cert.MobaKeysIdeal.main (F := Ideal))) ⟨m, fun _ => 0, g⟩ (fun r => (∀ c : Dev Cert.MobaKeysIdeal.nD,
      r.2.mem ((c.tc : Thread Cert.MobaKeysIdeal.nD Cert.MobaKeysIdeal.τ).loc Cert.MobaKeysIdeal.main_arg0) = m ((c.tc : Thread Cert.MobaKeysIdeal.nD Cert.MobaKeysIdeal.τ).loc Cert.MobaKeysIdeal.main_arg0)
      ∧ r.2.mem ((c.tc : Thread Cert.MobaKeysIdeal.nD Cert.MobaKeysIdeal.τ).loc Cert.MobaKeysIdeal.main_arg1) = m ((c.tc : Thread Cert.MobaKeysIdeal.nD Cert.MobaKeysIdeal.τ).loc Cert.MobaKeysIdeal.main_arg1)
      ∧ r.2.mem ((c.tc : Thread Cert.MobaKeysIdeal.nD Cert.MobaKeysIdeal.τ).loc Cert.MobaKeysIdeal.main_arg2) = m ((c.tc : Thread Cert.MobaKeysIdeal.nD Cert.MobaKeysIdeal.τ).loc Cert.MobaKeysIdeal.main_arg2)
      ∧ r.2.mem ((c.tc : Thread Cert.MobaKeysIdeal.nD Cert.MobaKeysIdeal.τ).loc Cert.MobaKeysIdeal.main_arg3) = m ((c.tc : Thread Cert.MobaKeysIdeal.nD Cert.MobaKeysIdeal.τ).loc Cert.MobaKeysIdeal.main_arg3)
      ∧ r.2.mem ((c.tc : Thread Cert.MobaKeysIdeal.nD Cert.MobaKeysIdeal.τ).loc Cert.MobaKeysIdeal.main_arg4) = m ((c.tc : Thread Cert.MobaKeysIdeal.nD Cert.MobaKeysIdeal.τ).loc Cert.MobaKeysIdeal.main_arg4))
      ∧ r.2.sem = fun _ => 0)

def quiescent_MobaKeysRefIdeal [hMobaKeysRefIdeal : Cert.MobaKeysRefIdeal.Facts] : Prop :=
  ∀ (m : (ℓ : Loc Cert.MobaKeysRefIdeal.nD Cert.MobaKeysRefIdeal.τ Cert.MobaKeysRefIdeal.sig) → Buf (Elt Ideal) ℓ) (g : Dev Cert.MobaKeysRefIdeal.nD → PrngReg), Pre_MobaKeysRefIdeal m →
    θ_run (Cert.MobaKeysRefIdeal.defs (F := Ideal)) (onTc (τ := Cert.MobaKeysRefIdeal.τ) (Cert.MobaKeysRefIdeal.main (F := Ideal))) ⟨m, fun _ => 0, g⟩ (fun r => (∀ c : Dev Cert.MobaKeysRefIdeal.nD,
      r.2.mem ((c.tc : Thread Cert.MobaKeysRefIdeal.nD Cert.MobaKeysRefIdeal.τ).loc Cert.MobaKeysRefIdeal.main_arg0) = m ((c.tc : Thread Cert.MobaKeysRefIdeal.nD Cert.MobaKeysRefIdeal.τ).loc Cert.MobaKeysRefIdeal.main_arg0)
      ∧ r.2.mem ((c.tc : Thread Cert.MobaKeysRefIdeal.nD Cert.MobaKeysRefIdeal.τ).loc Cert.MobaKeysRefIdeal.main_arg1) = m ((c.tc : Thread Cert.MobaKeysRefIdeal.nD Cert.MobaKeysRefIdeal.τ).loc Cert.MobaKeysRefIdeal.main_arg1)
      ∧ r.2.mem ((c.tc : Thread Cert.MobaKeysRefIdeal.nD Cert.MobaKeysRefIdeal.τ).loc Cert.MobaKeysRefIdeal.main_arg2) = m ((c.tc : Thread Cert.MobaKeysRefIdeal.nD Cert.MobaKeysRefIdeal.τ).loc Cert.MobaKeysRefIdeal.main_arg2)
      ∧ r.2.mem ((c.tc : Thread Cert.MobaKeysRefIdeal.nD Cert.MobaKeysRefIdeal.τ).loc Cert.MobaKeysRefIdeal.main_arg3) = m ((c.tc : Thread Cert.MobaKeysRefIdeal.nD Cert.MobaKeysRefIdeal.τ).loc Cert.MobaKeysRefIdeal.main_arg3)
      ∧ r.2.mem ((c.tc : Thread Cert.MobaKeysRefIdeal.nD Cert.MobaKeysRefIdeal.τ).loc Cert.MobaKeysRefIdeal.main_arg4) = m ((c.tc : Thread Cert.MobaKeysRefIdeal.nD Cert.MobaKeysRefIdeal.τ).loc Cert.MobaKeysRefIdeal.main_arg4))
      ∧ r.2.sem = fun _ => 0)

def quiescent_SparseKeys [hSparseKeys : Cert.SparseKeys.Facts] : Prop :=
  ∀ (m : (ℓ : Loc Cert.SparseKeys.nD Cert.SparseKeys.τ Cert.SparseKeys.sig) → Buf (Elt Bits) ℓ) (g : Dev Cert.SparseKeys.nD → PrngReg), Pre_SparseKeys m →
    θ_run (Cert.SparseKeys.defs (F := Bits)) (onTc (τ := Cert.SparseKeys.τ) (Cert.SparseKeys.main (F := Bits))) ⟨m, fun _ => 0, g⟩ (fun r => (∀ c : Dev Cert.SparseKeys.nD,
      r.2.mem ((c.tc : Thread Cert.SparseKeys.nD Cert.SparseKeys.τ).loc Cert.SparseKeys.main_arg0) = m ((c.tc : Thread Cert.SparseKeys.nD Cert.SparseKeys.τ).loc Cert.SparseKeys.main_arg0)
      ∧ r.2.mem ((c.tc : Thread Cert.SparseKeys.nD Cert.SparseKeys.τ).loc Cert.SparseKeys.main_arg1) = m ((c.tc : Thread Cert.SparseKeys.nD Cert.SparseKeys.τ).loc Cert.SparseKeys.main_arg1)
      ∧ r.2.mem ((c.tc : Thread Cert.SparseKeys.nD Cert.SparseKeys.τ).loc Cert.SparseKeys.main_arg2) = m ((c.tc : Thread Cert.SparseKeys.nD Cert.SparseKeys.τ).loc Cert.SparseKeys.main_arg2)
      ∧ r.2.mem ((c.tc : Thread Cert.SparseKeys.nD Cert.SparseKeys.τ).loc Cert.SparseKeys.main_arg3) = m ((c.tc : Thread Cert.SparseKeys.nD Cert.SparseKeys.τ).loc Cert.SparseKeys.main_arg3)
      ∧ r.2.mem ((c.tc : Thread Cert.SparseKeys.nD Cert.SparseKeys.τ).loc Cert.SparseKeys.main_arg4) = m ((c.tc : Thread Cert.SparseKeys.nD Cert.SparseKeys.τ).loc Cert.SparseKeys.main_arg4)
      ∧ r.2.mem ((c.tc : Thread Cert.SparseKeys.nD Cert.SparseKeys.τ).loc Cert.SparseKeys.main_arg5) = m ((c.tc : Thread Cert.SparseKeys.nD Cert.SparseKeys.τ).loc Cert.SparseKeys.main_arg5))
      ∧ r.2.sem = fun _ => 0)

def quiescent_SparseKeysIdeal [hSparseKeysIdeal : Cert.SparseKeysIdeal.Facts] : Prop :=
  ∀ (m : (ℓ : Loc Cert.SparseKeysIdeal.nD Cert.SparseKeysIdeal.τ Cert.SparseKeysIdeal.sig) → Buf (Elt Ideal) ℓ) (g : Dev Cert.SparseKeysIdeal.nD → PrngReg), Pre_SparseKeysIdeal m →
    θ_run (Cert.SparseKeysIdeal.defs (F := Ideal)) (onTc (τ := Cert.SparseKeysIdeal.τ) (Cert.SparseKeysIdeal.main (F := Ideal))) ⟨m, fun _ => 0, g⟩ (fun r => (∀ c : Dev Cert.SparseKeysIdeal.nD,
      r.2.mem ((c.tc : Thread Cert.SparseKeysIdeal.nD Cert.SparseKeysIdeal.τ).loc Cert.SparseKeysIdeal.main_arg0) = m ((c.tc : Thread Cert.SparseKeysIdeal.nD Cert.SparseKeysIdeal.τ).loc Cert.SparseKeysIdeal.main_arg0)
      ∧ r.2.mem ((c.tc : Thread Cert.SparseKeysIdeal.nD Cert.SparseKeysIdeal.τ).loc Cert.SparseKeysIdeal.main_arg1) = m ((c.tc : Thread Cert.SparseKeysIdeal.nD Cert.SparseKeysIdeal.τ).loc Cert.SparseKeysIdeal.main_arg1)
      ∧ r.2.mem ((c.tc : Thread Cert.SparseKeysIdeal.nD Cert.SparseKeysIdeal.τ).loc Cert.SparseKeysIdeal.main_arg2) = m ((c.tc : Thread Cert.SparseKeysIdeal.nD Cert.SparseKeysIdeal.τ).loc Cert.SparseKeysIdeal.main_arg2)
      ∧ r.2.mem ((c.tc : Thread Cert.SparseKeysIdeal.nD Cert.SparseKeysIdeal.τ).loc Cert.SparseKeysIdeal.main_arg3) = m ((c.tc : Thread Cert.SparseKeysIdeal.nD Cert.SparseKeysIdeal.τ).loc Cert.SparseKeysIdeal.main_arg3)
      ∧ r.2.mem ((c.tc : Thread Cert.SparseKeysIdeal.nD Cert.SparseKeysIdeal.τ).loc Cert.SparseKeysIdeal.main_arg4) = m ((c.tc : Thread Cert.SparseKeysIdeal.nD Cert.SparseKeysIdeal.τ).loc Cert.SparseKeysIdeal.main_arg4)
      ∧ r.2.mem ((c.tc : Thread Cert.SparseKeysIdeal.nD Cert.SparseKeysIdeal.τ).loc Cert.SparseKeysIdeal.main_arg5) = m ((c.tc : Thread Cert.SparseKeysIdeal.nD Cert.SparseKeysIdeal.τ).loc Cert.SparseKeysIdeal.main_arg5))
      ∧ r.2.sem = fun _ => 0)

def quiescent_SparseKeysRefIdeal [hSparseKeysRefIdeal : Cert.SparseKeysRefIdeal.Facts] : Prop :=
  ∀ (m : (ℓ : Loc Cert.SparseKeysRefIdeal.nD Cert.SparseKeysRefIdeal.τ Cert.SparseKeysRefIdeal.sig) → Buf (Elt Ideal) ℓ) (g : Dev Cert.SparseKeysRefIdeal.nD → PrngReg), Pre_SparseKeysRefIdeal m →
    θ_run (Cert.SparseKeysRefIdeal.defs (F := Ideal)) (onTc (τ := Cert.SparseKeysRefIdeal.τ) (Cert.SparseKeysRefIdeal.main (F := Ideal))) ⟨m, fun _ => 0, g⟩ (fun r => (∀ c : Dev Cert.SparseKeysRefIdeal.nD,
      r.2.mem ((c.tc : Thread Cert.SparseKeysRefIdeal.nD Cert.SparseKeysRefIdeal.τ).loc Cert.SparseKeysRefIdeal.main_arg0) = m ((c.tc : Thread Cert.SparseKeysRefIdeal.nD Cert.SparseKeysRefIdeal.τ).loc Cert.SparseKeysRefIdeal.main_arg0)
      ∧ r.2.mem ((c.tc : Thread Cert.SparseKeysRefIdeal.nD Cert.SparseKeysRefIdeal.τ).loc Cert.SparseKeysRefIdeal.main_arg1) = m ((c.tc : Thread Cert.SparseKeysRefIdeal.nD Cert.SparseKeysRefIdeal.τ).loc Cert.SparseKeysRefIdeal.main_arg1)
      ∧ r.2.mem ((c.tc : Thread Cert.SparseKeysRefIdeal.nD Cert.SparseKeysRefIdeal.τ).loc Cert.SparseKeysRefIdeal.main_arg2) = m ((c.tc : Thread Cert.SparseKeysRefIdeal.nD Cert.SparseKeysRefIdeal.τ).loc Cert.SparseKeysRefIdeal.main_arg2)
      ∧ r.2.mem ((c.tc : Thread Cert.SparseKeysRefIdeal.nD Cert.SparseKeysRefIdeal.τ).loc Cert.SparseKeysRefIdeal.main_arg3) = m ((c.tc : Thread Cert.SparseKeysRefIdeal.nD Cert.SparseKeysRefIdeal.τ).loc Cert.SparseKeysRefIdeal.main_arg3)
      ∧ r.2.mem ((c.tc : Thread Cert.SparseKeysRefIdeal.nD Cert.SparseKeysRefIdeal.τ).loc Cert.SparseKeysRefIdeal.main_arg4) = m ((c.tc : Thread Cert.SparseKeysRefIdeal.nD Cert.SparseKeysRefIdeal.τ).loc Cert.SparseKeysRefIdeal.main_arg4)
      ∧ r.2.mem ((c.tc : Thread Cert.SparseKeysRefIdeal.nD Cert.SparseKeysRefIdeal.τ).loc Cert.SparseKeysRefIdeal.main_arg5) = m ((c.tc : Thread Cert.SparseKeysRefIdeal.nD Cert.SparseKeysRefIdeal.τ).loc Cert.SparseKeysRefIdeal.main_arg5))
      ∧ r.2.sem = fun _ => 0)

def quiescent_SparseQueries [hSparseQueries : Cert.SparseQueries.Facts] : Prop :=
  ∀ (m : (ℓ : Loc Cert.SparseQueries.nD Cert.SparseQueries.τ Cert.SparseQueries.sig) → Buf (Elt Bits) ℓ) (g : Dev Cert.SparseQueries.nD → PrngReg), Pre_SparseQueries m →
    θ_run (Cert.SparseQueries.defs (F := Bits)) (onTc (τ := Cert.SparseQueries.τ) (Cert.SparseQueries.main (F := Bits))) ⟨m, fun _ => 0, g⟩ (fun r => (∀ c : Dev Cert.SparseQueries.nD,
      r.2.mem ((c.tc : Thread Cert.SparseQueries.nD Cert.SparseQueries.τ).loc Cert.SparseQueries.main_arg0) = m ((c.tc : Thread Cert.SparseQueries.nD Cert.SparseQueries.τ).loc Cert.SparseQueries.main_arg0)
      ∧ r.2.mem ((c.tc : Thread Cert.SparseQueries.nD Cert.SparseQueries.τ).loc Cert.SparseQueries.main_arg1) = m ((c.tc : Thread Cert.SparseQueries.nD Cert.SparseQueries.τ).loc Cert.SparseQueries.main_arg1)
      ∧ r.2.mem ((c.tc : Thread Cert.SparseQueries.nD Cert.SparseQueries.τ).loc Cert.SparseQueries.main_arg2) = m ((c.tc : Thread Cert.SparseQueries.nD Cert.SparseQueries.τ).loc Cert.SparseQueries.main_arg2)
      ∧ r.2.mem ((c.tc : Thread Cert.SparseQueries.nD Cert.SparseQueries.τ).loc Cert.SparseQueries.main_arg3) = m ((c.tc : Thread Cert.SparseQueries.nD Cert.SparseQueries.τ).loc Cert.SparseQueries.main_arg3)
      ∧ r.2.mem ((c.tc : Thread Cert.SparseQueries.nD Cert.SparseQueries.τ).loc Cert.SparseQueries.main_arg4) = m ((c.tc : Thread Cert.SparseQueries.nD Cert.SparseQueries.τ).loc Cert.SparseQueries.main_arg4))
      ∧ r.2.sem = fun _ => 0)

def quiescent_SparseQueriesIdeal [hSparseQueriesIdeal : Cert.SparseQueriesIdeal.Facts] : Prop :=
  ∀ (m : (ℓ : Loc Cert.SparseQueriesIdeal.nD Cert.SparseQueriesIdeal.τ Cert.SparseQueriesIdeal.sig) → Buf (Elt Ideal) ℓ) (g : Dev Cert.SparseQueriesIdeal.nD → PrngReg), Pre_SparseQueriesIdeal m →
    θ_run (Cert.SparseQueriesIdeal.defs (F := Ideal)) (onTc (τ := Cert.SparseQueriesIdeal.τ) (Cert.SparseQueriesIdeal.main (F := Ideal))) ⟨m, fun _ => 0, g⟩ (fun r => (∀ c : Dev Cert.SparseQueriesIdeal.nD,
      r.2.mem ((c.tc : Thread Cert.SparseQueriesIdeal.nD Cert.SparseQueriesIdeal.τ).loc Cert.SparseQueriesIdeal.main_arg0) = m ((c.tc : Thread Cert.SparseQueriesIdeal.nD Cert.SparseQueriesIdeal.τ).loc Cert.SparseQueriesIdeal.main_arg0)
      ∧ r.2.mem ((c.tc : Thread Cert.SparseQueriesIdeal.nD Cert.SparseQueriesIdeal.τ).loc Cert.SparseQueriesIdeal.main_arg1) = m ((c.tc : Thread Cert.SparseQueriesIdeal.nD Cert.SparseQueriesIdeal.τ).loc Cert.SparseQueriesIdeal.main_arg1)
      ∧ r.2.mem ((c.tc : Thread Cert.SparseQueriesIdeal.nD Cert.SparseQueriesIdeal.τ).loc Cert.SparseQueriesIdeal.main_arg2) = m ((c.tc : Thread Cert.SparseQueriesIdeal.nD Cert.SparseQueriesIdeal.τ).loc Cert.SparseQueriesIdeal.main_arg2)
      ∧ r.2.mem ((c.tc : Thread Cert.SparseQueriesIdeal.nD Cert.SparseQueriesIdeal.τ).loc Cert.SparseQueriesIdeal.main_arg3) = m ((c.tc : Thread Cert.SparseQueriesIdeal.nD Cert.SparseQueriesIdeal.τ).loc Cert.SparseQueriesIdeal.main_arg3)
      ∧ r.2.mem ((c.tc : Thread Cert.SparseQueriesIdeal.nD Cert.SparseQueriesIdeal.τ).loc Cert.SparseQueriesIdeal.main_arg4) = m ((c.tc : Thread Cert.SparseQueriesIdeal.nD Cert.SparseQueriesIdeal.τ).loc Cert.SparseQueriesIdeal.main_arg4))
      ∧ r.2.sem = fun _ => 0)

def quiescent_SparseQueriesRefIdeal [hSparseQueriesRefIdeal : Cert.SparseQueriesRefIdeal.Facts] : Prop :=
  ∀ (m : (ℓ : Loc Cert.SparseQueriesRefIdeal.nD Cert.SparseQueriesRefIdeal.τ Cert.SparseQueriesRefIdeal.sig) → Buf (Elt Ideal) ℓ) (g : Dev Cert.SparseQueriesRefIdeal.nD → PrngReg), Pre_SparseQueriesRefIdeal m →
    θ_run (Cert.SparseQueriesRefIdeal.defs (F := Ideal)) (onTc (τ := Cert.SparseQueriesRefIdeal.τ) (Cert.SparseQueriesRefIdeal.main (F := Ideal))) ⟨m, fun _ => 0, g⟩ (fun r => (∀ c : Dev Cert.SparseQueriesRefIdeal.nD,
      r.2.mem ((c.tc : Thread Cert.SparseQueriesRefIdeal.nD Cert.SparseQueriesRefIdeal.τ).loc Cert.SparseQueriesRefIdeal.main_arg0) = m ((c.tc : Thread Cert.SparseQueriesRefIdeal.nD Cert.SparseQueriesRefIdeal.τ).loc Cert.SparseQueriesRefIdeal.main_arg0)
      ∧ r.2.mem ((c.tc : Thread Cert.SparseQueriesRefIdeal.nD Cert.SparseQueriesRefIdeal.τ).loc Cert.SparseQueriesRefIdeal.main_arg1) = m ((c.tc : Thread Cert.SparseQueriesRefIdeal.nD Cert.SparseQueriesRefIdeal.τ).loc Cert.SparseQueriesRefIdeal.main_arg1)
      ∧ r.2.mem ((c.tc : Thread Cert.SparseQueriesRefIdeal.nD Cert.SparseQueriesRefIdeal.τ).loc Cert.SparseQueriesRefIdeal.main_arg2) = m ((c.tc : Thread Cert.SparseQueriesRefIdeal.nD Cert.SparseQueriesRefIdeal.τ).loc Cert.SparseQueriesRefIdeal.main_arg2)
      ∧ r.2.mem ((c.tc : Thread Cert.SparseQueriesRefIdeal.nD Cert.SparseQueriesRefIdeal.τ).loc Cert.SparseQueriesRefIdeal.main_arg3) = m ((c.tc : Thread Cert.SparseQueriesRefIdeal.nD Cert.SparseQueriesRefIdeal.τ).loc Cert.SparseQueriesRefIdeal.main_arg3)
      ∧ r.2.mem ((c.tc : Thread Cert.SparseQueriesRefIdeal.nD Cert.SparseQueriesRefIdeal.τ).loc Cert.SparseQueriesRefIdeal.main_arg4) = m ((c.tc : Thread Cert.SparseQueriesRefIdeal.nD Cert.SparseQueriesRefIdeal.τ).loc Cert.SparseQueriesRefIdeal.main_arg4))
      ∧ r.2.sem = fun _ => 0)

def quiescent_RowNorm [hRowNorm : Cert.RowNorm.Facts] : Prop :=
  ∀ (m : (ℓ : Loc Cert.RowNorm.nD Cert.RowNorm.τ Cert.RowNorm.sig) → Buf (Elt Bits) ℓ) (g : Dev Cert.RowNorm.nD → PrngReg), Pre_RowNorm m →
    θ_run (Cert.RowNorm.defs (F := Bits)) (onTc (τ := Cert.RowNorm.τ) (Cert.RowNorm.main (F := Bits))) ⟨m, fun _ => 0, g⟩ (fun r => (∀ c : Dev Cert.RowNorm.nD,
      r.2.mem ((c.tc : Thread Cert.RowNorm.nD Cert.RowNorm.τ).loc Cert.RowNorm.main_arg0) = m ((c.tc : Thread Cert.RowNorm.nD Cert.RowNorm.τ).loc Cert.RowNorm.main_arg0)
      ∧ r.2.mem ((c.tc : Thread Cert.RowNorm.nD Cert.RowNorm.τ).loc Cert.RowNorm.main_arg1) = m ((c.tc : Thread Cert.RowNorm.nD Cert.RowNorm.τ).loc Cert.RowNorm.main_arg1))
      ∧ r.2.sem = fun _ => 0)

def quiescent_RowNormIdeal [hRowNormIdeal : Cert.RowNormIdeal.Facts] : Prop :=
  ∀ (m : (ℓ : Loc Cert.RowNormIdeal.nD Cert.RowNormIdeal.τ Cert.RowNormIdeal.sig) → Buf (Elt Ideal) ℓ) (g : Dev Cert.RowNormIdeal.nD → PrngReg), Pre_RowNormIdeal m →
    θ_run (Cert.RowNormIdeal.defs (F := Ideal)) (onTc (τ := Cert.RowNormIdeal.τ) (Cert.RowNormIdeal.main (F := Ideal))) ⟨m, fun _ => 0, g⟩ (fun r => (∀ c : Dev Cert.RowNormIdeal.nD,
      r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
      ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ r.2.sem = fun _ => 0)

def quiescent_RowNormRefIdeal [hRowNormRefIdeal : Cert.RowNormRefIdeal.Facts] : Prop :=
  ∀ (m : (ℓ : Loc Cert.RowNormRefIdeal.nD Cert.RowNormRefIdeal.τ Cert.RowNormRefIdeal.sig) → Buf (Elt Ideal) ℓ) (g : Dev Cert.RowNormRefIdeal.nD → PrngReg), Pre_RowNormRefIdeal m →
    θ_run (Cert.RowNormRefIdeal.defs (F := Ideal)) (onTc (τ := Cert.RowNormRefIdeal.τ) (Cert.RowNormRefIdeal.main (F := Ideal))) ⟨m, fun _ => 0, g⟩ (fun r => (∀ c : Dev Cert.RowNormRefIdeal.nD,
      r.2.mem ((c.tc : Thread Cert.RowNormRefIdeal.nD Cert.RowNormRefIdeal.τ).loc Cert.RowNormRefIdeal.main_arg0) = m ((c.tc : Thread Cert.RowNormRefIdeal.nD Cert.RowNormRefIdeal.τ).loc Cert.RowNormRefIdeal.main_arg0)
      ∧ r.2.mem ((c.tc : Thread Cert.RowNormRefIdeal.nD Cert.RowNormRefIdeal.τ).loc Cert.RowNormRefIdeal.main_arg1) = m ((c.tc : Thread Cert.RowNormRefIdeal.nD Cert.RowNormRefIdeal.τ).loc Cert.RowNormRefIdeal.main_arg1))
      ∧ r.2.sem = fun _ => 0)

def quiescent_BranchGates [hBranchGates : Cert.BranchGates.Facts] : Prop :=
  ∀ (m : (ℓ : Loc Cert.BranchGates.nD Cert.BranchGates.τ Cert.BranchGates.sig) → Buf (Elt Bits) ℓ) (g : Dev Cert.BranchGates.nD → PrngReg), Pre_BranchGates m →
    θ_run (Cert.BranchGates.defs (F := Bits)) (onTc (τ := Cert.BranchGates.τ) (Cert.BranchGates.main (F := Bits))) ⟨m, fun _ => 0, g⟩ (fun r => (∀ c : Dev Cert.BranchGates.nD,
      r.2.mem ((c.tc : Thread Cert.BranchGates.nD Cert.BranchGates.τ).loc Cert.BranchGates.main_arg0) = m ((c.tc : Thread Cert.BranchGates.nD Cert.BranchGates.τ).loc Cert.BranchGates.main_arg0)
      ∧ r.2.mem ((c.tc : Thread Cert.BranchGates.nD Cert.BranchGates.τ).loc Cert.BranchGates.main_arg1) = m ((c.tc : Thread Cert.BranchGates.nD Cert.BranchGates.τ).loc Cert.BranchGates.main_arg1)
      ∧ r.2.mem ((c.tc : Thread Cert.BranchGates.nD Cert.BranchGates.τ).loc Cert.BranchGates.main_arg2) = m ((c.tc : Thread Cert.BranchGates.nD Cert.BranchGates.τ).loc Cert.BranchGates.main_arg2))
      ∧ r.2.sem = fun _ => 0)

def quiescent_BranchGatesIdeal [hBranchGatesIdeal : Cert.BranchGatesIdeal.Facts] : Prop :=
  ∀ (m : (ℓ : Loc Cert.BranchGatesIdeal.nD Cert.BranchGatesIdeal.τ Cert.BranchGatesIdeal.sig) → Buf (Elt Ideal) ℓ) (g : Dev Cert.BranchGatesIdeal.nD → PrngReg), Pre_BranchGatesIdeal m →
    θ_run (Cert.BranchGatesIdeal.defs (F := Ideal)) (onTc (τ := Cert.BranchGatesIdeal.τ) (Cert.BranchGatesIdeal.main (F := Ideal))) ⟨m, fun _ => 0, g⟩ (fun r => (∀ c : Dev Cert.BranchGatesIdeal.nD,
      r.2.mem ((c.tc : Thread Cert.BranchGatesIdeal.nD Cert.BranchGatesIdeal.τ).loc Cert.BranchGatesIdeal.main_arg0) = m ((c.tc : Thread Cert.BranchGatesIdeal.nD Cert.BranchGatesIdeal.τ).loc Cert.BranchGatesIdeal.main_arg0)
      ∧ r.2.mem ((c.tc : Thread Cert.BranchGatesIdeal.nD Cert.BranchGatesIdeal.τ).loc Cert.BranchGatesIdeal.main_arg1) = m ((c.tc : Thread Cert.BranchGatesIdeal.nD Cert.BranchGatesIdeal.τ).loc Cert.BranchGatesIdeal.main_arg1)
      ∧ r.2.mem ((c.tc : Thread Cert.BranchGatesIdeal.nD Cert.BranchGatesIdeal.τ).loc Cert.BranchGatesIdeal.main_arg2) = m ((c.tc : Thread Cert.BranchGatesIdeal.nD Cert.BranchGatesIdeal.τ).loc Cert.BranchGatesIdeal.main_arg2))
      ∧ r.2.sem = fun _ => 0)

def quiescent_BranchGatesRefIdeal [hBranchGatesRefIdeal : Cert.BranchGatesRefIdeal.Facts] : Prop :=
  ∀ (m : (ℓ : Loc Cert.BranchGatesRefIdeal.nD Cert.BranchGatesRefIdeal.τ Cert.BranchGatesRefIdeal.sig) → Buf (Elt Ideal) ℓ) (g : Dev Cert.BranchGatesRefIdeal.nD → PrngReg), Pre_BranchGatesRefIdeal m →
    θ_run (Cert.BranchGatesRefIdeal.defs (F := Ideal)) (onTc (τ := Cert.BranchGatesRefIdeal.τ) (Cert.BranchGatesRefIdeal.main (F := Ideal))) ⟨m, fun _ => 0, g⟩ (fun r => (∀ c : Dev Cert.BranchGatesRefIdeal.nD,
      r.2.mem ((c.tc : Thread Cert.BranchGatesRefIdeal.nD Cert.BranchGatesRefIdeal.τ).loc Cert.BranchGatesRefIdeal.main_arg0) = m ((c.tc : Thread Cert.BranchGatesRefIdeal.nD Cert.BranchGatesRefIdeal.τ).loc Cert.BranchGatesRefIdeal.main_arg0)
      ∧ r.2.mem ((c.tc : Thread Cert.BranchGatesRefIdeal.nD Cert.BranchGatesRefIdeal.τ).loc Cert.BranchGatesRefIdeal.main_arg1) = m ((c.tc : Thread Cert.BranchGatesRefIdeal.nD Cert.BranchGatesRefIdeal.τ).loc Cert.BranchGatesRefIdeal.main_arg1)
      ∧ r.2.mem ((c.tc : Thread Cert.BranchGatesRefIdeal.nD Cert.BranchGatesRefIdeal.τ).loc Cert.BranchGatesRefIdeal.main_arg2) = m ((c.tc : Thread Cert.BranchGatesRefIdeal.nD Cert.BranchGatesRefIdeal.τ).loc Cert.BranchGatesRefIdeal.main_arg2))
      ∧ r.2.sem = fun _ => 0)

def quiescent_BranchSum [hBranchSum : Cert.BranchSum.Facts] : Prop :=
  ∀ (m : (ℓ : Loc Cert.BranchSum.nD Cert.BranchSum.τ Cert.BranchSum.sig) → Buf (Elt Bits) ℓ) (g : Dev Cert.BranchSum.nD → PrngReg), Pre_BranchSum m →
    θ_run (Cert.BranchSum.defs (F := Bits)) (onTc (τ := Cert.BranchSum.τ) (Cert.BranchSum.main (F := Bits))) ⟨m, fun _ => 0, g⟩ (fun r => (∀ c : Dev Cert.BranchSum.nD,
      r.2.mem ((c.tc : Thread Cert.BranchSum.nD Cert.BranchSum.τ).loc Cert.BranchSum.main_arg0) = m ((c.tc : Thread Cert.BranchSum.nD Cert.BranchSum.τ).loc Cert.BranchSum.main_arg0)
      ∧ r.2.mem ((c.tc : Thread Cert.BranchSum.nD Cert.BranchSum.τ).loc Cert.BranchSum.main_arg1) = m ((c.tc : Thread Cert.BranchSum.nD Cert.BranchSum.τ).loc Cert.BranchSum.main_arg1)
      ∧ r.2.mem ((c.tc : Thread Cert.BranchSum.nD Cert.BranchSum.τ).loc Cert.BranchSum.main_arg2) = m ((c.tc : Thread Cert.BranchSum.nD Cert.BranchSum.τ).loc Cert.BranchSum.main_arg2)
      ∧ r.2.mem ((c.tc : Thread Cert.BranchSum.nD Cert.BranchSum.τ).loc Cert.BranchSum.main_arg3) = m ((c.tc : Thread Cert.BranchSum.nD Cert.BranchSum.τ).loc Cert.BranchSum.main_arg3))
      ∧ r.2.sem = fun _ => 0)

def quiescent_BranchSumIdeal [hBranchSumIdeal : Cert.BranchSumIdeal.Facts] : Prop :=
  ∀ (m : (ℓ : Loc Cert.BranchSumIdeal.nD Cert.BranchSumIdeal.τ Cert.BranchSumIdeal.sig) → Buf (Elt Ideal) ℓ) (g : Dev Cert.BranchSumIdeal.nD → PrngReg), Pre_BranchSumIdeal m →
    θ_run (Cert.BranchSumIdeal.defs (F := Ideal)) (onTc (τ := Cert.BranchSumIdeal.τ) (Cert.BranchSumIdeal.main (F := Ideal))) ⟨m, fun _ => 0, g⟩ (fun r => (∀ c : Dev Cert.BranchSumIdeal.nD,
      r.2.mem ((c.tc : Thread Cert.BranchSumIdeal.nD Cert.BranchSumIdeal.τ).loc Cert.BranchSumIdeal.main_arg0) = m ((c.tc : Thread Cert.BranchSumIdeal.nD Cert.BranchSumIdeal.τ).loc Cert.BranchSumIdeal.main_arg0)
      ∧ r.2.mem ((c.tc : Thread Cert.BranchSumIdeal.nD Cert.BranchSumIdeal.τ).loc Cert.BranchSumIdeal.main_arg1) = m ((c.tc : Thread Cert.BranchSumIdeal.nD Cert.BranchSumIdeal.τ).loc Cert.BranchSumIdeal.main_arg1)
      ∧ r.2.mem ((c.tc : Thread Cert.BranchSumIdeal.nD Cert.BranchSumIdeal.τ).loc Cert.BranchSumIdeal.main_arg2) = m ((c.tc : Thread Cert.BranchSumIdeal.nD Cert.BranchSumIdeal.τ).loc Cert.BranchSumIdeal.main_arg2)
      ∧ r.2.mem ((c.tc : Thread Cert.BranchSumIdeal.nD Cert.BranchSumIdeal.τ).loc Cert.BranchSumIdeal.main_arg3) = m ((c.tc : Thread Cert.BranchSumIdeal.nD Cert.BranchSumIdeal.τ).loc Cert.BranchSumIdeal.main_arg3))
      ∧ r.2.sem = fun _ => 0)

def quiescent_BranchSumRefIdeal [hBranchSumRefIdeal : Cert.BranchSumRefIdeal.Facts] : Prop :=
  ∀ (m : (ℓ : Loc Cert.BranchSumRefIdeal.nD Cert.BranchSumRefIdeal.τ Cert.BranchSumRefIdeal.sig) → Buf (Elt Ideal) ℓ) (g : Dev Cert.BranchSumRefIdeal.nD → PrngReg), Pre_BranchSumRefIdeal m →
    θ_run (Cert.BranchSumRefIdeal.defs (F := Ideal)) (onTc (τ := Cert.BranchSumRefIdeal.τ) (Cert.BranchSumRefIdeal.main (F := Ideal))) ⟨m, fun _ => 0, g⟩ (fun r => (∀ c : Dev Cert.BranchSumRefIdeal.nD,
      r.2.mem ((c.tc : Thread Cert.BranchSumRefIdeal.nD Cert.BranchSumRefIdeal.τ).loc Cert.BranchSumRefIdeal.main_arg0) = m ((c.tc : Thread Cert.BranchSumRefIdeal.nD Cert.BranchSumRefIdeal.τ).loc Cert.BranchSumRefIdeal.main_arg0)
      ∧ r.2.mem ((c.tc : Thread Cert.BranchSumRefIdeal.nD Cert.BranchSumRefIdeal.τ).loc Cert.BranchSumRefIdeal.main_arg1) = m ((c.tc : Thread Cert.BranchSumRefIdeal.nD Cert.BranchSumRefIdeal.τ).loc Cert.BranchSumRefIdeal.main_arg1)
      ∧ r.2.mem ((c.tc : Thread Cert.BranchSumRefIdeal.nD Cert.BranchSumRefIdeal.τ).loc Cert.BranchSumRefIdeal.main_arg2) = m ((c.tc : Thread Cert.BranchSumRefIdeal.nD Cert.BranchSumRefIdeal.τ).loc Cert.BranchSumRefIdeal.main_arg2)
      ∧ r.2.mem ((c.tc : Thread Cert.BranchSumRefIdeal.nD Cert.BranchSumRefIdeal.τ).loc Cert.BranchSumRefIdeal.main_arg3) = m ((c.tc : Thread Cert.BranchSumRefIdeal.nD Cert.BranchSumRefIdeal.τ).loc Cert.BranchSumRefIdeal.main_arg3))
      ∧ r.2.sem = fun _ => 0)

def quiescent_CompressValues [hCompressValues : Cert.CompressValues.Facts] : Prop :=
  ∀ (m : (ℓ : Loc Cert.CompressValues.nD Cert.CompressValues.τ Cert.CompressValues.sig) → Buf (Elt Bits) ℓ) (g : Dev Cert.CompressValues.nD → PrngReg), Pre_CompressValues m →
    θ_run (Cert.CompressValues.defs (F := Bits)) (onTc (τ := Cert.CompressValues.τ) (Cert.CompressValues.main (F := Bits))) ⟨m, fun _ => 0, g⟩ (fun r => (∀ c : Dev Cert.CompressValues.nD,
      r.2.mem ((c.tc : Thread Cert.CompressValues.nD Cert.CompressValues.τ).loc Cert.CompressValues.main_arg0) = m ((c.tc : Thread Cert.CompressValues.nD Cert.CompressValues.τ).loc Cert.CompressValues.main_arg0)
      ∧ r.2.mem ((c.tc : Thread Cert.CompressValues.nD Cert.CompressValues.τ).loc Cert.CompressValues.main_arg1) = m ((c.tc : Thread Cert.CompressValues.nD Cert.CompressValues.τ).loc Cert.CompressValues.main_arg1)
      ∧ r.2.mem ((c.tc : Thread Cert.CompressValues.nD Cert.CompressValues.τ).loc Cert.CompressValues.main_arg2) = m ((c.tc : Thread Cert.CompressValues.nD Cert.CompressValues.τ).loc Cert.CompressValues.main_arg2)
      ∧ r.2.mem ((c.tc : Thread Cert.CompressValues.nD Cert.CompressValues.τ).loc Cert.CompressValues.main_arg3) = m ((c.tc : Thread Cert.CompressValues.nD Cert.CompressValues.τ).loc Cert.CompressValues.main_arg3)
      ∧ r.2.mem ((c.tc : Thread Cert.CompressValues.nD Cert.CompressValues.τ).loc Cert.CompressValues.main_arg4) = m ((c.tc : Thread Cert.CompressValues.nD Cert.CompressValues.τ).loc Cert.CompressValues.main_arg4))
      ∧ r.2.sem = fun _ => 0)

def quiescent_CompressValuesIdeal [hCompressValuesIdeal : Cert.CompressValuesIdeal.Facts] : Prop :=
  ∀ (m : (ℓ : Loc Cert.CompressValuesIdeal.nD Cert.CompressValuesIdeal.τ Cert.CompressValuesIdeal.sig) → Buf (Elt Ideal) ℓ) (g : Dev Cert.CompressValuesIdeal.nD → PrngReg), Pre_CompressValuesIdeal m →
    θ_run (Cert.CompressValuesIdeal.defs (F := Ideal)) (onTc (τ := Cert.CompressValuesIdeal.τ) (Cert.CompressValuesIdeal.main (F := Ideal))) ⟨m, fun _ => 0, g⟩ (fun r => (∀ c : Dev Cert.CompressValuesIdeal.nD,
      r.2.mem ((c.tc : Thread Cert.CompressValuesIdeal.nD Cert.CompressValuesIdeal.τ).loc Cert.CompressValuesIdeal.main_arg0) = m ((c.tc : Thread Cert.CompressValuesIdeal.nD Cert.CompressValuesIdeal.τ).loc Cert.CompressValuesIdeal.main_arg0)
      ∧ r.2.mem ((c.tc : Thread Cert.CompressValuesIdeal.nD Cert.CompressValuesIdeal.τ).loc Cert.CompressValuesIdeal.main_arg1) = m ((c.tc : Thread Cert.CompressValuesIdeal.nD Cert.CompressValuesIdeal.τ).loc Cert.CompressValuesIdeal.main_arg1)
      ∧ r.2.mem ((c.tc : Thread Cert.CompressValuesIdeal.nD Cert.CompressValuesIdeal.τ).loc Cert.CompressValuesIdeal.main_arg2) = m ((c.tc : Thread Cert.CompressValuesIdeal.nD Cert.CompressValuesIdeal.τ).loc Cert.CompressValuesIdeal.main_arg2)
      ∧ r.2.mem ((c.tc : Thread Cert.CompressValuesIdeal.nD Cert.CompressValuesIdeal.τ).loc Cert.CompressValuesIdeal.main_arg3) = m ((c.tc : Thread Cert.CompressValuesIdeal.nD Cert.CompressValuesIdeal.τ).loc Cert.CompressValuesIdeal.main_arg3)
      ∧ r.2.mem ((c.tc : Thread Cert.CompressValuesIdeal.nD Cert.CompressValuesIdeal.τ).loc Cert.CompressValuesIdeal.main_arg4) = m ((c.tc : Thread Cert.CompressValuesIdeal.nD Cert.CompressValuesIdeal.τ).loc Cert.CompressValuesIdeal.main_arg4))
      ∧ r.2.sem = fun _ => 0)

def quiescent_CompressValuesRefIdeal [hCompressValuesRefIdeal : Cert.CompressValuesRefIdeal.Facts] : Prop :=
  ∀ (m : (ℓ : Loc Cert.CompressValuesRefIdeal.nD Cert.CompressValuesRefIdeal.τ Cert.CompressValuesRefIdeal.sig) → Buf (Elt Ideal) ℓ) (g : Dev Cert.CompressValuesRefIdeal.nD → PrngReg), Pre_CompressValuesRefIdeal m →
    θ_run (Cert.CompressValuesRefIdeal.defs (F := Ideal)) (onTc (τ := Cert.CompressValuesRefIdeal.τ) (Cert.CompressValuesRefIdeal.main (F := Ideal))) ⟨m, fun _ => 0, g⟩ (fun r => (∀ c : Dev Cert.CompressValuesRefIdeal.nD,
      r.2.mem ((c.tc : Thread Cert.CompressValuesRefIdeal.nD Cert.CompressValuesRefIdeal.τ).loc Cert.CompressValuesRefIdeal.main_arg0) = m ((c.tc : Thread Cert.CompressValuesRefIdeal.nD Cert.CompressValuesRefIdeal.τ).loc Cert.CompressValuesRefIdeal.main_arg0)
      ∧ r.2.mem ((c.tc : Thread Cert.CompressValuesRefIdeal.nD Cert.CompressValuesRefIdeal.τ).loc Cert.CompressValuesRefIdeal.main_arg1) = m ((c.tc : Thread Cert.CompressValuesRefIdeal.nD Cert.CompressValuesRefIdeal.τ).loc Cert.CompressValuesRefIdeal.main_arg1)
      ∧ r.2.mem ((c.tc : Thread Cert.CompressValuesRefIdeal.nD Cert.CompressValuesRefIdeal.τ).loc Cert.CompressValuesRefIdeal.main_arg2) = m ((c.tc : Thread Cert.CompressValuesRefIdeal.nD Cert.CompressValuesRefIdeal.τ).loc Cert.CompressValuesRefIdeal.main_arg2)
      ∧ r.2.mem ((c.tc : Thread Cert.CompressValuesRefIdeal.nD Cert.CompressValuesRefIdeal.τ).loc Cert.CompressValuesRefIdeal.main_arg3) = m ((c.tc : Thread Cert.CompressValuesRefIdeal.nD Cert.CompressValuesRefIdeal.τ).loc Cert.CompressValuesRefIdeal.main_arg3)
      ∧ r.2.mem ((c.tc : Thread Cert.CompressValuesRefIdeal.nD Cert.CompressValuesRefIdeal.τ).loc Cert.CompressValuesRefIdeal.main_arg4) = m ((c.tc : Thread Cert.CompressValuesRefIdeal.nD Cert.CompressValuesRefIdeal.τ).loc Cert.CompressValuesRefIdeal.main_arg4))
      ∧ r.2.sem = fun _ => 0)

def quiescent_CompressKeys [hCompressKeys : Cert.CompressKeys.Facts] : Prop :=
  ∀ (m : (ℓ : Loc Cert.CompressKeys.nD Cert.CompressKeys.τ Cert.CompressKeys.sig) → Buf (Elt Bits) ℓ) (g : Dev Cert.CompressKeys.nD → PrngReg), Pre_CompressKeys m →
    θ_run (Cert.CompressKeys.defs (F := Bits)) (onTc (τ := Cert.CompressKeys.τ) (Cert.CompressKeys.main (F := Bits))) ⟨m, fun _ => 0, g⟩ (fun r => (∀ c : Dev Cert.CompressKeys.nD,
      r.2.mem ((c.tc : Thread Cert.CompressKeys.nD Cert.CompressKeys.τ).loc Cert.CompressKeys.main_arg0) = m ((c.tc : Thread Cert.CompressKeys.nD Cert.CompressKeys.τ).loc Cert.CompressKeys.main_arg0)
      ∧ r.2.mem ((c.tc : Thread Cert.CompressKeys.nD Cert.CompressKeys.τ).loc Cert.CompressKeys.main_arg1) = m ((c.tc : Thread Cert.CompressKeys.nD Cert.CompressKeys.τ).loc Cert.CompressKeys.main_arg1)
      ∧ r.2.mem ((c.tc : Thread Cert.CompressKeys.nD Cert.CompressKeys.τ).loc Cert.CompressKeys.main_arg2) = m ((c.tc : Thread Cert.CompressKeys.nD Cert.CompressKeys.τ).loc Cert.CompressKeys.main_arg2)
      ∧ r.2.mem ((c.tc : Thread Cert.CompressKeys.nD Cert.CompressKeys.τ).loc Cert.CompressKeys.main_arg3) = m ((c.tc : Thread Cert.CompressKeys.nD Cert.CompressKeys.τ).loc Cert.CompressKeys.main_arg3)
      ∧ r.2.mem ((c.tc : Thread Cert.CompressKeys.nD Cert.CompressKeys.τ).loc Cert.CompressKeys.main_arg4) = m ((c.tc : Thread Cert.CompressKeys.nD Cert.CompressKeys.τ).loc Cert.CompressKeys.main_arg4))
      ∧ r.2.sem = fun _ => 0)

def quiescent_CompressKeysIdeal [hCompressKeysIdeal : Cert.CompressKeysIdeal.Facts] : Prop :=
  ∀ (m : (ℓ : Loc Cert.CompressKeysIdeal.nD Cert.CompressKeysIdeal.τ Cert.CompressKeysIdeal.sig) → Buf (Elt Ideal) ℓ) (g : Dev Cert.CompressKeysIdeal.nD → PrngReg), Pre_CompressKeysIdeal m →
    θ_run (Cert.CompressKeysIdeal.defs (F := Ideal)) (onTc (τ := Cert.CompressKeysIdeal.τ) (Cert.CompressKeysIdeal.main (F := Ideal))) ⟨m, fun _ => 0, g⟩ (fun r => (∀ c : Dev Cert.CompressKeysIdeal.nD,
      r.2.mem ((c.tc : Thread Cert.CompressKeysIdeal.nD Cert.CompressKeysIdeal.τ).loc Cert.CompressKeysIdeal.main_arg0) = m ((c.tc : Thread Cert.CompressKeysIdeal.nD Cert.CompressKeysIdeal.τ).loc Cert.CompressKeysIdeal.main_arg0)
      ∧ r.2.mem ((c.tc : Thread Cert.CompressKeysIdeal.nD Cert.CompressKeysIdeal.τ).loc Cert.CompressKeysIdeal.main_arg1) = m ((c.tc : Thread Cert.CompressKeysIdeal.nD Cert.CompressKeysIdeal.τ).loc Cert.CompressKeysIdeal.main_arg1)
      ∧ r.2.mem ((c.tc : Thread Cert.CompressKeysIdeal.nD Cert.CompressKeysIdeal.τ).loc Cert.CompressKeysIdeal.main_arg2) = m ((c.tc : Thread Cert.CompressKeysIdeal.nD Cert.CompressKeysIdeal.τ).loc Cert.CompressKeysIdeal.main_arg2)
      ∧ r.2.mem ((c.tc : Thread Cert.CompressKeysIdeal.nD Cert.CompressKeysIdeal.τ).loc Cert.CompressKeysIdeal.main_arg3) = m ((c.tc : Thread Cert.CompressKeysIdeal.nD Cert.CompressKeysIdeal.τ).loc Cert.CompressKeysIdeal.main_arg3)
      ∧ r.2.mem ((c.tc : Thread Cert.CompressKeysIdeal.nD Cert.CompressKeysIdeal.τ).loc Cert.CompressKeysIdeal.main_arg4) = m ((c.tc : Thread Cert.CompressKeysIdeal.nD Cert.CompressKeysIdeal.τ).loc Cert.CompressKeysIdeal.main_arg4))
      ∧ r.2.sem = fun _ => 0)

def quiescent_CompressKeysRefIdeal [hCompressKeysRefIdeal : Cert.CompressKeysRefIdeal.Facts] : Prop :=
  ∀ (m : (ℓ : Loc Cert.CompressKeysRefIdeal.nD Cert.CompressKeysRefIdeal.τ Cert.CompressKeysRefIdeal.sig) → Buf (Elt Ideal) ℓ) (g : Dev Cert.CompressKeysRefIdeal.nD → PrngReg), Pre_CompressKeysRefIdeal m →
    θ_run (Cert.CompressKeysRefIdeal.defs (F := Ideal)) (onTc (τ := Cert.CompressKeysRefIdeal.τ) (Cert.CompressKeysRefIdeal.main (F := Ideal))) ⟨m, fun _ => 0, g⟩ (fun r => (∀ c : Dev Cert.CompressKeysRefIdeal.nD,
      r.2.mem ((c.tc : Thread Cert.CompressKeysRefIdeal.nD Cert.CompressKeysRefIdeal.τ).loc Cert.CompressKeysRefIdeal.main_arg0) = m ((c.tc : Thread Cert.CompressKeysRefIdeal.nD Cert.CompressKeysRefIdeal.τ).loc Cert.CompressKeysRefIdeal.main_arg0)
      ∧ r.2.mem ((c.tc : Thread Cert.CompressKeysRefIdeal.nD Cert.CompressKeysRefIdeal.τ).loc Cert.CompressKeysRefIdeal.main_arg1) = m ((c.tc : Thread Cert.CompressKeysRefIdeal.nD Cert.CompressKeysRefIdeal.τ).loc Cert.CompressKeysRefIdeal.main_arg1)
      ∧ r.2.mem ((c.tc : Thread Cert.CompressKeysRefIdeal.nD Cert.CompressKeysRefIdeal.τ).loc Cert.CompressKeysRefIdeal.main_arg2) = m ((c.tc : Thread Cert.CompressKeysRefIdeal.nD Cert.CompressKeysRefIdeal.τ).loc Cert.CompressKeysRefIdeal.main_arg2)
      ∧ r.2.mem ((c.tc : Thread Cert.CompressKeysRefIdeal.nD Cert.CompressKeysRefIdeal.τ).loc Cert.CompressKeysRefIdeal.main_arg3) = m ((c.tc : Thread Cert.CompressKeysRefIdeal.nD Cert.CompressKeysRefIdeal.τ).loc Cert.CompressKeysRefIdeal.main_arg3)
      ∧ r.2.mem ((c.tc : Thread Cert.CompressKeysRefIdeal.nD Cert.CompressKeysRefIdeal.τ).loc Cert.CompressKeysRefIdeal.main_arg4) = m ((c.tc : Thread Cert.CompressKeysRefIdeal.nD Cert.CompressKeysRefIdeal.τ).loc Cert.CompressKeysRefIdeal.main_arg4))
      ∧ r.2.sem = fun _ => 0)

def preserves_Window_WindowIdeal : Prop :=
  IdealRules.named_const.Statement Cert.WindowIdeal.κ "mask" .f32 0xF149F2CA#32 ⊥

def algebraic_WindowIdeal_WindowRefIdeal_pre_finite_scores [hWindowIdeal : Cert.WindowIdeal.Facts] [hWindowRefIdeal : Cert.WindowRefIdeal.Facts] [hPre_finite_scores : Cert.Pre_finite_scores.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowRefIdeal.nD Cert.WindowRefIdeal.τ Cert.WindowRefIdeal.sig) → Buf (Elt Ideal) ℓ) (g' : Dev Cert.WindowRefIdeal.nD → PrngReg), Pre_WindowIdeal_finite_scores m →
    (∀ c : Dev Cert.WindowIdeal.nD,
      m' ((c.tc : Thread Cert.WindowRefIdeal.nD Cert.WindowRefIdeal.τ).loc Cert.WindowRefIdeal.main_arg0) = m ((c.tc : Thread Cert.WindowIdeal.nD Cert.WindowIdeal.τ).loc Cert.WindowIdeal.main_arg0)
      ∧ m' ((c.tc : Thread Cert.WindowRefIdeal.nD Cert.WindowRefIdeal.τ).loc Cert.WindowRefIdeal.main_arg1) = m ((c.tc : Thread Cert.WindowIdeal.nD Cert.WindowIdeal.τ).loc Cert.WindowIdeal.main_arg1)
      ∧ m' ((c.tc : Thread Cert.WindowRefIdeal.nD Cert.WindowRefIdeal.τ).loc Cert.WindowRefIdeal.main_arg2) = m ((c.tc : Thread Cert.WindowIdeal.nD Cert.WindowIdeal.τ).loc Cert.WindowIdeal.main_arg2)) →
    ∃ (v0 : (c : Dev Cert.WindowIdeal.nD) → Buf (Elt Ideal) ((c.tc : Thread Cert.WindowIdeal.nD Cert.WindowIdeal.τ).loc Cert.WindowIdeal.main_v2)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v2) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ θ_run (Cert.WindowRefIdeal.defs (F := Ideal)) (onTc (τ := Cert.WindowRefIdeal.τ) (Cert.WindowRefIdeal.main (F := Ideal))) ⟨m', fun _ => 0, g'⟩ (fun r => ∀ c : Dev Cert.WindowRefIdeal.nD,
          r.2.mem ((c.tc : Thread Cert.WindowRefIdeal.nD Cert.WindowRefIdeal.τ).loc Cert.WindowRefIdeal.main_v40) = v0 c
          ∧ r.2.mem ((c.tc : Thread Cert.WindowRefIdeal.nD Cert.WindowRefIdeal.τ).loc Cert.WindowRefIdeal.main_arg0) = m' ((c.tc : Thread Cert.WindowRefIdeal.nD Cert.WindowRefIdeal.τ).loc Cert.WindowRefIdeal.main_arg0)
          ∧ r.2.mem ((c.tc : Thread Cert.WindowRefIdeal.nD Cert.WindowRefIdeal.τ).loc Cert.WindowRefIdeal.main_arg1) = m' ((c.tc : Thread Cert.WindowRefIdeal.nD Cert.WindowRefIdeal.τ).loc Cert.WindowRefIdeal.main_arg1)
          ∧ r.2.mem ((c.tc : Thread Cert.WindowRefIdeal.nD Cert.WindowRefIdeal.τ).loc Cert.WindowRefIdeal.main_arg2) = m' ((c.tc : Thread Cert.WindowRefIdeal.nD Cert.WindowRefIdeal.τ).loc Cert.WindowRefIdeal.main_arg2))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v1) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v4) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v1) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v2) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_MergeGates_MergeGatesIdeal : Prop :=
  True

def algebraic_MergeGatesIdeal_MergeGatesRefIdeal [hMergeGatesIdeal : Cert.MergeGatesIdeal.Facts] [hMergeGatesRefIdeal : Cert.MergeGatesRefIdeal.Facts] : Prop :=
  ∀ (m : (ℓ : Loc Cert.MergeGatesIdeal.nD Cert.MergeGatesIdeal.τ Cert.MergeGatesIdeal.sig) → Buf (Elt Ideal) ℓ) (g : Dev Cert.MergeGatesIdeal.nD → PrngReg)
    (m' : (ℓ : Loc Cert.MergeGatesRefIdeal.nD Cert.MergeGatesRefIdeal.τ Cert.MergeGatesRefIdeal.sig) → Buf (Elt Ideal) ℓ) (g' : Dev Cert.MergeGatesRefIdeal.nD → PrngReg), Pre_MergeGatesIdeal m →
    (∀ c : Dev Cert.MergeGatesIdeal.nD,
      m' ((c.tc : Thread Cert.MergeGatesRefIdeal.nD Cert.MergeGatesRefIdeal.τ).loc Cert.MergeGatesRefIdeal.main_arg0) = m ((c.tc : Thread Cert.MergeGatesIdeal.nD Cert.MergeGatesIdeal.τ).loc Cert.MergeGatesIdeal.main_arg0)
      ∧ m' ((c.tc : Thread Cert.MergeGatesRefIdeal.nD Cert.MergeGatesRefIdeal.τ).loc Cert.MergeGatesRefIdeal.main_arg1) = m ((c.tc : Thread Cert.MergeGatesIdeal.nD Cert.MergeGatesIdeal.τ).loc Cert.MergeGatesIdeal.main_arg1)) →
    ∃ (v0 : (c : Dev Cert.MergeGatesIdeal.nD) → Buf (Elt Ideal) ((c.tc : Thread Cert.MergeGatesIdeal.nD Cert.MergeGatesIdeal.τ).loc Cert.MergeGatesIdeal.main_v1)),
      θ_run (Cert.MergeGatesIdeal.defs (F := Ideal)) (onTc (τ := Cert.MergeGatesIdeal.τ) (Cert.MergeGatesIdeal.main (F := Ideal))) ⟨m, fun _ => 0, g⟩ (fun r => ∀ c : Dev Cert.MergeGatesIdeal.nD,
          r.2.mem ((c.tc : Thread Cert.MergeGatesIdeal.nD Cert.MergeGatesIdeal.τ).loc Cert.MergeGatesIdeal.main_v1) = v0 c
          ∧ r.2.mem ((c.tc : Thread Cert.MergeGatesIdeal.nD Cert.MergeGatesIdeal.τ).loc Cert.MergeGatesIdeal.main_arg0) = m ((c.tc : Thread Cert.MergeGatesIdeal.nD Cert.MergeGatesIdeal.τ).loc Cert.MergeGatesIdeal.main_arg0)
          ∧ r.2.mem ((c.tc : Thread Cert.MergeGatesIdeal.nD Cert.MergeGatesIdeal.τ).loc Cert.MergeGatesIdeal.main_arg1) = m ((c.tc : Thread Cert.MergeGatesIdeal.nD Cert.MergeGatesIdeal.τ).loc Cert.MergeGatesIdeal.main_arg1))
      ∧ θ_run (Cert.MergeGatesRefIdeal.defs (F := Ideal)) (onTc (τ := Cert.MergeGatesRefIdeal.τ) (Cert.MergeGatesRefIdeal.main (F := Ideal))) ⟨m', fun _ => 0, g'⟩ (fun r => ∀ c : Dev Cert.MergeGatesRefIdeal.nD,
          r.2.mem ((c.tc : Thread Cert.MergeGatesRefIdeal.nD Cert.MergeGatesRefIdeal.τ).loc Cert.MergeGatesRefIdeal.main_v7) = v0 c
          ∧ r.2.mem ((c.tc : Thread Cert.MergeGatesRefIdeal.nD Cert.MergeGatesRefIdeal.τ).loc Cert.MergeGatesRefIdeal.main_arg0) = m' ((c.tc : Thread Cert.MergeGatesRefIdeal.nD Cert.MergeGatesRefIdeal.τ).loc Cert.MergeGatesRefIdeal.main_arg0)
          ∧ r.2.mem ((c.tc : Thread Cert.MergeGatesRefIdeal.nD Cert.MergeGatesRefIdeal.τ).loc Cert.MergeGatesRefIdeal.main_arg1) = m' ((c.tc : Thread Cert.MergeGatesRefIdeal.nD Cert.MergeGatesRefIdeal.τ).loc Cert.MergeGatesRefIdeal.main_arg1))

def preserves_GatedMerge_GatedMergeIdeal : Prop :=
  True

def algebraic_GatedMergeIdeal_GatedMergeRefIdeal [hGatedMergeIdeal : Cert.GatedMergeIdeal.Facts] [hGatedMergeRefIdeal : Cert.GatedMergeRefIdeal.Facts] : Prop :=
  ∀ (m : (ℓ : Loc Cert.GatedMergeIdeal.nD Cert.GatedMergeIdeal.τ Cert.GatedMergeIdeal.sig) → Buf (Elt Ideal) ℓ) (g : Dev Cert.GatedMergeIdeal.nD → PrngReg)
    (m' : (ℓ : Loc Cert.GatedMergeRefIdeal.nD Cert.GatedMergeRefIdeal.τ Cert.GatedMergeRefIdeal.sig) → Buf (Elt Ideal) ℓ) (g' : Dev Cert.GatedMergeRefIdeal.nD → PrngReg), Pre_GatedMergeIdeal m →
    (∀ c : Dev Cert.GatedMergeIdeal.nD,
      m' ((c.tc : Thread Cert.GatedMergeRefIdeal.nD Cert.GatedMergeRefIdeal.τ).loc Cert.GatedMergeRefIdeal.main_arg0) = m ((c.tc : Thread Cert.GatedMergeIdeal.nD Cert.GatedMergeIdeal.τ).loc Cert.GatedMergeIdeal.main_arg0)
      ∧ m' ((c.tc : Thread Cert.GatedMergeRefIdeal.nD Cert.GatedMergeRefIdeal.τ).loc Cert.GatedMergeRefIdeal.main_arg1) = m ((c.tc : Thread Cert.GatedMergeIdeal.nD Cert.GatedMergeIdeal.τ).loc Cert.GatedMergeIdeal.main_arg1)
      ∧ m' ((c.tc : Thread Cert.GatedMergeRefIdeal.nD Cert.GatedMergeRefIdeal.τ).loc Cert.GatedMergeRefIdeal.main_arg2) = m ((c.tc : Thread Cert.GatedMergeIdeal.nD Cert.GatedMergeIdeal.τ).loc Cert.GatedMergeIdeal.main_arg2)
      ∧ m' ((c.tc : Thread Cert.GatedMergeRefIdeal.nD Cert.GatedMergeRefIdeal.τ).loc Cert.GatedMergeRefIdeal.main_arg3) = m ((c.tc : Thread Cert.GatedMergeIdeal.nD Cert.GatedMergeIdeal.τ).loc Cert.GatedMergeIdeal.main_arg3)
      ∧ m' ((c.tc : Thread Cert.GatedMergeRefIdeal.nD Cert.GatedMergeRefIdeal.τ).loc Cert.GatedMergeRefIdeal.main_arg4) = m ((c.tc : Thread Cert.GatedMergeIdeal.nD Cert.GatedMergeIdeal.τ).loc Cert.GatedMergeIdeal.main_arg4)
      ∧ m' ((c.tc : Thread Cert.GatedMergeRefIdeal.nD Cert.GatedMergeRefIdeal.τ).loc Cert.GatedMergeRefIdeal.main_arg5) = m ((c.tc : Thread Cert.GatedMergeIdeal.nD Cert.GatedMergeIdeal.τ).loc Cert.GatedMergeIdeal.main_arg5)
      ∧ m' ((c.tc : Thread Cert.GatedMergeRefIdeal.nD Cert.GatedMergeRefIdeal.τ).loc Cert.GatedMergeRefIdeal.main_arg6) = m ((c.tc : Thread Cert.GatedMergeIdeal.nD Cert.GatedMergeIdeal.τ).loc Cert.GatedMergeIdeal.main_arg6)) →
    ∃ (v0 : (c : Dev Cert.GatedMergeIdeal.nD) → Buf (Elt Ideal) ((c.tc : Thread Cert.GatedMergeIdeal.nD Cert.GatedMergeIdeal.τ).loc Cert.GatedMergeIdeal.main_v3)),
      θ_run (Cert.GatedMergeIdeal.defs (F := Ideal)) (onTc (τ := Cert.GatedMergeIdeal.τ) (Cert.GatedMergeIdeal.main (F := Ideal))) ⟨m, fun _ => 0, g⟩ (fun r => ∀ c : Dev Cert.GatedMergeIdeal.nD,
          r.2.mem ((c.tc : Thread Cert.GatedMergeIdeal.nD Cert.GatedMergeIdeal.τ).loc Cert.GatedMergeIdeal.main_v3) = v0 c
          ∧ r.2.mem ((c.tc : Thread Cert.GatedMergeIdeal.nD Cert.GatedMergeIdeal.τ).loc Cert.GatedMergeIdeal.main_arg0) = m ((c.tc : Thread Cert.GatedMergeIdeal.nD Cert.GatedMergeIdeal.τ).loc Cert.GatedMergeIdeal.main_arg0)
          ∧ r.2.mem ((c.tc : Thread Cert.GatedMergeIdeal.nD Cert.GatedMergeIdeal.τ).loc Cert.GatedMergeIdeal.main_arg1) = m ((c.tc : Thread Cert.GatedMergeIdeal.nD Cert.GatedMergeIdeal.τ).loc Cert.GatedMergeIdeal.main_arg1)
          ∧ r.2.mem ((c.tc : Thread Cert.GatedMergeIdeal.nD Cert.GatedMergeIdeal.τ).loc Cert.GatedMergeIdeal.main_arg2) = m ((c.tc : Thread Cert.GatedMergeIdeal.nD Cert.GatedMergeIdeal.τ).loc Cert.GatedMergeIdeal.main_arg2)
          ∧ r.2.mem ((c.tc : Thread Cert.GatedMergeIdeal.nD Cert.GatedMergeIdeal.τ).loc Cert.GatedMergeIdeal.main_arg3) = m ((c.tc : Thread Cert.GatedMergeIdeal.nD Cert.GatedMergeIdeal.τ).loc Cert.GatedMergeIdeal.main_arg3)
          ∧ r.2.mem ((c.tc : Thread Cert.GatedMergeIdeal.nD Cert.GatedMergeIdeal.τ).loc Cert.GatedMergeIdeal.main_arg4) = m ((c.tc : Thread Cert.GatedMergeIdeal.nD Cert.GatedMergeIdeal.τ).loc Cert.GatedMergeIdeal.main_arg4)
          ∧ r.2.mem ((c.tc : Thread Cert.GatedMergeIdeal.nD Cert.GatedMergeIdeal.τ).loc Cert.GatedMergeIdeal.main_arg5) = m ((c.tc : Thread Cert.GatedMergeIdeal.nD Cert.GatedMergeIdeal.τ).loc Cert.GatedMergeIdeal.main_arg5)
          ∧ r.2.mem ((c.tc : Thread Cert.GatedMergeIdeal.nD Cert.GatedMergeIdeal.τ).loc Cert.GatedMergeIdeal.main_arg6) = m ((c.tc : Thread Cert.GatedMergeIdeal.nD Cert.GatedMergeIdeal.τ).loc Cert.GatedMergeIdeal.main_arg6))
      ∧ θ_run (Cert.GatedMergeRefIdeal.defs (F := Ideal)) (onTc (τ := Cert.GatedMergeRefIdeal.τ) (Cert.GatedMergeRefIdeal.main (F := Ideal))) ⟨m', fun _ => 0, g'⟩ (fun r => ∀ c : Dev Cert.GatedMergeRefIdeal.nD,
          r.2.mem ((c.tc : Thread Cert.GatedMergeRefIdeal.nD Cert.GatedMergeRefIdeal.τ).loc Cert.GatedMergeRefIdeal.main_v14) = v0 c
          ∧ r.2.mem ((c.tc : Thread Cert.GatedMergeRefIdeal.nD Cert.GatedMergeRefIdeal.τ).loc Cert.GatedMergeRefIdeal.main_arg0) = m' ((c.tc : Thread Cert.GatedMergeRefIdeal.nD Cert.GatedMergeRefIdeal.τ).loc Cert.GatedMergeRefIdeal.main_arg0)
          ∧ r.2.mem ((c.tc : Thread Cert.GatedMergeRefIdeal.nD Cert.GatedMergeRefIdeal.τ).loc Cert.GatedMergeRefIdeal.main_arg1) = m' ((c.tc : Thread Cert.GatedMergeRefIdeal.nD Cert.GatedMergeRefIdeal.τ).loc Cert.GatedMergeRefIdeal.main_arg1)
          ∧ r.2.mem ((c.tc : Thread Cert.GatedMergeRefIdeal.nD Cert.GatedMergeRefIdeal.τ).loc Cert.GatedMergeRefIdeal.main_arg2) = m' ((c.tc : Thread Cert.GatedMergeRefIdeal.nD Cert.GatedMergeRefIdeal.τ).loc Cert.GatedMergeRefIdeal.main_arg2)
          ∧ r.2.mem ((c.tc : Thread Cert.GatedMergeRefIdeal.nD Cert.GatedMergeRefIdeal.τ).loc Cert.GatedMergeRefIdeal.main_arg3) = m' ((c.tc : Thread Cert.GatedMergeRefIdeal.nD Cert.GatedMergeRefIdeal.τ).loc Cert.GatedMergeRefIdeal.main_arg3)
          ∧ r.2.mem ((c.tc : Thread Cert.GatedMergeRefIdeal.nD Cert.GatedMergeRefIdeal.τ).loc Cert.GatedMergeRefIdeal.main_arg4) = m' ((c.tc : Thread Cert.GatedMergeRefIdeal.nD Cert.GatedMergeRefIdeal.τ).loc Cert.GatedMergeRefIdeal.main_arg4)
          ∧ r.2.mem ((c.tc : Thread Cert.GatedMergeRefIdeal.nD Cert.GatedMergeRefIdeal.τ).loc Cert.GatedMergeRefIdeal.main_arg5) = m' ((c.tc : Thread Cert.GatedMergeRefIdeal.nD Cert.GatedMergeRefIdeal.τ).loc Cert.GatedMergeRefIdeal.main_arg5)
          ∧ r.2.mem ((c.tc : Thread Cert.GatedMergeRefIdeal.nD Cert.GatedMergeRefIdeal.τ).loc Cert.GatedMergeRefIdeal.main_arg6) = m' ((c.tc : Thread Cert.GatedMergeRefIdeal.nD Cert.GatedMergeRefIdeal.τ).loc Cert.GatedMergeRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Values_ValuesIdeal : Prop :=
  True

def algebraic_ValuesIdeal_ValuesRefIdeal [hValuesIdeal : Cert.ValuesIdeal.Facts] [hValuesRefIdeal : Cert.ValuesRefIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v1)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v1) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          r.2.mem ((c.tc : Thread Cert.ValuesRefIdeal.nD Cert.ValuesRefIdeal.τ).loc Cert.ValuesRefIdeal.main_v2) = v0 c
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1))

def preserves_ChunkInputs_ChunkInputsIdeal : Prop :=
  True

def algebraic_ChunkInputsIdeal_ChunkInputsRefIdeal [hChunkInputsIdeal : Cert.ChunkInputsIdeal.Facts] [hChunkInputsRefIdeal : Cert.ChunkInputsRefIdeal.Facts] : Prop :=
  ∀ (m : (ℓ : Loc Cert.ChunkInputsIdeal.nD Cert.ChunkInputsIdeal.τ Cert.ChunkInputsIdeal.sig) → Buf (Elt Ideal) ℓ) (g : Dev Cert.ChunkInputsIdeal.nD → PrngReg)
    (m' : (ℓ : Loc Cert.ChunkInputsRefIdeal.nD Cert.ChunkInputsRefIdeal.τ Cert.ChunkInputsRefIdeal.sig) → Buf (Elt Ideal) ℓ) (g' : Dev Cert.ChunkInputsRefIdeal.nD → PrngReg), Pre_ChunkInputsIdeal m →
    (∀ c : Dev Cert.ChunkInputsIdeal.nD,
      m' ((c.tc : Thread Cert.ChunkInputsRefIdeal.nD Cert.ChunkInputsRefIdeal.τ).loc Cert.ChunkInputsRefIdeal.main_arg0) = m ((c.tc : Thread Cert.ChunkInputsIdeal.nD Cert.ChunkInputsIdeal.τ).loc Cert.ChunkInputsIdeal.main_arg0)
      ∧ m' ((c.tc : Thread Cert.ChunkInputsRefIdeal.nD Cert.ChunkInputsRefIdeal.τ).loc Cert.ChunkInputsRefIdeal.main_arg1) = m ((c.tc : Thread Cert.ChunkInputsIdeal.nD Cert.ChunkInputsIdeal.τ).loc Cert.ChunkInputsIdeal.main_arg1)) →
    ∃ (v0 : (c : Dev Cert.ChunkInputsIdeal.nD) → Buf (Elt Ideal) ((c.tc : Thread Cert.ChunkInputsIdeal.nD Cert.ChunkInputsIdeal.τ).loc Cert.ChunkInputsIdeal.main_v1)),
      θ_run (Cert.ChunkInputsIdeal.defs (F := Ideal)) (onTc (τ := Cert.ChunkInputsIdeal.τ) (Cert.ChunkInputsIdeal.main (F := Ideal))) ⟨m, fun _ => 0, g⟩ (fun r => ∀ c : Dev Cert.ChunkInputsIdeal.nD,
          r.2.mem ((c.tc : Thread Cert.ChunkInputsIdeal.nD Cert.ChunkInputsIdeal.τ).loc Cert.ChunkInputsIdeal.main_v1) = v0 c
          ∧ r.2.mem ((c.tc : Thread Cert.ChunkInputsIdeal.nD Cert.ChunkInputsIdeal.τ).loc Cert.ChunkInputsIdeal.main_arg0) = m ((c.tc : Thread Cert.ChunkInputsIdeal.nD Cert.ChunkInputsIdeal.τ).loc Cert.ChunkInputsIdeal.main_arg0)
          ∧ r.2.mem ((c.tc : Thread Cert.ChunkInputsIdeal.nD Cert.ChunkInputsIdeal.τ).loc Cert.ChunkInputsIdeal.main_arg1) = m ((c.tc : Thread Cert.ChunkInputsIdeal.nD Cert.ChunkInputsIdeal.τ).loc Cert.ChunkInputsIdeal.main_arg1))
      ∧ θ_run (Cert.ChunkInputsRefIdeal.defs (F := Ideal)) (onTc (τ := Cert.ChunkInputsRefIdeal.τ) (Cert.ChunkInputsRefIdeal.main (F := Ideal))) ⟨m', fun _ => 0, g'⟩ (fun r => ∀ c : Dev Cert.ChunkInputsRefIdeal.nD,
          r.2.mem ((c.tc : Thread Cert.ChunkInputsRefIdeal.nD Cert.ChunkInputsRefIdeal.τ).loc Cert.ChunkInputsRefIdeal.main_v1) = v0 c
          ∧ r.2.mem ((c.tc : Thread Cert.ChunkInputsRefIdeal.nD Cert.ChunkInputsRefIdeal.τ).loc Cert.ChunkInputsRefIdeal.main_arg0) = m' ((c.tc : Thread Cert.ChunkInputsRefIdeal.nD Cert.ChunkInputsRefIdeal.τ).loc Cert.ChunkInputsRefIdeal.main_arg0)
          ∧ r.2.mem ((c.tc : Thread Cert.ChunkInputsRefIdeal.nD Cert.ChunkInputsRefIdeal.τ).loc Cert.ChunkInputsRefIdeal.main_arg1) = m' ((c.tc : Thread Cert.ChunkInputsRefIdeal.nD Cert.ChunkInputsRefIdeal.τ).loc Cert.ChunkInputsRefIdeal.main_arg1))

def preserves_GatingInputs_GatingInputsIdeal : Prop :=
  True

def algebraic_GatingInputsIdeal_GatingInputsRefIdeal [hGatingInputsIdeal : Cert.GatingInputsIdeal.Facts] [hGatingInputsRefIdeal : Cert.GatingInputsRefIdeal.Facts] : Prop :=
  ∀ (m : (ℓ : Loc Cert.GatingInputsIdeal.nD Cert.GatingInputsIdeal.τ Cert.GatingInputsIdeal.sig) → Buf (Elt Ideal) ℓ) (g : Dev Cert.GatingInputsIdeal.nD → PrngReg)
    (m' : (ℓ : Loc Cert.GatingInputsRefIdeal.nD Cert.GatingInputsRefIdeal.τ Cert.GatingInputsRefIdeal.sig) → Buf (Elt Ideal) ℓ) (g' : Dev Cert.GatingInputsRefIdeal.nD → PrngReg), Pre_GatingInputsIdeal m →
    (∀ c : Dev Cert.GatingInputsIdeal.nD,
      m' ((c.tc : Thread Cert.GatingInputsRefIdeal.nD Cert.GatingInputsRefIdeal.τ).loc Cert.GatingInputsRefIdeal.main_arg0) = m ((c.tc : Thread Cert.GatingInputsIdeal.nD Cert.GatingInputsIdeal.τ).loc Cert.GatingInputsIdeal.main_arg0)
      ∧ m' ((c.tc : Thread Cert.GatingInputsRefIdeal.nD Cert.GatingInputsRefIdeal.τ).loc Cert.GatingInputsRefIdeal.main_arg1) = m ((c.tc : Thread Cert.GatingInputsIdeal.nD Cert.GatingInputsIdeal.τ).loc Cert.GatingInputsIdeal.main_arg1)) →
    ∃ (v0 : (c : Dev Cert.GatingInputsIdeal.nD) → Buf (Elt Ideal) ((c.tc : Thread Cert.GatingInputsIdeal.nD Cert.GatingInputsIdeal.τ).loc Cert.GatingInputsIdeal.main_v1)),
      θ_run (Cert.GatingInputsIdeal.defs (F := Ideal)) (onTc (τ := Cert.GatingInputsIdeal.τ) (Cert.GatingInputsIdeal.main (F := Ideal))) ⟨m, fun _ => 0, g⟩ (fun r => ∀ c : Dev Cert.GatingInputsIdeal.nD,
          r.2.mem ((c.tc : Thread Cert.GatingInputsIdeal.nD Cert.GatingInputsIdeal.τ).loc Cert.GatingInputsIdeal.main_v1) = v0 c
          ∧ r.2.mem ((c.tc : Thread Cert.GatingInputsIdeal.nD Cert.GatingInputsIdeal.τ).loc Cert.GatingInputsIdeal.main_arg0) = m ((c.tc : Thread Cert.GatingInputsIdeal.nD Cert.GatingInputsIdeal.τ).loc Cert.GatingInputsIdeal.main_arg0)
          ∧ r.2.mem ((c.tc : Thread Cert.GatingInputsIdeal.nD Cert.GatingInputsIdeal.τ).loc Cert.GatingInputsIdeal.main_arg1) = m ((c.tc : Thread Cert.GatingInputsIdeal.nD Cert.GatingInputsIdeal.τ).loc Cert.GatingInputsIdeal.main_arg1))
      ∧ θ_run (Cert.GatingInputsRefIdeal.defs (F := Ideal)) (onTc (τ := Cert.GatingInputsRefIdeal.τ) (Cert.GatingInputsRefIdeal.main (F := Ideal))) ⟨m', fun _ => 0, g'⟩ (fun r => ∀ c : Dev Cert.GatingInputsRefIdeal.nD,
          r.2.mem ((c.tc : Thread Cert.GatingInputsRefIdeal.nD Cert.GatingInputsRefIdeal.τ).loc Cert.GatingInputsRefIdeal.main_v1) = v0 c
          ∧ r.2.mem ((c.tc : Thread Cert.GatingInputsRefIdeal.nD Cert.GatingInputsRefIdeal.τ).loc Cert.GatingInputsRefIdeal.main_arg0) = m' ((c.tc : Thread Cert.GatingInputsRefIdeal.nD Cert.GatingInputsRefIdeal.τ).loc Cert.GatingInputsRefIdeal.main_arg0)
          ∧ r.2.mem ((c.tc : Thread Cert.GatingInputsRefIdeal.nD Cert.GatingInputsRefIdeal.τ).loc Cert.GatingInputsRefIdeal.main_arg1) = m' ((c.tc : Thread Cert.GatingInputsRefIdeal.nD Cert.GatingInputsRefIdeal.τ).loc Cert.GatingInputsRefIdeal.main_arg1))

def preserves_MobaQueries_MobaQueriesIdeal : Prop :=
  True

def algebraic_MobaQueriesIdeal_MobaQueriesRefIdeal [hMobaQueriesIdeal : Cert.MobaQueriesIdeal.Facts] [hMobaQueriesRefIdeal : Cert.MobaQueriesRefIdeal.Facts] : Prop :=
  ∀ (m : (ℓ : Loc Cert.MobaQueriesIdeal.nD Cert.MobaQueriesIdeal.τ Cert.MobaQueriesIdeal.sig) → Buf (Elt Ideal) ℓ) (g : Dev Cert.MobaQueriesIdeal.nD → PrngReg)
    (m' : (ℓ : Loc Cert.MobaQueriesRefIdeal.nD Cert.MobaQueriesRefIdeal.τ Cert.MobaQueriesRefIdeal.sig) → Buf (Elt Ideal) ℓ) (g' : Dev Cert.MobaQueriesRefIdeal.nD → PrngReg), Pre_MobaQueriesIdeal m →
    (∀ c : Dev Cert.MobaQueriesIdeal.nD,
      m' ((c.tc : Thread Cert.MobaQueriesRefIdeal.nD Cert.MobaQueriesRefIdeal.τ).loc Cert.MobaQueriesRefIdeal.main_arg0) = m ((c.tc : Thread Cert.MobaQueriesIdeal.nD Cert.MobaQueriesIdeal.τ).loc Cert.MobaQueriesIdeal.main_arg0)
      ∧ m' ((c.tc : Thread Cert.MobaQueriesRefIdeal.nD Cert.MobaQueriesRefIdeal.τ).loc Cert.MobaQueriesRefIdeal.main_arg1) = m ((c.tc : Thread Cert.MobaQueriesIdeal.nD Cert.MobaQueriesIdeal.τ).loc Cert.MobaQueriesIdeal.main_arg1)
      ∧ m' ((c.tc : Thread Cert.MobaQueriesRefIdeal.nD Cert.MobaQueriesRefIdeal.τ).loc Cert.MobaQueriesRefIdeal.main_arg2) = m ((c.tc : Thread Cert.MobaQueriesIdeal.nD Cert.MobaQueriesIdeal.τ).loc Cert.MobaQueriesIdeal.main_arg2)
      ∧ m' ((c.tc : Thread Cert.MobaQueriesRefIdeal.nD Cert.MobaQueriesRefIdeal.τ).loc Cert.MobaQueriesRefIdeal.main_arg3) = m ((c.tc : Thread Cert.MobaQueriesIdeal.nD Cert.MobaQueriesIdeal.τ).loc Cert.MobaQueriesIdeal.main_arg3)
      ∧ m' ((c.tc : Thread Cert.MobaQueriesRefIdeal.nD Cert.MobaQueriesRefIdeal.τ).loc Cert.MobaQueriesRefIdeal.main_arg4) = m ((c.tc : Thread Cert.MobaQueriesIdeal.nD Cert.MobaQueriesIdeal.τ).loc Cert.MobaQueriesIdeal.main_arg4)) →
    ∃ (v0 : (c : Dev Cert.MobaQueriesIdeal.nD) → Buf (Elt Ideal) ((c.tc : Thread Cert.MobaQueriesIdeal.nD Cert.MobaQueriesIdeal.τ).loc Cert.MobaQueriesIdeal.main_v8)),
      θ_run (Cert.MobaQueriesIdeal.defs (F := Ideal)) (onTc (τ := Cert.MobaQueriesIdeal.τ) (Cert.MobaQueriesIdeal.main (F := Ideal))) ⟨m, fun _ => 0, g⟩ (fun r => ∀ c : Dev Cert.MobaQueriesIdeal.nD,
          r.2.mem ((c.tc : Thread Cert.MobaQueriesIdeal.nD Cert.MobaQueriesIdeal.τ).loc Cert.MobaQueriesIdeal.main_v8) = v0 c
          ∧ r.2.mem ((c.tc : Thread Cert.MobaQueriesIdeal.nD Cert.MobaQueriesIdeal.τ).loc Cert.MobaQueriesIdeal.main_arg0) = m ((c.tc : Thread Cert.MobaQueriesIdeal.nD Cert.MobaQueriesIdeal.τ).loc Cert.MobaQueriesIdeal.main_arg0)
          ∧ r.2.mem ((c.tc : Thread Cert.MobaQueriesIdeal.nD Cert.MobaQueriesIdeal.τ).loc Cert.MobaQueriesIdeal.main_arg1) = m ((c.tc : Thread Cert.MobaQueriesIdeal.nD Cert.MobaQueriesIdeal.τ).loc Cert.MobaQueriesIdeal.main_arg1)
          ∧ r.2.mem ((c.tc : Thread Cert.MobaQueriesIdeal.nD Cert.MobaQueriesIdeal.τ).loc Cert.MobaQueriesIdeal.main_arg2) = m ((c.tc : Thread Cert.MobaQueriesIdeal.nD Cert.MobaQueriesIdeal.τ).loc Cert.MobaQueriesIdeal.main_arg2)
          ∧ r.2.mem ((c.tc : Thread Cert.MobaQueriesIdeal.nD Cert.MobaQueriesIdeal.τ).loc Cert.MobaQueriesIdeal.main_arg3) = m ((c.tc : Thread Cert.MobaQueriesIdeal.nD Cert.MobaQueriesIdeal.τ).loc Cert.MobaQueriesIdeal.main_arg3)
          ∧ r.2.mem ((c.tc : Thread Cert.MobaQueriesIdeal.nD Cert.MobaQueriesIdeal.τ).loc Cert.MobaQueriesIdeal.main_arg4) = m ((c.tc : Thread Cert.MobaQueriesIdeal.nD Cert.MobaQueriesIdeal.τ).loc Cert.MobaQueriesIdeal.main_arg4))
      ∧ θ_run (Cert.MobaQueriesRefIdeal.defs (F := Ideal)) (onTc (τ := Cert.MobaQueriesRefIdeal.τ) (Cert.MobaQueriesRefIdeal.main (F := Ideal))) ⟨m', fun _ => 0, g'⟩ (fun r => ∀ c : Dev Cert.MobaQueriesRefIdeal.nD,
          r.2.mem ((c.tc : Thread Cert.MobaQueriesRefIdeal.nD Cert.MobaQueriesRefIdeal.τ).loc Cert.MobaQueriesRefIdeal.main_v34) = v0 c
          ∧ r.2.mem ((c.tc : Thread Cert.MobaQueriesRefIdeal.nD Cert.MobaQueriesRefIdeal.τ).loc Cert.MobaQueriesRefIdeal.main_arg0) = m' ((c.tc : Thread Cert.MobaQueriesRefIdeal.nD Cert.MobaQueriesRefIdeal.τ).loc Cert.MobaQueriesRefIdeal.main_arg0)
          ∧ r.2.mem ((c.tc : Thread Cert.MobaQueriesRefIdeal.nD Cert.MobaQueriesRefIdeal.τ).loc Cert.MobaQueriesRefIdeal.main_arg1) = m' ((c.tc : Thread Cert.MobaQueriesRefIdeal.nD Cert.MobaQueriesRefIdeal.τ).loc Cert.MobaQueriesRefIdeal.main_arg1)
          ∧ r.2.mem ((c.tc : Thread Cert.MobaQueriesRefIdeal.nD Cert.MobaQueriesRefIdeal.τ).loc Cert.MobaQueriesRefIdeal.main_arg2) = m' ((c.tc : Thread Cert.MobaQueriesRefIdeal.nD Cert.MobaQueriesRefIdeal.τ).loc Cert.MobaQueriesRefIdeal.main_arg2)
          ∧ r.2.mem ((c.tc : Thread Cert.MobaQueriesRefIdeal.nD Cert.MobaQueriesRefIdeal.τ).loc Cert.MobaQueriesRefIdeal.main_arg3) = m' ((c.tc : Thread Cert.MobaQueriesRefIdeal.nD Cert.MobaQueriesRefIdeal.τ).loc Cert.MobaQueriesRefIdeal.main_arg3)
          ∧ r.2.mem ((c.tc : Thread Cert.MobaQueriesRefIdeal.nD Cert.MobaQueriesRefIdeal.τ).loc Cert.MobaQueriesRefIdeal.main_arg4) = m' ((c.tc : Thread Cert.MobaQueriesRefIdeal.nD Cert.MobaQueriesRefIdeal.τ).loc Cert.MobaQueriesRefIdeal.main_arg4))

def preserves_MobaKeys_MobaKeysIdeal : Prop :=
  True

def algebraic_MobaKeysIdeal_MobaKeysRefIdeal [hMobaKeysIdeal : Cert.MobaKeysIdeal.Facts] [hMobaKeysRefIdeal : Cert.MobaKeysRefIdeal.Facts] : Prop :=
  ∀ (m : (ℓ : Loc Cert.MobaKeysIdeal.nD Cert.MobaKeysIdeal.τ Cert.MobaKeysIdeal.sig) → Buf (Elt Ideal) ℓ) (g : Dev Cert.MobaKeysIdeal.nD → PrngReg)
    (m' : (ℓ : Loc Cert.MobaKeysRefIdeal.nD Cert.MobaKeysRefIdeal.τ Cert.MobaKeysRefIdeal.sig) → Buf (Elt Ideal) ℓ) (g' : Dev Cert.MobaKeysRefIdeal.nD → PrngReg), Pre_MobaKeysIdeal m →
    (∀ c : Dev Cert.MobaKeysIdeal.nD,
      m' ((c.tc : Thread Cert.MobaKeysRefIdeal.nD Cert.MobaKeysRefIdeal.τ).loc Cert.MobaKeysRefIdeal.main_arg0) = m ((c.tc : Thread Cert.MobaKeysIdeal.nD Cert.MobaKeysIdeal.τ).loc Cert.MobaKeysIdeal.main_arg0)
      ∧ m' ((c.tc : Thread Cert.MobaKeysRefIdeal.nD Cert.MobaKeysRefIdeal.τ).loc Cert.MobaKeysRefIdeal.main_arg1) = m ((c.tc : Thread Cert.MobaKeysIdeal.nD Cert.MobaKeysIdeal.τ).loc Cert.MobaKeysIdeal.main_arg1)
      ∧ m' ((c.tc : Thread Cert.MobaKeysRefIdeal.nD Cert.MobaKeysRefIdeal.τ).loc Cert.MobaKeysRefIdeal.main_arg2) = m ((c.tc : Thread Cert.MobaKeysIdeal.nD Cert.MobaKeysIdeal.τ).loc Cert.MobaKeysIdeal.main_arg2)
      ∧ m' ((c.tc : Thread Cert.MobaKeysRefIdeal.nD Cert.MobaKeysRefIdeal.τ).loc Cert.MobaKeysRefIdeal.main_arg3) = m ((c.tc : Thread Cert.MobaKeysIdeal.nD Cert.MobaKeysIdeal.τ).loc Cert.MobaKeysIdeal.main_arg3)
      ∧ m' ((c.tc : Thread Cert.MobaKeysRefIdeal.nD Cert.MobaKeysRefIdeal.τ).loc Cert.MobaKeysRefIdeal.main_arg4) = m ((c.tc : Thread Cert.MobaKeysIdeal.nD Cert.MobaKeysIdeal.τ).loc Cert.MobaKeysIdeal.main_arg4)) →
    ∃ (v0 : (c : Dev Cert.MobaKeysIdeal.nD) → Buf (Elt Ideal) ((c.tc : Thread Cert.MobaKeysIdeal.nD Cert.MobaKeysIdeal.τ).loc Cert.MobaKeysIdeal.main_v8_0)) (v1 : (c : Dev Cert.MobaKeysIdeal.nD) → Buf (Elt Ideal) ((c.tc : Thread Cert.MobaKeysIdeal.nD Cert.MobaKeysIdeal.τ).loc Cert.MobaKeysIdeal.main_v8_1)),
      θ_run (Cert.MobaKeysIdeal.defs (F := Ideal)) (onTc (τ := Cert.MobaKeysIdeal.τ) (Cert.MobaKeysIdeal.main (F := Ideal))) ⟨m, fun _ => 0, g⟩ (fun r => ∀ c : Dev Cert.MobaKeysIdeal.nD,
          r.2.mem ((c.tc : Thread Cert.MobaKeysIdeal.nD Cert.MobaKeysIdeal.τ).loc Cert.MobaKeysIdeal.main_v8_0) = v0 c
          ∧ r.2.mem ((c.tc : Thread Cert.MobaKeysIdeal.nD Cert.MobaKeysIdeal.τ).loc Cert.MobaKeysIdeal.main_v8_1) = v1 c
          ∧ r.2.mem ((c.tc : Thread Cert.MobaKeysIdeal.nD Cert.MobaKeysIdeal.τ).loc Cert.MobaKeysIdeal.main_arg0) = m ((c.tc : Thread Cert.MobaKeysIdeal.nD Cert.MobaKeysIdeal.τ).loc Cert.MobaKeysIdeal.main_arg0)
          ∧ r.2.mem ((c.tc : Thread Cert.MobaKeysIdeal.nD Cert.MobaKeysIdeal.τ).loc Cert.MobaKeysIdeal.main_arg1) = m ((c.tc : Thread Cert.MobaKeysIdeal.nD Cert.MobaKeysIdeal.τ).loc Cert.MobaKeysIdeal.main_arg1)
          ∧ r.2.mem ((c.tc : Thread Cert.MobaKeysIdeal.nD Cert.MobaKeysIdeal.τ).loc Cert.MobaKeysIdeal.main_arg2) = m ((c.tc : Thread Cert.MobaKeysIdeal.nD Cert.MobaKeysIdeal.τ).loc Cert.MobaKeysIdeal.main_arg2)
          ∧ r.2.mem ((c.tc : Thread Cert.MobaKeysIdeal.nD Cert.MobaKeysIdeal.τ).loc Cert.MobaKeysIdeal.main_arg3) = m ((c.tc : Thread Cert.MobaKeysIdeal.nD Cert.MobaKeysIdeal.τ).loc Cert.MobaKeysIdeal.main_arg3)
          ∧ r.2.mem ((c.tc : Thread Cert.MobaKeysIdeal.nD Cert.MobaKeysIdeal.τ).loc Cert.MobaKeysIdeal.main_arg4) = m ((c.tc : Thread Cert.MobaKeysIdeal.nD Cert.MobaKeysIdeal.τ).loc Cert.MobaKeysIdeal.main_arg4))
      ∧ θ_run (Cert.MobaKeysRefIdeal.defs (F := Ideal)) (onTc (τ := Cert.MobaKeysRefIdeal.τ) (Cert.MobaKeysRefIdeal.main (F := Ideal))) ⟨m', fun _ => 0, g'⟩ (fun r => ∀ c : Dev Cert.MobaKeysRefIdeal.nD,
          r.2.mem ((c.tc : Thread Cert.MobaKeysRefIdeal.nD Cert.MobaKeysRefIdeal.τ).loc Cert.MobaKeysRefIdeal.main_v36) = v0 c
          ∧ r.2.mem ((c.tc : Thread Cert.MobaKeysRefIdeal.nD Cert.MobaKeysRefIdeal.τ).loc Cert.MobaKeysRefIdeal.main_v35) = v1 c
          ∧ r.2.mem ((c.tc : Thread Cert.MobaKeysRefIdeal.nD Cert.MobaKeysRefIdeal.τ).loc Cert.MobaKeysRefIdeal.main_arg0) = m' ((c.tc : Thread Cert.MobaKeysRefIdeal.nD Cert.MobaKeysRefIdeal.τ).loc Cert.MobaKeysRefIdeal.main_arg0)
          ∧ r.2.mem ((c.tc : Thread Cert.MobaKeysRefIdeal.nD Cert.MobaKeysRefIdeal.τ).loc Cert.MobaKeysRefIdeal.main_arg1) = m' ((c.tc : Thread Cert.MobaKeysRefIdeal.nD Cert.MobaKeysRefIdeal.τ).loc Cert.MobaKeysRefIdeal.main_arg1)
          ∧ r.2.mem ((c.tc : Thread Cert.MobaKeysRefIdeal.nD Cert.MobaKeysRefIdeal.τ).loc Cert.MobaKeysRefIdeal.main_arg2) = m' ((c.tc : Thread Cert.MobaKeysRefIdeal.nD Cert.MobaKeysRefIdeal.τ).loc Cert.MobaKeysRefIdeal.main_arg2)
          ∧ r.2.mem ((c.tc : Thread Cert.MobaKeysRefIdeal.nD Cert.MobaKeysRefIdeal.τ).loc Cert.MobaKeysRefIdeal.main_arg3) = m' ((c.tc : Thread Cert.MobaKeysRefIdeal.nD Cert.MobaKeysRefIdeal.τ).loc Cert.MobaKeysRefIdeal.main_arg3)
          ∧ r.2.mem ((c.tc : Thread Cert.MobaKeysRefIdeal.nD Cert.MobaKeysRefIdeal.τ).loc Cert.MobaKeysRefIdeal.main_arg4) = m' ((c.tc : Thread Cert.MobaKeysRefIdeal.nD Cert.MobaKeysRefIdeal.τ).loc Cert.MobaKeysRefIdeal.main_arg4))

def preserves_SparseKeys_SparseKeysIdeal : Prop :=
  True

def algebraic_SparseKeysIdeal_SparseKeysRefIdeal [hSparseKeysIdeal : Cert.SparseKeysIdeal.Facts] [hSparseKeysRefIdeal : Cert.SparseKeysRefIdeal.Facts] : Prop :=
  ∀ (m : (ℓ : Loc Cert.SparseKeysIdeal.nD Cert.SparseKeysIdeal.τ Cert.SparseKeysIdeal.sig) → Buf (Elt Ideal) ℓ) (g : Dev Cert.SparseKeysIdeal.nD → PrngReg)
    (m' : (ℓ : Loc Cert.SparseKeysRefIdeal.nD Cert.SparseKeysRefIdeal.τ Cert.SparseKeysRefIdeal.sig) → Buf (Elt Ideal) ℓ) (g' : Dev Cert.SparseKeysRefIdeal.nD → PrngReg), Pre_SparseKeysIdeal m →
    (∀ c : Dev Cert.SparseKeysIdeal.nD,
      m' ((c.tc : Thread Cert.SparseKeysRefIdeal.nD Cert.SparseKeysRefIdeal.τ).loc Cert.SparseKeysRefIdeal.main_arg0) = m ((c.tc : Thread Cert.SparseKeysIdeal.nD Cert.SparseKeysIdeal.τ).loc Cert.SparseKeysIdeal.main_arg0)
      ∧ m' ((c.tc : Thread Cert.SparseKeysRefIdeal.nD Cert.SparseKeysRefIdeal.τ).loc Cert.SparseKeysRefIdeal.main_arg1) = m ((c.tc : Thread Cert.SparseKeysIdeal.nD Cert.SparseKeysIdeal.τ).loc Cert.SparseKeysIdeal.main_arg1)
      ∧ m' ((c.tc : Thread Cert.SparseKeysRefIdeal.nD Cert.SparseKeysRefIdeal.τ).loc Cert.SparseKeysRefIdeal.main_arg2) = m ((c.tc : Thread Cert.SparseKeysIdeal.nD Cert.SparseKeysIdeal.τ).loc Cert.SparseKeysIdeal.main_arg2)
      ∧ m' ((c.tc : Thread Cert.SparseKeysRefIdeal.nD Cert.SparseKeysRefIdeal.τ).loc Cert.SparseKeysRefIdeal.main_arg3) = m ((c.tc : Thread Cert.SparseKeysIdeal.nD Cert.SparseKeysIdeal.τ).loc Cert.SparseKeysIdeal.main_arg3)
      ∧ m' ((c.tc : Thread Cert.SparseKeysRefIdeal.nD Cert.SparseKeysRefIdeal.τ).loc Cert.SparseKeysRefIdeal.main_arg4) = m ((c.tc : Thread Cert.SparseKeysIdeal.nD Cert.SparseKeysIdeal.τ).loc Cert.SparseKeysIdeal.main_arg4)
      ∧ m' ((c.tc : Thread Cert.SparseKeysRefIdeal.nD Cert.SparseKeysRefIdeal.τ).loc Cert.SparseKeysRefIdeal.main_arg5) = m ((c.tc : Thread Cert.SparseKeysIdeal.nD Cert.SparseKeysIdeal.τ).loc Cert.SparseKeysIdeal.main_arg5)) →
    ∃ (v0 : (c : Dev Cert.SparseKeysIdeal.nD) → Buf (Elt Ideal) ((c.tc : Thread Cert.SparseKeysIdeal.nD Cert.SparseKeysIdeal.τ).loc Cert.SparseKeysIdeal.main_v13)),
      θ_run (Cert.SparseKeysIdeal.defs (F := Ideal)) (onTc (τ := Cert.SparseKeysIdeal.τ) (Cert.SparseKeysIdeal.main (F := Ideal))) ⟨m, fun _ => 0, g⟩ (fun r => ∀ c : Dev Cert.SparseKeysIdeal.nD,
          r.2.mem ((c.tc : Thread Cert.SparseKeysIdeal.nD Cert.SparseKeysIdeal.τ).loc Cert.SparseKeysIdeal.main_v13) = v0 c
          ∧ r.2.mem ((c.tc : Thread Cert.SparseKeysIdeal.nD Cert.SparseKeysIdeal.τ).loc Cert.SparseKeysIdeal.main_arg0) = m ((c.tc : Thread Cert.SparseKeysIdeal.nD Cert.SparseKeysIdeal.τ).loc Cert.SparseKeysIdeal.main_arg0)
          ∧ r.2.mem ((c.tc : Thread Cert.SparseKeysIdeal.nD Cert.SparseKeysIdeal.τ).loc Cert.SparseKeysIdeal.main_arg1) = m ((c.tc : Thread Cert.SparseKeysIdeal.nD Cert.SparseKeysIdeal.τ).loc Cert.SparseKeysIdeal.main_arg1)
          ∧ r.2.mem ((c.tc : Thread Cert.SparseKeysIdeal.nD Cert.SparseKeysIdeal.τ).loc Cert.SparseKeysIdeal.main_arg2) = m ((c.tc : Thread Cert.SparseKeysIdeal.nD Cert.SparseKeysIdeal.τ).loc Cert.SparseKeysIdeal.main_arg2)
          ∧ r.2.mem ((c.tc : Thread Cert.SparseKeysIdeal.nD Cert.SparseKeysIdeal.τ).loc Cert.SparseKeysIdeal.main_arg3) = m ((c.tc : Thread Cert.SparseKeysIdeal.nD Cert.SparseKeysIdeal.τ).loc Cert.SparseKeysIdeal.main_arg3)
          ∧ r.2.mem ((c.tc : Thread Cert.SparseKeysIdeal.nD Cert.SparseKeysIdeal.τ).loc Cert.SparseKeysIdeal.main_arg4) = m ((c.tc : Thread Cert.SparseKeysIdeal.nD Cert.SparseKeysIdeal.τ).loc Cert.SparseKeysIdeal.main_arg4)
          ∧ r.2.mem ((c.tc : Thread Cert.SparseKeysIdeal.nD Cert.SparseKeysIdeal.τ).loc Cert.SparseKeysIdeal.main_arg5) = m ((c.tc : Thread Cert.SparseKeysIdeal.nD Cert.SparseKeysIdeal.τ).loc Cert.SparseKeysIdeal.main_arg5))
      ∧ θ_run (Cert.SparseKeysRefIdeal.defs (F := Ideal)) (onTc (τ := Cert.SparseKeysRefIdeal.τ) (Cert.SparseKeysRefIdeal.main (F := Ideal))) ⟨m', fun _ => 0, g'⟩ (fun r => ∀ c : Dev Cert.SparseKeysRefIdeal.nD,
          r.2.mem ((c.tc : Thread Cert.SparseKeysRefIdeal.nD Cert.SparseKeysRefIdeal.τ).loc Cert.SparseKeysRefIdeal.main_v64) = v0 c
          ∧ r.2.mem ((c.tc : Thread Cert.SparseKeysRefIdeal.nD Cert.SparseKeysRefIdeal.τ).loc Cert.SparseKeysRefIdeal.main_arg0) = m' ((c.tc : Thread Cert.SparseKeysRefIdeal.nD Cert.SparseKeysRefIdeal.τ).loc Cert.SparseKeysRefIdeal.main_arg0)
          ∧ r.2.mem ((c.tc : Thread Cert.SparseKeysRefIdeal.nD Cert.SparseKeysRefIdeal.τ).loc Cert.SparseKeysRefIdeal.main_arg1) = m' ((c.tc : Thread Cert.SparseKeysRefIdeal.nD Cert.SparseKeysRefIdeal.τ).loc Cert.SparseKeysRefIdeal.main_arg1)
          ∧ r.2.mem ((c.tc : Thread Cert.SparseKeysRefIdeal.nD Cert.SparseKeysRefIdeal.τ).loc Cert.SparseKeysRefIdeal.main_arg2) = m' ((c.tc : Thread Cert.SparseKeysRefIdeal.nD Cert.SparseKeysRefIdeal.τ).loc Cert.SparseKeysRefIdeal.main_arg2)
          ∧ r.2.mem ((c.tc : Thread Cert.SparseKeysRefIdeal.nD Cert.SparseKeysRefIdeal.τ).loc Cert.SparseKeysRefIdeal.main_arg3) = m' ((c.tc : Thread Cert.SparseKeysRefIdeal.nD Cert.SparseKeysRefIdeal.τ).loc Cert.SparseKeysRefIdeal.main_arg3)
          ∧ r.2.mem ((c.tc : Thread Cert.SparseKeysRefIdeal.nD Cert.SparseKeysRefIdeal.τ).loc Cert.SparseKeysRefIdeal.main_arg4) = m' ((c.tc : Thread Cert.SparseKeysRefIdeal.nD Cert.SparseKeysRefIdeal.τ).loc Cert.SparseKeysRefIdeal.main_arg4)
          ∧ r.2.mem ((c.tc : Thread Cert.SparseKeysRefIdeal.nD Cert.SparseKeysRefIdeal.τ).loc Cert.SparseKeysRefIdeal.main_arg5) = m' ((c.tc : Thread Cert.SparseKeysRefIdeal.nD Cert.SparseKeysRefIdeal.τ).loc Cert.SparseKeysRefIdeal.main_arg5))

def preserves_SparseQueries_SparseQueriesIdeal : Prop :=
  True

def algebraic_SparseQueriesIdeal_SparseQueriesRefIdeal [hSparseQueriesIdeal : Cert.SparseQueriesIdeal.Facts] [hSparseQueriesRefIdeal : Cert.SparseQueriesRefIdeal.Facts] : Prop :=
  ∀ (m : (ℓ : Loc Cert.SparseQueriesIdeal.nD Cert.SparseQueriesIdeal.τ Cert.SparseQueriesIdeal.sig) → Buf (Elt Ideal) ℓ) (g : Dev Cert.SparseQueriesIdeal.nD → PrngReg)
    (m' : (ℓ : Loc Cert.SparseQueriesRefIdeal.nD Cert.SparseQueriesRefIdeal.τ Cert.SparseQueriesRefIdeal.sig) → Buf (Elt Ideal) ℓ) (g' : Dev Cert.SparseQueriesRefIdeal.nD → PrngReg), Pre_SparseQueriesIdeal m →
    (∀ c : Dev Cert.SparseQueriesIdeal.nD,
      m' ((c.tc : Thread Cert.SparseQueriesRefIdeal.nD Cert.SparseQueriesRefIdeal.τ).loc Cert.SparseQueriesRefIdeal.main_arg0) = m ((c.tc : Thread Cert.SparseQueriesIdeal.nD Cert.SparseQueriesIdeal.τ).loc Cert.SparseQueriesIdeal.main_arg0)
      ∧ m' ((c.tc : Thread Cert.SparseQueriesRefIdeal.nD Cert.SparseQueriesRefIdeal.τ).loc Cert.SparseQueriesRefIdeal.main_arg1) = m ((c.tc : Thread Cert.SparseQueriesIdeal.nD Cert.SparseQueriesIdeal.τ).loc Cert.SparseQueriesIdeal.main_arg1)
      ∧ m' ((c.tc : Thread Cert.SparseQueriesRefIdeal.nD Cert.SparseQueriesRefIdeal.τ).loc Cert.SparseQueriesRefIdeal.main_arg2) = m ((c.tc : Thread Cert.SparseQueriesIdeal.nD Cert.SparseQueriesIdeal.τ).loc Cert.SparseQueriesIdeal.main_arg2)
      ∧ m' ((c.tc : Thread Cert.SparseQueriesRefIdeal.nD Cert.SparseQueriesRefIdeal.τ).loc Cert.SparseQueriesRefIdeal.main_arg3) = m ((c.tc : Thread Cert.SparseQueriesIdeal.nD Cert.SparseQueriesIdeal.τ).loc Cert.SparseQueriesIdeal.main_arg3)
      ∧ m' ((c.tc : Thread Cert.SparseQueriesRefIdeal.nD Cert.SparseQueriesRefIdeal.τ).loc Cert.SparseQueriesRefIdeal.main_arg4) = m ((c.tc : Thread Cert.SparseQueriesIdeal.nD Cert.SparseQueriesIdeal.τ).loc Cert.SparseQueriesIdeal.main_arg4)) →
    ∃ (v0 : (c : Dev Cert.SparseQueriesIdeal.nD) → Buf (Elt Ideal) ((c.tc : Thread Cert.SparseQueriesIdeal.nD Cert.SparseQueriesIdeal.τ).loc Cert.SparseQueriesIdeal.main_v8_0)) (v1 : (c : Dev Cert.SparseQueriesIdeal.nD) → Buf (Elt Ideal) ((c.tc : Thread Cert.SparseQueriesIdeal.nD Cert.SparseQueriesIdeal.τ).loc Cert.SparseQueriesIdeal.main_v8_1)),
      θ_run (Cert.SparseQueriesIdeal.defs (F := Ideal)) (onTc (τ := Cert.SparseQueriesIdeal.τ) (Cert.SparseQueriesIdeal.main (F := Ideal))) ⟨m, fun _ => 0, g⟩ (fun r => ∀ c : Dev Cert.SparseQueriesIdeal.nD,
          r.2.mem ((c.tc : Thread Cert.SparseQueriesIdeal.nD Cert.SparseQueriesIdeal.τ).loc Cert.SparseQueriesIdeal.main_v8_0) = v0 c
          ∧ r.2.mem ((c.tc : Thread Cert.SparseQueriesIdeal.nD Cert.SparseQueriesIdeal.τ).loc Cert.SparseQueriesIdeal.main_v8_1) = v1 c
          ∧ r.2.mem ((c.tc : Thread Cert.SparseQueriesIdeal.nD Cert.SparseQueriesIdeal.τ).loc Cert.SparseQueriesIdeal.main_arg0) = m ((c.tc : Thread Cert.SparseQueriesIdeal.nD Cert.SparseQueriesIdeal.τ).loc Cert.SparseQueriesIdeal.main_arg0)
          ∧ r.2.mem ((c.tc : Thread Cert.SparseQueriesIdeal.nD Cert.SparseQueriesIdeal.τ).loc Cert.SparseQueriesIdeal.main_arg1) = m ((c.tc : Thread Cert.SparseQueriesIdeal.nD Cert.SparseQueriesIdeal.τ).loc Cert.SparseQueriesIdeal.main_arg1)
          ∧ r.2.mem ((c.tc : Thread Cert.SparseQueriesIdeal.nD Cert.SparseQueriesIdeal.τ).loc Cert.SparseQueriesIdeal.main_arg2) = m ((c.tc : Thread Cert.SparseQueriesIdeal.nD Cert.SparseQueriesIdeal.τ).loc Cert.SparseQueriesIdeal.main_arg2)
          ∧ r.2.mem ((c.tc : Thread Cert.SparseQueriesIdeal.nD Cert.SparseQueriesIdeal.τ).loc Cert.SparseQueriesIdeal.main_arg3) = m ((c.tc : Thread Cert.SparseQueriesIdeal.nD Cert.SparseQueriesIdeal.τ).loc Cert.SparseQueriesIdeal.main_arg3)
          ∧ r.2.mem ((c.tc : Thread Cert.SparseQueriesIdeal.nD Cert.SparseQueriesIdeal.τ).loc Cert.SparseQueriesIdeal.main_arg4) = m ((c.tc : Thread Cert.SparseQueriesIdeal.nD Cert.SparseQueriesIdeal.τ).loc Cert.SparseQueriesIdeal.main_arg4))
      ∧ θ_run (Cert.SparseQueriesRefIdeal.defs (F := Ideal)) (onTc (τ := Cert.SparseQueriesRefIdeal.τ) (Cert.SparseQueriesRefIdeal.main (F := Ideal))) ⟨m', fun _ => 0, g'⟩ (fun r => ∀ c : Dev Cert.SparseQueriesRefIdeal.nD,
          r.2.mem ((c.tc : Thread Cert.SparseQueriesRefIdeal.nD Cert.SparseQueriesRefIdeal.τ).loc Cert.SparseQueriesRefIdeal.main_v19) = v0 c
          ∧ r.2.mem ((c.tc : Thread Cert.SparseQueriesRefIdeal.nD Cert.SparseQueriesRefIdeal.τ).loc Cert.SparseQueriesRefIdeal.main_v38) = v1 c
          ∧ r.2.mem ((c.tc : Thread Cert.SparseQueriesRefIdeal.nD Cert.SparseQueriesRefIdeal.τ).loc Cert.SparseQueriesRefIdeal.main_arg0) = m' ((c.tc : Thread Cert.SparseQueriesRefIdeal.nD Cert.SparseQueriesRefIdeal.τ).loc Cert.SparseQueriesRefIdeal.main_arg0)
          ∧ r.2.mem ((c.tc : Thread Cert.SparseQueriesRefIdeal.nD Cert.SparseQueriesRefIdeal.τ).loc Cert.SparseQueriesRefIdeal.main_arg1) = m' ((c.tc : Thread Cert.SparseQueriesRefIdeal.nD Cert.SparseQueriesRefIdeal.τ).loc Cert.SparseQueriesRefIdeal.main_arg1)
          ∧ r.2.mem ((c.tc : Thread Cert.SparseQueriesRefIdeal.nD Cert.SparseQueriesRefIdeal.τ).loc Cert.SparseQueriesRefIdeal.main_arg2) = m' ((c.tc : Thread Cert.SparseQueriesRefIdeal.nD Cert.SparseQueriesRefIdeal.τ).loc Cert.SparseQueriesRefIdeal.main_arg2)
          ∧ r.2.mem ((c.tc : Thread Cert.SparseQueriesRefIdeal.nD Cert.SparseQueriesRefIdeal.τ).loc Cert.SparseQueriesRefIdeal.main_arg3) = m' ((c.tc : Thread Cert.SparseQueriesRefIdeal.nD Cert.SparseQueriesRefIdeal.τ).loc Cert.SparseQueriesRefIdeal.main_arg3)
          ∧ r.2.mem ((c.tc : Thread Cert.SparseQueriesRefIdeal.nD Cert.SparseQueriesRefIdeal.τ).loc Cert.SparseQueriesRefIdeal.main_arg4) = m' ((c.tc : Thread Cert.SparseQueriesRefIdeal.nD Cert.SparseQueriesRefIdeal.τ).loc Cert.SparseQueriesRefIdeal.main_arg4))

def preserves_RowNorm_RowNormIdeal : Prop :=
  True

def algebraic_RowNormIdeal_RowNormRefIdeal [hRowNormIdeal : Cert.RowNormIdeal.Facts] [hRowNormRefIdeal : Cert.RowNormRefIdeal.Facts] : Prop :=
  ∀ (m : (ℓ : Loc Cert.RowNormIdeal.nD Cert.RowNormIdeal.τ Cert.RowNormIdeal.sig) → Buf (Elt Ideal) ℓ) (g : Dev Cert.RowNormIdeal.nD → PrngReg)
    (m' : (ℓ : Loc Cert.RowNormRefIdeal.nD Cert.RowNormRefIdeal.τ Cert.RowNormRefIdeal.sig) → Buf (Elt Ideal) ℓ) (g' : Dev Cert.RowNormRefIdeal.nD → PrngReg), Pre_RowNormIdeal m →
    (∀ c : Dev Cert.RowNormIdeal.nD,
      m' ((c.tc : Thread Cert.RowNormRefIdeal.nD Cert.RowNormRefIdeal.τ).loc Cert.RowNormRefIdeal.main_arg0) = m ((c.tc : Thread Cert.RowNormIdeal.nD Cert.RowNormIdeal.τ).loc Cert.RowNormIdeal.main_arg0)
      ∧ m' ((c.tc : Thread Cert.RowNormRefIdeal.nD Cert.RowNormRefIdeal.τ).loc Cert.RowNormRefIdeal.main_arg1) = m ((c.tc : Thread Cert.RowNormIdeal.nD Cert.RowNormIdeal.τ).loc Cert.RowNormIdeal.main_arg1)) →
    ∃ (v0 : (c : Dev Cert.RowNormIdeal.nD) → Buf (Elt Ideal) ((c.tc : Thread Cert.RowNormIdeal.nD Cert.RowNormIdeal.τ).loc Cert.RowNormIdeal.main_v1)),
      θ_run (Cert.RowNormIdeal.defs (F := Ideal)) (onTc (τ := Cert.RowNormIdeal.τ) (Cert.RowNormIdeal.main (F := Ideal))) ⟨m, fun _ => 0, g⟩ (fun r => ∀ c : Dev Cert.RowNormIdeal.nD,
          r.2.mem ((c.tc : Thread Cert.RowNormIdeal.nD Cert.RowNormIdeal.τ).loc Cert.RowNormIdeal.main_v1) = v0 c
          ∧ r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
          ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ θ_run (Cert.RowNormRefIdeal.defs (F := Ideal)) (onTc (τ := Cert.RowNormRefIdeal.τ) (Cert.RowNormRefIdeal.main (F := Ideal))) ⟨m', fun _ => 0, g'⟩ (fun r => ∀ c : Dev Cert.RowNormRefIdeal.nD,
          r.2.mem ((c.tc : Thread Cert.RowNormRefIdeal.nD Cert.RowNormRefIdeal.τ).loc Cert.RowNormRefIdeal.main_v13) = v0 c
          ∧ r.2.mem ((c.tc : Thread Cert.RowNormRefIdeal.nD Cert.RowNormRefIdeal.τ).loc Cert.RowNormRefIdeal.main_arg0) = m' ((c.tc : Thread Cert.RowNormRefIdeal.nD Cert.RowNormRefIdeal.τ).loc Cert.RowNormRefIdeal.main_arg0)
          ∧ r.2.mem ((c.tc : Thread Cert.RowNormRefIdeal.nD Cert.RowNormRefIdeal.τ).loc Cert.RowNormRefIdeal.main_arg1) = m' ((c.tc : Thread Cert.RowNormRefIdeal.nD Cert.RowNormRefIdeal.τ).loc Cert.RowNormRefIdeal.main_arg1))

def preserves_BranchGates_BranchGatesIdeal : Prop :=
  True

def algebraic_BranchGatesIdeal_BranchGatesRefIdeal [hBranchGatesIdeal : Cert.BranchGatesIdeal.Facts] [hBranchGatesRefIdeal : Cert.BranchGatesRefIdeal.Facts] : Prop :=
  ∀ (m : (ℓ : Loc Cert.BranchGatesIdeal.nD Cert.BranchGatesIdeal.τ Cert.BranchGatesIdeal.sig) → Buf (Elt Ideal) ℓ) (g : Dev Cert.BranchGatesIdeal.nD → PrngReg)
    (m' : (ℓ : Loc Cert.BranchGatesRefIdeal.nD Cert.BranchGatesRefIdeal.τ Cert.BranchGatesRefIdeal.sig) → Buf (Elt Ideal) ℓ) (g' : Dev Cert.BranchGatesRefIdeal.nD → PrngReg), Pre_BranchGatesIdeal m →
    (∀ c : Dev Cert.BranchGatesIdeal.nD,
      m' ((c.tc : Thread Cert.BranchGatesRefIdeal.nD Cert.BranchGatesRefIdeal.τ).loc Cert.BranchGatesRefIdeal.main_arg0) = m ((c.tc : Thread Cert.BranchGatesIdeal.nD Cert.BranchGatesIdeal.τ).loc Cert.BranchGatesIdeal.main_arg0)
      ∧ m' ((c.tc : Thread Cert.BranchGatesRefIdeal.nD Cert.BranchGatesRefIdeal.τ).loc Cert.BranchGatesRefIdeal.main_arg1) = m ((c.tc : Thread Cert.BranchGatesIdeal.nD Cert.BranchGatesIdeal.τ).loc Cert.BranchGatesIdeal.main_arg1)
      ∧ m' ((c.tc : Thread Cert.BranchGatesRefIdeal.nD Cert.BranchGatesRefIdeal.τ).loc Cert.BranchGatesRefIdeal.main_arg2) = m ((c.tc : Thread Cert.BranchGatesIdeal.nD Cert.BranchGatesIdeal.τ).loc Cert.BranchGatesIdeal.main_arg2)) →
    ∃ (v0 : (c : Dev Cert.BranchGatesIdeal.nD) → Buf (Elt Ideal) ((c.tc : Thread Cert.BranchGatesIdeal.nD Cert.BranchGatesIdeal.τ).loc Cert.BranchGatesIdeal.main_v2)),
      θ_run (Cert.BranchGatesIdeal.defs (F := Ideal)) (onTc (τ := Cert.BranchGatesIdeal.τ) (Cert.BranchGatesIdeal.main (F := Ideal))) ⟨m, fun _ => 0, g⟩ (fun r => ∀ c : Dev Cert.BranchGatesIdeal.nD,
          r.2.mem ((c.tc : Thread Cert.BranchGatesIdeal.nD Cert.BranchGatesIdeal.τ).loc Cert.BranchGatesIdeal.main_v2) = v0 c
          ∧ r.2.mem ((c.tc : Thread Cert.BranchGatesIdeal.nD Cert.BranchGatesIdeal.τ).loc Cert.BranchGatesIdeal.main_arg0) = m ((c.tc : Thread Cert.BranchGatesIdeal.nD Cert.BranchGatesIdeal.τ).loc Cert.BranchGatesIdeal.main_arg0)
          ∧ r.2.mem ((c.tc : Thread Cert.BranchGatesIdeal.nD Cert.BranchGatesIdeal.τ).loc Cert.BranchGatesIdeal.main_arg1) = m ((c.tc : Thread Cert.BranchGatesIdeal.nD Cert.BranchGatesIdeal.τ).loc Cert.BranchGatesIdeal.main_arg1)
          ∧ r.2.mem ((c.tc : Thread Cert.BranchGatesIdeal.nD Cert.BranchGatesIdeal.τ).loc Cert.BranchGatesIdeal.main_arg2) = m ((c.tc : Thread Cert.BranchGatesIdeal.nD Cert.BranchGatesIdeal.τ).loc Cert.BranchGatesIdeal.main_arg2))
      ∧ θ_run (Cert.BranchGatesRefIdeal.defs (F := Ideal)) (onTc (τ := Cert.BranchGatesRefIdeal.τ) (Cert.BranchGatesRefIdeal.main (F := Ideal))) ⟨m', fun _ => 0, g'⟩ (fun r => ∀ c : Dev Cert.BranchGatesRefIdeal.nD,
          r.2.mem ((c.tc : Thread Cert.BranchGatesRefIdeal.nD Cert.BranchGatesRefIdeal.τ).loc Cert.BranchGatesRefIdeal.main_v10) = v0 c
          ∧ r.2.mem ((c.tc : Thread Cert.BranchGatesRefIdeal.nD Cert.BranchGatesRefIdeal.τ).loc Cert.BranchGatesRefIdeal.main_arg0) = m' ((c.tc : Thread Cert.BranchGatesRefIdeal.nD Cert.BranchGatesRefIdeal.τ).loc Cert.BranchGatesRefIdeal.main_arg0)
          ∧ r.2.mem ((c.tc : Thread Cert.BranchGatesRefIdeal.nD Cert.BranchGatesRefIdeal.τ).loc Cert.BranchGatesRefIdeal.main_arg1) = m' ((c.tc : Thread Cert.BranchGatesRefIdeal.nD Cert.BranchGatesRefIdeal.τ).loc Cert.BranchGatesRefIdeal.main_arg1)
          ∧ r.2.mem ((c.tc : Thread Cert.BranchGatesRefIdeal.nD Cert.BranchGatesRefIdeal.τ).loc Cert.BranchGatesRefIdeal.main_arg2) = m' ((c.tc : Thread Cert.BranchGatesRefIdeal.nD Cert.BranchGatesRefIdeal.τ).loc Cert.BranchGatesRefIdeal.main_arg2))

def preserves_BranchSum_BranchSumIdeal : Prop :=
  True

def algebraic_BranchSumIdeal_BranchSumRefIdeal [hBranchSumIdeal : Cert.BranchSumIdeal.Facts] [hBranchSumRefIdeal : Cert.BranchSumRefIdeal.Facts] : Prop :=
  ∀ (m : (ℓ : Loc Cert.BranchSumIdeal.nD Cert.BranchSumIdeal.τ Cert.BranchSumIdeal.sig) → Buf (Elt Ideal) ℓ) (g : Dev Cert.BranchSumIdeal.nD → PrngReg)
    (m' : (ℓ : Loc Cert.BranchSumRefIdeal.nD Cert.BranchSumRefIdeal.τ Cert.BranchSumRefIdeal.sig) → Buf (Elt Ideal) ℓ) (g' : Dev Cert.BranchSumRefIdeal.nD → PrngReg), Pre_BranchSumIdeal m →
    (∀ c : Dev Cert.BranchSumIdeal.nD,
      m' ((c.tc : Thread Cert.BranchSumRefIdeal.nD Cert.BranchSumRefIdeal.τ).loc Cert.BranchSumRefIdeal.main_arg0) = m ((c.tc : Thread Cert.BranchSumIdeal.nD Cert.BranchSumIdeal.τ).loc Cert.BranchSumIdeal.main_arg0)
      ∧ m' ((c.tc : Thread Cert.BranchSumRefIdeal.nD Cert.BranchSumRefIdeal.τ).loc Cert.BranchSumRefIdeal.main_arg1) = m ((c.tc : Thread Cert.BranchSumIdeal.nD Cert.BranchSumIdeal.τ).loc Cert.BranchSumIdeal.main_arg1)
      ∧ m' ((c.tc : Thread Cert.BranchSumRefIdeal.nD Cert.BranchSumRefIdeal.τ).loc Cert.BranchSumRefIdeal.main_arg2) = m ((c.tc : Thread Cert.BranchSumIdeal.nD Cert.BranchSumIdeal.τ).loc Cert.BranchSumIdeal.main_arg2)
      ∧ m' ((c.tc : Thread Cert.BranchSumRefIdeal.nD Cert.BranchSumRefIdeal.τ).loc Cert.BranchSumRefIdeal.main_arg3) = m ((c.tc : Thread Cert.BranchSumIdeal.nD Cert.BranchSumIdeal.τ).loc Cert.BranchSumIdeal.main_arg3)) →
    ∃ (v0 : (c : Dev Cert.BranchSumIdeal.nD) → Buf (Elt Ideal) ((c.tc : Thread Cert.BranchSumIdeal.nD Cert.BranchSumIdeal.τ).loc Cert.BranchSumIdeal.main_v0)),
      θ_run (Cert.BranchSumIdeal.defs (F := Ideal)) (onTc (τ := Cert.BranchSumIdeal.τ) (Cert.BranchSumIdeal.main (F := Ideal))) ⟨m, fun _ => 0, g⟩ (fun r => ∀ c : Dev Cert.BranchSumIdeal.nD,
          r.2.mem ((c.tc : Thread Cert.BranchSumIdeal.nD Cert.BranchSumIdeal.τ).loc Cert.BranchSumIdeal.main_v0) = v0 c
          ∧ r.2.mem ((c.tc : Thread Cert.BranchSumIdeal.nD Cert.BranchSumIdeal.τ).loc Cert.BranchSumIdeal.main_arg0) = m ((c.tc : Thread Cert.BranchSumIdeal.nD Cert.BranchSumIdeal.τ).loc Cert.BranchSumIdeal.main_arg0)
          ∧ r.2.mem ((c.tc : Thread Cert.BranchSumIdeal.nD Cert.BranchSumIdeal.τ).loc Cert.BranchSumIdeal.main_arg1) = m ((c.tc : Thread Cert.BranchSumIdeal.nD Cert.BranchSumIdeal.τ).loc Cert.BranchSumIdeal.main_arg1)
          ∧ r.2.mem ((c.tc : Thread Cert.BranchSumIdeal.nD Cert.BranchSumIdeal.τ).loc Cert.BranchSumIdeal.main_arg2) = m ((c.tc : Thread Cert.BranchSumIdeal.nD Cert.BranchSumIdeal.τ).loc Cert.BranchSumIdeal.main_arg2)
          ∧ r.2.mem ((c.tc : Thread Cert.BranchSumIdeal.nD Cert.BranchSumIdeal.τ).loc Cert.BranchSumIdeal.main_arg3) = m ((c.tc : Thread Cert.BranchSumIdeal.nD Cert.BranchSumIdeal.τ).loc Cert.BranchSumIdeal.main_arg3))
      ∧ θ_run (Cert.BranchSumRefIdeal.defs (F := Ideal)) (onTc (τ := Cert.BranchSumRefIdeal.τ) (Cert.BranchSumRefIdeal.main (F := Ideal))) ⟨m', fun _ => 0, g'⟩ (fun r => ∀ c : Dev Cert.BranchSumRefIdeal.nD,
          r.2.mem ((c.tc : Thread Cert.BranchSumRefIdeal.nD Cert.BranchSumRefIdeal.τ).loc Cert.BranchSumRefIdeal.main_v23) = v0 c
          ∧ r.2.mem ((c.tc : Thread Cert.BranchSumRefIdeal.nD Cert.BranchSumRefIdeal.τ).loc Cert.BranchSumRefIdeal.main_arg0) = m' ((c.tc : Thread Cert.BranchSumRefIdeal.nD Cert.BranchSumRefIdeal.τ).loc Cert.BranchSumRefIdeal.main_arg0)
          ∧ r.2.mem ((c.tc : Thread Cert.BranchSumRefIdeal.nD Cert.BranchSumRefIdeal.τ).loc Cert.BranchSumRefIdeal.main_arg1) = m' ((c.tc : Thread Cert.BranchSumRefIdeal.nD Cert.BranchSumRefIdeal.τ).loc Cert.BranchSumRefIdeal.main_arg1)
          ∧ r.2.mem ((c.tc : Thread Cert.BranchSumRefIdeal.nD Cert.BranchSumRefIdeal.τ).loc Cert.BranchSumRefIdeal.main_arg2) = m' ((c.tc : Thread Cert.BranchSumRefIdeal.nD Cert.BranchSumRefIdeal.τ).loc Cert.BranchSumRefIdeal.main_arg2)
          ∧ r.2.mem ((c.tc : Thread Cert.BranchSumRefIdeal.nD Cert.BranchSumRefIdeal.τ).loc Cert.BranchSumRefIdeal.main_arg3) = m' ((c.tc : Thread Cert.BranchSumRefIdeal.nD Cert.BranchSumRefIdeal.τ).loc Cert.BranchSumRefIdeal.main_arg3))

def preserves_CompressValues_CompressValuesIdeal : Prop :=
  True

def algebraic_CompressValuesIdeal_CompressValuesRefIdeal [hCompressValuesIdeal : Cert.CompressValuesIdeal.Facts] [hCompressValuesRefIdeal : Cert.CompressValuesRefIdeal.Facts] : Prop :=
  ∀ (m : (ℓ : Loc Cert.CompressValuesIdeal.nD Cert.CompressValuesIdeal.τ Cert.CompressValuesIdeal.sig) → Buf (Elt Ideal) ℓ) (g : Dev Cert.CompressValuesIdeal.nD → PrngReg)
    (m' : (ℓ : Loc Cert.CompressValuesRefIdeal.nD Cert.CompressValuesRefIdeal.τ Cert.CompressValuesRefIdeal.sig) → Buf (Elt Ideal) ℓ) (g' : Dev Cert.CompressValuesRefIdeal.nD → PrngReg), Pre_CompressValuesIdeal m →
    (∀ c : Dev Cert.CompressValuesIdeal.nD,
      m' ((c.tc : Thread Cert.CompressValuesRefIdeal.nD Cert.CompressValuesRefIdeal.τ).loc Cert.CompressValuesRefIdeal.main_arg0) = m ((c.tc : Thread Cert.CompressValuesIdeal.nD Cert.CompressValuesIdeal.τ).loc Cert.CompressValuesIdeal.main_arg0)
      ∧ m' ((c.tc : Thread Cert.CompressValuesRefIdeal.nD Cert.CompressValuesRefIdeal.τ).loc Cert.CompressValuesRefIdeal.main_arg1) = m ((c.tc : Thread Cert.CompressValuesIdeal.nD Cert.CompressValuesIdeal.τ).loc Cert.CompressValuesIdeal.main_arg1)
      ∧ m' ((c.tc : Thread Cert.CompressValuesRefIdeal.nD Cert.CompressValuesRefIdeal.τ).loc Cert.CompressValuesRefIdeal.main_arg2) = m ((c.tc : Thread Cert.CompressValuesIdeal.nD Cert.CompressValuesIdeal.τ).loc Cert.CompressValuesIdeal.main_arg2)
      ∧ m' ((c.tc : Thread Cert.CompressValuesRefIdeal.nD Cert.CompressValuesRefIdeal.τ).loc Cert.CompressValuesRefIdeal.main_arg3) = m ((c.tc : Thread Cert.CompressValuesIdeal.nD Cert.CompressValuesIdeal.τ).loc Cert.CompressValuesIdeal.main_arg3)
      ∧ m' ((c.tc : Thread Cert.CompressValuesRefIdeal.nD Cert.CompressValuesRefIdeal.τ).loc Cert.CompressValuesRefIdeal.main_arg4) = m ((c.tc : Thread Cert.CompressValuesIdeal.nD Cert.CompressValuesIdeal.τ).loc Cert.CompressValuesIdeal.main_arg4)) →
    ∃ (v0 : (c : Dev Cert.CompressValuesIdeal.nD) → Buf (Elt Ideal) ((c.tc : Thread Cert.CompressValuesIdeal.nD Cert.CompressValuesIdeal.τ).loc Cert.CompressValuesIdeal.main_v4)),
      θ_run (Cert.CompressValuesIdeal.defs (F := Ideal)) (onTc (τ := Cert.CompressValuesIdeal.τ) (Cert.CompressValuesIdeal.main (F := Ideal))) ⟨m, fun _ => 0, g⟩ (fun r => ∀ c : Dev Cert.CompressValuesIdeal.nD,
          r.2.mem ((c.tc : Thread Cert.CompressValuesIdeal.nD Cert.CompressValuesIdeal.τ).loc Cert.CompressValuesIdeal.main_v4) = v0 c
          ∧ r.2.mem ((c.tc : Thread Cert.CompressValuesIdeal.nD Cert.CompressValuesIdeal.τ).loc Cert.CompressValuesIdeal.main_arg0) = m ((c.tc : Thread Cert.CompressValuesIdeal.nD Cert.CompressValuesIdeal.τ).loc Cert.CompressValuesIdeal.main_arg0)
          ∧ r.2.mem ((c.tc : Thread Cert.CompressValuesIdeal.nD Cert.CompressValuesIdeal.τ).loc Cert.CompressValuesIdeal.main_arg1) = m ((c.tc : Thread Cert.CompressValuesIdeal.nD Cert.CompressValuesIdeal.τ).loc Cert.CompressValuesIdeal.main_arg1)
          ∧ r.2.mem ((c.tc : Thread Cert.CompressValuesIdeal.nD Cert.CompressValuesIdeal.τ).loc Cert.CompressValuesIdeal.main_arg2) = m ((c.tc : Thread Cert.CompressValuesIdeal.nD Cert.CompressValuesIdeal.τ).loc Cert.CompressValuesIdeal.main_arg2)
          ∧ r.2.mem ((c.tc : Thread Cert.CompressValuesIdeal.nD Cert.CompressValuesIdeal.τ).loc Cert.CompressValuesIdeal.main_arg3) = m ((c.tc : Thread Cert.CompressValuesIdeal.nD Cert.CompressValuesIdeal.τ).loc Cert.CompressValuesIdeal.main_arg3)
          ∧ r.2.mem ((c.tc : Thread Cert.CompressValuesIdeal.nD Cert.CompressValuesIdeal.τ).loc Cert.CompressValuesIdeal.main_arg4) = m ((c.tc : Thread Cert.CompressValuesIdeal.nD Cert.CompressValuesIdeal.τ).loc Cert.CompressValuesIdeal.main_arg4))
      ∧ θ_run (Cert.CompressValuesRefIdeal.defs (F := Ideal)) (onTc (τ := Cert.CompressValuesRefIdeal.τ) (Cert.CompressValuesRefIdeal.main (F := Ideal))) ⟨m', fun _ => 0, g'⟩ (fun r => ∀ c : Dev Cert.CompressValuesRefIdeal.nD,
          r.2.mem ((c.tc : Thread Cert.CompressValuesRefIdeal.nD Cert.CompressValuesRefIdeal.τ).loc Cert.CompressValuesRefIdeal.main_v23) = v0 c
          ∧ r.2.mem ((c.tc : Thread Cert.CompressValuesRefIdeal.nD Cert.CompressValuesRefIdeal.τ).loc Cert.CompressValuesRefIdeal.main_arg0) = m' ((c.tc : Thread Cert.CompressValuesRefIdeal.nD Cert.CompressValuesRefIdeal.τ).loc Cert.CompressValuesRefIdeal.main_arg0)
          ∧ r.2.mem ((c.tc : Thread Cert.CompressValuesRefIdeal.nD Cert.CompressValuesRefIdeal.τ).loc Cert.CompressValuesRefIdeal.main_arg1) = m' ((c.tc : Thread Cert.CompressValuesRefIdeal.nD Cert.CompressValuesRefIdeal.τ).loc Cert.CompressValuesRefIdeal.main_arg1)
          ∧ r.2.mem ((c.tc : Thread Cert.CompressValuesRefIdeal.nD Cert.CompressValuesRefIdeal.τ).loc Cert.CompressValuesRefIdeal.main_arg2) = m' ((c.tc : Thread Cert.CompressValuesRefIdeal.nD Cert.CompressValuesRefIdeal.τ).loc Cert.CompressValuesRefIdeal.main_arg2)
          ∧ r.2.mem ((c.tc : Thread Cert.CompressValuesRefIdeal.nD Cert.CompressValuesRefIdeal.τ).loc Cert.CompressValuesRefIdeal.main_arg3) = m' ((c.tc : Thread Cert.CompressValuesRefIdeal.nD Cert.CompressValuesRefIdeal.τ).loc Cert.CompressValuesRefIdeal.main_arg3)
          ∧ r.2.mem ((c.tc : Thread Cert.CompressValuesRefIdeal.nD Cert.CompressValuesRefIdeal.τ).loc Cert.CompressValuesRefIdeal.main_arg4) = m' ((c.tc : Thread Cert.CompressValuesRefIdeal.nD Cert.CompressValuesRefIdeal.τ).loc Cert.CompressValuesRefIdeal.main_arg4))

def preserves_CompressKeys_CompressKeysIdeal : Prop :=
  True

def algebraic_CompressKeysIdeal_CompressKeysRefIdeal [hCompressKeysIdeal : Cert.CompressKeysIdeal.Facts] [hCompressKeysRefIdeal : Cert.CompressKeysRefIdeal.Facts] : Prop :=
  ∀ (m : (ℓ : Loc Cert.CompressKeysIdeal.nD Cert.CompressKeysIdeal.τ Cert.CompressKeysIdeal.sig) → Buf (Elt Ideal) ℓ) (g : Dev Cert.CompressKeysIdeal.nD → PrngReg)
    (m' : (ℓ : Loc Cert.CompressKeysRefIdeal.nD Cert.CompressKeysRefIdeal.τ Cert.CompressKeysRefIdeal.sig) → Buf (Elt Ideal) ℓ) (g' : Dev Cert.CompressKeysRefIdeal.nD → PrngReg), Pre_CompressKeysIdeal m →
    (∀ c : Dev Cert.CompressKeysIdeal.nD,
      m' ((c.tc : Thread Cert.CompressKeysRefIdeal.nD Cert.CompressKeysRefIdeal.τ).loc Cert.CompressKeysRefIdeal.main_arg0) = m ((c.tc : Thread Cert.CompressKeysIdeal.nD Cert.CompressKeysIdeal.τ).loc Cert.CompressKeysIdeal.main_arg0)
      ∧ m' ((c.tc : Thread Cert.CompressKeysRefIdeal.nD Cert.CompressKeysRefIdeal.τ).loc Cert.CompressKeysRefIdeal.main_arg1) = m ((c.tc : Thread Cert.CompressKeysIdeal.nD Cert.CompressKeysIdeal.τ).loc Cert.CompressKeysIdeal.main_arg1)
      ∧ m' ((c.tc : Thread Cert.CompressKeysRefIdeal.nD Cert.CompressKeysRefIdeal.τ).loc Cert.CompressKeysRefIdeal.main_arg2) = m ((c.tc : Thread Cert.CompressKeysIdeal.nD Cert.CompressKeysIdeal.τ).loc Cert.CompressKeysIdeal.main_arg2)
      ∧ m' ((c.tc : Thread Cert.CompressKeysRefIdeal.nD Cert.CompressKeysRefIdeal.τ).loc Cert.CompressKeysRefIdeal.main_arg3) = m ((c.tc : Thread Cert.CompressKeysIdeal.nD Cert.CompressKeysIdeal.τ).loc Cert.CompressKeysIdeal.main_arg3)
      ∧ m' ((c.tc : Thread Cert.CompressKeysRefIdeal.nD Cert.CompressKeysRefIdeal.τ).loc Cert.CompressKeysRefIdeal.main_arg4) = m ((c.tc : Thread Cert.CompressKeysIdeal.nD Cert.CompressKeysIdeal.τ).loc Cert.CompressKeysIdeal.main_arg4)) →
    ∃ (v0 : (c : Dev Cert.CompressKeysIdeal.nD) → Buf (Elt Ideal) ((c.tc : Thread Cert.CompressKeysIdeal.nD Cert.CompressKeysIdeal.τ).loc Cert.CompressKeysIdeal.main_v4)),
      θ_run (Cert.CompressKeysIdeal.defs (F := Ideal)) (onTc (τ := Cert.CompressKeysIdeal.τ) (Cert.CompressKeysIdeal.main (F := Ideal))) ⟨m, fun _ => 0, g⟩ (fun r => ∀ c : Dev Cert.CompressKeysIdeal.nD,
          r.2.mem ((c.tc : Thread Cert.CompressKeysIdeal.nD Cert.CompressKeysIdeal.τ).loc Cert.CompressKeysIdeal.main_v4) = v0 c
          ∧ r.2.mem ((c.tc : Thread Cert.CompressKeysIdeal.nD Cert.CompressKeysIdeal.τ).loc Cert.CompressKeysIdeal.main_arg0) = m ((c.tc : Thread Cert.CompressKeysIdeal.nD Cert.CompressKeysIdeal.τ).loc Cert.CompressKeysIdeal.main_arg0)
          ∧ r.2.mem ((c.tc : Thread Cert.CompressKeysIdeal.nD Cert.CompressKeysIdeal.τ).loc Cert.CompressKeysIdeal.main_arg1) = m ((c.tc : Thread Cert.CompressKeysIdeal.nD Cert.CompressKeysIdeal.τ).loc Cert.CompressKeysIdeal.main_arg1)
          ∧ r.2.mem ((c.tc : Thread Cert.CompressKeysIdeal.nD Cert.CompressKeysIdeal.τ).loc Cert.CompressKeysIdeal.main_arg2) = m ((c.tc : Thread Cert.CompressKeysIdeal.nD Cert.CompressKeysIdeal.τ).loc Cert.CompressKeysIdeal.main_arg2)
          ∧ r.2.mem ((c.tc : Thread Cert.CompressKeysIdeal.nD Cert.CompressKeysIdeal.τ).loc Cert.CompressKeysIdeal.main_arg3) = m ((c.tc : Thread Cert.CompressKeysIdeal.nD Cert.CompressKeysIdeal.τ).loc Cert.CompressKeysIdeal.main_arg3)
          ∧ r.2.mem ((c.tc : Thread Cert.CompressKeysIdeal.nD Cert.CompressKeysIdeal.τ).loc Cert.CompressKeysIdeal.main_arg4) = m ((c.tc : Thread Cert.CompressKeysIdeal.nD Cert.CompressKeysIdeal.τ).loc Cert.CompressKeysIdeal.main_arg4))
      ∧ θ_run (Cert.CompressKeysRefIdeal.defs (F := Ideal)) (onTc (τ := Cert.CompressKeysRefIdeal.τ) (Cert.CompressKeysRefIdeal.main (F := Ideal))) ⟨m', fun _ => 0, g'⟩ (fun r => ∀ c : Dev Cert.CompressKeysRefIdeal.nD,
          r.2.mem ((c.tc : Thread Cert.CompressKeysRefIdeal.nD Cert.CompressKeysRefIdeal.τ).loc Cert.CompressKeysRefIdeal.main_v36) = v0 c
          ∧ r.2.mem ((c.tc : Thread Cert.CompressKeysRefIdeal.nD Cert.CompressKeysRefIdeal.τ).loc Cert.CompressKeysRefIdeal.main_arg0) = m' ((c.tc : Thread Cert.CompressKeysRefIdeal.nD Cert.CompressKeysRefIdeal.τ).loc Cert.CompressKeysRefIdeal.main_arg0)
          ∧ r.2.mem ((c.tc : Thread Cert.CompressKeysRefIdeal.nD Cert.CompressKeysRefIdeal.τ).loc Cert.CompressKeysRefIdeal.main_arg1) = m' ((c.tc : Thread Cert.CompressKeysRefIdeal.nD Cert.CompressKeysRefIdeal.τ).loc Cert.CompressKeysRefIdeal.main_arg1)
          ∧ r.2.mem ((c.tc : Thread Cert.CompressKeysRefIdeal.nD Cert.CompressKeysRefIdeal.τ).loc Cert.CompressKeysRefIdeal.main_arg2) = m' ((c.tc : Thread Cert.CompressKeysRefIdeal.nD Cert.CompressKeysRefIdeal.τ).loc Cert.CompressKeysRefIdeal.main_arg2)
          ∧ r.2.mem ((c.tc : Thread Cert.CompressKeysRefIdeal.nD Cert.CompressKeysRefIdeal.τ).loc Cert.CompressKeysRefIdeal.main_arg3) = m' ((c.tc : Thread Cert.CompressKeysRefIdeal.nD Cert.CompressKeysRefIdeal.τ).loc Cert.CompressKeysRefIdeal.main_arg3)
          ∧ r.2.mem ((c.tc : Thread Cert.CompressKeysRefIdeal.nD Cert.CompressKeysRefIdeal.τ).loc Cert.CompressKeysRefIdeal.main_arg4) = m' ((c.tc : Thread Cert.CompressKeysRefIdeal.nD Cert.CompressKeysRefIdeal.τ).loc Cert.CompressKeysRefIdeal.main_arg4))

def Claim : Prop :=
  ∃ (hWindow : Cert.Window.Facts) (hWindowIdeal : Cert.WindowIdeal.Facts) (hWindowRefIdeal : Cert.WindowRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hMergeGates : Cert.MergeGates.Facts) (hMergeGatesIdeal : Cert.MergeGatesIdeal.Facts) (hMergeGatesRefIdeal : Cert.MergeGatesRefIdeal.Facts) (hGatedMerge : Cert.GatedMerge.Facts) (hGatedMergeIdeal : Cert.GatedMergeIdeal.Facts) (hGatedMergeRefIdeal : Cert.GatedMergeRefIdeal.Facts) (hOutProj : Cert.OutProj.Facts) (hOutProjIdeal : Cert.OutProjIdeal.Facts) (hOutProjRefIdeal : Cert.OutProjRefIdeal.Facts) (hValues : Cert.Values.Facts) (hValuesIdeal : Cert.ValuesIdeal.Facts) (hValuesRefIdeal : Cert.ValuesRefIdeal.Facts) (hChunkInputs : Cert.ChunkInputs.Facts) (hChunkInputsIdeal : Cert.ChunkInputsIdeal.Facts) (hChunkInputsRefIdeal : Cert.ChunkInputsRefIdeal.Facts) (hGatingInputs : Cert.GatingInputs.Facts) (hGatingInputsIdeal : Cert.GatingInputsIdeal.Facts) (hGatingInputsRefIdeal : Cert.GatingInputsRefIdeal.Facts) (hMobaQueries : Cert.MobaQueries.Facts) (hMobaQueriesIdeal : Cert.MobaQueriesIdeal.Facts) (hMobaQueriesRefIdeal : Cert.MobaQueriesRefIdeal.Facts) (hMobaKeys : Cert.MobaKeys.Facts) (hMobaKeysIdeal : Cert.MobaKeysIdeal.Facts) (hMobaKeysRefIdeal : Cert.MobaKeysRefIdeal.Facts) (hSparseKeys : Cert.SparseKeys.Facts) (hSparseKeysIdeal : Cert.SparseKeysIdeal.Facts) (hSparseKeysRefIdeal : Cert.SparseKeysRefIdeal.Facts) (hSparseQueries : Cert.SparseQueries.Facts) (hSparseQueriesIdeal : Cert.SparseQueriesIdeal.Facts) (hSparseQueriesRefIdeal : Cert.SparseQueriesRefIdeal.Facts) (hRowNorm : Cert.RowNorm.Facts) (hRowNormIdeal : Cert.RowNormIdeal.Facts) (hRowNormRefIdeal : Cert.RowNormRefIdeal.Facts) (hBranchGates : Cert.BranchGates.Facts) (hBranchGatesIdeal : Cert.BranchGatesIdeal.Facts) (hBranchGatesRefIdeal : Cert.BranchGatesRefIdeal.Facts) (hBranchSum : Cert.BranchSum.Facts) (hBranchSumIdeal : Cert.BranchSumIdeal.Facts) (hBranchSumRefIdeal : Cert.BranchSumRefIdeal.Facts) (hCompressValues : Cert.CompressValues.Facts) (hCompressValuesIdeal : Cert.CompressValuesIdeal.Facts) (hCompressValuesRefIdeal : Cert.CompressValuesRefIdeal.Facts) (hCompressKeys : Cert.CompressKeys.Facts) (hCompressKeysIdeal : Cert.CompressKeysIdeal.Facts) (hCompressKeysRefIdeal : Cert.CompressKeysRefIdeal.Facts) (hPre_finite_scores : Cert.Pre_finite_scores.Facts),
    quiescent_Window (hWindow := hWindow)
    ∧ quiescent_WindowIdeal (hWindowIdeal := hWindowIdeal)
    ∧ quiescent_WindowIdeal_pre_finite_scores (hWindowIdeal := hWindowIdeal) (hPre_finite_scores := hPre_finite_scores)
    ∧ quiescent_WindowRefIdeal (hWindowRefIdeal := hWindowRefIdeal)
    ∧ quiescent_WindowRefIdeal_pre_finite_scores (hWindowRefIdeal := hWindowRefIdeal) (hPre_finite_scores := hPre_finite_scores)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_MergeGates (hMergeGates := hMergeGates)
    ∧ quiescent_MergeGatesIdeal (hMergeGatesIdeal := hMergeGatesIdeal)
    ∧ quiescent_MergeGatesRefIdeal (hMergeGatesRefIdeal := hMergeGatesRefIdeal)
    ∧ quiescent_GatedMerge (hGatedMerge := hGatedMerge)
    ∧ quiescent_GatedMergeIdeal (hGatedMergeIdeal := hGatedMergeIdeal)
    ∧ quiescent_GatedMergeRefIdeal (hGatedMergeRefIdeal := hGatedMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Values (hValues := hValues)
    ∧ quiescent_ValuesIdeal (hValuesIdeal := hValuesIdeal)
    ∧ quiescent_ValuesRefIdeal (hValuesRefIdeal := hValuesRefIdeal)
    ∧ quiescent_ChunkInputs (hChunkInputs := hChunkInputs)
    ∧ quiescent_ChunkInputsIdeal (hChunkInputsIdeal := hChunkInputsIdeal)
    ∧ quiescent_ChunkInputsRefIdeal (hChunkInputsRefIdeal := hChunkInputsRefIdeal)
    ∧ quiescent_GatingInputs (hGatingInputs := hGatingInputs)
    ∧ quiescent_GatingInputsIdeal (hGatingInputsIdeal := hGatingInputsIdeal)
    ∧ quiescent_GatingInputsRefIdeal (hGatingInputsRefIdeal := hGatingInputsRefIdeal)
    ∧ quiescent_MobaQueries (hMobaQueries := hMobaQueries)
    ∧ quiescent_MobaQueriesIdeal (hMobaQueriesIdeal := hMobaQueriesIdeal)
    ∧ quiescent_MobaQueriesRefIdeal (hMobaQueriesRefIdeal := hMobaQueriesRefIdeal)
    ∧ quiescent_MobaKeys (hMobaKeys := hMobaKeys)
    ∧ quiescent_MobaKeysIdeal (hMobaKeysIdeal := hMobaKeysIdeal)
    ∧ quiescent_MobaKeysRefIdeal (hMobaKeysRefIdeal := hMobaKeysRefIdeal)
    ∧ quiescent_SparseKeys (hSparseKeys := hSparseKeys)
    ∧ quiescent_SparseKeysIdeal (hSparseKeysIdeal := hSparseKeysIdeal)
    ∧ quiescent_SparseKeysRefIdeal (hSparseKeysRefIdeal := hSparseKeysRefIdeal)
    ∧ quiescent_SparseQueries (hSparseQueries := hSparseQueries)
    ∧ quiescent_SparseQueriesIdeal (hSparseQueriesIdeal := hSparseQueriesIdeal)
    ∧ quiescent_SparseQueriesRefIdeal (hSparseQueriesRefIdeal := hSparseQueriesRefIdeal)
    ∧ quiescent_RowNorm (hRowNorm := hRowNorm)
    ∧ quiescent_RowNormIdeal (hRowNormIdeal := hRowNormIdeal)
    ∧ quiescent_RowNormRefIdeal (hRowNormRefIdeal := hRowNormRefIdeal)
    ∧ quiescent_BranchGates (hBranchGates := hBranchGates)
    ∧ quiescent_BranchGatesIdeal (hBranchGatesIdeal := hBranchGatesIdeal)
    ∧ quiescent_BranchGatesRefIdeal (hBranchGatesRefIdeal := hBranchGatesRefIdeal)
    ∧ quiescent_BranchSum (hBranchSum := hBranchSum)
    ∧ quiescent_BranchSumIdeal (hBranchSumIdeal := hBranchSumIdeal)
    ∧ quiescent_BranchSumRefIdeal (hBranchSumRefIdeal := hBranchSumRefIdeal)
    ∧ quiescent_CompressValues (hCompressValues := hCompressValues)
    ∧ quiescent_CompressValuesIdeal (hCompressValuesIdeal := hCompressValuesIdeal)
    ∧ quiescent_CompressValuesRefIdeal (hCompressValuesRefIdeal := hCompressValuesRefIdeal)
    ∧ quiescent_CompressKeys (hCompressKeys := hCompressKeys)
    ∧ quiescent_CompressKeysIdeal (hCompressKeysIdeal := hCompressKeysIdeal)
    ∧ quiescent_CompressKeysRefIdeal (hCompressKeysRefIdeal := hCompressKeysRefIdeal)
    ∧ preserves_Window_WindowIdeal
    ∧ algebraic_WindowIdeal_WindowRefIdeal_pre_finite_scores (hWindowIdeal := hWindowIdeal) (hWindowRefIdeal := hWindowRefIdeal) (hPre_finite_scores := hPre_finite_scores)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_MergeGates_MergeGatesIdeal
    ∧ algebraic_MergeGatesIdeal_MergeGatesRefIdeal (hMergeGatesIdeal := hMergeGatesIdeal) (hMergeGatesRefIdeal := hMergeGatesRefIdeal)
    ∧ preserves_GatedMerge_GatedMergeIdeal
    ∧ algebraic_GatedMergeIdeal_GatedMergeRefIdeal (hGatedMergeIdeal := hGatedMergeIdeal) (hGatedMergeRefIdeal := hGatedMergeRefIdeal)
    ∧ preserves_OutProj_OutProjIdeal
    ∧ algebraic_OutProjIdeal_OutProjRefIdeal (hOutProjIdeal := hOutProjIdeal) (hOutProjRefIdeal := hOutProjRefIdeal)
    ∧ preserves_Values_ValuesIdeal
    ∧ algebraic_ValuesIdeal_ValuesRefIdeal (hValuesIdeal := hValuesIdeal) (hValuesRefIdeal := hValuesRefIdeal)
    ∧ preserves_ChunkInputs_ChunkInputsIdeal
    ∧ algebraic_ChunkInputsIdeal_ChunkInputsRefIdeal (hChunkInputsIdeal := hChunkInputsIdeal) (hChunkInputsRefIdeal := hChunkInputsRefIdeal)
    ∧ preserves_GatingInputs_GatingInputsIdeal
    ∧ algebraic_GatingInputsIdeal_GatingInputsRefIdeal (hGatingInputsIdeal := hGatingInputsIdeal) (hGatingInputsRefIdeal := hGatingInputsRefIdeal)
    ∧ preserves_MobaQueries_MobaQueriesIdeal
    ∧ algebraic_MobaQueriesIdeal_MobaQueriesRefIdeal (hMobaQueriesIdeal := hMobaQueriesIdeal) (hMobaQueriesRefIdeal := hMobaQueriesRefIdeal)
    ∧ preserves_MobaKeys_MobaKeysIdeal
    ∧ algebraic_MobaKeysIdeal_MobaKeysRefIdeal (hMobaKeysIdeal := hMobaKeysIdeal) (hMobaKeysRefIdeal := hMobaKeysRefIdeal)
    ∧ preserves_SparseKeys_SparseKeysIdeal
    ∧ algebraic_SparseKeysIdeal_SparseKeysRefIdeal (hSparseKeysIdeal := hSparseKeysIdeal) (hSparseKeysRefIdeal := hSparseKeysRefIdeal)
    ∧ preserves_SparseQueries_SparseQueriesIdeal
    ∧ algebraic_SparseQueriesIdeal_SparseQueriesRefIdeal (hSparseQueriesIdeal := hSparseQueriesIdeal) (hSparseQueriesRefIdeal := hSparseQueriesRefIdeal)
    ∧ preserves_RowNorm_RowNormIdeal
    ∧ algebraic_RowNormIdeal_RowNormRefIdeal (hRowNormIdeal := hRowNormIdeal) (hRowNormRefIdeal := hRowNormRefIdeal)
    ∧ preserves_BranchGates_BranchGatesIdeal
    ∧ algebraic_BranchGatesIdeal_BranchGatesRefIdeal (hBranchGatesIdeal := hBranchGatesIdeal) (hBranchGatesRefIdeal := hBranchGatesRefIdeal)
    ∧ preserves_BranchSum_BranchSumIdeal
    ∧ algebraic_BranchSumIdeal_BranchSumRefIdeal (hBranchSumIdeal := hBranchSumIdeal) (hBranchSumRefIdeal := hBranchSumRefIdeal)
    ∧ preserves_CompressValues_CompressValuesIdeal
    ∧ algebraic_CompressValuesIdeal_CompressValuesRefIdeal (hCompressValuesIdeal := hCompressValuesIdeal) (hCompressValuesRefIdeal := hCompressValuesRefIdeal)
    ∧ preserves_CompressKeys_CompressKeysIdeal
    ∧ algebraic_CompressKeysIdeal_CompressKeysRefIdeal (hCompressKeysIdeal := hCompressKeysIdeal) (hCompressKeysRefIdeal := hCompressKeysRefIdeal)
-- ==== Pre_finite_scores.lean ====
abbrev S16384x2048 : Shape := ⟨2, ![16384, 2048]⟩
abbrev S16384x512 : Shape := ⟨2, ![16384, 512]⟩
abbrev S16384x1024 : Shape := ⟨2, ![16384, 1024]⟩
abbrev S_ : Shape := ⟨0, ![]⟩

class Facts : Prop where
  bcast_S_S16384x2048 : S_.BroadcastsInDim S16384x2048 (![] : Fin 0 → Fin S16384x2048.rank)
  bcast_S_S16384x512 : S_.BroadcastsInDim S16384x512 (![] : Fin 0 → Fin S16384x512.rank)

variable [Facts]

def fn {F : FTy → Type} [FloatOps F] (main_arg0 : FVec F S16384x2048 .bf16) (main_arg1 : FVec F S16384x512 .bf16) (main_arg2 : FVec F S16384x1024 .bf16) : IVec S16384x2048 1 × IVec S16384x512 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_v3 : FVec F S16384x512 .bf16 := Host.absf main_arg1
  let main_cst_0 : FVec F S_ .bf16 := constant S_ .bf16 0x7F80#16
  let main_v4 : FVec F S16384x512 .bf16 := broadcastInDim S16384x512 ![] bcast_S_S16384x512 main_cst_0
  let main_v5 : IVec S16384x512 1 := cmpf .olt main_v3 main_v4
  (main_v2, main_v5)
-- ==== Window.lean ====
abbrev S16384x2048 : Shape := ⟨2, ![16384, 2048]⟩
abbrev S16384x512 : Shape := ⟨2, ![16384, 512]⟩
abbrev S16384x1024 : Shape := ⟨2, ![16384, 1024]⟩
abbrev S128x128x4x128 : Shape := ⟨4, ![128, 128, 4, 128]⟩
abbrev S4x128x128x128 : Shape := ⟨4, ![4, 128, 128, 128]⟩
abbrev S128x512 : Shape := ⟨2, ![128, 512]⟩
abbrev S1x128x128x128 : Shape := ⟨4, ![1, 128, 128, 128]⟩
abbrev S16384x128 : Shape := ⟨2, ![16384, 128]⟩
abbrev S128x128 : Shape := ⟨2, ![128, 128]⟩
abbrev S512x128 : Shape := ⟨2, ![512, 128]⟩
abbrev S128x1 : Shape := ⟨2, ![128, 1]⟩
abbrev S512x1 : Shape := ⟨2, ![512, 1]⟩
abbrev S1x128 : Shape := ⟨2, ![1, 128]⟩
abbrev S1x1x128x128 : Shape := ⟨4, ![1, 1, 128, 128]⟩
abbrev S512x640 : Shape := ⟨2, ![512, 640]⟩
abbrev S512 : Shape := ⟨1, ![512]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x1024, .bf16⟩
  | .hbm, ⟨3, _⟩ => ⟨S128x128x4x128, .bf16⟩
  | .hbm, ⟨4, _⟩ => ⟨S4x128x128x128, .bf16⟩
  | .hbm, ⟨5, _⟩ => ⟨S16384x2048, .f32⟩
  | .local _ .vmem, ⟨0, _⟩ => ⟨S128x512, .bf16⟩
  | .local _ .vmem, ⟨1, _⟩ => ⟨S128x512, .bf16⟩
  | .local _ .vmem, ⟨2, _⟩ => ⟨S1x128x128x128, .bf16⟩
  | .local _ .vmem, ⟨3, _⟩ => ⟨S1x128x128x128, .bf16⟩
  | .local _ .vmem, ⟨4, _⟩ => ⟨S16384x128, .bf16⟩
  | .local _ .vmem, ⟨5, _⟩ => ⟨S16384x128, .bf16⟩
  | .local _ .vmem, ⟨6, _⟩ => ⟨S128x512, .f32⟩
  | .local _ .vmem, ⟨7, _⟩ => ⟨S128x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 128], ![false, false]⟩

def k0_off1 (i : grid0.Coords) (c0_i32_9 : BitVec 32) : Fin 4 → Nat :=
  let c0_13 : Index := 0#32
  let arg1 : BitVec 32 := BitVec.ofNat 32 (i 1).val
  let c128_i32 : BitVec 32 := 128#32
  let v0 : BitVec 32 := Scalar.muli arg1 c128_i32
  let c0_i32 : BitVec 32 := 0#32
  let v11 : BitVec 1 := Scalar.cmpi .sgt v0 c0_i32
  let v12 : BitVec 32 := Scalar.extui v11
  let c0_i32_5 : BitVec 32 := 0#32
  let v13 : BitVec 1 := Scalar.cmpi .slt v0 c0_i32_5
  let v14 : BitVec 32 := Scalar.extui v13
  let v15 : BitVec 32 := Scalar.subi v12 v14
  let c128_i32_4 : BitVec 32 := 128#32
  let c0_i32_6 : BitVec 32 := 0#32
  let v16 : BitVec 1 := Scalar.cmpi .sgt c128_i32_4 c0_i32_6
  let v17 : BitVec 32 := Scalar.extui v16
  let c0_i32_7 : BitVec 32 := 0#32
  let v18 : BitVec 1 := Scalar.cmpi .slt c128_i32_4 c0_i32_7
  let v19 : BitVec 32 := Scalar.extui v18
  let v20 : BitVec 32 := Scalar.subi v17 v19
  let v21 : BitVec 1 := Scalar.cmpi .ne v15 v20
  let v22 : BitVec 32 := Scalar.remsi v0 c128_i32_4
  let c0_i32_8 : BitVec 32 := 0#32
  let v23 : BitVec 1 := Scalar.cmpi .ne v22 c0_i32_8
  let v24 : BitVec 1 := Scalar.andi v21 v23
  let v10 : BitVec 32 := Scalar.divsi v0 c128_i32_4
  let c1_i32 : BitVec 32 := 1#32
  let v25 : BitVec 32 := Scalar.subi v10 c1_i32
  let v26 : BitVec 32 := Scalar.select v24 v25 v10
  let c4_i32 : BitVec 32 := 4#32
  let v27 : BitVec 32 := Scalar.subi v26 c4_i32
  let v29 : BitVec 32 := Scalar.addi v27 c0_i32_9
  let c0_i32_10 : BitVec 32 := 0#32
  let v30 : BitVec 32 := Scalar.maxsi v29 c0_i32_10
  let v47 : Index := Scalar.indexCast v30
  let c0_14 : Index := 0#32
  let c0_15 : Index := 0#32
  ![0, v47.toNat, 0, 0]
def k0_mult1 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v11 : BitVec 1 := Scalar.cmpi .sgt v0 c0_i32
  let v12 : BitVec 32 := Scalar.extui v11
  let c0_i32_5 : BitVec 32 := 0#32
  let v13 : BitVec 1 := Scalar.cmpi .slt v0 c0_i32_5
  let v14 : BitVec 32 := Scalar.extui v13
  let v15 : BitVec 32 := Scalar.subi v12 v14
  let c128_i32_4 : BitVec 32 := 128#32
  let c0_i32_6 : BitVec 32 := 0#32
  let v16 : BitVec 1 := Scalar.cmpi .sgt c128_i32_4 c0_i32_6
  let v17 : BitVec 32 := Scalar.extui v16
  let c0_i32_7 : BitVec 32 := 0#32
  let v18 : BitVec 1 := Scalar.cmpi .slt c128_i32_4 c0_i32_7
  let v19 : BitVec 32 := Scalar.extui v18
  let v20 : BitVec 32 := Scalar.subi v17 v19
  let v21 : BitVec 1 := Scalar.cmpi .ne v15 v20
  let v22 : BitVec 32 := Scalar.remsi v0 c128_i32_4
  let c0_i32_8 : BitVec 32 := 0#32
  let v23 : BitVec 1 := Scalar.cmpi .ne v22 c0_i32_8
  let v24 : BitVec 1 := Scalar.andi v21 v23
  let v10 : BitVec 32 := Scalar.divsi v0 c128_i32_4
  let c1_i32 : BitVec 32 := 1#32
  let v25 : BitVec 32 := Scalar.subi v10 c1_i32
  let v26 : BitVec 32 := Scalar.select v24 v25 v10
  let c4_i32 : BitVec 32 := 4#32
  let v27 : BitVec 32 := Scalar.subi v26 c4_i32
  let c0_i32_9 : BitVec 32 := 0#32
  let v29 : BitVec 32 := Scalar.addi v27 c0_i32_9
  let c0_i32_10 : BitVec 32 := 0#32
  let v30 : BitVec 32 := Scalar.maxsi v29 c0_i32_10
  let c128_i32_58 : BitVec 32 := 128#32
  let v161 : BitVec 32 := Scalar.muli v30 c128_i32_58
  v161
def k0_off2 (i : grid0.Coords) (c0_i32_9 : BitVec 32) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v11 : BitVec 1 := Scalar.cmpi .sgt v0 c0_i32
  let v12 : BitVec 32 := Scalar.extui v11
  let c0_i32_5 : BitVec 32 := 0#32
  let v13 : BitVec 1 := Scalar.cmpi .slt v0 c0_i32_5
  let v14 : BitVec 32 := Scalar.extui v13
  let v15 : BitVec 32 := Scalar.subi v12 v14
  let c128_i32_4 : BitVec 32 := 128#32
  let c0_i32_6 : BitVec 32 := 0#32
  let v16 : BitVec 1 := Scalar.cmpi .sgt c128_i32_4 c0_i32_6
  let v17 : BitVec 32 := Scalar.extui v16
  let c0_i32_7 : BitVec 32 := 0#32
  let v18 : BitVec 1 := Scalar.cmpi .slt c128_i32_4 c0_i32_7
  let v19 : BitVec 32 := Scalar.extui v18
  let v20 : BitVec 32 := Scalar.subi v17 v19
  let v21 : BitVec 1 := Scalar.cmpi .ne v15 v20
  let v22 : BitVec 32 := Scalar.remsi v0 c128_i32_4
  let c0_i32_8 : BitVec 32 := 0#32
  let v23 : BitVec 1 := Scalar.cmpi .ne v22 c0_i32_8
  let v24 : BitVec 1 := Scalar.andi v21 v23
  let v10 : BitVec 32 := Scalar.divsi v0 c128_i32_4
  let c1_i32 : BitVec 32 := 1#32
  let v25 : BitVec 32 := Scalar.subi v10 c1_i32
  let v26 : BitVec 32 := Scalar.select v24 v25 v10
  let c4_i32 : BitVec 32 := 4#32
  let v27 : BitVec 32 := Scalar.subi v26 c4_i32
  let v29 : BitVec 32 := Scalar.addi v27 c0_i32_9
  let c0_i32_10 : BitVec 32 := 0#32
  let v30 : BitVec 32 := Scalar.maxsi v29 c0_i32_10
  let c128_i32_58 : BitVec 32 := 128#32
  let v161 : BitVec 32 := Scalar.muli v30 c128_i32_58
  let v162 : BitVec 32 := v161
  let v164 : Index := Scalar.indexCast v162
  let c0_59 : Index := 0#32
  ![v164.toNat, 0]
def k0_mult2 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v11 : BitVec 1 := Scalar.cmpi .sgt v0 c0_i32
  let v12 : BitVec 32 := Scalar.extui v11
  let c0_i32_5 : BitVec 32 := 0#32
  let v13 : BitVec 1 := Scalar.cmpi .slt v0 c0_i32_5
  let v14 : BitVec 32 := Scalar.extui v13
  let v15 : BitVec 32 := Scalar.subi v12 v14
  let c128_i32_4 : BitVec 32 := 128#32
  let c0_i32_6 : BitVec 32 := 0#32
  let v16 : BitVec 1 := Scalar.cmpi .sgt c128_i32_4 c0_i32_6
  let v17 : BitVec 32 := Scalar.extui v16
  let c0_i32_7 : BitVec 32 := 0#32
  let v18 : BitVec 1 := Scalar.cmpi .slt c128_i32_4 c0_i32_7
  let v19 : BitVec 32 := Scalar.extui v18
  let v20 : BitVec 32 := Scalar.subi v17 v19
  let v21 : BitVec 1 := Scalar.cmpi .ne v15 v20
  let v22 : BitVec 32 := Scalar.remsi v0 c128_i32_4
  let c0_i32_8 : BitVec 32 := 0#32
  let v23 : BitVec 1 := Scalar.cmpi .ne v22 c0_i32_8
  let v24 : BitVec 1 := Scalar.andi v21 v23
  let v10 : BitVec 32 := Scalar.divsi v0 c128_i32_4
  let c1_i32 : BitVec 32 := 1#32
  let v25 : BitVec 32 := Scalar.subi v10 c1_i32
  let v26 : BitVec 32 := Scalar.select v24 v25 v10
  let c4_i32 : BitVec 32 := 4#32
  let v27 : BitVec 32 := Scalar.subi v26 c4_i32
  let c1_i32_17 : BitVec 32 := 1#32
  let v53 : BitVec 32 := Scalar.addi v27 c1_i32_17
  let c0_i32_18 : BitVec 32 := 0#32
  let v54 : BitVec 32 := Scalar.maxsi v53 c0_i32_18
  let c128_i32_61 : BitVec 32 := 128#32
  let v168 : BitVec 32 := Scalar.muli v54 c128_i32_61
  v168
def k0_mult3 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v11 : BitVec 1 := Scalar.cmpi .sgt v0 c0_i32
  let v12 : BitVec 32 := Scalar.extui v11
  let c0_i32_5 : BitVec 32 := 0#32
  let v13 : BitVec 1 := Scalar.cmpi .slt v0 c0_i32_5
  let v14 : BitVec 32 := Scalar.extui v13
  let v15 : BitVec 32 := Scalar.subi v12 v14
  let c128_i32_4 : BitVec 32 := 128#32
  let c0_i32_6 : BitVec 32 := 0#32
  let v16 : BitVec 1 := Scalar.cmpi .sgt c128_i32_4 c0_i32_6
  let v17 : BitVec 32 := Scalar.extui v16
  let c0_i32_7 : BitVec 32 := 0#32
  let v18 : BitVec 1 := Scalar.cmpi .slt c128_i32_4 c0_i32_7
  let v19 : BitVec 32 := Scalar.extui v18
  let v20 : BitVec 32 := Scalar.subi v17 v19
  let v21 : BitVec 1 := Scalar.cmpi .ne v15 v20
  let v22 : BitVec 32 := Scalar.remsi v0 c128_i32_4
  let c0_i32_8 : BitVec 32 := 0#32
  let v23 : BitVec 1 := Scalar.cmpi .ne v22 c0_i32_8
  let v24 : BitVec 1 := Scalar.andi v21 v23
  let v10 : BitVec 32 := Scalar.divsi v0 c128_i32_4
  let c1_i32 : BitVec 32 := 1#32
  let v25 : BitVec 32 := Scalar.subi v10 c1_i32
  let v26 : BitVec 32 := Scalar.select v24 v25 v10
  let c4_i32 : BitVec 32 := 4#32
  let v27 : BitVec 32 := Scalar.subi v26 c4_i32
  let c2_i32 : BitVec 32 := 2#32
  let v77 : BitVec 32 := Scalar.addi v27 c2_i32
  let c0_i32_27 : BitVec 32 := 0#32
  let v78 : BitVec 32 := Scalar.maxsi v77 c0_i32_27
  let c128_i32_64 : BitVec 32 := 128#32
  let v175 : BitVec 32 := Scalar.muli v78 c128_i32_64
  v175
def k0_mult4 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v11 : BitVec 1 := Scalar.cmpi .sgt v0 c0_i32
  let v12 : BitVec 32 := Scalar.extui v11
  let c0_i32_5 : BitVec 32 := 0#32
  let v13 : BitVec 1 := Scalar.cmpi .slt v0 c0_i32_5
  let v14 : BitVec 32 := Scalar.extui v13
  let v15 : BitVec 32 := Scalar.subi v12 v14
  let c128_i32_4 : BitVec 32 := 128#32
  let c0_i32_6 : BitVec 32 := 0#32
  let v16 : BitVec 1 := Scalar.cmpi .sgt c128_i32_4 c0_i32_6
  let v17 : BitVec 32 := Scalar.extui v16
  let c0_i32_7 : BitVec 32 := 0#32
  let v18 : BitVec 1 := Scalar.cmpi .slt c128_i32_4 c0_i32_7
  let v19 : BitVec 32 := Scalar.extui v18
  let v20 : BitVec 32 := Scalar.subi v17 v19
  let v21 : BitVec 1 := Scalar.cmpi .ne v15 v20
  let v22 : BitVec 32 := Scalar.remsi v0 c128_i32_4
  let c0_i32_8 : BitVec 32 := 0#32
  let v23 : BitVec 1 := Scalar.cmpi .ne v22 c0_i32_8
  let v24 : BitVec 1 := Scalar.andi v21 v23
  let v10 : BitVec 32 := Scalar.divsi v0 c128_i32_4
  let c1_i32 : BitVec 32 := 1#32
  let v25 : BitVec 32 := Scalar.subi v10 c1_i32
  let v26 : BitVec 32 := Scalar.select v24 v25 v10
  let c4_i32 : BitVec 32 := 4#32
  let v27 : BitVec 32 := Scalar.subi v26 c4_i32
  let c3_i32 : BitVec 32 := 3#32
  let v101 : BitVec 32 := Scalar.addi v27 c3_i32
  let c0_i32_36 : BitVec 32 := 0#32
  let v102 : BitVec 32 := Scalar.maxsi v101 c0_i32_36
  let c128_i32_67 : BitVec 32 := 128#32
  let v182 : BitVec 32 := Scalar.muli v102 c128_i32_67
  v182
def k0_mult5 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v11 : BitVec 1 := Scalar.cmpi .sgt v0 c0_i32
  let v12 : BitVec 32 := Scalar.extui v11
  let c0_i32_5 : BitVec 32 := 0#32
  let v13 : BitVec 1 := Scalar.cmpi .slt v0 c0_i32_5
  let v14 : BitVec 32 := Scalar.extui v13
  let v15 : BitVec 32 := Scalar.subi v12 v14
  let c128_i32_4 : BitVec 32 := 128#32
  let c0_i32_6 : BitVec 32 := 0#32
  let v16 : BitVec 1 := Scalar.cmpi .sgt c128_i32_4 c0_i32_6
  let v17 : BitVec 32 := Scalar.extui v16
  let c0_i32_7 : BitVec 32 := 0#32
  let v18 : BitVec 1 := Scalar.cmpi .slt c128_i32_4 c0_i32_7
  let v19 : BitVec 32 := Scalar.extui v18
  let v20 : BitVec 32 := Scalar.subi v17 v19
  let v21 : BitVec 1 := Scalar.cmpi .ne v15 v20
  let v22 : BitVec 32 := Scalar.remsi v0 c128_i32_4
  let c0_i32_8 : BitVec 32 := 0#32
  let v23 : BitVec 1 := Scalar.cmpi .ne v22 c0_i32_8
  let v24 : BitVec 1 := Scalar.andi v21 v23
  let v10 : BitVec 32 := Scalar.divsi v0 c128_i32_4
  let c1_i32 : BitVec 32 := 1#32
  let v25 : BitVec 32 := Scalar.subi v10 c1_i32
  let v26 : BitVec 32 := Scalar.select v24 v25 v10
  let c4_i32 : BitVec 32 := 4#32
  let v27 : BitVec 32 := Scalar.subi v26 c4_i32
  let c4_i32_45 : BitVec 32 := 4#32
  let v125 : BitVec 32 := Scalar.addi v27 c4_i32_45
  let c0_i32_46 : BitVec 32 := 0#32
  let v126 : BitVec 32 := Scalar.maxsi v125 c0_i32_46
  let c128_i32_70 : BitVec 32 := 128#32
  let v189 : BitVec 32 := Scalar.muli v126 c128_i32_70
  v189
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== WindowIdeal.lean ====
variable {F : FTy → Type} [FloatOps F] [Named F]
def κ : String → Option EReal := fun
  | "mask" => some ⊥
  | _ => none
-- ==== WindowRefIdeal.lean ====
abbrev S16384x2048 : Shape := ⟨2, ![16384, 2048]⟩
abbrev S16384x512 : Shape := ⟨2, ![16384, 512]⟩
abbrev S16384x1024 : Shape := ⟨2, ![16384, 1024]⟩
abbrev S16384x4x4x128 : Shape := ⟨4, ![16384, 4, 4, 128]⟩
abbrev S16384x4x128 : Shape := ⟨3, ![16384, 4, 128]⟩
abbrev S4x16384x16384x4 : Shape := ⟨4, ![4, 16384, 16384, 4]⟩
abbrev S4x4x16384x16384 : Shape := ⟨4, ![4, 4, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x1x16384x16384 : Shape := ⟨4, ![1, 1, 16384, 16384]⟩
abbrev S4x4x16384 : Shape := ⟨3, ![4, 4, 16384]⟩
abbrev S4x4x16384x1 : Shape := ⟨4, ![4, 4, 16384, 1]⟩
abbrev S4x128x4x16384 : Shape := ⟨4, ![4, 128, 4, 16384]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x1024, .bf16⟩
  | .hbm, ⟨3, _⟩ => ⟨S16384x2048, .f32⟩
  | .hbm, ⟨4, _⟩ => ⟨S16384x4x4x128, .f32⟩
  | .hbm, ⟨5, _⟩ => ⟨S16384x512, .f32⟩
  | .hbm, ⟨6, _⟩ => ⟨S16384x4x128, .f32⟩
  | .hbm, ⟨7, _⟩ => ⟨S16384x512, .bf16⟩
  | .hbm, ⟨8, _⟩ => ⟨S16384x512, .f32⟩
  | .hbm, ⟨9, _⟩ => ⟨S16384x4x128, .f32⟩
  | .hbm, ⟨10, _⟩ => ⟨S4x16384x16384x4, .f32⟩
  | .hbm, ⟨11, _⟩ => ⟨S4x4x16384x16384, .f32⟩
  | .hbm, ⟨12, _⟩ => ⟨S16384, .i32⟩
  | .hbm, ⟨13, _⟩ => ⟨S16384, .i32⟩
  | .hbm, ⟨14, _⟩ => ⟨S1x16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S1x16384, .i32⟩
  | .hbm, ⟨20, _⟩ => ⟨S16384x1, .i32⟩
  | .hbm, ⟨21, _⟩ => ⟨S_, .i32⟩
  | .hbm, ⟨22, _⟩ => ⟨S16384x1, .i32⟩
  | .hbm, ⟨23, _⟩ => ⟨S16384x1, .i32⟩
  | .hbm, ⟨24, _⟩ => ⟨S16384x16384, .i32⟩
  | .hbm, ⟨25, _⟩ => ⟨S16384x16384, .i32⟩
  | .hbm, ⟨26, _⟩ => ⟨S16384x16384, .i1⟩
  | .hbm, ⟨27, _⟩ => ⟨S16384x16384, .i1⟩
  | .hbm, ⟨28, _⟩ => ⟨S1x1x16384x16384, .i1⟩
  | .hbm, ⟨29, _⟩ => ⟨S_, .f32⟩
  | .hbm, ⟨30, _⟩ => ⟨S_, .f32⟩
  | .hbm, ⟨31, _⟩ => ⟨S4x4x16384x16384, .i1⟩
  | .hbm, ⟨32, _⟩ => ⟨S4x4x16384x16384, .f32⟩
  | .hbm, ⟨33, _⟩ => ⟨S4x4x16384x16384, .f32⟩
  | .hbm, ⟨34, _⟩ => ⟨S_, .f32⟩
  | .hbm, ⟨35, _⟩ => ⟨S4x4x16384, .f32⟩
  | .hbm, ⟨36, _⟩ => ⟨S4x4x16384x1, .f32⟩
  | .hbm, ⟨37, _⟩ => ⟨S4x4x16384x16384, .f32⟩
  | .hbm, ⟨38, _⟩ => ⟨S4x4x16384x16384, .f32⟩
  | .hbm, ⟨39, _⟩ => ⟨S4x4x16384x16384, .f32⟩
  | .hbm, ⟨40, _⟩ => ⟨S_, .f32⟩
  | .hbm, ⟨41, _⟩ => ⟨S_, .f32⟩
  | .hbm, ⟨42, _⟩ => ⟨S4x4x16384x16384, .i1⟩
  | .hbm, ⟨43, _⟩ => ⟨S4x4x16384x16384, .f32⟩
  | .hbm, ⟨44, _⟩ => ⟨S4x4x16384x16384, .f32⟩
  | .hbm, ⟨45, _⟩ => ⟨S_, .f32⟩
  | .hbm, ⟨46, _⟩ => ⟨S4x4x16384, .f32⟩
  | .hbm, ⟨47, _⟩ => ⟨S4x4x16384x1, .f32⟩
  | .hbm, ⟨48, _⟩ => ⟨S_, .f32⟩
  | .hbm, ⟨49, _⟩ => ⟨S4x4x16384x1, .f32⟩
  | .hbm, ⟨50, _⟩ => ⟨S4x4x16384x1, .f32⟩
  | .hbm, ⟨51, _⟩ => ⟨S4x4x16384x16384, .f32⟩
  | .hbm, ⟨52, _⟩ => ⟨S4x4x16384x16384, .f32⟩
  | .hbm, ⟨53, _⟩ => ⟨S4x128x4x16384, .f32⟩
  | .hbm, ⟨54, _⟩ => ⟨S16384x4x4x128, .f32⟩
  | .hbm, ⟨55, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== MlpUp.lean ====
abbrev S16384x4096 : Shape := ⟨2, ![16384, 4096]⟩
abbrev S4096x16384 : Shape := ⟨2, ![4096, 16384]⟩
abbrev S16384x16384 : Shape := ⟨2, ![16384, 16384]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .f32⟩
  | .hbm, ⟨2, _⟩ => ⟨S4096x16384, .bf16⟩
  | .hbm, ⟨3, _⟩ => ⟨S16384x16384, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 16, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpRefIdeal.lean ====
abbrev S16384x4096 : Shape := ⟨2, ![16384, 4096]⟩
abbrev S4096x16384 : Shape := ⟨2, ![4096, 16384]⟩
abbrev S16384x16384 : Shape := ⟨2, ![16384, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .f32⟩
  | .hbm, ⟨2, _⟩ => ⟨S16384x4096, .f32⟩
  | .hbm, ⟨3, _⟩ => ⟨S16384x16384, .f32⟩
  | .hbm, ⟨4, _⟩ => ⟨S_, .f32⟩
  | .hbm, ⟨5, _⟩ => ⟨S16384x16384, .f32⟩
  | .hbm, ⟨6, _⟩ => ⟨S16384x16384, .f32⟩
  | .hbm, ⟨7, _⟩ => ⟨S16384x16384, .f32⟩
  | .hbm, ⟨8, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MlpDown.lean ====
abbrev S16384x4096 : Shape := ⟨2, ![16384, 4096]⟩
abbrev S16384x16384 : Shape := ⟨2, ![16384, 16384]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x16384, .bf16⟩
  | .hbm, ⟨2, _⟩ => ⟨S16384x4096, .f32⟩
  | .hbm, ⟨3, _⟩ => ⟨S16384x4096, .bf16⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S16384x4096 : Shape := ⟨2, ![16384, 4096]⟩
abbrev S16384x16384 : Shape := ⟨2, ![16384, 16384]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x16384, .bf16⟩
  | .hbm, ⟨2, _⟩ => ⟨S16384x4096, .f32⟩
  | .hbm, ⟨3, _⟩ => ⟨S16384x16384, .f32⟩
  | .hbm, ⟨4, _⟩ => ⟨S16384x4096, .f32⟩
  | .hbm, ⟨5, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MergeGates.lean ====
abbrev S16384x4096 : Shape := ⟨2, ![16384, 4096]⟩
abbrev S4096x12288 : Shape := ⟨2, ![4096, 12288]⟩
abbrev S16384x12288 : Shape := ⟨2, ![16384, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .f32⟩
  | .hbm, ⟨2, _⟩ => ⟨S4096x12288, .bf16⟩
  | .hbm, ⟨3, _⟩ => ⟨S16384x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 12, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergeGatesRefIdeal.lean ====
abbrev S16384x4096 : Shape := ⟨2, ![16384, 4096]⟩
abbrev S4096x12288 : Shape := ⟨2, ![4096, 12288]⟩
abbrev S16384x12288 : Shape := ⟨2, ![16384, 12288]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .f32⟩
  | .hbm, ⟨2, _⟩ => ⟨S16384x4096, .f32⟩
  | .hbm, ⟨3, _⟩ => ⟨S16384x12288, .f32⟩
  | .hbm, ⟨4, _⟩ => ⟨S16384x12288, .f32⟩
  | .hbm, ⟨5, _⟩ => ⟨S16384x12288, .f32⟩
  | .hbm, ⟨6, _⟩ => ⟨S_, .f32⟩
  | .hbm, ⟨7, _⟩ => ⟨S16384x12288, .f32⟩
  | .hbm, ⟨8, _⟩ => ⟨S16384x12288, .f32⟩
  | .hbm, ⟨9, _⟩ => ⟨S_, .f32⟩
  | .hbm, ⟨10, _⟩ => ⟨S16384x12288, .f32⟩
  | .hbm, ⟨11, _⟩ => ⟨S16384x12288, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== GatedMerge.lean ====
abbrev S16384x2048 : Shape := ⟨2, ![16384, 2048]⟩
abbrev S16384x1024 : Shape := ⟨2, ![16384, 1024]⟩
abbrev S2048x4096 : Shape := ⟨2, ![2048, 4096]⟩
abbrev S1024x4096 : Shape := ⟨2, ![1024, 4096]⟩
abbrev S16384x12288 : Shape := ⟨2, ![16384, 12288]⟩
abbrev S16384x4096 : Shape := ⟨2, ![16384, 4096]⟩
abbrev S512x2048 : Shape := ⟨2, ![512, 2048]⟩
abbrev S512x1024 : Shape := ⟨2, ![512, 1024]⟩
abbrev S2048x1024 : Shape := ⟨2, ![2048, 1024]⟩
abbrev S1024x1024 : Shape := ⟨2, ![1024, 1024]⟩

abbrev nBuf : Space → Nat
  | .hbm => 11
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S2048x4096, .f32⟩
  | .hbm, ⟨4, _⟩ => ⟨S1024x4096, .f32⟩
  | .hbm, ⟨5, _⟩ => ⟨S1024x4096, .f32⟩
  | .hbm, ⟨6, _⟩ => ⟨S16384x12288, .f32⟩
  | .hbm, ⟨7, _⟩ => ⟨S2048x4096, .bf16⟩
  | .hbm, ⟨8, _⟩ => ⟨S1024x4096, .bf16⟩
  | .hbm, ⟨9, _⟩ => ⟨S1024x4096, .bf16⟩
  | .hbm, ⟨10, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GatedMergeRefIdeal.lean ====
abbrev S16384x2048 : Shape := ⟨2, ![16384, 2048]⟩
abbrev S16384x1024 : Shape := ⟨2, ![16384, 1024]⟩
abbrev S2048x4096 : Shape := ⟨2, ![2048, 4096]⟩
abbrev S1024x4096 : Shape := ⟨2, ![1024, 4096]⟩
abbrev S16384x12288 : Shape := ⟨2, ![16384, 12288]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S2048x4096, .f32⟩
  | .hbm, ⟨4, _⟩ => ⟨S1024x4096, .f32⟩
  | .hbm, ⟨5, _⟩ => ⟨S1024x4096, .f32⟩
  | .hbm, ⟨6, _⟩ => ⟨S16384x12288, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x2048, .f32⟩
  | .hbm, ⟨11, _⟩ => ⟨S16384x4096, .f32⟩
  | .hbm, ⟨12, _⟩ => ⟨S16384x4096, .f32⟩
  | .hbm, ⟨13, _⟩ => ⟨S16384x1024, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== OutProj.lean ====
abbrev S16384x4096 : Shape := ⟨2, ![16384, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096x4096, .f32⟩
  | .hbm, ⟨3, _⟩ => ⟨S4096x4096, .bf16⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Values.lean ====
abbrev S16384x4096 : Shape := ⟨2, ![16384, 4096]⟩
abbrev S4096x1024 : Shape := ⟨2, ![4096, 1024]⟩
abbrev S16384x1024 : Shape := ⟨2, ![16384, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S4096x1024, .bf16⟩
  | .hbm, ⟨3, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ValuesRefIdeal.lean ====
abbrev S16384x4096 : Shape := ⟨2, ![16384, 4096]⟩
abbrev S4096x1024 : Shape := ⟨2, ![4096, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S16384x4096, .f32⟩
  | .hbm, ⟨3, _⟩ => ⟨S16384x1024, .f32⟩
  | .hbm, ⟨4, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ChunkInputs.lean ====
abbrev S16384x4096 : Shape := ⟨2, ![16384, 4096]⟩
abbrev S4096x1024 : Shape := ⟨2, ![4096, 1024]⟩
abbrev S16384x1024 : Shape := ⟨2, ![16384, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S4096x1024, .bf16⟩
  | .hbm, ⟨3, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ChunkInputsRefIdeal.lean ====
abbrev S16384x4096 : Shape := ⟨2, ![16384, 4096]⟩
abbrev S4096x1024 : Shape := ⟨2, ![4096, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S16384x4096, .f32⟩
  | .hbm, ⟨3, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GatingInputs.lean ====
abbrev S16384x4096 : Shape := ⟨2, ![16384, 4096]⟩
abbrev S4096x2048 : Shape := ⟨2, ![4096, 2048]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S4096x2048, .bf16⟩
  | .hbm, ⟨3, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatingInputsRefIdeal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x4096, .f32⟩
  | .hbm, ⟨3, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MobaQueries.lean ====
abbrev S16384x4096 : Shape := ⟨2, ![16384, 4096]⟩
abbrev S4096x1024 : Shape := ⟨2, ![4096, 1024]⟩
abbrev S128 : Shape := ⟨1, ![128]⟩
abbrev S16384x64 : Shape := ⟨2, ![16384, 64]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S16384x128 : Shape := ⟨2, ![16384, 128]⟩
abbrev S16384x1024 : Shape := ⟨2, ![16384, 1024]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S128, .f32⟩
  | .hbm, ⟨3, _⟩ => ⟨S16384x64, .f32⟩
  | .hbm, ⟨4, _⟩ => ⟨S16384x64, .f32⟩
  | .hbm, ⟨5, _⟩ => ⟨S4096x1024, .bf16⟩
  | .hbm, ⟨6, _⟩ => ⟨S1x128, .f32⟩
  | .hbm, ⟨7, _⟩ => ⟨S8x128, .f32⟩
  | .hbm, ⟨8, _⟩ => ⟨S1024, .f32⟩
  | .hbm, ⟨9, _⟩ => ⟨S1x1024, .f32⟩
  | .hbm, ⟨10, _⟩ => ⟨S16384x128, .f32⟩
  | .hbm, ⟨11, _⟩ => ⟨S16384x64, .f32⟩
  | .hbm, ⟨12, _⟩ => ⟨S16384x128, .f32⟩
  | .hbm, ⟨13, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MobaQueriesRefIdeal.lean ====
abbrev S16384x4096 : Shape := ⟨2, ![16384, 4096]⟩
abbrev S4096x1024 : Shape := ⟨2, ![4096, 1024]⟩
abbrev S128 : Shape := ⟨1, ![128]⟩
abbrev S16384x64 : Shape := ⟨2, ![16384, 64]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S16384x8x64 : Shape := ⟨3, ![16384, 8, 64]⟩
abbrev S16384x1x64 : Shape := ⟨3, ![16384, 1, 64]⟩

abbrev nBuf : Space → Nat
  | .hbm => 44
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S128, .f32⟩
  | .hbm, ⟨3, _⟩ => ⟨S16384x64, .f32⟩
  | .hbm, ⟨4, _⟩ => ⟨S16384x64, .f32⟩
  | .hbm, ⟨5, _⟩ => ⟨S16384x4096, .f32⟩
  | .hbm, ⟨6, _⟩ => ⟨S16384x1024, .f32⟩
  | .hbm, ⟨7, _⟩ => ⟨S16384x8x128, .f32⟩
  | .hbm, ⟨8, _⟩ => ⟨S16384x8x128, .f32⟩
  | .hbm, ⟨9, _⟩ => ⟨S_, .f32⟩
  | .hbm, ⟨10, _⟩ => ⟨S16384x8, .f32⟩
  | .hbm, ⟨11, _⟩ => ⟨S16384x8x1, .f32⟩
  | .hbm, ⟨12, _⟩ => ⟨S_, .f32⟩
  | .hbm, ⟨13, _⟩ => ⟨S16384x8x1, .f32⟩
  | .hbm, ⟨14, _⟩ => ⟨S16384x8x1, .f32⟩
  | .hbm, ⟨15, _⟩ => ⟨S_, .f32⟩
  | .hbm, ⟨16, _⟩ => ⟨S16384x8x1, .f32⟩
  | .hbm, ⟨17, _⟩ => ⟨S16384x8x1, .f32⟩
  | .hbm, ⟨18, _⟩ => ⟨S16384x8x1, .f32⟩
  | .hbm, ⟨19, _⟩ => ⟨S16384x8x128, .f32⟩
  | .hbm, ⟨20, _⟩ => ⟨S16384x8x128, .f32⟩
  | .hbm, ⟨21, _⟩ => ⟨S1x1x128, .f32⟩
  | .hbm, ⟨22, _⟩ => ⟨S16384x8x128, .f32⟩
  | .hbm, ⟨23, _⟩ => ⟨S16384x8x128, .f32⟩
  | .hbm, ⟨24, _⟩ => ⟨S16384x8x64, .f32⟩
  | .hbm, ⟨25, _⟩ => ⟨S16384x8x64, .f32⟩
  | .hbm, ⟨26, _⟩ => ⟨S16384x1x64, .f32⟩
  | .hbm, ⟨27, _⟩ => ⟨S16384x1x64, .f32⟩
  | .hbm, ⟨28, _⟩ => ⟨S16384x8x64, .f32⟩
  | .hbm, ⟨29, _⟩ => ⟨S16384x8x64, .f32⟩
  | .hbm, ⟨30, _⟩ => ⟨S16384x8x64, .f32⟩
  | .hbm, ⟨31, _⟩ => ⟨S16384x8x64, .f32⟩
  | .hbm, ⟨32, _⟩ => ⟨S16384x8x64, .f32⟩
  | .hbm, ⟨33, _⟩ => ⟨S16384x8x64, .f32⟩
  | .hbm, ⟨34, _⟩ => ⟨S16384x8x64, .f32⟩
  | .hbm, ⟨35, _⟩ => ⟨S16384x8x64, .f32⟩
  | .hbm, ⟨36, _⟩ => ⟨S16384x8x64, .f32⟩
  | .hbm, ⟨37, _⟩ => ⟨S16384x8x64, .f32⟩
  | .hbm, ⟨38, _⟩ => ⟨S16384x8x128, .f32⟩
  | .hbm, ⟨39, _⟩ => ⟨S_, .f32⟩
  | .hbm, ⟨40, _⟩ => ⟨S16384x8x128, .f32⟩
  | .hbm, ⟨41, _⟩ => ⟨S16384x8x128, .f32⟩
  | .hbm, ⟨42, _⟩ => ⟨S16384x1024, .f32⟩
  | .hbm, ⟨43, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== MobaKeys.lean ====
abbrev S16384x4096 : Shape := ⟨2, ![16384, 4096]⟩
abbrev S4096x1024 : Shape := ⟨2, ![4096, 1024]⟩
abbrev S128 : Shape := ⟨1, ![128]⟩
abbrev S16384x64 : Shape := ⟨2, ![16384, 64]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S16384x128 : Shape := ⟨2, ![16384, 128]⟩
abbrev S16384x1024 : Shape := ⟨2, ![16384, 1024]⟩
abbrev S16x4x1024 : Shape := ⟨3, ![16, 4, 1024]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩
abbrev S1x4x1024 : Shape := ⟨3, ![1, 4, 1024]⟩
abbrev S1024x1 : Shape := ⟨2, ![1024, 1]⟩
abbrev S256x128 : Shape := ⟨2, ![256, 128]⟩
abbrev S1x1x128 : Shape := ⟨3, ![1, 1, 128]⟩

abbrev nBuf : Space → Nat
  | .hbm => 15
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S128, .f32⟩
  | .hbm, ⟨3, _⟩ => ⟨S16384x64, .f32⟩
  | .hbm, ⟨4, _⟩ => ⟨S16384x64, .f32⟩
  | .hbm, ⟨5, _⟩ => ⟨S4096x1024, .bf16⟩
  | .hbm, ⟨6, _⟩ => ⟨S1x128, .f32⟩
  | .hbm, ⟨7, _⟩ => ⟨S8x128, .f32⟩
  | .hbm, ⟨8, _⟩ => ⟨S1024, .f32⟩
  | .hbm, ⟨9, _⟩ => ⟨S1x1024, .f32⟩
  | .hbm, ⟨10, _⟩ => ⟨S16384x128, .f32⟩
  | .hbm, ⟨11, _⟩ => ⟨S16384x64, .f32⟩
  | .hbm, ⟨12, _⟩ => ⟨S16384x128, .f32⟩
  | .hbm, ⟨13, _⟩ => ⟨S16384x1024, .bf16⟩
  | .hbm, ⟨14, _⟩ => ⟨S16x4x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1x4x1024, .f32⟩
  | .local _ .vmem, ⟨12, _⟩ => ⟨S1x4x1024, .f32⟩
  | .local _ .vmem, ⟨13, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MobaKeysRefIdeal.lean ====
abbrev S16384x4096 : Shape := ⟨2, ![16384, 4096]⟩
abbrev S4096x1024 : Shape := ⟨2, ![4096, 1024]⟩
abbrev S128 : Shape := ⟨1, ![128]⟩
abbrev S16384x64 : Shape := ⟨2, ![16384, 64]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S16384x8x64 : Shape := ⟨3, ![16384, 8, 64]⟩
abbrev S16384x1x64 : Shape := ⟨3, ![16384, 1, 64]⟩
abbrev S16x4x256x1024 : Shape := ⟨4, ![16, 4, 256, 1024]⟩
abbrev S16x4x1024 : Shape := ⟨3, ![16, 4, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S128, .f32⟩
  | .hbm, ⟨3, _⟩ => ⟨S16384x64, .f32⟩
  | .hbm, ⟨4, _⟩ => ⟨S16384x64, .f32⟩
  | .hbm, ⟨5, _⟩ => ⟨S16384x4096, .f32⟩
  | .hbm, ⟨6, _⟩ => ⟨S16384x1024, .f32⟩
  | .hbm, ⟨7, _⟩ => ⟨S16384x8x128, .f32⟩
  | .hbm, ⟨8, _⟩ => ⟨S16384x8x128, .f32⟩
  | .hbm, ⟨9, _⟩ => ⟨S_, .f32⟩
  | .hbm, ⟨10, _⟩ => ⟨S16384x8, .f32⟩
  | .hbm, ⟨11, _⟩ => ⟨S16384x8x1, .f32⟩
  | .hbm, ⟨12, _⟩ => ⟨S_, .f32⟩
  | .hbm, ⟨13, _⟩ => ⟨S16384x8x1, .f32⟩
  | .hbm, ⟨14, _⟩ => ⟨S16384x8x1, .f32⟩
  | .hbm, ⟨15, _⟩ => ⟨S_, .f32⟩
  | .hbm, ⟨16, _⟩ => ⟨S16384x8x1, .f32⟩
  | .hbm, ⟨17, _⟩ => ⟨S16384x8x1, .f32⟩
  | .hbm, ⟨18, _⟩ => ⟨S16384x8x1, .f32⟩
  | .hbm, ⟨19, _⟩ => ⟨S16384x8x128, .f32⟩
  | .hbm, ⟨20, _⟩ => ⟨S16384x8x128, .f32⟩
  | .hbm, ⟨21, _⟩ => ⟨S1x1x128, .f32⟩
  | .hbm, ⟨22, _⟩ => ⟨S16384x8x128, .f32⟩
  | .hbm, ⟨23, _⟩ => ⟨S16384x8x128, .f32⟩
  | .hbm, ⟨24, _⟩ => ⟨S16384x8x64, .f32⟩
  | .hbm, ⟨25, _⟩ => ⟨S16384x8x64, .f32⟩
  | .hbm, ⟨26, _⟩ => ⟨S16384x1x64, .f32⟩
  | .hbm, ⟨27, _⟩ => ⟨S16384x1x64, .f32⟩
  | .hbm, ⟨28, _⟩ => ⟨S16384x8x64, .f32⟩
  | .hbm, ⟨29, _⟩ => ⟨S16384x8x64, .f32⟩
  | .hbm, ⟨30, _⟩ => ⟨S16384x8x64, .f32⟩
  | .hbm, ⟨31, _⟩ => ⟨S16384x8x64, .f32⟩
  | .hbm, ⟨32, _⟩ => ⟨S16384x8x64, .f32⟩
  | .hbm, ⟨33, _⟩ => ⟨S16384x8x64, .f32⟩
  | .hbm, ⟨34, _⟩ => ⟨S16384x8x64, .f32⟩
  | .hbm, ⟨35, _⟩ => ⟨S16384x8x64, .f32⟩
  | .hbm, ⟨36, _⟩ => ⟨S16384x8x64, .f32⟩
  | .hbm, ⟨37, _⟩ => ⟨S16384x8x64, .f32⟩
  | .hbm, ⟨38, _⟩ => ⟨S16384x8x128, .f32⟩
  | .hbm, ⟨39, _⟩ => ⟨S16384x1024, .f32⟩
  | .hbm, ⟨40, _⟩ => ⟨S16x4x256x1024, .f32⟩
  | .hbm, ⟨41, _⟩ => ⟨S_, .f32⟩
  | .hbm, ⟨42, _⟩ => ⟨S16x4x1024, .f32⟩
  | .hbm, ⟨43, _⟩ => ⟨S_, .f32⟩
  | .hbm, ⟨44, _⟩ => ⟨S16x4x1024, .f32⟩
  | .hbm, ⟨45, _⟩ => ⟨S16x4x1024, .f32⟩
  | .hbm, ⟨46, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== SparseKeys.lean ====
abbrev S16384x4096 : Shape := ⟨2, ![16384, 4096]⟩
abbrev S4096x1024 : Shape := ⟨2, ![4096, 1024]⟩
abbrev S128 : Shape := ⟨1, ![128]⟩
abbrev S16384x64 : Shape := ⟨2, ![16384, 64]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S1x1024 : Shape := ⟨2, ![1, 1024]⟩
abbrev S16384x128 : Shape := ⟨2, ![16384, 128]⟩
abbrev S16384x1024 : Shape := ⟨2, ![16384, 1024]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 20
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S128, .f32⟩
  | .hbm, ⟨3, _⟩ => ⟨S128, .f32⟩
  | .hbm, ⟨4, _⟩ => ⟨S16384x64, .f32⟩
  | .hbm, ⟨5, _⟩ => ⟨S16384x64, .f32⟩
  | .hbm, ⟨6, _⟩ => ⟨S4096x1024, .bf16⟩
  | .hbm, ⟨7, _⟩ => ⟨S1x128, .f32⟩
  | .hbm, ⟨8, _⟩ => ⟨S4x128, .f32⟩
  | .hbm, ⟨9, _⟩ => ⟨S512, .f32⟩
  | .hbm, ⟨10, _⟩ => ⟨S1x512, .f32⟩
  | .hbm, ⟨11, _⟩ => ⟨S1x128, .f32⟩
  | .hbm, ⟨12, _⟩ => ⟨S4x128, .f32⟩
  | .hbm, ⟨13, _⟩ => ⟨S512, .f32⟩
  | .hbm, ⟨14, _⟩ => ⟨S1x512, .f32⟩
  | .hbm, ⟨15, _⟩ => ⟨S1x1024, .f32⟩
  | .hbm, ⟨16, _⟩ => ⟨S16384x128, .f32⟩
  | .hbm, ⟨17, _⟩ => ⟨S16384x64, .f32⟩
  | .hbm, ⟨18, _⟩ => ⟨S16384x128, .f32⟩
  | .hbm, ⟨19, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SparseKeysRefIdeal.lean ====
abbrev S16384x4096 : Shape := ⟨2, ![16384, 4096]⟩
abbrev S4096x1024 : Shape := ⟨2, ![4096, 1024]⟩
abbrev S128 : Shape := ⟨1, ![128]⟩
abbrev S16384x64 : Shape := ⟨2, ![16384, 64]⟩
abbrev S16384x1024 : Shape := ⟨2, ![16384, 1024]⟩
abbrev S16384x512 : Shape := ⟨2, ![16384, 512]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩
abbrev S16384x4x64 : Shape := ⟨3, ![16384, 4, 64]⟩
abbrev S16384x1x64 : Shape := ⟨3, ![16384, 1, 64]⟩
abbrev S16384x8x128 : Shape := ⟨3, ![16384, 8, 128]⟩

abbrev nBuf : Space → Nat
  | .hbm => 77
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S128, .f32⟩
  | .hbm, ⟨3, _⟩ => ⟨S128, .f32⟩
  | .hbm, ⟨4, _⟩ => ⟨S16384x64, .f32⟩
  | .hbm, ⟨5, _⟩ => ⟨S16384x64, .f32⟩
  | .hbm, ⟨6, _⟩ => ⟨S16384x4096, .f32⟩
  | .hbm, ⟨7, _⟩ => ⟨S16384x1024, .f32⟩
  | .hbm, ⟨8, _⟩ => ⟨S16384x512, .f32⟩
  | .hbm, ⟨9, _⟩ => ⟨S16384x512, .f32⟩
  | .hbm, ⟨10, _⟩ => ⟨S16384x4x128, .f32⟩
  | .hbm, ⟨11, _⟩ => ⟨S16384x4x128, .f32⟩
  | .hbm, ⟨12, _⟩ => ⟨S_, .f32⟩
  | .hbm, ⟨13, _⟩ => ⟨S16384x4, .f32⟩
  | .hbm, ⟨14, _⟩ => ⟨S16384x4x1, .f32⟩
  | .hbm, ⟨15, _⟩ => ⟨S_, .f32⟩
  | .hbm, ⟨16, _⟩ => ⟨S16384x4x1, .f32⟩
  | .hbm, ⟨17, _⟩ => ⟨S16384x4x1, .f32⟩
  | .hbm, ⟨18, _⟩ => ⟨S_, .f32⟩
  | .hbm, ⟨19, _⟩ => ⟨S16384x4x1, .f32⟩
  | .hbm, ⟨20, _⟩ => ⟨S16384x4x1, .f32⟩
  | .hbm, ⟨21, _⟩ => ⟨S16384x4x1, .f32⟩
  | .hbm, ⟨22, _⟩ => ⟨S16384x4x128, .f32⟩
  | .hbm, ⟨23, _⟩ => ⟨S16384x4x128, .f32⟩
  | .hbm, ⟨24, _⟩ => ⟨S1x1x128, .f32⟩
  | .hbm, ⟨25, _⟩ => ⟨S16384x4x128, .f32⟩
  | .hbm, ⟨26, _⟩ => ⟨S16384x4x128, .f32⟩
  | .hbm, ⟨27, _⟩ => ⟨S16384x4x64, .f32⟩
  | .hbm, ⟨28, _⟩ => ⟨S16384x4x64, .f32⟩
  | .hbm, ⟨29, _⟩ => ⟨S16384x1x64, .f32⟩
  | .hbm, ⟨30, _⟩ => ⟨S16384x1x64, .f32⟩
  | .hbm, ⟨31, _⟩ => ⟨S16384x4x64, .f32⟩
  | .hbm, ⟨32, _⟩ => ⟨S16384x4x64, .f32⟩
  | .hbm, ⟨33, _⟩ => ⟨S16384x4x64, .f32⟩
  | .hbm, ⟨34, _⟩ => ⟨S16384x4x64, .f32⟩
  | .hbm, ⟨35, _⟩ => ⟨S16384x4x64, .f32⟩
  | .hbm, ⟨36, _⟩ => ⟨S16384x4x64, .f32⟩
  | .hbm, ⟨37, _⟩ => ⟨S16384x4x64, .f32⟩
  | .hbm, ⟨38, _⟩ => ⟨S16384x4x64, .f32⟩
  | .hbm, ⟨39, _⟩ => ⟨S16384x4x64, .f32⟩
  | .hbm, ⟨40, _⟩ => ⟨S16384x4x64, .f32⟩
  | .hbm, ⟨41, _⟩ => ⟨S16384x4x128, .f32⟩
  | .hbm, ⟨42, _⟩ => ⟨S16384x4x128, .f32⟩
  | .hbm, ⟨43, _⟩ => ⟨S16384x4x128, .f32⟩
  | .hbm, ⟨44, _⟩ => ⟨S_, .f32⟩
  | .hbm, ⟨45, _⟩ => ⟨S16384x4, .f32⟩
  | .hbm, ⟨46, _⟩ => ⟨S16384x4x1, .f32⟩
  | .hbm, ⟨47, _⟩ => ⟨S_, .f32⟩
  | .hbm, ⟨48, _⟩ => ⟨S16384x4x1, .f32⟩
  | .hbm, ⟨49, _⟩ => ⟨S16384x4x1, .f32⟩
  | .hbm, ⟨50, _⟩ => ⟨S_, .f32⟩
  | .hbm, ⟨51, _⟩ => ⟨S16384x4x1, .f32⟩
  | .hbm, ⟨52, _⟩ => ⟨S16384x4x1, .f32⟩
  | .hbm, ⟨53, _⟩ => ⟨S16384x4x1, .f32⟩
  | .hbm, ⟨54, _⟩ => ⟨S16384x4x128, .f32⟩
  | .hbm, ⟨55, _⟩ => ⟨S16384x4x128, .f32⟩
  | .hbm, ⟨56, _⟩ => ⟨S1x1x128, .f32⟩
  | .hbm, ⟨57, _⟩ => ⟨S16384x4x128, .f32⟩
  | .hbm, ⟨58, _⟩ => ⟨S16384x4x128, .f32⟩
  | .hbm, ⟨59, _⟩ => ⟨S16384x4x64, .f32⟩
  | .hbm, ⟨60, _⟩ => ⟨S16384x4x64, .f32⟩
  | .hbm, ⟨61, _⟩ => ⟨S16384x1x64, .f32⟩
  | .hbm, ⟨62, _⟩ => ⟨S16384x1x64, .f32⟩
  | .hbm, ⟨63, _⟩ => ⟨S16384x4x64, .f32⟩
  | .hbm, ⟨64, _⟩ => ⟨S16384x4x64, .f32⟩
  | .hbm, ⟨65, _⟩ => ⟨S16384x4x64, .f32⟩
  | .hbm, ⟨66, _⟩ => ⟨S16384x4x64, .f32⟩
  | .hbm, ⟨67, _⟩ => ⟨S16384x4x64, .f32⟩
  | .hbm, ⟨68, _⟩ => ⟨S16384x4x64, .f32⟩
  | .hbm, ⟨69, _⟩ => ⟨S16384x4x64, .f32⟩
  | .hbm, ⟨70, _⟩ => ⟨S16384x4x64, .f32⟩
  | .hbm, ⟨71, _⟩ => ⟨S16384x4x64, .f32⟩
  | .hbm, ⟨72, _⟩ => ⟨S16384x4x64, .f32⟩
  | .hbm, ⟨73, _⟩ => ⟨S16384x4x128, .f32⟩
  | .hbm, ⟨74, _⟩ => ⟨S16384x8x128, .f32⟩
  | .hbm, ⟨75, _⟩ => ⟨S16384x1024, .f32⟩
  | .hbm, ⟨76, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== SparseQueries.lean ====
abbrev S16384x4096 : Shape := ⟨2, ![16384, 4096]⟩
abbrev S4096x2048 : Shape := ⟨2, ![4096, 2048]⟩
abbrev S128 : Shape := ⟨1, ![128]⟩
abbrev S16384x64 : Shape := ⟨2, ![16384, 64]⟩
abbrev S1x128 : Shape := ⟨2, ![1, 128]⟩
abbrev S16x128 : Shape := ⟨2, ![16, 128]⟩
abbrev S2048 : Shape := ⟨1, ![2048]⟩
abbrev S1x2048 : Shape := ⟨2, ![1, 2048]⟩
abbrev S16384x128 : Shape := ⟨2, ![16384, 128]⟩
abbrev S16384x2048 : Shape := ⟨2, ![16384, 2048]⟩
abbrev S1024x2048 : Shape := ⟨2, ![1024, 2048]⟩
abbrev S2048x1024 : Shape := ⟨2, ![2048, 1024]⟩
abbrev S1x1024 : Shape := ⟨2, ![1, 1024]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 15
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S128, .f32⟩
  | .hbm, ⟨3, _⟩ => ⟨S16384x64, .f32⟩
  | .hbm, ⟨4, _⟩ => ⟨S16384x64, .f32⟩
  | .hbm, ⟨5, _⟩ => ⟨S4096x2048, .bf16⟩
  | .hbm, ⟨6, _⟩ => ⟨S1x128, .f32⟩
  | .hbm, ⟨7, _⟩ => ⟨S16x128, .f32⟩
  | .hbm, ⟨8, _⟩ => ⟨S2048, .f32⟩
  | .hbm, ⟨9, _⟩ => ⟨S1x2048, .f32⟩
  | .hbm, ⟨10, _⟩ => ⟨S16384x128, .f32⟩
  | .hbm, ⟨11, _⟩ => ⟨S16384x64, .f32⟩
  | .hbm, ⟨12, _⟩ => ⟨S16384x128, .f32⟩
  | .hbm, ⟨13, _⟩ => ⟨S16384x2048, .bf16⟩
  | .hbm, ⟨14, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== SparseQueriesRefIdeal.lean ====
abbrev S16384x4096 : Shape := ⟨2, ![16384, 4096]⟩
abbrev S4096x2048 : Shape := ⟨2, ![4096, 2048]⟩
abbrev S128 : Shape := ⟨1, ![128]⟩
abbrev S16384x64 : Shape := ⟨2, ![16384, 64]⟩
abbrev S16384x2048 : Shape := ⟨2, ![16384, 2048]⟩
abbrev S16384x16x128 : Shape := ⟨3, ![16384, 16, 128]⟩
abbrev S_ : Shape := ⟨0, ![]⟩
abbrev S16384x16 : Shape := ⟨2, ![16384, 16]⟩
abbrev S16384x16x1 : Shape := ⟨3, ![16384, 16, 1]⟩
abbrev S1x1x128 : Shape := ⟨3, ![1, 1, 128]⟩
abbrev S16384x16x64 : Shape := ⟨3, ![16384, 16, 64]⟩
abbrev S16384x1x64 : Shape := ⟨3, ![16384, 1, 64]⟩

abbrev nBuf : Space → Nat
  | .hbm => 49
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S128, .f32⟩
  | .hbm, ⟨3, _⟩ => ⟨S16384x64, .f32⟩
  | .hbm, ⟨4, _⟩ => ⟨S16384x64, .f32⟩
  | .hbm, ⟨5, _⟩ => ⟨S16384x4096, .f32⟩
  | .hbm, ⟨6, _⟩ => ⟨S16384x2048, .f32⟩
  | .hbm, ⟨7, _⟩ => ⟨S16384x16x128, .f32⟩
  | .hbm, ⟨8, _⟩ => ⟨S16384x16x128, .f32⟩
  | .hbm, ⟨9, _⟩ => ⟨S_, .f32⟩
  | .hbm, ⟨10, _⟩ => ⟨S16384x16, .f32⟩
  | .hbm, ⟨11, _⟩ => ⟨S16384x16x1, .f32⟩
  | .hbm, ⟨12, _⟩ => ⟨S_, .f32⟩
  | .hbm, ⟨13, _⟩ => ⟨S16384x16x1, .f32⟩
  | .hbm, ⟨14, _⟩ => ⟨S16384x16x1, .f32⟩
  | .hbm, ⟨15, _⟩ => ⟨S_, .f32⟩
  | .hbm, ⟨16, _⟩ => ⟨S16384x16x1, .f32⟩
  | .hbm, ⟨17, _⟩ => ⟨S16384x16x1, .f32⟩
  | .hbm, ⟨18, _⟩ => ⟨S16384x16x1, .f32⟩
  | .hbm, ⟨19, _⟩ => ⟨S16384x16x128, .f32⟩
  | .hbm, ⟨20, _⟩ => ⟨S16384x16x128, .f32⟩
  | .hbm, ⟨21, _⟩ => ⟨S1x1x128, .f32⟩
  | .hbm, ⟨22, _⟩ => ⟨S16384x16x128, .f32⟩
  | .hbm, ⟨23, _⟩ => ⟨S16384x16x128, .f32⟩
  | .hbm, ⟨24, _⟩ => ⟨S_, .f32⟩
  | .hbm, ⟨25, _⟩ => ⟨S16384x16x128, .f32⟩
  | .hbm, ⟨26, _⟩ => ⟨S16384x16x128, .f32⟩
  | .hbm, ⟨27, _⟩ => ⟨S16384x2048, .f32⟩
  | .hbm, ⟨28, _⟩ => ⟨S16384x2048, .bf16⟩
  | .hbm, ⟨29, _⟩ => ⟨S16384x16x64, .f32⟩
  | .hbm, ⟨30, _⟩ => ⟨S16384x16x64, .f32⟩
  | .hbm, ⟨31, _⟩ => ⟨S16384x1x64, .f32⟩
  | .hbm, ⟨32, _⟩ => ⟨S16384x1x64, .f32⟩
  | .hbm, ⟨33, _⟩ => ⟨S16384x16x64, .f32⟩
  | .hbm, ⟨34, _⟩ => ⟨S16384x16x64, .f32⟩
  | .hbm, ⟨35, _⟩ => ⟨S16384x16x64, .f32⟩
  | .hbm, ⟨36, _⟩ => ⟨S16384x16x64, .f32⟩
  | .hbm, ⟨37, _⟩ => ⟨S16384x16x64, .f32⟩
  | .hbm, ⟨38, _⟩ => ⟨S16384x16x64, .f32⟩
  | .hbm, ⟨39, _⟩ => ⟨S16384x16x64, .f32⟩
  | .hbm, ⟨40, _⟩ => ⟨S16384x16x64, .f32⟩
  | .hbm, ⟨41, _⟩ => ⟨S16384x16x64, .f32⟩
  | .hbm, ⟨42, _⟩ => ⟨S16384x16x64, .f32⟩
  | .hbm, ⟨43, _⟩ => ⟨S16384x16x128, .f32⟩
  | .hbm, ⟨44, _⟩ => ⟨S_, .f32⟩
  | .hbm, ⟨45, _⟩ => ⟨S16384x16x128, .f32⟩
  | .hbm, ⟨46, _⟩ => ⟨S16384x16x128, .f32⟩
  | .hbm, ⟨47, _⟩ => ⟨S16384x2048, .f32⟩
  | .hbm, ⟨48, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== RowNorm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowNormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== BranchGates.lean ====
abbrev S16384x4096 : Shape := ⟨2, ![16384, 4096]⟩
abbrev S4096x128 : Shape := ⟨2, ![4096, 128]⟩
abbrev S128 : Shape := ⟨1, ![128]⟩
abbrev S1x128 : Shape := ⟨2, ![1, 128]⟩
abbrev S16384x128 : Shape := ⟨2, ![16384, 128]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x128, .f32⟩
  | .hbm, ⟨2, _⟩ => ⟨S128, .f32⟩
  | .hbm, ⟨3, _⟩ => ⟨S4096x128, .bf16⟩
  | .hbm, ⟨4, _⟩ => ⟨S1x128, .f32⟩
  | .hbm, ⟨5, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S2048x128, .bf16⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BranchGatesRefIdeal.lean ====
abbrev S16384x4096 : Shape := ⟨2, ![16384, 4096]⟩
abbrev S4096x128 : Shape := ⟨2, ![4096, 128]⟩
abbrev S128 : Shape := ⟨1, ![128]⟩
abbrev S16384x128 : Shape := ⟨2, ![16384, 128]⟩
abbrev S1x128 : Shape := ⟨2, ![1, 128]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x128, .f32⟩
  | .hbm, ⟨2, _⟩ => ⟨S128, .f32⟩
  | .hbm, ⟨3, _⟩ => ⟨S16384x4096, .f32⟩
  | .hbm, ⟨4, _⟩ => ⟨S16384x128, .f32⟩
  | .hbm, ⟨5, _⟩ => ⟨S1x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S_, .f32⟩
  | .hbm, ⟨11, _⟩ => ⟨S16384x128, .f32⟩
  | .hbm, ⟨12, _⟩ => ⟨S16384x128, .f32⟩
  | .hbm, ⟨13, _⟩ => ⟨S_, .f32⟩
  | .hbm, ⟨14, _⟩ => ⟨S16384x128, .f32⟩
  | .hbm, ⟨15, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== BranchSum.lean ====
abbrev S16384x2048 : Shape := ⟨2, ![16384, 2048]⟩
abbrev S16384x128 : Shape := ⟨2, ![16384, 128]⟩
abbrev S512x2048 : Shape := ⟨2, ![512, 2048]⟩
abbrev S512x128 : Shape := ⟨2, ![512, 128]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x128, .f32⟩
  | .hbm, ⟨4, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BranchSumRefIdeal.lean ====
abbrev S16384x2048 : Shape := ⟨2, ![16384, 2048]⟩
abbrev S16384x128 : Shape := ⟨2, ![16384, 128]⟩
abbrev S16384x48 : Shape := ⟨2, ![16384, 48]⟩
abbrev S16384x3x16 : Shape := ⟨3, ![16384, 3, 16]⟩
abbrev S16384x1x16 : Shape := ⟨3, ![16384, 1, 16]⟩
abbrev S16384x16 : Shape := ⟨2, ![16384, 16]⟩
abbrev S16384x16x1 : Shape := ⟨3, ![16384, 16, 1]⟩
abbrev S16384x16x128 : Shape := ⟨3, ![16384, 16, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x128, .f32⟩
  | .hbm, ⟨4, _⟩ => ⟨S16384x48, .f32⟩
  | .hbm, ⟨5, _⟩ => ⟨S16384x3x16, .f32⟩
  | .hbm, ⟨6, _⟩ => ⟨S16384x1x16, .f32⟩
  | .hbm, ⟨7, _⟩ => ⟨S16384x16, .f32⟩
  | .hbm, ⟨8, _⟩ => ⟨S16384x16x1, .f32⟩
  | .hbm, ⟨9, _⟩ => ⟨S16384x16x128, .f32⟩
  | .hbm, ⟨10, _⟩ => ⟨S16384x16x128, .f32⟩
  | .hbm, ⟨11, _⟩ => ⟨S16384x16x128, .f32⟩
  | .hbm, ⟨12, _⟩ => ⟨S16384x1x16, .f32⟩
  | .hbm, ⟨13, _⟩ => ⟨S16384x16, .f32⟩
  | .hbm, ⟨14, _⟩ => ⟨S16384x16x1, .f32⟩
  | .hbm, ⟨15, _⟩ => ⟨S16384x16x128, .f32⟩
  | .hbm, ⟨16, _⟩ => ⟨S16384x16x128, .f32⟩
  | .hbm, ⟨17, _⟩ => ⟨S16384x16x128, .f32⟩
  | .hbm, ⟨18, _⟩ => ⟨S16384x16x128, .f32⟩
  | .hbm, ⟨19, _⟩ => ⟨S16384x1x16, .f32⟩
  | .hbm, ⟨20, _⟩ => ⟨S16384x16, .f32⟩
  | .hbm, ⟨21, _⟩ => ⟨S16384x16x1, .f32⟩
  | .hbm, ⟨22, _⟩ => ⟨S16384x16x128, .f32⟩
  | .hbm, ⟨23, _⟩ => ⟨S16384x16x128, .f32⟩
  | .hbm, ⟨24, _⟩ => ⟨S16384x16x128, .f32⟩
  | .hbm, ⟨25, _⟩ => ⟨S16384x16x128, .f32⟩
  | .hbm, ⟨26, _⟩ => ⟨S16384x2048, .f32⟩
  | .hbm, ⟨27, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== CompressValues.lean ====
abbrev S4x1024x2048 : Shape := ⟨3, ![4, 1024, 2048]⟩
abbrev S32x128 : Shape := ⟨2, ![32, 128]⟩
abbrev S4096x512 : Shape := ⟨2, ![4096, 512]⟩
abbrev S512x128 : Shape := ⟨2, ![512, 128]⟩
abbrev S128 : Shape := ⟨1, ![128]⟩
abbrev S1x4096 : Shape := ⟨2, ![1, 4096]⟩
abbrev S1x128 : Shape := ⟨2, ![1, 128]⟩
abbrev S4x1024x128 : Shape := ⟨3, ![4, 1024, 128]⟩
abbrev S1x1024x2048 : Shape := ⟨3, ![1, 1024, 2048]⟩
abbrev S1x1024x128 : Shape := ⟨3, ![1, 1024, 128]⟩
abbrev S1024x2048 : Shape := ⟨2, ![1024, 2048]⟩
abbrev S1x2048 : Shape := ⟨2, ![1, 2048]⟩
abbrev S2048x512 : Shape := ⟨2, ![2048, 512]⟩
abbrev S1024x512 : Shape := ⟨2, ![1024, 512]⟩
abbrev S1024x128 : Shape := ⟨2, ![1024, 128]⟩

abbrev nBuf : Space → Nat
  | .hbm => 10
  | .vmem => 8
  | .smem => 0
  | _ => 0

abbrev bufTy : (tb : Table) → Fin (tcTables nBuf tb) → BufTy
  | .hbm, ⟨0, _⟩ => ⟨S4x1024x2048, .f32⟩
  | .hbm, ⟨1, _⟩ => ⟨S32x128, .f32⟩
  | .hbm, ⟨2, _⟩ => ⟨S4096x512, .f32⟩
  | .hbm, ⟨3, _⟩ => ⟨S512x128, .f32⟩
  | .hbm, ⟨4, _⟩ => ⟨S128, .f32⟩
  | .hbm, ⟨5, _⟩ => ⟨S1x4096, .f32⟩
  | .hbm, ⟨6, _⟩ => ⟨S4096x512, .bf16⟩
  | .hbm, ⟨7, _⟩ => ⟨S512x128, .bf16⟩
  | .hbm, ⟨8, _⟩ => ⟨S1x128, .f32⟩
  | .hbm, ⟨9, _⟩ => ⟨S4x1024x128, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x4096, .f32⟩
  | .local _ .vmem, ⟨3, _⟩ => ⟨S4096x512, .bf16⟩
  | .local _ .vmem, ⟨4, _⟩ => ⟨S512x128, .bf16⟩
  | .local _ .vmem, ⟨5, _⟩ => ⟨S1x128, .f32⟩
  | .local _ .vmem, ⟨6, _⟩ => ⟨S1x1024x128, .bf16⟩
  | .local _ .vmem, ⟨7, _⟩ => ⟨S1x1024x128, .bf16⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CompressValuesRefIdeal.lean ====
abbrev S4x1024x2048 : Shape := ⟨3, ![4, 1024, 2048]⟩
abbrev S32x128 : Shape := ⟨2, ![32, 128]⟩
abbrev S4096x512 : Shape := ⟨2, ![4096, 512]⟩
abbrev S512x128 : Shape := ⟨2, ![512, 128]⟩
abbrev S128 : Shape := ⟨1, ![128]⟩
abbrev S4x1023x2048 : Shape := ⟨3, ![4, 1023, 2048]⟩
abbrev S4x1x2048 : Shape := ⟨3, ![4, 1, 2048]⟩
abbrev S4x1024x4096 : Shape := ⟨3, ![4, 1024, 4096]⟩
abbrev S4096 : Shape := ⟨1, ![4096]⟩
abbrev S1x1x4096 : Shape := ⟨3, ![1, 1, 4096]⟩
abbrev S4x1024x512 : Shape := ⟨3, ![4, 1024, 512]⟩
abbrev S_ : Shape := ⟨0, ![]⟩
abbrev S4x1024x128 : Shape := ⟨3, ![4, 1024, 128]⟩

abbrev nBuf : Space → Nat
  | .hbm => 33
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S32x128, .f32⟩
  | .hbm, ⟨2, _⟩ => ⟨S4096x512, .f32⟩
  | .hbm, ⟨3, _⟩ => ⟨S512x128, .f32⟩
  | .hbm, ⟨4, _⟩ => ⟨S128, .f32⟩
  | .hbm, ⟨5, _⟩ => ⟨S4x1023x2048, .f32⟩
  | .hbm, ⟨6, _⟩ => ⟨S4x1x2048, .f32⟩
  | .hbm, ⟨7, _⟩ => ⟨S4x1024x2048, .f32⟩
  | .hbm, ⟨8, _⟩ => ⟨S4x1024x4096, .f32⟩
  | .hbm, ⟨9, _⟩ => ⟨S4096, .f32⟩
  | .hbm, ⟨10, _⟩ => ⟨S1x1x4096, .f32⟩
  | .hbm, ⟨11, _⟩ => ⟨S4x1024x4096, .f32⟩
  | .hbm, ⟨12, _⟩ => ⟨S4x1024x4096, .f32⟩
  | .hbm, ⟨13, _⟩ => ⟨S4x1024x512, .f32⟩
  | .hbm, ⟨14, _⟩ => ⟨S4x1024x512, .f32⟩
  | .hbm, ⟨15, _⟩ => ⟨S4x1024x512, .f32⟩
  | .hbm, ⟨16, _⟩ => ⟨S_, .f32⟩
  | .hbm, ⟨17, _⟩ => ⟨S4x1024x512, .f32⟩
  | .hbm, ⟨18, _⟩ => ⟨S4x1024x512, .f32⟩
  | .hbm, ⟨19, _⟩ => ⟨S4x1024x512, .f32⟩
  | .hbm, ⟨20, _⟩ => ⟨S_, .f32⟩
  | .hbm, ⟨21, _⟩ => ⟨S4x1024x512, .f32⟩
  | .hbm, ⟨22, _⟩ => ⟨S4x1024x512, .f32⟩
  | .hbm, ⟨23, _⟩ => ⟨S4x1024x512, .f32⟩
  | .hbm, ⟨24, _⟩ => ⟨S_, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .hbm, ⟨31, _⟩ => ⟨S4x1024x128, .f32⟩
  | .hbm, ⟨32, _⟩ => ⟨S4x1024x128, .bf16⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== CompressKeys.lean ====
abbrev S4x1024x2048 : Shape := ⟨3, ![4, 1024, 2048]⟩
abbrev S32x128 : Shape := ⟨2, ![32, 128]⟩
abbrev S4096x512 : Shape := ⟨2, ![4096, 512]⟩
abbrev S512x128 : Shape := ⟨2, ![512, 128]⟩
abbrev S128 : Shape := ⟨1, ![128]⟩
abbrev S1x4096 : Shape := ⟨2, ![1, 4096]⟩
abbrev S1x128 : Shape := ⟨2, ![1, 128]⟩
abbrev S4x1024x128 : Shape := ⟨3, ![4, 1024, 128]⟩
abbrev S1x1024x2048 : Shape := ⟨3, ![1, 1024, 2048]⟩
abbrev S1x1024x128 : Shape := ⟨3, ![1, 1024, 128]⟩
abbrev S1024x2048 : Shape := ⟨2, ![1024, 2048]⟩
abbrev S1x2048 : Shape := ⟨2, ![1, 2048]⟩
abbrev S2048x512 : Shape := ⟨2, ![2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x1024x2048, .f32⟩
  | .hbm, ⟨1, _⟩ => ⟨S32x128, .f32⟩
  | .hbm, ⟨2, _⟩ => ⟨S4096x512, .f32⟩
  | .hbm, ⟨3, _⟩ => ⟨S512x128, .f32⟩
  | .hbm, ⟨4, _⟩ => ⟨S128, .f32⟩
  | .hbm, ⟨5, _⟩ => ⟨S1x4096, .f32⟩
  | .hbm, ⟨6, _⟩ => ⟨S4096x512, .bf16⟩
  | .hbm, ⟨7, _⟩ => ⟨S512x128, .bf16⟩
  | .hbm, ⟨8, _⟩ => ⟨S1x128, .f32⟩
  | .hbm, ⟨9, _⟩ => ⟨S4x1024x128, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x4096, .f32⟩
  | .local _ .vmem, ⟨3, _⟩ => ⟨S4096x512, .bf16⟩
  | .local _ .vmem, ⟨4, _⟩ => ⟨S512x128, .bf16⟩
  | .local _ .vmem, ⟨5, _⟩ => ⟨S1x128, .f32⟩
  | .local _ .vmem, ⟨6, _⟩ => ⟨S1x1024x128, .bf16⟩
  | .local _ .vmem, ⟨7, _⟩ => ⟨S1x1024x128, .bf16⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CompressKeysRefIdeal.lean ====
abbrev S4x1024x2048 : Shape := ⟨3, ![4, 1024, 2048]⟩
abbrev S32x128 : Shape := ⟨2, ![32, 128]⟩
abbrev S4096x512 : Shape := ⟨2, ![4096, 512]⟩
abbrev S512x128 : Shape := ⟨2, ![512, 128]⟩
abbrev S128 : Shape := ⟨1, ![128]⟩
abbrev S4x1023x2048 : Shape := ⟨3, ![4, 1023, 2048]⟩
abbrev S4x1x2048 : Shape := ⟨3, ![4, 1, 2048]⟩
abbrev S4x1024x4096 : Shape := ⟨3, ![4, 1024, 4096]⟩
abbrev S4096 : Shape := ⟨1, ![4096]⟩
abbrev S1x1x4096 : Shape := ⟨3, ![1, 1, 4096]⟩
abbrev S4x1024x512 : Shape := ⟨3, ![4, 1024, 512]⟩
abbrev S_ : Shape := ⟨0, ![]⟩
abbrev S4x1024x128 : Shape := ⟨3, ![4, 1024, 128]⟩
abbrev S4x1024 : Shape := ⟨2, ![4, 1024]⟩
abbrev S4x1024x1 : Shape := ⟨3, ![4, 1024, 1]⟩
abbrev S1x1x128 : Shape := ⟨3, ![1, 1, 128]⟩

abbrev nBuf : Space → Nat
  | .hbm => 49
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S32x128, .f32⟩
  | .hbm, ⟨2, _⟩ => ⟨S4096x512, .f32⟩
  | .hbm, ⟨3, _⟩ => ⟨S512x128, .f32⟩
  | .hbm, ⟨4, _⟩ => ⟨S128, .f32⟩
  | .hbm, ⟨5, _⟩ => ⟨S4x1023x2048, .f32⟩
  | .hbm, ⟨6, _⟩ => ⟨S4x1x2048, .f32⟩
  | .hbm, ⟨7, _⟩ => ⟨S4x1024x2048, .f32⟩
  | .hbm, ⟨8, _⟩ => ⟨S4x1024x4096, .f32⟩
  | .hbm, ⟨9, _⟩ => ⟨S4096, .f32⟩
  | .hbm, ⟨10, _⟩ => ⟨S1x1x4096, .f32⟩
  | .hbm, ⟨11, _⟩ => ⟨S4x1024x4096, .f32⟩
  | .hbm, ⟨12, _⟩ => ⟨S4x1024x4096, .f32⟩
  | .hbm, ⟨13, _⟩ => ⟨S4x1024x512, .f32⟩
  | .hbm, ⟨14, _⟩ => ⟨S4x1024x512, .f32⟩
  | .hbm, ⟨15, _⟩ => ⟨S4x1024x512, .f32⟩
  | .hbm, ⟨16, _⟩ => ⟨S_, .f32⟩
  | .hbm, ⟨17, _⟩ => ⟨S4x1024x512, .f32⟩
  | .hbm, ⟨18, _⟩ => ⟨S4x1024x512, .f32⟩
  | .hbm, ⟨19, _⟩ => ⟨S4x1024x512, .f32⟩
  | .hbm, ⟨20, _⟩ => ⟨S_, .f32⟩
  | .hbm, ⟨21, _⟩ => ⟨S4x1024x512, .f32⟩
  | .hbm, ⟨22, _⟩ => ⟨S4x1024x512, .f32⟩
  | .hbm, ⟨23, _⟩ => ⟨S4x1024x512, .f32⟩
  | .hbm, ⟨24, _⟩ => ⟨S_, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .hbm, ⟨31, _⟩ => ⟨S4x1024x128, .f32⟩
  | .hbm, ⟨32, _⟩ => ⟨S4x1024x128, .f32⟩
  | .hbm, ⟨33, _⟩ => ⟨S_, .f32⟩
  | .hbm, ⟨34, _⟩ => ⟨S4x1024, .f32⟩
  | .hbm, ⟨35, _⟩ => ⟨S4x1024x1, .f32⟩
  | .hbm, ⟨36, _⟩ => ⟨S_, .f32⟩
  | .hbm, ⟨37, _⟩ => ⟨S4x1024x1, .f32⟩
  | .hbm, ⟨38, _⟩ => ⟨S4x1024x1, .f32⟩
  | .hbm, ⟨39, _⟩ => ⟨S_, .f32⟩
  | .hbm, ⟨40, _⟩ => ⟨S4x1024x1, .f32⟩
  | .hbm, ⟨41, _⟩ => ⟨S4x1024x1, .f32⟩
  | .hbm, ⟨42, _⟩ => ⟨S4x1024x1, .f32⟩
  | .hbm, ⟨43, _⟩ => ⟨S4x1024x128, .f32⟩
  | .hbm, ⟨44, _⟩ => ⟨S4x1024x128, .f32⟩
  | .hbm, ⟨45, _⟩ => ⟨S1x1x128, .f32⟩
  | .hbm, ⟨46, _⟩ => ⟨S4x1024x128, .f32⟩
  | .hbm, ⟨47, _⟩ => ⟨S4x1024x128, .f32⟩
  | .hbm, ⟨48, _⟩ => ⟨S4x1024x128, .bf16⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Softmax.lean ====
module

public import Idealize.ShloMosaic.Lib.IdealHost
public import Mathlib.Data.Finset.Max
public import Mathlib.Algebra.BigOperators.Fin

/-! The softmax average over the keys a mask admits, and the two ways the programs write it. -/

@[expose] public section

noncomputable section

namespace Cert.Softmax

open Idealize.ShloMosaic
open scoped BigOperators

variable {ι κ : Type} [DecidableEq κ]

/-- The weight of one key before normalization. -/
def weight (A : Finset ι) (s : ι → EReal) (i : ι) : EReal := Ideal.exp (s i - A.sup s)

/-- The sum of the weights. -/
def total (A : Finset ι) (s : ι → EReal) : EReal := ∑ i ∈ A, weight A s i

/-- The average of the values over the keys of a set, each weighted by the exponential of its score. -/
def average (A : Finset ι) (s v : ι → EReal) : EReal := ∑ i ∈ A, Ideal.div (weight A s i) (total A s) * v i

/-- An exponential is not negative. -/
theorem exp_nonneg (x : EReal) : 0 ≤ Ideal.exp x := by
  induction x with
  | bot => exact le_refl _
  | top => exact le_top
  | coe a => exact EReal.coe_nonneg.mpr (Real.exp_pos a).le

/-- The key of the greatest score has weight one, so the total is at least one. -/
theorem one_le_total {A : Finset ι} (hA : A.Nonempty) {s : ι → EReal} (hs : ∀ i ∈ A, ∃ r : ℝ, s i = r) : 1 ≤ total A s := by
  obtain ⟨i, hi, e⟩ := Finset.exists_mem_eq_sup A hA s
  obtain ⟨r, hr⟩ := hs i hi
  have h1 : weight A s i = 1 := by
    unfold weight
    rw [e, hr, ← EReal.coe_sub, sub_self]
    show ((Real.exp 0 : ℝ) : EReal) = 1
    rw [Real.exp_zero]; rfl
  rw [← h1]
  exact Finset.single_le_sum (f := weight A s) (fun j _ => exp_nonneg _) hi

/-- The maximum of the masked scores is the maximum over the admitted keys. -/
theorem fold_masked [Fintype ι] (ok : ι → Prop) [DecidablePred ok] (s : ι → EReal) :
    Finset.univ.fold max ⊥ (fun i => if ok i then s i else ⊥) = (Finset.univ.filter ok).sup s := by
  show Finset.univ.sup (fun i => if ok i then s i else ⊥) = _
  rw [Finset.sup_ite]
  simp

/-- The exponential of a masked score is the weight of an admitted key and zero at any other. -/
theorem exp_masked (A : Finset ι) (p : Prop) [Decidable p] (s : ι → EReal) (i : ι) :
    Ideal.exp ((if p then s i else ⊥) - A.sup s) = if p then weight A s i else 0 := by
  split_ifs
  · rfl
  · rw [EReal.bot_sub]; rfl

/-- A plain softmax of scores masked to minus infinity averages over the admitted keys. -/
theorem plain_eq [Fintype ι] (ok : ι → Prop) [DecidablePred ok] (s v : ι → EReal) (hne : (Finset.univ.filter ok).Nonempty)
    (hs : ∀ i, ok i → ∃ r : ℝ, s i = r) :
    ∑ i, Ideal.div (Ideal.exp ((if ok i then s i else ⊥) - Finset.univ.fold max ⊥ fun j => if ok j then s j else ⊥))
        (∑ k, Ideal.exp ((if ok k then s k else ⊥) - Finset.univ.fold max ⊥ fun j => if ok j then s j else ⊥)) * v i
      = average (Finset.univ.filter ok) s v := by
  have hz : total (Finset.univ.filter ok) s ≠ 0 := fun e => by
    have := one_le_total hne (s := s) fun i hi => hs i (Finset.mem_filter.mp hi).2
    rw [e] at this; exact absurd this (by simp)
  simp only [fold_masked, exp_masked]
  have ht : ∑ k, (if ok k then weight (Finset.univ.filter ok) s k else 0) = total (Finset.univ.filter ok) s :=
    (Finset.sum_filter _ _).symm
  rw [ht]
  unfold average
  rw [Finset.sum_filter]
  refine Finset.sum_congr rfl fun i _ => ?_
  split_ifs
  · rfl
  · rw [Ideal.zero_div hz, zero_mul]

/-- The same with the masked weights set to zero and the divisor kept from zero by a bound that does not matter. -/
theorem guarded_eq [Fintype ι] (ok : ι → Prop) [DecidablePred ok] (s v : ι → EReal) (hne : (Finset.univ.filter ok).Nonempty)
    (hs : ∀ i, ok i → ∃ r : ℝ, s i = r) (ε : EReal) (hε : ε ≤ 1) :
    ∑ i, v i * Ideal.div (if ok i then Ideal.exp ((if ok i then s i else ⊥) - Finset.univ.fold max ⊥ fun j => if ok j then s j else ⊥) else 0)
        (max (∑ k, if ok k then Ideal.exp ((if ok k then s k else ⊥) - Finset.univ.fold max ⊥ fun j => if ok j then s j else ⊥) else 0) ε)
      = average (Finset.univ.filter ok) s v := by
  have h1 := one_le_total hne (s := s) fun i hi => hs i (Finset.mem_filter.mp hi).2
  have hz : total (Finset.univ.filter ok) s ≠ 0 := fun e => by rw [e] at h1; exact absurd h1 (by simp)
  have hw : ∀ i, (if ok i then Ideal.exp ((if ok i then s i else ⊥) - Finset.univ.fold max ⊥ fun j => if ok j then s j else ⊥) else 0)
      = if ok i then weight (Finset.univ.filter ok) s i else 0 := fun i => by
    rw [fold_masked, exp_masked]; split_ifs <;> rfl
  simp only [hw]
  have ht : ∑ k, (if ok k then weight (Finset.univ.filter ok) s k else 0) = total (Finset.univ.filter ok) s :=
    (Finset.sum_filter _ _).symm
  rw [ht, max_eq_left (hε.trans h1)]
  unfold average
  rw [Finset.sum_filter]
  refine Finset.sum_congr rfl fun i _ => ?_
  split_ifs
  · rw [mul_comm]
  · rw [Ideal.zero_div hz, mul_zero]

/-- The average does not depend on how the keys are named. -/
theorem average_image (A : Finset ι) (e : ι → κ) (he : Set.InjOn e A) (s v : κ → EReal) :
    average (A.image e) s v = average A (s ∘ e) (v ∘ e) := by
  have hw : ∀ i, weight (A.image e) s (e i) = weight A (s ∘ e) i := fun i => by
    unfold weight; rw [Finset.sup_image]; rfl
  have ht : total (A.image e) s = total A (s ∘ e) := by
    unfold total
    rw [Finset.sum_image he]
    exact Finset.sum_congr rfl fun i _ => hw i
  unfold average
  rw [Finset.sum_image he, ht]
  exact Finset.sum_congr rfl fun i _ => by rw [hw]; rfl

/-- A sum over 640 lanes is the sum over its five runs of 128. -/
theorem sum_tiles (f : Fin 640 → EReal) :
    ∑ L, f L = (∑ x : Fin 128, f ⟨x.val, by omega⟩) + (∑ x : Fin 128, f ⟨128 + x.val, by omega⟩) + (∑ x : Fin 128, f ⟨256 + x.val, by omega⟩)
      + (∑ x : Fin 128, f ⟨384 + x.val, by omega⟩) + ∑ x : Fin 128, f ⟨512 + x.val, by omega⟩ := by
  rw [Fin.sum_univ_add (a := 512) (b := 128) f, Fin.sum_univ_add (a := 384) (b := 128), Fin.sum_univ_add (a := 256) (b := 128),
    Fin.sum_univ_add (a := 128) (b := 128)]
  rfl

end Cert.Softmax

end
-- ==== Proof.WindowTiles.lean ====
module

public import proofs.«01_k».proof.Proof.Softmax
public import proofs.«01_k».proof.Proof.Gen.WindowIdeal.Value
public import Idealize.ShloMosaic.Lib.Pointwise
public import Idealize.ShloMosaic.Lib.WordCmp
public import Idealize.ShloMosaic.Lib.Pipeline.ValueKit

/-! One grid point of the sliding-window attention: 128 queries of four heads against five tiles of 128 keys. -/

@[expose] public section

set_option maxRecDepth 16384

noncomputable section

namespace Cert.WindowIdeal.Tiles

open Cert.WindowIdeal Cert.WindowIdeal.Gen Idealize.ShloMosaic Idealize.ShloMosaic.WordCmp
open scoped BigOperators

/-- The first tile of the window of query block `q`, four tiles back, as the kernel's word holds it. -/
abbrev firstWord (i : grid0.Coords) : BitVec 32 :=
  let v0 : BitVec 32 := Scalar.muli (BitVec.ofNat 32 (i 1).val) 128#32
  let v10 : BitVec 32 := Scalar.divsi v0 128#32
  let v15 : BitVec 32 := Scalar.subi (Scalar.extui (Scalar.cmpi .sgt v0 0#32)) (Scalar.extui (Scalar.cmpi .slt v0 0#32))
  let v24 : BitVec 1 := Scalar.andi (Scalar.cmpi .ne v15 1#32) (Scalar.cmpi .ne (Scalar.remsi v0 128#32) 0#32)
  Scalar.subi (Scalar.select v24 (Scalar.subi v10 1#32) v10) 4#32

/-- That word is the block's number less four. -/
theorem firstWord_eq : ∀ (g : Fin 4) (q : Fin 128), firstWord (fun a => match a with | ⟨0, _⟩ => g | ⟨1, _⟩ => q) = BitVec.ofInt 32 ((q.val : Int) - 4) := by
  decide +kernel

/-- The lanes of a tile of keys. -/
abbrev lanes : IVec S1x128 32 := iota .tc S1x128 32 [1] iota_S1x128_d1_w32

/-- The position of lane `l` of tile `j` of the window of block `q`; negative before the sequence begins. -/
def pos (q j l : Nat) : Int := ((q : Int) - 4 + j) * 128 + l

/-- The lanes a query at `t` sees: not after it, fewer than 512 before it, and within the sequence. -/
def Seen (t : Nat) (p : Int) : Prop := p ≤ t ∧ (t : Int) - 512 < p ∧ 0 ≤ p

instance (t : Nat) (p : Int) : Decidable (Seen t p) := inferInstanceAs (Decidable (_ ∧ _ ∧ _))

/-- The word of a position. -/
theorem pos_word (q j l : Nat) (hq : q < 128) (hj : j ≤ 4) (hl : l < 128) :
    (IntOp.addi (IntOp.muli (IntOp.addi (BitVec.ofInt 32 ((q : Int) - 4)) (BitVec.ofNat 32 j)) 128#32) (BitVec.ofNat 32 l)).toInt = pos q j l := by
  have e : IntOp.addi (IntOp.muli (IntOp.addi (BitVec.ofInt 32 ((q : Int) - 4)) (BitVec.ofNat 32 j)) 128#32) (BitVec.ofNat 32 l) = BitVec.ofInt 32 (pos q j l) := by
    unfold pos
    rw [BitVec.ofInt_add, BitVec.ofInt_mul, BitVec.ofInt_add, BitVec.ofInt_natCast, BitVec.ofInt_natCast]
    rfl
  rw [e, BitVec.toInt_ofInt]
  unfold pos
  exact Int.bmod_eq_of_le (by norm_num; omega) (by norm_num; omega)

/-- The kernel's three comparisons select exactly the lanes seen. -/
theorem select_seen {α : Type} (K T : BitVec 32) (t : Nat) (p : Int) (ht : t < 16384) (hK : K.toInt = p) (hT : T.toInt = t) (a b : α) :
    Scalar.select (IntOp.andi (IntOp.andi (IntOp.cmpi .sle K T) (IntOp.cmpi .sgt K (IntOp.subi T 512#32))) (IntOp.cmpi .sge K 0#32)) a b
      = if Seen t p then a else b := by
  have hS : (IntOp.subi T 512#32).toInt = (t : Int) - 512 := by
    show (T - 512#32).toInt = _
    rw [BitVec.toInt_sub, hT, show (512#32 : BitVec 32).toInt = 512 from rfl]
    exact Int.bmod_eq_of_le (by norm_num; omega) (by norm_num; omega)
  rw [cmpi_sle_eq, cmpi_sgt_eq, cmpi_sge_eq, hS, hK, hT, andi_ofBool, andi_ofBool, select_ofBool]
  have h0 : (0#32 : BitVec 32).toInt = 0 := rfl
  rw [h0]
  unfold Seen
  simp only [Bool.and_eq_true, decide_eq_true_eq, and_assoc]
  exact if_congr Iff.rfl rfl rfl

/-- The masking constant is minus infinity. -/
theorem mask_eq : Named.named (F := Ideal) (φ := .f32) κ "mask" 0xF149F2CA#32 = (⊥ : EReal) := rfl

/-- The query positions of the 512 rows: four heads, each 128 rows long. -/
theorem row_word (i : grid0.Coords) (ρ : Fin 512) : (k0_pay2 i (ix2 ρ 0)).toInt = ((i 1).val * 128 + ρ.val % 128 : Nat) := by
  have hi : (i 1).val < 128 := (i 1).isLt
  have key : ∀ a : Nat, a < 128 → (IntOp.addi (Scalar.muli (BitVec.ofNat 32 (i 1).val) 128#32) (BitVec.ofNat 32 a)).toInt = ((i 1).val * 128 + a : Nat) := fun a ha => by
    have e : IntOp.addi (Scalar.muli (BitVec.ofNat 32 (i 1).val) 128#32) (BitVec.ofNat 32 a) = BitVec.ofNat 32 ((i 1).val * 128 + a) := by
      rw [BitVec.ofNat_add, BitVec.ofNat_mul]; rfl
    rw [e]
    exact toInt_ofNat_of_lt (by norm_num; omega)
  unfold k0_pay2
  pointwise
  have hρ := ρ.isLt
  split_ifs <;> (rw [key _ (by omega)]; congr 2; omega)

section Tile

variable (i : grid0.Coords) (v5 : FVec Ideal S512x128 .bf16) (K : Vec Ideal S1x1x128x128 .bf16) (ρ : Fin 512) (l : Fin 128)

/-- The score of row `ρ` and lane `l` of a tile, masked. -/
def tileScore (j : Nat) : EReal :=
  if Seen ((i 1).val * 128 + ρ.val % 128) (pos (i 1).val j l.val) then ∑ x : Fin 128, v5 (ix2 ρ x) * K (ix4 0 0 x l) else ⊥

/-- The words of a grid point's tile are its block number less four, plus the tile's number. -/
theorem firstWord_at : firstWord i = BitVec.ofInt 32 (((i 1).val : Int) - 4) := by
  have h : i = (fun a => match a with | ⟨0, _⟩ => i 0 | ⟨1, _⟩ => i 1) := funext fun a => by fin_cases a <;> rfl
  rw [h]; exact firstWord_eq _ _

/-- The query's position lies in the sequence. -/
theorem row_lt : (i 1).val * 128 + ρ.val % 128 < 16384 := by
  have hi : (i 1).val < 128 := (i 1).isLt
  omega

/-- The position word of a lane of tile `j`. -/
theorem lane_word (j : Nat) (hj : j ≤ 4) (w : BitVec 32) (hw : w = BitVec.ofNat 32 j) :
    (IntOp.addi (Scalar.muli (Scalar.addi (firstWord i) w) 128#32) (BitVec.ofNat 32 l.val)).toInt = pos (i 1).val j l.val := by
  subst hw
  rw [firstWord_at]
  exact pos_word _ _ _ (i 1).isLt hj l.isLt

/-- The first tile's scores. -/
theorem tile0 : k0_pay5 (F := Ideal) v5 (k0_pay2 i) (k0_pay3 i) (k0_pay4 i) 512#32 K (ix2 ρ l) = tileScore i v5 K ρ l 0 := by
  have hk : (k0_pay3 i (ix2 0 l)).toInt = pos (i 1).val 0 l.val := by
    refine Eq.trans (congrArg BitVec.toInt ?_) (lane_word i l 0 (by omega) 0#32 rfl)
    unfold k0_pay3
    pointwise
    rfl
  have h4 : k0_pay4 i (ix2 ρ l) = IntOp.cmpi .sle (k0_pay3 i (ix2 0 l)) (k0_pay2 i (ix2 ρ 0)) := by
    unfold k0_pay4
    generalize k0_pay3 i = a
    generalize k0_pay2 i = b
    pointwise
  have h : k0_pay5 (F := Ideal) v5 (k0_pay2 i) (k0_pay3 i) (k0_pay4 i) 512#32 K (ix2 ρ l)
      = Scalar.select (IntOp.andi (IntOp.andi (k0_pay4 i (ix2 ρ l)) (IntOp.cmpi .sgt (k0_pay3 i (ix2 0 l)) (IntOp.subi (k0_pay2 i (ix2 ρ 0)) 512#32))) (IntOp.cmpi .sge (k0_pay3 i (ix2 0 l)) 0#32))
        (∑ x : Fin 128, v5 (ix2 ρ x) * K (ix4 0 0 x l)) (Named.named (F := Ideal) (φ := .f32) κ "mask" 0xF149F2CA#32) := by
    unfold k0_pay5
    generalize k0_pay3 i = a
    generalize k0_pay2 i = b
    generalize k0_pay4 i = d
    pointwise
  rw [h, h4, select_seen _ _ _ _ (row_lt i ρ) hk (row_word i ρ), mask_eq]
  rfl

/-- The second tile's scores. -/
theorem tile1 : k0_pay6 (F := Ideal) v5 (k0_pay2 i) (firstWord i) lanes K (ix2 ρ l) = tileScore i v5 K ρ l 1 := by
  have h : k0_pay6 (F := Ideal) v5 (k0_pay2 i) (firstWord i) lanes K (ix2 ρ l)
      = Scalar.select (IntOp.andi (IntOp.andi (IntOp.cmpi .sle (IntOp.addi (Scalar.muli (Scalar.addi (firstWord i) 1#32) 128#32) (BitVec.ofNat 32 l.val)) (k0_pay2 i (ix2 ρ 0))) (IntOp.cmpi .sgt (IntOp.addi (Scalar.muli (Scalar.addi (firstWord i) 1#32) 128#32) (BitVec.ofNat 32 l.val)) (IntOp.subi (k0_pay2 i (ix2 ρ 0)) 512#32))) (IntOp.cmpi .sge (IntOp.addi (Scalar.muli (Scalar.addi (firstWord i) 1#32) 128#32) (BitVec.ofNat 32 l.val)) 0#32))
        (∑ x : Fin 128, v5 (ix2 ρ x) * K (ix4 0 0 x l)) (Named.named (F := Ideal) (φ := .f32) κ "mask" 0xF149F2CA#32) := by
    unfold k0_pay6
    generalize k0_pay2 i = b
    generalize firstWord i = w
    pointwise
  rw [h, select_seen _ _ _ _ (row_lt i ρ) (lane_word i l 1 (by omega) 1#32 rfl) (row_word i ρ), mask_eq]
  rfl

/-- The third tile's scores. -/
theorem tile2 : k0_pay7 (F := Ideal) v5 (k0_pay2 i) lanes (Scalar.addi (firstWord i) 2#32) K (ix2 ρ l) = tileScore i v5 K ρ l 2 := by
  have h : k0_pay7 (F := Ideal) v5 (k0_pay2 i) lanes (Scalar.addi (firstWord i) 2#32) K (ix2 ρ l)
      = Scalar.select (IntOp.andi (IntOp.andi (IntOp.cmpi .sle (IntOp.addi (Scalar.muli (Scalar.addi (firstWord i) 2#32) 128#32) (BitVec.ofNat 32 l.val)) (k0_pay2 i (ix2 ρ 0))) (IntOp.cmpi .sgt (IntOp.addi (Scalar.muli (Scalar.addi (firstWord i) 2#32) 128#32) (BitVec.ofNat 32 l.val)) (IntOp.subi (k0_pay2 i (ix2 ρ 0)) 512#32))) (IntOp.cmpi .sge (IntOp.addi (Scalar.muli (Scalar.addi (firstWord i) 2#32) 128#32) (BitVec.ofNat 32 l.val)) 0#32))
        (∑ x : Fin 128, v5 (ix2 ρ x) * K (ix4 0 0 x l)) (Named.named (F := Ideal) (φ := .f32) κ "mask" 0xF149F2CA#32) := by
    unfold k0_pay7
    generalize k0_pay2 i = b
    generalize Scalar.addi (firstWord i) 2#32 = w
    pointwise
  rw [h, select_seen _ _ _ _ (row_lt i ρ) (lane_word i l 2 (by omega) 2#32 rfl) (row_word i ρ), mask_eq]
  rfl

/-- The fourth tile's masked scores, as the last payload writes them. -/
def fourth : FVec Ideal S512x128 .f32 :=
  select (k0_pay8 (k0_pay2 i) (firstWord i) lanes)
    (matmul dot_S512x128_S128x128_S512x128_1_0_0_1_n_n none v5 (k0_pay9 (F := Ideal) K) (constant S512x128 .f32 0x00000000#32))
    (broadcast S512x128 (Named.named (F := Ideal) (φ := .f32) κ "mask" 0xF149F2CA#32))

/-- The fourth tile's scores. -/
theorem tile3 : fourth i v5 K (ix2 ρ l) = tileScore i v5 K ρ l 3 := by
  have h8 : k0_pay8 (k0_pay2 i) (firstWord i) lanes (ix2 ρ l)
      = IntOp.andi (IntOp.andi (IntOp.cmpi .sle (IntOp.addi (Scalar.muli (Scalar.addi (firstWord i) 3#32) 128#32) (BitVec.ofNat 32 l.val)) (k0_pay2 i (ix2 ρ 0))) (IntOp.cmpi .sgt (IntOp.addi (Scalar.muli (Scalar.addi (firstWord i) 3#32) 128#32) (BitVec.ofNat 32 l.val)) (IntOp.subi (k0_pay2 i (ix2 ρ 0)) 512#32))) (IntOp.cmpi .sge (IntOp.addi (Scalar.muli (Scalar.addi (firstWord i) 3#32) 128#32) (BitVec.ofNat 32 l.val)) 0#32) := by
    unfold k0_pay8
    generalize k0_pay2 i = b
    generalize firstWord i = w
    pointwise
  have h : fourth i v5 K (ix2 ρ l) = Scalar.select (k0_pay8 (k0_pay2 i) (firstWord i) lanes (ix2 ρ l)) (∑ x : Fin 128, v5 (ix2 ρ x) * K (ix4 0 0 x l)) (Named.named (F := Ideal) (φ := .f32) κ "mask" 0xF149F2CA#32) := by
    unfold fourth k0_pay9
    generalize k0_pay8 (k0_pay2 i) (firstWord i) lanes = d
    pointwise
  rw [h, h8, select_seen _ _ _ _ (row_lt i ρ) (lane_word i l 3 (by omega) 3#32 rfl) (row_word i ρ), mask_eq]
  rfl

/-- The fifth tile's masked scores are written as the second's, with the block's own tile. -/
def fifth : FVec Ideal S512x128 .f32 := k0_pay7 (F := Ideal) v5 (k0_pay2 i) lanes (Scalar.addi (firstWord i) 4#32) K

/-- The fifth tile's scores. -/
theorem tile4 : fifth i v5 K (ix2 ρ l) = tileScore i v5 K ρ l 4 := by
  have h : k0_pay7 (F := Ideal) v5 (k0_pay2 i) lanes (Scalar.addi (firstWord i) 4#32) K (ix2 ρ l)
      = Scalar.select (IntOp.andi (IntOp.andi (IntOp.cmpi .sle (IntOp.addi (Scalar.muli (Scalar.addi (firstWord i) 4#32) 128#32) (BitVec.ofNat 32 l.val)) (k0_pay2 i (ix2 ρ 0))) (IntOp.cmpi .sgt (IntOp.addi (Scalar.muli (Scalar.addi (firstWord i) 4#32) 128#32) (BitVec.ofNat 32 l.val)) (IntOp.subi (k0_pay2 i (ix2 ρ 0)) 512#32))) (IntOp.cmpi .sge (IntOp.addi (Scalar.muli (Scalar.addi (firstWord i) 4#32) 128#32) (BitVec.ofNat 32 l.val)) 0#32))
        (∑ x : Fin 128, v5 (ix2 ρ x) * K (ix4 0 0 x l)) (Named.named (F := Ideal) (φ := .f32) κ "mask" 0xF149F2CA#32) := by
    unfold k0_pay7
    generalize k0_pay2 i = b
    generalize Scalar.addi (firstWord i) 4#32 = w
    pointwise
  unfold fifth
  rw [h, select_seen _ _ _ _ (row_lt i ρ) (lane_word i l 4 (by omega) 4#32 rfl) (row_word i ρ), mask_eq]
  rfl

end Tile

section Soft

/-- Five tiles side by side. -/
def joined (a b c d e : FVec Ideal S512x128 .f32) : FVec Ideal S512x640 .f32 :=
  concatenate S512x640 1 [⟨S512x128, a⟩, ⟨S512x128, b⟩, ⟨S512x128, c⟩, ⟨S512x128, d⟩, ⟨S512x128, e⟩] concatenates_S512x128_S512x128_S512x128_S512x128_S512x128_S512x640_d1

/-- A softmax over the 640 lanes of each row. -/
def soft (S : FVec Ideal S512x640 .f32) : FVec Ideal S512x640 .bf16 :=
  have top : FVec Ideal S512 .f32 := multiReduction .maximumf [1] S512 S 0xFF800000#32 reduces_S512x640_S512 (.inl rfl) rfl
  have e : FVec Ideal S512x640 .f32 := exp (subf S (broadcastTo S512x640 (shapeCast S512x1 top shapeCasts_S512_S512x1) broadcasts_S512x1_S512x640))
  have z : FVec Ideal S512 .f32 := multiReduction .add [1] S512 e 0x00000000#32 reduces_S512x640_S512 (.inl rfl) rfl
  truncf .bf16 (divf e (broadcastTo S512x640 (shapeCast S512x1 z shapeCasts_S512_S512x1) broadcasts_S512x1_S512x640)) bitsLt_bf16_f32

/-- The weights of a grid point are the softmax of its five tiles of scores. -/
theorem pay10_eq (i : grid0.Coords) (v5 : FVec Ideal S512x128 .bf16) (a b c : FVec Ideal S512x128 .f32) (K3 K4 : Vec Ideal S1x1x128x128 .bf16) :
    k0_pay10 (F := Ideal) v5 (k0_pay2 i) (firstWord i) lanes a b c (k0_pay8 (k0_pay2 i) (firstWord i) lanes) (k0_pay9 (F := Ideal) K3) (constant S512x128 .f32 0x00000000#32) K4
      = soft (joined a b c (fourth i v5 K3) (fifth i v5 K4)) := rfl

/-- A row's bound from below in the maximum is minus infinity. -/
theorem ofBits_bot : Ideal.ofBits .f32 0xFF800000#32 = (⊥ : EReal) := by
  simp [Ideal.ofBits, Ideal.ieee, -EReal.coe_mul]
  try norm_num

/-- The softmax of a row at a lane. -/
theorem soft_apply (S : FVec Ideal S512x640 .f32) (ρ : Fin 512) (L : Fin 640) :
    soft S (ix2 ρ L) = Ideal.div (Ideal.exp (S (ix2 ρ L) - Finset.univ.fold max ⊥ fun k : Fin 640 => S (ix2 ρ k)))
      (∑ k : Fin 640, Ideal.exp (S (ix2 ρ k) - Finset.univ.fold max ⊥ fun k : Fin 640 => S (ix2 ρ k))) := by
  rw [← ofBits_bot]
  unfold soft
  pointwise

/-- A lane of the five tiles. -/
theorem joined_apply (a b c d e : FVec Ideal S512x128 .f32) (ρ : Fin 512) (L : Fin 640) (f : Nat → Fin 128 → EReal)
    (ha : ∀ l, a (ix2 ρ l) = f 0 l) (hb : ∀ l, b (ix2 ρ l) = f 1 l) (hc : ∀ l, c (ix2 ρ l) = f 2 l) (hd : ∀ l, d (ix2 ρ l) = f 3 l) (he : ∀ l, e (ix2 ρ l) = f 4 l) :
    joined a b c d e (ix2 ρ L) = f (L.val / 128) ⟨L.val % 128, Nat.mod_lt _ (by norm_num)⟩ := by
  unfold joined
  pointwise
  have hL := L.isLt
  split_ifs
  all_goals first | rw [ha] | rw [hb] | rw [hc] | rw [hd] | rw [he]
  all_goals (congr 1 <;> first | omega | exact Fin.ext (by dsimp only; omega))

end Soft

section Block

variable (i : grid0.Coords) (v5 : FVec Ideal S512x128 .bf16) (K0 K1 K2 K3 K4 : Vec Ideal S1x1x128x128 .bf16) (V0 V1 V2 V3 V4 : Vec Ideal S128x128 .bf16)

/-- The weights of a grid point, as the kernel computes them. -/
def weights : FVec Ideal S512x640 .bf16 :=
  k0_pay10 (F := Ideal) v5 (k0_pay2 i) (firstWord i) lanes (k0_pay5 (F := Ideal) v5 (k0_pay2 i) (k0_pay3 i) (k0_pay4 i) 512#32 K0)
    (k0_pay6 (F := Ideal) v5 (k0_pay2 i) (firstWord i) lanes K1) (k0_pay7 (F := Ideal) v5 (k0_pay2 i) lanes (Scalar.addi (firstWord i) 2#32) K2)
    (k0_pay8 (k0_pay2 i) (firstWord i) lanes) (k0_pay9 (F := Ideal) K3) (constant S512x128 .f32 0x00000000#32) K4

/-- The rows a grid point computes: its weights times its values, tile by tile. -/
def block : FVec Ideal S512x128 .f32 :=
  k0_pay13 (F := Ideal) (weights i v5 K0 K1 K2 K3 K4) (k0_pay11 (F := Ideal)) (extractStridedSlice S512x128 ![0, 0] (weights i v5 K0 K1 K2 K3 K4) slices_S512x640_o0_0_S512x128) V0 V1 V2 V3 V4

/-- The products with the five tiles of values, added up. -/
theorem product_apply (P : FVec Ideal S512x640 .bf16) (ρ : Fin 512) (d : Fin 128) :
    k0_pay13 (F := Ideal) P (k0_pay11 (F := Ideal)) (extractStridedSlice S512x128 ![0, 0] P slices_S512x640_o0_0_S512x128) V0 V1 V2 V3 V4 (ix2 ρ d)
      = (∑ x : Fin 128, P (ix2 ρ ⟨x.val, by omega⟩) * V0 (ix2 x d)) + (∑ x : Fin 128, P (ix2 ρ ⟨128 + x.val, by omega⟩) * V1 (ix2 x d)) + (∑ x : Fin 128, P (ix2 ρ ⟨256 + x.val, by omega⟩) * V2 (ix2 x d))
        + (∑ x : Fin 128, P (ix2 ρ ⟨384 + x.val, by omega⟩) * V3 (ix2 x d)) + ∑ x : Fin 128, P (ix2 ρ ⟨512 + x.val, by omega⟩) * V4 (ix2 x d) := by
  unfold k0_pay13 k0_pay11
  pointwise

/-- A row of a grid point: the softmax of its masked scores over 640 lanes, applied to the lanes' values. -/
theorem block_apply (ρ : Fin 512) (d : Fin 128) (k v : Nat → Fin 128 → Fin 128 → EReal)
    (hK0 : ∀ x l, K0 (ix4 0 0 x l) = k 0 x l) (hK1 : ∀ x l, K1 (ix4 0 0 x l) = k 1 x l) (hK2 : ∀ x l, K2 (ix4 0 0 x l) = k 2 x l)
    (hK3 : ∀ x l, K3 (ix4 0 0 x l) = k 3 x l) (hK4 : ∀ x l, K4 (ix4 0 0 x l) = k 4 x l)
    (hV0 : ∀ x, V0 (ix2 x d) = v 0 x d) (hV1 : ∀ x, V1 (ix2 x d) = v 1 x d) (hV2 : ∀ x, V2 (ix2 x d) = v 2 x d)
    (hV3 : ∀ x, V3 (ix2 x d) = v 3 x d) (hV4 : ∀ x, V4 (ix2 x d) = v 4 x d)
    (S : Fin 640 → EReal) (hS : ∀ L, S L = if Seen ((i 1).val * 128 + ρ.val % 128) (pos (i 1).val (L.val / 128) (L.val % 128))
      then ∑ x : Fin 128, v5 (ix2 ρ x) * k (L.val / 128) x ⟨L.val % 128, Nat.mod_lt _ (by norm_num)⟩ else ⊥) :
    block i v5 K0 K1 K2 K3 K4 V0 V1 V2 V3 V4 (ix2 ρ d)
      = ∑ L : Fin 640, Ideal.div (Ideal.exp (S L - Finset.univ.fold max ⊥ S)) (∑ j : Fin 640, Ideal.exp (S j - Finset.univ.fold max ⊥ S))
          * v (L.val / 128) ⟨L.val % 128, Nat.mod_lt _ (by norm_num)⟩ d := by
  have hj : ∀ L : Fin 640, joined (k0_pay5 (F := Ideal) v5 (k0_pay2 i) (k0_pay3 i) (k0_pay4 i) 512#32 K0)
      (k0_pay6 (F := Ideal) v5 (k0_pay2 i) (firstWord i) lanes K1) (k0_pay7 (F := Ideal) v5 (k0_pay2 i) lanes (Scalar.addi (firstWord i) 2#32) K2)
      (fourth i v5 K3) (fifth i v5 K4) (ix2 ρ L) = S L := fun L => by
    rw [joined_apply _ _ _ _ _ ρ L (fun j l => if Seen ((i 1).val * 128 + ρ.val % 128) (pos (i 1).val j l.val) then ∑ x : Fin 128, v5 (ix2 ρ x) * k j x l else ⊥)
      (fun l => by rw [tile0]; unfold tileScore; simp only [hK0]) (fun l => by rw [tile1]; unfold tileScore; simp only [hK1])
      (fun l => by rw [tile2]; unfold tileScore; simp only [hK2]) (fun l => by rw [tile3]; unfold tileScore; simp only [hK3])
      (fun l => by rw [tile4]; unfold tileScore; simp only [hK4]), hS]
  have hP : ∀ L : Fin 640, weights i v5 K0 K1 K2 K3 K4 (ix2 ρ L) = Ideal.div (Ideal.exp (S L - Finset.univ.fold max ⊥ S)) (∑ j : Fin 640, Ideal.exp (S j - Finset.univ.fold max ⊥ S)) := fun L => by
    unfold weights
    rw [pay10_eq, soft_apply]
    simp only [hj]
  unfold block
  rw [product_apply, Softmax.sum_tiles]
  simp only [hP, hV0, hV1, hV2, hV3, hV4]
  have a0 : ∀ x : Fin 128, x.val / 128 = 0 := fun x => by omega
  have a1 : ∀ x : Fin 128, (128 + x.val) / 128 = 1 := fun x => by omega
  have a2 : ∀ x : Fin 128, (256 + x.val) / 128 = 2 := fun x => by omega
  have a3 : ∀ x : Fin 128, (384 + x.val) / 128 = 3 := fun x => by omega
  have a4 : ∀ x : Fin 128, (512 + x.val) / 128 = 4 := fun x => by omega
  have b0 : ∀ x : Fin 128, (⟨x.val % 128, Nat.mod_lt _ (by norm_num)⟩ : Fin 128) = x := fun x => Fin.ext (by dsimp only; omega)
  have b1 : ∀ x : Fin 128, (⟨(128 + x.val) % 128, Nat.mod_lt _ (by norm_num)⟩ : Fin 128) = x := fun x => Fin.ext (by dsimp only; omega)
  have b2 : ∀ x : Fin 128, (⟨(256 + x.val) % 128, Nat.mod_lt _ (by norm_num)⟩ : Fin 128) = x := fun x => Fin.ext (by dsimp only; omega)
  have b3 : ∀ x : Fin 128, (⟨(384 + x.val) % 128, Nat.mod_lt _ (by norm_num)⟩ : Fin 128) = x := fun x => Fin.ext (by dsimp only; omega)
  have b4 : ∀ x : Fin 128, (⟨(512 + x.val) % 128, Nat.mod_lt _ (by norm_num)⟩ : Fin 128) = x := fun x => Fin.ext (by dsimp only; omega)
  simp only [a0, a1, a2, a3, a4, b0, b1, b2, b3, b4]

/-- Four heads of 128 rows stored side by side: column group `r` of the output block is the rows of head `r`. -/
theorem heads_apply (U : FVec Ideal S512x128 .f32) (y : S128x512.Idx) :
    View.canon (Val := Elt Ideal) (s := S128x512) (e := .f32)
      [⟨Rect.unit (s := S128x512) ![0, 384] S128x128.size inb_S128x512_S128x128_0_384, extractStridedSlice S128x128 ![384, 0] U slices_S512x128_o384_0_S128x128⟩,
       ⟨Rect.unit (s := S128x512) ![0, 256] S128x128.size inb_S128x512_S128x128_0_256, extractStridedSlice S128x128 ![256, 0] U slices_S512x128_o256_0_S128x128⟩,
       ⟨Rect.unit (s := S128x512) ![0, 128] S128x128.size inb_S128x512_S128x128_0_128, extractStridedSlice S128x128 ![128, 0] U slices_S512x128_o128_0_S128x128⟩,
       ⟨Rect.unit (s := S128x512) ![0, 0] S128x128.size inb_S128x512_S128x128_0_0, extractStridedSlice S128x128 ![0, 0] U slices_S512x128_o0_0_S128x128⟩] y
      = U (ix2 ⟨(y 1).val / 128 * 128 + (y 0).val, by have h1 : (y 1).val < 512 := (y 1).isLt; have h0 : (y 0).val < 128 := (y 0).isLt; omega⟩ ⟨(y 1).val % 128, Nat.mod_lt _ (by norm_num)⟩) := by
  have h1 : (y 1).val < 512 := (y 1).isLt
  have h0 : (y 0).val < 128 := (y 0).isLt
  refine View.canon_apply_of_pieces (Val := Elt Ideal) (e := .f32) (fun z : S128x512.Idx => U (ix2 ⟨(z 1).val / 128 * 128 + (z 0).val, by have h1 : (z 1).val < 512 := (z 1).isLt; have h0 : (z 0).val < 128 := (z 0).isLt; omega⟩ ⟨(z 1).val % 128, Nat.mod_lt _ (by norm_num)⟩)) _ ?_ y ?_
  · intro p hp x
    simp only [List.mem_cons, List.not_mem_nil, or_false] at hp
    rcases hp with rfl | rfl | rfl | rfl
    · have x0 : (x 0).val < 128 := (x 0).isLt
      have x1 : (x 1).val < 128 := (x 1).isLt
      refine extractStridedSlice_apply _ U slices_S512x128_o384_0_S128x128 _ _ fun a => ?_
      match a with
      | ⟨0, _⟩ => show (384 + 1 * (x 1).val) / 128 * 128 + (0 + 1 * (x 0).val) = 384 + (x 0).val; omega
      | ⟨1, _⟩ => show (384 + 1 * (x 1).val) % 128 = 0 + (x 1).val; omega
    · have x0 : (x 0).val < 128 := (x 0).isLt
      have x1 : (x 1).val < 128 := (x 1).isLt
      refine extractStridedSlice_apply _ U slices_S512x128_o256_0_S128x128 _ _ fun a => ?_
      match a with
      | ⟨0, _⟩ => show (256 + 1 * (x 1).val) / 128 * 128 + (0 + 1 * (x 0).val) = 256 + (x 0).val; omega
      | ⟨1, _⟩ => show (256 + 1 * (x 1).val) % 128 = 0 + (x 1).val; omega
    · have x0 : (x 0).val < 128 := (x 0).isLt
      have x1 : (x 1).val < 128 := (x 1).isLt
      refine extractStridedSlice_apply _ U slices_S512x128_o128_0_S128x128 _ _ fun a => ?_
      match a with
      | ⟨0, _⟩ => show (128 + 1 * (x 1).val) / 128 * 128 + (0 + 1 * (x 0).val) = 128 + (x 0).val; omega
      | ⟨1, _⟩ => show (128 + 1 * (x 1).val) % 128 = 0 + (x 1).val; omega
    · have x0 : (x 0).val < 128 := (x 0).isLt
      have x1 : (x 1).val < 128 := (x 1).isLt
      refine extractStridedSlice_apply _ U slices_S512x128_o0_0_S128x128 _ _ fun a => ?_
      match a with
      | ⟨0, _⟩ => show (0 + 1 * (x 1).val) / 128 * 128 + (0 + 1 * (x 0).val) = 0 + (x 0).val; omega
      | ⟨1, _⟩ => show (0 + 1 * (x 1).val) % 128 = 0 + (x 1).val; omega
  · have hc : (y 1).val / 128 = 0 ∨ (y 1).val / 128 = 1 ∨ (y 1).val / 128 = 2 ∨ (y 1).val / 128 = 3 := by omega
    rcases hc with h | h | h | h
    · refine ⟨_, List.mem_cons_of_mem _ (List.mem_cons_of_mem _ (List.mem_cons_of_mem _ List.mem_cons_self)), ?_⟩
      rw [Rect.mem_set_unit]
      intro a
      match a with
      | ⟨0, _⟩ => show 0 ≤ (y 0).val ∧ (y 0).val < 0 + 128; omega
      | ⟨1, _⟩ => show 0 ≤ (y 1).val ∧ (y 1).val < 0 + 128; omega
    · refine ⟨_, List.mem_cons_of_mem _ (List.mem_cons_of_mem _ List.mem_cons_self), ?_⟩
      rw [Rect.mem_set_unit]
      intro a
      match a with
      | ⟨0, _⟩ => show 0 ≤ (y 0).val ∧ (y 0).val < 0 + 128; omega
      | ⟨1, _⟩ => show 128 ≤ (y 1).val ∧ (y 1).val < 128 + 128; omega
    · refine ⟨_, List.mem_cons_of_mem _ List.mem_cons_self, ?_⟩
      rw [Rect.mem_set_unit]
      intro a
      match a with
      | ⟨0, _⟩ => show 0 ≤ (y 0).val ∧ (y 0).val < 0 + 128; omega
      | ⟨1, _⟩ => show 256 ≤ (y 1).val ∧ (y 1).val < 256 + 128; omega
    · refine ⟨_, List.mem_cons_self, ?_⟩
      rw [Rect.mem_set_unit]
      intro a
      match a with
      | ⟨0, _⟩ => show 0 ≤ (y 0).val ∧ (y 0).val < 0 + 128; omega
      | ⟨1, _⟩ => show 384 ≤ (y 1).val ∧ (y 1).val < 384 + 128; omega

end Block

end Cert.WindowIdeal.Tiles

end
-- ==== Proof.WindowLanes.lean ====
module

public import proofs.«01_k».proof.Proof.WindowTiles

/-! The lanes of a block's five tiles are the keys of its queries' windows. -/

@[expose] public section

noncomputable section

namespace Cert.WindowIdeal.Lanes

open Cert.WindowIdeal.Tiles Idealize.ShloMosaic
open scoped BigOperators

/-- The key at lane `l` of tile `j` of the window of block `q`; tiles before the sequence show the first one. -/
def key (q j l : Nat) : Fin 16384 := ⟨((q + j - 4) * 128 + l) % 16384, Nat.mod_lt _ (by norm_num)⟩

/-- The key of one of the 640 lanes. -/
def laneKey (q : Nat) (L : Fin 640) : Fin 16384 := key q (L.val / 128) (L.val % 128)

/-- The keys a query at `t` attends to: itself and the 511 before it. -/
def visible (t : Nat) : Finset (Fin 16384) := Finset.univ.filter fun n => n.val ≤ t ∧ t < n.val + 512

/-- Lanes seen have different keys. -/
theorem laneKey_inj (q a : Nat) (hq : q < 128) (ha : a < 128) :
    Set.InjOn (laneKey q) (Finset.univ.filter fun L : Fin 640 => Seen (q * 128 + a) (pos q (L.val / 128) (L.val % 128)) : Finset (Fin 640)) := by
  intro L hL M hM h
  have hL' := (Finset.mem_filter.mp (Finset.mem_coe.mp hL)).2
  have hM' := (Finset.mem_filter.mp (Finset.mem_coe.mp hM)).2
  have h' := congrArg Fin.val h
  unfold laneKey key at h'
  unfold Seen pos at hL' hM'
  dsimp only at h'
  have l1 := L.isLt
  have l2 := M.isLt
  apply Fin.ext
  omega

/-- The keys of the lanes seen are the visible keys. -/
theorem image_laneKey (q a : Nat) (hq : q < 128) (ha : a < 128) :
    (Finset.univ.filter fun L : Fin 640 => Seen (q * 128 + a) (pos q (L.val / 128) (L.val % 128))).image (laneKey q) = visible (q * 128 + a) := by
  ext n
  simp only [Finset.mem_image, Finset.mem_filter, Finset.mem_univ, true_and, visible]
  have hn := n.isLt
  constructor
  · rintro ⟨L, h, rfl⟩
    have l1 := L.isLt
    unfold laneKey key
    unfold Seen pos at h
    dsimp only
    omega
  · rintro ⟨h1, h2⟩
    refine ⟨⟨(n.val / 128 + 4 - q) * 128 + n.val % 128, by omega⟩, ?_, Fin.ext ?_⟩
    · unfold Seen pos
      dsimp only
      omega
    · unfold laneKey key
      dsimp only
      omega

/-- Every query sees itself. -/
theorem visible_nonempty (t : Nat) (ht : t < 16384) : (visible t).Nonempty :=
  ⟨⟨t, ht⟩, Finset.mem_filter.mpr ⟨Finset.mem_univ _, le_refl _, by dsimp only; omega⟩⟩

/-- A plain softmax over the lanes is the average over the visible keys. -/
theorem lanes_eq (q a : Nat) (hq : q < 128) (ha : a < 128) (s v : Fin 16384 → EReal) (hs : ∀ n, ∃ r : ℝ, s n = r) (S w : Fin 640 → EReal)
    (hS : ∀ L, S L = if Seen (q * 128 + a) (pos q (L.val / 128) (L.val % 128)) then s (laneKey q L) else ⊥) (hw : ∀ L, w L = v (laneKey q L)) :
    ∑ L : Fin 640, Ideal.div (Ideal.exp (S L - Finset.univ.fold max ⊥ S)) (∑ j : Fin 640, Ideal.exp (S j - Finset.univ.fold max ⊥ S)) * w L
      = Softmax.average (visible (q * 128 + a)) s v := by
  obtain rfl : S = _ := funext hS
  obtain rfl : w = _ := funext hw
  have hne : (Finset.univ.filter fun L : Fin 640 => Seen (q * 128 + a) (pos q (L.val / 128) (L.val % 128))).Nonempty := by
    rw [← Finset.image_nonempty (f := laneKey q), image_laneKey q a hq ha]
    exact visible_nonempty _ (by omega)
  rw [← image_laneKey q a hq ha, Softmax.average_image _ _ (laneKey_inj q a hq ha)]
  exact Softmax.plain_eq (fun L : Fin 640 => Seen (q * 128 + a) (pos q (L.val / 128) (L.val % 128))) (s ∘ laneKey q) (v ∘ laneKey q) hne fun L _ => hs _

end Cert.WindowIdeal.Lanes

end
-- ==== Proof.WindowRef.lean ====
module

public import proofs.«01_k».proof.Proof.WindowLanes
public import proofs.«01_k».proof.Proof.Gen.WindowRefIdeal.Read
public import Idealize.ShloMosaic.Lib.Pointwise
public import Idealize.ShloMosaic.Lib.WordCmp

/-! The sliding-window attention as the reference writes it: every query against all 16384 keys, those outside its window masked. -/

@[expose] public section

set_option maxRecDepth 16384

noncomputable section

namespace Cert.WindowRefIdeal.Attention

open Cert.WindowRefIdeal Cert.WindowRefIdeal.Read Cert.WindowIdeal.Lanes Idealize.ShloMosaic Idealize.ShloMosaic.WordCmp
open scoped BigOperators

/-- The score of query row `t`, column group starting at `h`, against key `n` of group `g`. -/
def score (Q : S16384x2048.Idx → EReal) (K : S16384x512.Idx → EReal) (t : Fin 16384) (h : Fin 16) (n : Fin 16384) : EReal :=
  ∑ x : Fin 128, Q (ix2 t ⟨h.val * 128 + x.val, by omega⟩) * K (ix2 n ⟨h.val / 4 * 128 + x.val, by omega⟩)

/-- One entry of the attention: query row `t`, column `u` of the heads side by side. -/
def entry (Q : S16384x2048.Idx → EReal) (K : S16384x512.Idx → EReal) (V : S16384x1024.Idx → EReal) (t : Fin 16384) (u : Fin 2048) : EReal :=
  Softmax.average (visible t.val) (score Q K t ⟨u.val / 128, by omega⟩) (fun n => V (ix2 n ⟨512 + (u.val / 512 * 128 + u.val % 128), by omega⟩))

/-- The attention of 16 query heads over 4 groups of keys and values, each query over the 512 keys up to its own. -/
def attention (Q : S16384x2048.Idx → EReal) (K : S16384x512.Idx → EReal) (V : S16384x1024.Idx → EReal) : FVec Ideal S16384x2048 .f32 := fun i =>
  entry Q K V (i 0) (i 1)

/-- A sum of products of real numbers is real. -/
theorem score_real (Q : S16384x2048.Idx → EReal) (K : S16384x512.Idx → EReal) (hQ : ∀ i, ∃ r : ℝ, Q i = r) (hK : ∀ i, ∃ r : ℝ, K i = r)
    (t : Fin 16384) (h : Fin 16) (n : Fin 16384) : ∃ r : ℝ, score Q K t h n = r := by
  choose q hq using hQ
  choose k hk using hK
  refine ⟨∑ x : Fin 128, q (ix2 t ⟨h.val * 128 + x.val, by omega⟩) * k (ix2 n ⟨h.val / 4 * 128 + x.val, by omega⟩), ?_⟩
  unfold score
  simp only [hq, hk, ← EReal.coe_mul]
  exact (map_sum (⟨⟨(Real.toEReal), EReal.coe_zero⟩, EReal.coe_add⟩ : ℝ →+ EReal) _ _).symm

variable (x0 : FVec Ideal S16384x2048 .bf16) (x1 : FVec Ideal S16384x512 .bf16) (x2 : FVec Ideal S16384x1024 .bf16)
variable (g r : Fin 4) (t n : Fin 16384)

/-- The reference's mask: which keys a query sees. -/
theorem select_mask {α : Type} (a b : α) : Scalar.select (val_main_v23 (F := Ideal) (ix2 t n)) a b = if n.val ≤ t.val ∧ t.val < n.val + 512 then a else b := by
  have e : val_main_v23 (F := Ideal) (ix2 t n) = IntOp.andi (IntOp.cmpi .sle (BitVec.ofNat 32 n.val) (BitVec.ofNat 32 t.val)) (IntOp.cmpi .sgt (BitVec.ofNat 32 n.val) (IntOp.subi (BitVec.ofNat 32 t.val) 512#32)) := by
    simp only [val_main_v23_apply, val_main_v22_apply, val_main_v21_apply, val_main_v20_apply, val_main_v19_apply, val_main_v18_apply, val_main_v17_apply, val_main_v16_apply,
      val_main_v15_apply, val_main_v14_apply, val_main_v13_apply, val_main_v12_apply, val_main_v11_apply, val_main_v10_apply, val_main_v9_apply, val_main_c_apply]
    rfl
  have ht := t.isLt
  have hn := n.isLt
  have hT : (BitVec.ofNat 32 t.val).toInt = t.val := toInt_ofNat_of_lt (by norm_num; omega)
  have hN : (BitVec.ofNat 32 n.val).toInt = n.val := toInt_ofNat_of_lt (by norm_num; omega)
  have hS : (IntOp.subi (BitVec.ofNat 32 t.val) 512#32).toInt = (t.val : Int) - 512 := by
    show (BitVec.ofNat 32 t.val - 512#32).toInt = _
    rw [BitVec.toInt_sub, hT, show (512#32 : BitVec 32).toInt = 512 from rfl]
    exact Int.bmod_eq_of_le (by norm_num; omega) (by norm_num; omega)
  rw [e, cmpi_sle_eq, cmpi_sgt_eq, hS, hN, hT, andi_ofBool, select_ofBool]
  simp only [Bool.and_eq_true, decide_eq_true_eq]
  exact if_congr (by omega) rfl rfl

/-- The reference's scores. -/
theorem score_apply : val_main_v8 (F := Ideal) x0 x1 (ix4 g r t n) = score x0 x1 t ⟨g.val * 4 + r.val, by omega⟩ n := by
  rw [val_main_v8_apply, val_main_v7_apply]
  unfold score
  refine Finset.sum_congr rfl fun x _ => ?_
  rw [val_main_v3_apply, val_main_v2_apply, val_main_v1_apply, val_main_v0_apply, mul_comm]
  refine congrArg₂ (· * ·) (congrArg x0 (funext fun a => Fin.ext ?_)) (congrArg x1 (funext fun a => Fin.ext ?_))
  · match a with
    | ⟨0, _⟩ => show (((t.val * 4 + g.val) * 4 + r.val) * 128 + x.val) / 2048 = t.val; omega
    | ⟨1, _⟩ => show (((t.val * 4 + g.val) * 4 + r.val) * 128 + x.val) % 2048 = (g.val * 4 + r.val) * 128 + x.val; omega
  · match a with
    | ⟨0, _⟩ => show ((n.val * 4 + g.val) * 128 + x.val) / 512 = n.val; omega
    | ⟨1, _⟩ => show ((n.val * 4 + g.val) * 128 + x.val) % 512 = (g.val * 4 + r.val) / 4 * 128 + x.val; omega

/-- The masked scores. -/
theorem masked_apply : val_main_v25 (F := Ideal) x0 x1 (ix4 g r t n)
    = if n.val ≤ t.val ∧ t.val < n.val + 512 then score x0 x1 t ⟨g.val * 4 + r.val, by omega⟩ n else ⊥ := by
  rw [val_main_v25_apply, score_apply, val_main_call0_v1_apply, val_main_v24_apply, val_main_call0_v2_apply, val_main_call0_v0_apply, val_main_cst_apply]
  refine Eq.trans ?_ (select_mask t n _ _)
  refine congrArg₂ (fun a b => Scalar.select a _ b) (congrArg (val_main_v23 (F := Ideal)) ?_) WindowIdeal.Tiles.ofBits_bot
  funext a
  match a with
  | ⟨0, _⟩ => rfl
  | ⟨1, _⟩ => rfl

/-- The greatest masked score of a row. -/
theorem top_apply : val_main_v26 (F := Ideal) x0 x1 (ix3 g r t) = Finset.univ.fold max ⊥ fun n : Fin 16384 => val_main_v25 (F := Ideal) x0 x1 (ix4 g r t n) := by
  rw [← WindowIdeal.Tiles.ofBits_bot]
  unfold val_main_v26
  generalize val_main_v25 (F := Ideal) x0 x1 = y
  unfold val_main_cst_0
  pointwise

/-- The weights before normalization. -/
theorem weight_apply : val_main_v31 (F := Ideal) x0 x1 (ix4 g r t n)
    = if n.val ≤ t.val ∧ t.val < n.val + 512 then Ideal.exp (val_main_v25 (F := Ideal) x0 x1 (ix4 g r t n) - val_main_v26 (F := Ideal) x0 x1 (ix3 g r t)) else 0 := by
  rw [val_main_v31_apply, val_main_v30_apply, val_main_v29_apply, val_main_v28_apply, val_main_v27_apply, val_main_call1_v1_apply, val_main_v24_apply, val_main_call1_v2_apply, val_main_call1_v0_apply, val_main_cst_1_apply]
  have e : idx_main_v27 (idx_main_v28 (ix4 g r t n)) = ix3 g r t := by rw [eq_ix3 (idx_main_v27 (idx_main_v28 (ix4 g r t n)))]; rfl
  rw [e]
  refine Eq.trans ?_ (select_mask t n _ _)
  refine congrArg₂ (fun a b => Scalar.select a _ b) (congrArg (val_main_v23 (F := Ideal)) ?_) Ideal.ofBits_zero_f32
  funext a
  match a with
  | ⟨0, _⟩ => rfl
  | ⟨1, _⟩ => rfl

/-- The divisor of a row. -/
theorem divisor_apply : val_main_v36 (F := Ideal) x0 x1 (ix4 g r t n) = max (∑ k : Fin 16384, val_main_v31 (F := Ideal) x0 x1 (ix4 g r t k)) (Ideal.ofBits .f32 0x0DA24260#32) := by
  rw [val_main_v36_apply, val_main_v35_apply, val_main_v34_apply, val_main_v33_apply, val_main_v32_apply, val_main_cst_3_apply, val_main_cst_2_apply]
  refine congrArg₂ max ?_ rfl
  refine (congrArg (· + _) Ideal.ofBits_zero_f32).trans ?_
  rw [zero_add]
  refine Finset.sum_congr rfl fun k _ => congrArg _ ?_
  rw [eq_ix4 (idx_main_v32 _ k)]
  rfl

/-- The guard of the division is at most one. -/
theorem guard_le : Ideal.ofBits .f32 0x0DA24260#32 ≤ (1 : EReal) := by
  simp [Ideal.ofBits, Ideal.ieee, -EReal.coe_mul]
  exact EReal.coe_le_coe_iff.mpr (show (10633824 * (2 ^ 123)⁻¹ : ℝ) ≤ 1 by norm_num)

/-- An entry of the reference's result. -/
theorem ref_entry (hQ : ∀ i, ∃ r : ℝ, (x0 i : EReal) = r) (hK : ∀ i, ∃ r : ℝ, (x1 i : EReal) = r) (t : Fin 16384) (u : Fin 2048) :
    val_main_v40 (F := Ideal) x0 x1 x2 (ix2 t u) = entry x0 x1 x2 t u := by
  have h0 : t.val < 16384 := t.isLt
  have h1 : u.val < 2048 := u.isLt
  obtain ⟨g, hg⟩ : ∃ g : Fin 4, g.val = u.val / 512 := ⟨⟨u.val / 512, by omega⟩, rfl⟩
  obtain ⟨r, hr⟩ : ∃ r : Fin 4, r.val = u.val / 128 % 4 := ⟨⟨u.val / 128 % 4, by omega⟩, rfl⟩
  obtain ⟨d, hd⟩ : ∃ d : Fin 128, d.val = u.val % 128 := ⟨⟨u.val % 128, by omega⟩, rfl⟩
  rw [val_main_v40_apply, val_main_v39_apply, val_main_v38_apply]
  have e : idx_main_v39 (idx_main_v40 (ix2 t u)) = ix4 g d r t := by
    funext a
    apply Fin.ext
    match a with
    | ⟨0, _⟩ => show (t.val * 2048 + u.val) / 512 % 4 = g.val; omega
    | ⟨1, _⟩ => show (t.val * 2048 + u.val) % 128 = d.val; omega
    | ⟨2, _⟩ => show (t.val * 2048 + u.val) / 128 % 4 = r.val; omega
    | ⟨3, _⟩ => show (t.val * 2048 + u.val) / 2048 = t.val; omega
  rw [e]
  have hv : ∀ k, val_main_v6 (F := Ideal) x2 (lidx_main_v38 (ix4 g d r t) k) = x2 (ix2 k ⟨512 + (u.val / 512 * 128 + u.val % 128), by omega⟩) := fun k => by
    rw [val_main_v6_apply, val_main_v5_apply, val_main_v4_apply]
    refine congrArg x2 (funext fun a => Fin.ext ?_)
    match a with
    | ⟨0, _⟩ => show ((k.val * 4 + g.val) * 128 + d.val) / 512 = k.val; omega
    | ⟨1, _⟩ => show 512 + ((k.val * 4 + g.val) * 128 + d.val) % 512 = 512 + (u.val / 512 * 128 + u.val % 128); omega
  have hp : ∀ k, ridx_main_v38 (ix4 g d r t) k = ix4 g r t k := fun k => by
    rw [eq_ix4 (ridx_main_v38 (ix4 g d r t) k)]; rfl
  have hh : (⟨g.val * 4 + r.val, by omega⟩ : Fin 16) = ⟨u.val / 128, by omega⟩ := Fin.ext (by dsimp only; omega)
  have hm : ∀ n, val_main_v25 (F := Ideal) x0 x1 (ix4 g r t n) = if n.val ≤ t.val ∧ t.val < n.val + 512 then score x0 x1 t ⟨u.val / 128, by omega⟩ n else ⊥ := fun n => by
    rw [masked_apply, hh]
  have hw : ∀ n, val_main_v31 (F := Ideal) x0 x1 (ix4 g r t n) = if n.val ≤ t.val ∧ t.val < n.val + 512 then
      Ideal.exp ((if n.val ≤ t.val ∧ t.val < n.val + 512 then score x0 x1 t ⟨u.val / 128, by omega⟩ n else ⊥)
        - Finset.univ.fold max ⊥ fun j : Fin 16384 => if j.val ≤ t.val ∧ t.val < j.val + 512 then score x0 x1 t ⟨u.val / 128, by omega⟩ j else ⊥) else 0 := fun n => by
    rw [weight_apply, top_apply]
    simp only [hm]
  refine Eq.trans (Finset.sum_congr rfl fun k _ => ?_) (Softmax.guarded_eq (fun n : Fin 16384 => n.val ≤ t.val ∧ t.val < n.val + 512)
    (score x0 x1 t ⟨u.val / 128, by omega⟩) (fun n => x2 (ix2 n ⟨512 + (u.val / 512 * 128 + u.val % 128), by omega⟩)) (visible_nonempty _ h0)
    (fun n _ => score_real x0 x1 hQ hK _ _ _) _ guard_le)
  rw [hv, hp, val_main_v37_apply, divisor_apply]
  simp only [hw]
  rfl

/-- The reference leaves the attention. -/
theorem ref_eq (hQ : ∀ i, ∃ r : ℝ, (x0 i : EReal) = r) (hK : ∀ i, ∃ r : ℝ, (x1 i : EReal) = r) : val_main_v40 (F := Ideal) x0 x1 x2 = attention x0 x1 x2 := by
  funext i
  rw [eq_ix2 i]
  exact ref_entry x0 x1 x2 hQ hK _ _

end Cert.WindowRefIdeal.Attention

end
-- ==== Proof.Window.lean ====
module

public import proofs.«01_k».proof.Defs
public import proofs.«01_k».proof.Proof.WindowLanes
public import proofs.«01_k».proof.Proof.WindowRef
public import proofs.«01_k».proof.Proof.Gen.WindowIdeal.Value
public import proofs.«01_k».proof.Proof.Gen.WindowRefIdeal.Read
public import proofs.«01_k».proof.Proof.Gen.Pre_finite_scores
public import Idealize.ShloMosaic.Lib.Pipeline.ValueKit
public import Idealize.ShloMosaic.Lib.Pointwise
public import Idealize.ShloMosaic.Lib.Pipeline.ReadBack
public import Idealize.ShloMosaic.Lib.Claim

/-!
# The sliding-window attention

One grid point takes 128 query rows of four heads, one after the other as 512 rows, and the five tiles of 128 keys that
hold every key such a row may see. `WindowTiles` says what that point computes from the tiles, `WindowLanes` that the lanes
of those tiles are the keys of the window. Here the tiles are read out of the arrays, and the whole call is compared
with the reference.
-/

@[expose] public section

set_option maxRecDepth 16384

noncomputable section

namespace Cert.WindowIdeal.Point

open Cert.WindowIdeal Cert.WindowIdeal.Gen Cert.WindowIdeal.Tiles Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- Which block each operand shows at a grid point. -/
theorem idx : ∀ t : Fin grid0.N, win0_0.index t = ![t.val % 128, t.val / 128] ∧ win0_1.index t = ![t.val / 128, 0, 0, 0]
    ∧ win0_2.index t = ![0, 4 + t.val / 128] ∧ win0_3.index t = ![t.val % 128, t.val / 128] := by
  decide +kernel

/-- The coordinates of a grid point. -/
theorem coords1 : ∀ t : Fin grid0.N, (grid0.coords t 1).val = t.val % 128 := by
  decide +kernel

/-- Where the tiles of keys lie. -/
theorem off1 : ∀ t : Fin grid0.N, ∀ j : Fin 5, k0_off1 (grid0.coords t) (BitVec.ofNat 32 j.val) = ![0, t.val % 128 + j.val - 4, 0, 0] := by
  decide +kernel

/-- Where the tiles of values lie. -/
theorem off2 : ∀ t : Fin grid0.N, ∀ j : Fin 5, k0_off2 (grid0.coords t) (BitVec.ofNat 32 j.val) = ![(t.val % 128 + j.val - 4) * 128, 0] := by
  decide +kernel

/-- What a grid point leaves in the output block. -/
theorem out_apply (t : Fin cfg0.N) (y : S128x512.Idx) : outsAt0 m c t y
    = block (grid0.coords t)
        (k0_pay1 (F := Ideal) (View.ld (iblk m c 0 t) (Rect.unit ![0, 0] ![128, 128] inb_S128x512_S128x128_0_0))
          (View.ld (iblk m c 0 t) (Rect.unit ![0, 128] ![128, 128] inb_S128x512_S128x128_0_128))
          (View.ld (iblk m c 0 t) (Rect.unit ![0, 256] ![128, 128] inb_S128x512_S128x128_0_256))
          (View.ld (iblk m c 0 t) (Rect.unit ![0, 384] ![128, 128] inb_S128x512_S128x128_0_384)))
        (View.ld (iblk m c 1 t) (Rect.unit (k0_off1 (grid0.coords t) 0#32) ![1, 1, 128, 128] (k0_off1_inb _ 0)))
        (View.ld (iblk m c 1 t) (Rect.unit (k0_off1 (grid0.coords t) 1#32) ![1, 1, 128, 128] (k0_off1_inb _ 1)))
        (View.ld (iblk m c 1 t) (Rect.unit (k0_off1 (grid0.coords t) 2#32) ![1, 1, 128, 128] (k0_off1_inb _ 2)))
        (View.ld (iblk m c 1 t) (Rect.unit (k0_off1 (grid0.coords t) 3#32) ![1, 1, 128, 128] (k0_off1_inb _ 3)))
        (View.ld (iblk m c 1 t) (Rect.unit (k0_off1 (grid0.coords t) 4#32) ![1, 1, 128, 128] (k0_off1_inb _ 4)))
        (View.ld (iblk m c 2 t) (Rect.unit (k0_off2 (grid0.coords t) 0#32) ![128, 128] (k0_off2_inb _ 0)))
        (View.ld (iblk m c 2 t) (Rect.unit (k0_off2 (grid0.coords t) 1#32) ![128, 128] (k0_off2_inb _ 1)))
        (View.ld (iblk m c 2 t) (Rect.unit (k0_off2 (grid0.coords t) 2#32) ![128, 128] (k0_off2_inb _ 2)))
        (View.ld (iblk m c 2 t) (Rect.unit (k0_off2 (grid0.coords t) 3#32) ![128, 128] (k0_off2_inb _ 3)))
        (View.ld (iblk m c 2 t) (Rect.unit (k0_off2 (grid0.coords t) 4#32) ![128, 128] (k0_off2_inb _ 4)))
      (ix2 ⟨(y 1).val / 128 * 128 + (y 0).val, by have h1 : (y 1).val < 512 := (y 1).isLt; have h0 : (y 0).val < 128 := (y 0).isLt; omega⟩ ⟨(y 1).val % 128, Nat.mod_lt _ (by norm_num)⟩) := by
  unfold outsAt0
  frame_out
  exact heads_apply _ y

/-- A load at the offset of a tile of keys reads that tile. -/
theorem ld_key (A : Vec Ideal S1x128x128x128 .bf16) (off : Fin 4 → Nat) (n : Fin 128) (ho : off = ![0, n.val, 0, 0]) (h) (x l : Fin 128) :
    View.ld (Val := Elt Ideal) (e' := .bf16) A (Rect.unit (s := S1x128x128x128) off ![1, 1, 128, 128] h) (ix4 0 0 x l) = A (ix4 0 n x l) := by
  subst ho
  refine congrArg A (funext fun a => Fin.ext ?_)
  match a with
  | ⟨0, _⟩ => rfl
  | ⟨1, _⟩ => show n.val + 1 * 0 = n.val; omega
  | ⟨2, _⟩ => show 0 + 1 * x.val = x.val; omega
  | ⟨3, _⟩ => show 0 + 1 * l.val = l.val; omega

/-- A load at the offset of a tile of values reads that tile. -/
theorem ld_value (A : Vec Ideal S16384x128 .bf16) (off : Fin 2 → Nat) (n : Nat) (ho : off = ![n * 128, 0]) (hn : n < 128) (h) (x d : Fin 128) :
    View.ld (Val := Elt Ideal) (e' := .bf16) A (Rect.unit (s := S16384x128) off ![128, 128] h) (ix2 x d) = A (ix2 ⟨n * 128 + x.val, by omega⟩ d) := by
  subst ho
  refine congrArg A (funext fun a => Fin.ext ?_)
  match a with
  | ⟨0, _⟩ => show n * 128 + 1 * x.val = n * 128 + x.val; omega
  | ⟨1, _⟩ => show 0 + 1 * d.val = d.val; omega

/-- An entry of a tile of keys, in the array of keys. -/
theorem key_ld (t : Fin cfg0.N) (j : Fin 5) (x l : Fin 128) (h) :
    View.ld (Val := Elt Ideal) (e' := .bf16) (iblk m c 1 t) (Rect.unit (s := S1x128x128x128) (k0_off1 (grid0.coords t) (BitVec.ofNat 32 j.val)) ![1, 1, 128, 128] h) (ix4 0 0 x l)
      = V m c main_v1 (ix4 ⟨t.val / 128, by have := t.isLt; have : t.val < 512 := this; omega⟩ ⟨t.val % 128 + j.val - 4, by omega⟩ x l) := by
  rw [ld_key _ _ ⟨t.val % 128 + j.val - 4, by omega⟩ (off1 t j)]
  blk_ext [iblk, idx]

/-- An entry of a tile of values, in the array of values. -/
theorem value_ld (t : Fin cfg0.N) (j : Fin 5) (x d : Fin 128) (h) :
    View.ld (Val := Elt Ideal) (e' := .bf16) (iblk m c 2 t) (Rect.unit (s := S16384x128) (k0_off2 (grid0.coords t) (BitVec.ofNat 32 j.val)) ![128, 128] h) (ix2 x d)
      = V m c main_arg2 (ix2 ⟨(t.val % 128 + j.val - 4) * 128 + x.val, by omega⟩ ⟨512 + t.val / 128 * 128 + d.val, by have := t.isLt; have : t.val < 512 := this; omega⟩) := by
  rw [ld_value _ _ (t.val % 128 + j.val - 4) (off2 t j) (by omega)]
  blk_ext [iblk, idx]

/-- The query rows of a grid point: the four heads of a group, one below the other. -/
theorem query_ld (t : Fin cfg0.N) (ρ : Fin 512) (x : Fin 128) :
    k0_pay1 (F := Ideal) (View.ld (iblk m c 0 t) (Rect.unit ![0, 0] ![128, 128] inb_S128x512_S128x128_0_0))
          (View.ld (iblk m c 0 t) (Rect.unit ![0, 128] ![128, 128] inb_S128x512_S128x128_0_128))
          (View.ld (iblk m c 0 t) (Rect.unit ![0, 256] ![128, 128] inb_S128x512_S128x128_0_256))
          (View.ld (iblk m c 0 t) (Rect.unit ![0, 384] ![128, 128] inb_S128x512_S128x128_0_384)) (ix2 ρ x)
      = V m c main_arg0 (ix2 ⟨t.val % 128 * 128 + ρ.val % 128, by omega⟩ ⟨t.val / 128 * 512 + ρ.val / 128 * 128 + x.val, by have := t.isLt; have : t.val < 512 := this; omega⟩) := by
  unfold k0_pay1
  pointwise
  have hρ := ρ.isLt
  split_ifs <;> blk_ext [iblk, idx]

/-- The keys as the call reads them: each tile of 128 keys of a group, with the keys as columns. -/
theorem entry_k (g : Fin 4) (n x l : Fin 128) : (V m c main_v1 (ix4 g n x l) : EReal)
    = (m ((c.tc : Thread nD τ).loc main_arg1) : S16384x512.Idx → EReal) (ix2 ⟨n.val * 128 + l.val, by omega⟩ ⟨g.val * 128 + x.val, by omega⟩) := by
  unfold_abbrev_sides
  after_results
  refine (transpose_apply [2, 0, 3, 1] (fun i => shapeCast S128x128x4x128 (m ((c.tc : Thread nD τ).loc main_arg1) : S16384x512.Idx → EReal) shapeCasts_S16384x512_S128x128x4x128 i)
    transposes_S128x128x4x128_S4x128x128x128_2_0_3_1 (ix4 g n x l) (ix4 n l g x) fun b => ?_).trans ?_
  · match b with
    | ⟨0, _⟩ => rfl
    | ⟨1, _⟩ => rfl
    | ⟨2, _⟩ => rfl
    | ⟨3, _⟩ => rfl
  · refine shapeCast_apply _ _ _ _ ?_
    show (S16384x512.rowMajor _).val = _
    rw [Shape.rowMajor_val_two, Shape.rowMajor_val_four]
    show (n.val * 128 + l.val) * 512 + (g.val * 128 + x.val) = ((n.val * 128 + l.val) * 4 + g.val) * 128 + x.val
    omega

/-- A key of the window's tiles. -/
theorem key_at (t : Fin cfg0.N) (j : Fin 5) (x l : Fin 128) (h) :
    View.ld (Val := Elt Ideal) (e' := .bf16) (iblk m c 1 t) (Rect.unit (s := S1x128x128x128) (k0_off1 (grid0.coords t) (BitVec.ofNat 32 j.val)) ![1, 1, 128, 128] h) (ix4 0 0 x l)
      = (m ((c.tc : Thread nD τ).loc main_arg1) : S16384x512.Idx → EReal) (ix2 (Lanes.key (t.val % 128) j.val l.val) ⟨t.val / 128 * 128 + x.val, by have := t.isLt; have : t.val < 512 := this; omega⟩) := by
  rw [key_ld]
  refine (entry_k m c _ _ _ _).trans (congrArg _ ?_)
  unfold Lanes.key
  congr 1 <;> exact Fin.ext (by dsimp only; omega)

/-- A value of the window's tiles. -/
theorem value_at (t : Fin cfg0.N) (j : Fin 5) (x d : Fin 128) (h) :
    View.ld (Val := Elt Ideal) (e' := .bf16) (iblk m c 2 t) (Rect.unit (s := S16384x128) (k0_off2 (grid0.coords t) (BitVec.ofNat 32 j.val)) ![128, 128] h) (ix2 x d)
      = V m c main_arg2 (ix2 (Lanes.key (t.val % 128) j.val x.val) ⟨512 + t.val / 128 * 128 + d.val, by have := t.isLt; have : t.val < 512 := this; omega⟩) := by
  rw [value_ld]
  refine congrArg _ ?_
  unfold Lanes.key
  congr 1 <;> exact Fin.ext (by dsimp only; omega)

/-- All entries are real numbers. -/
def Finite {ι : Type} (x : ι → EReal) : Prop := ∀ i, ∃ r : ℝ, x i = r

/-- The array the call leaves, for real queries and keys. -/
theorem arr (hQ : Finite (ι := S16384x2048.Idx) (V m c main_arg0)) (hK : Finite (ι := S16384x512.Idx) (m ((c.tc : Thread nD τ).loc main_arg1))) :
    (dats m 0 c).arrAt 3 cfg0.N = WindowRefIdeal.Attention.attention (V m c main_arg0) (m ((c.tc : Thread nD τ).loc main_arg1)) (V m c main_arg2) := by
  refine (dats m 0 c).arrAt_eq_of_covers 3 _ (by decide +kernel) fun t hf y => ?_
  have ht : t.val < 512 := t.isLt
  have h0 : (y 0).val < 128 := (y 0).isLt
  have h1 : (y 1).val < 512 := (y 1).isLt
  have hc := coords1 t
  blk_simp
  rw [after0_3, out_apply]
  refine (block_apply (grid0.coords t) _ _ _ _ _ _ _ _ _ _ _ _ _
    (fun j x l => (m ((c.tc : Thread nD τ).loc main_arg1) : S16384x512.Idx → EReal) (ix2 (Lanes.key (t.val % 128) j l.val) ⟨t.val / 128 * 128 + x.val, by omega⟩))
    (fun j x d => V m c main_arg2 (ix2 (Lanes.key (t.val % 128) j x.val) ⟨512 + t.val / 128 * 128 + d.val, by omega⟩))
    (fun x l => key_at m c t 0 x l _) (fun x l => key_at m c t 1 x l _) (fun x l => key_at m c t 2 x l _) (fun x l => key_at m c t 3 x l _) (fun x l => key_at m c t 4 x l _)
    (fun x => value_at m c t 0 x _ _) (fun x => value_at m c t 1 x _ _) (fun x => value_at m c t 2 x _ _) (fun x => value_at m c t 3 x _ _) (fun x => value_at m c t 4 x _ _)
    _ (fun L => rfl)).trans ?_
  refine (Lanes.lanes_eq (t.val % 128) (y 0).val (by omega) h0
    (WindowRefIdeal.Attention.score (V m c main_arg0) (m ((c.tc : Thread nD τ).loc main_arg1)) ⟨t.val % 128 * 128 + (y 0).val, by omega⟩ ⟨t.val / 128 * 4 + (y 1).val / 128, by omega⟩)
    (fun n => V m c main_arg2 (ix2 n ⟨512 + t.val / 128 * 128 + (y 1).val % 128, by omega⟩))
    (fun n => WindowRefIdeal.Attention.score_real _ _ hQ hK _ _ _) _ _ (fun L => ?_) (fun L => rfl)).trans ?_
  · have hρ : ((y 1).val / 128 * 128 + (y 0).val) % 128 = (y 0).val := by omega
    refine if_congr ?_ ?_ rfl
    · rw [hc]
      show Seen (t.val % 128 * 128 + ((y 1).val / 128 * 128 + (y 0).val) % 128) _ ↔ _
      rw [hρ]
    · unfold WindowRefIdeal.Attention.score
      refine Finset.sum_congr rfl fun x _ => ?_
      rw [query_ld]
      refine congrArg₂ (· * ·) (congrArg _ ?_) (congrArg _ ?_)
      · congr 1 <;> exact Fin.ext (by dsimp only; omega)
      · unfold Lanes.laneKey
        congr 1
        exact Fin.ext (by dsimp only; omega)
  · have b0 : t.val % 128 * 128 + (y 0).val < 16384 := by omega
    have b1 : t.val / 128 * 512 + (y 1).val < 2048 := by omega
    have e0 : (((win0_3.blk t).view.emb y) 0 : Fin 16384) = ⟨t.val % 128 * 128 + (y 0).val, b0⟩ := by
      refine Fin.ext ?_
      blk_simp
      simp [idx]
    have e1 : (((win0_3.blk t).view.emb y) 1 : Fin 2048) = ⟨t.val / 128 * 512 + (y 1).val, b1⟩ := by
      refine Fin.ext ?_
      blk_simp
      simp [idx]
    show _ = WindowRefIdeal.Attention.entry _ _ _ (((win0_3.blk t).view.emb y) 0) (((win0_3.blk t).view.emb y) 1)
    rw [e0, e1]
    unfold WindowRefIdeal.Attention.entry
    congr 1
    · congr 1
      exact Fin.ext (by dsimp only; omega)
    · funext n
      congr 2
      exact Fin.ext (by dsimp only; omega)

end Cert.WindowIdeal.Point

namespace Cert

open Idealize.ShloMosaic Idealize.SL.Sem

/-- The pattern of the limit the precondition compares with is infinity. -/
theorem ofBits_top : Ideal.ofBits .bf16 0x7F80#16 = (⊤ : EReal) := by
  simp [Ideal.ofBits, Ideal.ieee, -EReal.coe_mul]

/-- A value whose magnitude is below infinity is real. -/
theorem real_of_lt (x : EReal) (h : Ideal.cmp .olt (max x (-x)) (Ideal.ofBits .bf16 0x7F80#16) = 1#1) : ∃ r : ℝ, x = r := by
  rw [ofBits_top] at h
  induction x using EReal.rec with
  | bot => simp [Ideal.cmp] at h
  | top => simp [Ideal.cmp] at h
  | coe r => exact ⟨r, rfl⟩

set_option maxRecDepth 200000 in
/-- The call and its reference leave the same array, for finite queries and keys. -/
theorem algebraic_window : algebraic_WindowIdeal_WindowRefIdeal_pre_finite_scores (hWindowIdeal := WindowIdeal.Gen.facts) (hWindowRefIdeal := WindowRefIdeal.Gen.facts)
    (hPre_finite_scores := Pre_finite_scores.Gen.facts) := by
  pair_intro
  · run_from WindowIdeal.Gen.run_main m g
  · run_from WindowRefIdeal.Value.run m' g'
    have hQ : WindowIdeal.Point.Finite (ι := WindowIdeal.S16384x2048.Idx) (m ((c.tc : Thread WindowIdeal.nD WindowIdeal.τ).loc WindowIdeal.main_arg0)) :=
      fun i => real_of_lt _ (congrFun (hpre c).1 i)
    have hK : WindowIdeal.Point.Finite (ι := WindowIdeal.S16384x512.Idx) (m ((c.tc : Thread WindowIdeal.nD WindowIdeal.τ).loc WindowIdeal.main_arg1)) :=
      fun i => real_of_lt _ (congrFun (hpre c).2 i)
    rw [WindowIdeal.Point.arr m c (by rw [WindowIdeal.Gen.V_main_arg0]; exact hQ) hK, WindowIdeal.Gen.V_main_arg0, WindowIdeal.Gen.V_main_arg2]
    rw [WindowRefIdeal.Read.val_main_v40_eq, (hagree c).1, (hagree c).2.1, (hagree c).2.2]
    exact WindowRefIdeal.Attention.ref_eq _ _ _ hQ hK

end Cert

end
-- ==== Proof.Products.lean ====
/-
  What the dense products of the layer compute, stated once for every size: entry (r, c) of the product of an M by K
  matrix and a K by N matrix, over the extended reals.
-/
module

public import Idealize.ShloMosaic.Lib.Pipeline.ValueKit
public import Idealize.ShloMosaic.Lib.Pointwise

@[expose] public section

noncomputable section

namespace Cert.Products

open Idealize.ShloMosaic
open scoped BigOperators

/-- Entry (r, c) of a matrix product: the sum over the contracted axis. -/
def entry {M K N : ℕ} (x : (⟨2, ![M, K]⟩ : Shape).Idx → EReal) (w : (⟨2, ![K, N]⟩ : Shape).Idx → EReal) (r : Fin M) (c : Fin N) : EReal :=
  ∑ k : Fin K, x (ix2 r k) * w (ix2 k c)

end Cert.Products

end
-- ==== Proof.MlpUp.lean ====
module

public import proofs.«01_k».proof.Defs
public import proofs.«01_k».proof.Proof.Products
public import proofs.«01_k».proof.Proof.Gen.MlpUpIdeal.Value
public import proofs.«01_k».proof.Proof.Gen.MlpUpRefIdeal.Read
public import Idealize.ShloMosaic.Lib.Pipeline.ValueKit
public import Idealize.ShloMosaic.Lib.Pointwise
public import Idealize.ShloMosaic.Lib.Pipeline.ReadBack
public import Idealize.ShloMosaic.Lib.Claim

/-!
# The hidden activations

The call multiplies tiles of 1024 rows by 1024 columns in two steps of 2048 and squares the positive part of the sum at the
last step. Here the two steps are joined into the whole product, and the call is compared with the reference.
-/

@[expose] public section

set_option maxRecDepth 16384

noncomputable section

namespace Cert.MlpUpIdeal.Hidden

open Cert.MlpUpIdeal Cert.MlpUpIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The first half of a product: what a grid point with a fresh sum leaves. -/
theorem part_apply (a : Vec Ideal S1024x2048 .bf16) (b : Vec Ideal S2048x1024 .bf16) (r : Fin 1024) (l : Fin 1024) :
    k0_pay1 (F := Ideal) a b (ix2 r l) = 0 + ∑ k : Fin 2048, a (ix2 r k) * b (ix2 k l) := by
  unfold k0_pay1
  pointwise

/-- The second half, added to the first. -/
theorem step_apply (acc : Vec Ideal S1024x1024 .f32) (a : Vec Ideal S1024x2048 .bf16) (b : Vec Ideal S2048x1024 .bf16) (r : Fin 1024) (l : Fin 1024) :
    k0_pay2 (F := Ideal) acc a b (ix2 r l) = acc (ix2 r l) + ∑ k : Fin 2048, a (ix2 r k) * b (ix2 k l) := by
  unfold k0_pay2
  pointwise

/-- The square of the positive part, at the last step. -/
theorem last_apply (acc : Vec Ideal S1024x1024 .f32) (r : Fin 1024) (l : Fin 1024) :
    k0_pay3 (F := Ideal) acc (ix2 r l) = max (acc (ix2 r l)) 0 * max (acc (ix2 r l)) 0 := by
  unfold k0_pay3
  pointwise

/-- Which block each operand shows at a grid point. -/
theorem idx : ∀ t : Fin grid0.N, win0_0.index t = ![t.val / 32, t.val % 2] ∧ win0_1.index t = ![t.val % 2, t.val / 2 % 16] ∧ win0_2.index t = ![t.val / 32, t.val / 2 % 16] := by
  decide +kernel

/-- The layer's hidden activations: the square of the positive part of the product. -/
def hidden (x : S16384x4096.Idx → EReal) (w : S4096x16384.Idx → EReal) : FVec Ideal S16384x16384 .bf16 := fun i =>
  max (Products.entry x w (i 0) (i 1)) 0 * max (Products.entry x w (i 0) (i 1)) 0

/-- The sum after the last step of a tile is the whole product. -/
theorem scratch (t : Fin cfg0.N) (hm : t.val % 2 = 1) (j : S1024x1024.Idx) : (outsAt0 m c t.val t.isLt).2 j
    = Products.entry (M := 16384) (K := 4096) (N := 16384) (V m c main_arg0) (V m c main_v0)
      (((cfg0.win 2).blk t).view.emb j 0) (((cfg0.win 2).blk t).view.emb j 1) := by
  rw [Pipeline.eq_sum_fin_of_reset_step_apply_of_flush (fun n h => (outsAt0 m c n h).2) 2 (fun _ => (0 : EReal))
      (fun t j => Products.entry (M := 1024) (K := 2048) (N := 1024) (iblk m c 0 t) (iblk m c 1 t) (j 0) (j 1))
    (fun t h j => by rw [outsAt0_A m c t h (by omega) (by omega)]; frame_out; rw [eq_ix2 j]; exact part_apply _ _ _ _)
    (fun t h j => by rw [outsAt0_B m c t h (by omega) (by omega)]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The array the call leaves. -/
theorem arr : (dats m 0 c).arrAt 2 cfg0.N = hidden (V m c main_arg0) (V m c main_v0) := by
  refine (dats m 0 c).arrAt_eq_of_covers 2 _ (by decide +kernel) fun t hf y => ?_
  have hm : t.val % 2 = 1 := (flush0_2 t).mp hf
  have hs := scratch m c t hm y
  rw [outsAt0_B m c t (by omega) hm hm] at hs
  frame_out at hs
  blk_simp
  rw [after0_2, outsAt0_B m c t (by omega) hm hm]
  frame_out
  rw [eq_ix2 y] at hs ⊢
  refine (last_apply _ _ _).trans ?_
  rw [hs]
  rfl

/-- The weights as the products read them are the weights given: a change of format is the identity here. -/
theorem entry_w : (V m c main_v0 : S4096x16384.Idx → EReal) = (m ((c.tc : Thread nD τ).loc main_arg1) : S4096x16384.Idx → EReal) := by
  unfold_abbrev_sides
  after_results
  rfl

end Cert.MlpUpIdeal.Hidden

namespace Cert

open Idealize.ShloMosaic Idealize.SL.Sem

/-- The reference's result: the same hidden activations. -/
theorem MlpUpRefIdeal.hidden_eq (x : FVec Ideal MlpUpIdeal.S16384x4096 .bf16) (w : FVec Ideal MlpUpIdeal.S4096x16384 .f32) :
    MlpUpRefIdeal.Read.val_main_v4 (F := Ideal) x w = MlpUpIdeal.Hidden.hidden x w := by
  funext i
  simp only [MlpUpRefIdeal.Read.val_main_v4_apply, MlpUpRefIdeal.Read.val_main_v3_apply, MlpUpRefIdeal.Read.val_main_v2_apply, MlpUpRefIdeal.Read.val_main_v1_apply, MlpUpRefIdeal.Read.val_main_v0_apply, MlpUpRefIdeal.Read.val_main_call0_v0_apply, MlpUpRefIdeal.Read.val_main_call0_cst_apply]
  have h0 : FloatOps.ofBits (F := Ideal) FTy.f32 0#32 = (0 : EReal) := Ideal.ofBits_zero_f32
  rw [h0]
  have e : ∀ k, MlpUpRefIdeal.Read.lidx_main_v1 i k = ix2 (i 0) k := fun k => by rw [eq_ix2 (MlpUpRefIdeal.Read.lidx_main_v1 i k)]; rfl
  have e' : ∀ k, MlpUpRefIdeal.Read.ridx_main_v1 i k = ix2 k (i 1) := fun k => by rw [eq_ix2 (MlpUpRefIdeal.Read.ridx_main_v1 i k)]; rfl
  simp only [e, e']
  rfl

/-- The call and its reference leave the same array. -/
theorem algebraic_mlp_up : algebraic_MlpUpIdeal_MlpUpRefIdeal (hMlpUpIdeal := MlpUpIdeal.Gen.facts) (hMlpUpRefIdeal := MlpUpRefIdeal.Gen.facts) := by
  pair_intro
  · run_from MlpUpIdeal.Gen.run_main m g
  · run_from MlpUpRefIdeal.Value.run m' g'
    rw [MlpUpIdeal.Hidden.arr, MlpUpIdeal.Gen.V_main_arg0]
    refine (MlpUpRefIdeal.hidden_eq _ _).trans ?_
    exact congrArg _ (MlpUpIdeal.Hidden.entry_w m c).symm

end Cert

end
-- ==== Proof.MlpDown.lean ====
module

public import proofs.«01_k».proof.Defs
public import proofs.«01_k».proof.Proof.Products
public import proofs.«01_k».proof.Proof.Gen.MlpDownIdeal.Value
public import proofs.«01_k».proof.Proof.Gen.MlpDownRefIdeal.Read
public import Idealize.ShloMosaic.Lib.Pipeline.ValueKit
public import Idealize.ShloMosaic.Lib.Pointwise
public import Idealize.ShloMosaic.Lib.Pipeline.ReadBack
public import Idealize.ShloMosaic.Lib.Claim

/-! The layer's last product: the residual plus the hidden activations times the second weight matrix. -/

@[expose] public section

set_option maxRecDepth 16384

noncomputable section

namespace Cert.MlpDownIdeal.Output

open Cert.MlpDownIdeal Cert.MlpDownIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What the first run of the contraction leaves in the scratch: that run's partial product. -/
theorem part_apply (a : Vec Ideal S1024x2048 .bf16) (b : Vec Ideal S2048x1024 .bf16) (r : Fin 1024) (l : Fin 1024) :
    k0_pay1 (F := Ideal) a b (ix2 r l) = 0 + ∑ k : Fin 2048, a (ix2 r k) * b (ix2 k l) := by
  unfold k0_pay1
  pointwise

/-- What a later run leaves: the scratch plus that run's partial product. -/
theorem step_apply (acc : Vec Ideal S1024x1024 .f32) (a : Vec Ideal S1024x2048 .bf16) (b : Vec Ideal S2048x1024 .bf16) (r : Fin 1024) (l : Fin 1024) :
    k0_pay2 (F := Ideal) acc a b (ix2 r l) = acc (ix2 r l) + ∑ k : Fin 2048, a (ix2 r k) * b (ix2 k l) := by
  unfold k0_pay2
  pointwise

/-- The last run's output: the residual's block plus the scratch. -/
theorem last_apply (acc res : Vec Ideal S1024x1024 .f32) (i : S1024x1024.Idx) :
    k0_pay3 (F := Ideal) acc res i = res i + acc i := by
  unfold k0_pay3
  rfl

/-- Which block each operand shows at a grid point. -/
theorem idx : ∀ t : Fin grid0.N, win0_0.index t = ![t.val / 32, t.val % 8] ∧ win0_1.index t = ![t.val % 8, t.val / 8 % 4]
    ∧ win0_2.index t = ![t.val / 32, t.val / 8 % 4] ∧ win0_3.index t = ![t.val / 32, t.val / 8 % 4] := by
  decide +kernel

/-- The layer's output: the residual plus the product. -/
def output (x : S16384x4096.Idx → EReal) (h : S16384x16384.Idx → EReal) (w : S16384x4096.Idx → EReal) : FVec Ideal S16384x4096 .f32 := fun i =>
  x i + Products.entry h w (i 0) (i 1)

/-- After the last run of a tile's contraction the scratch holds the whole product there. -/
theorem scratch (t : Fin cfg0.N) (hm : t.val % 8 = 7) (j : S1024x1024.Idx) : (outsAt0 m c t.val t.isLt).2 j
    = Products.entry (M := 16384) (K := 16384) (N := 4096) (V m c main_arg1) (V m c main_v0)
      (((cfg0.win 3).blk t).view.emb j 0) (((cfg0.win 3).blk t).view.emb j 1) := by
  rw [Pipeline.eq_sum_fin_of_reset_step_apply_of_flush (fun n h => (outsAt0 m c n h).2) 8 (fun _ => (0 : EReal))
      (fun t j => Products.entry (M := 1024) (K := 2048) (N := 1024) (iblk m c 0 t) (iblk m c 1 t) (j 0) (j 1))
    (fun t h j => by rw [outsAt0_A m c t h (by omega) (by omega)]; frame_out; rw [eq_ix2 j]; exact part_apply _ _ _ _)
    (fun t h j => by
      by_cases h7 : t.val % 8 = 7
      · rw [outsAt0_C m c t h (by omega) h7]; frame_out; simp only [read_unread_whole]; rw [eq_ix2 j]; exact step_apply _ _ _ _ _
      · rw [outsAt0_B m c t h (by omega) h7]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The array the call leaves. -/
theorem arr : (dats m 0 c).arrAt 3 cfg0.N = output (V m c main_arg0) (V m c main_arg1) (V m c main_v0) := by
  refine (dats m 0 c).arrAt_eq_of_covers 3 _ (by decide +kernel) fun t hf y => ?_
  have hm : t.val % 8 = 7 := (flush0_3 t).mp hf
  have hs := scratch m c t hm y
  rw [outsAt0_C m c t (by omega) (by omega) hm] at hs
  frame_out at hs
  blk_simp
  rw [after0_3, outsAt0_C m c t (by omega) (by omega) hm]
  frame_out
  refine (last_apply _ _ _).trans ?_
  rw [hs]
  refine congrArg (· + _) ?_
  blk_ext [iblk, idx]

/-- The weights as the products read them are the weights given: a change of format is the identity here. -/
theorem entry_w : (V m c main_v0 : S16384x4096.Idx → EReal) = (m ((c.tc : Thread nD τ).loc main_arg2) : S16384x4096.Idx → EReal) := by
  unfold_abbrev_sides
  after_results
  rfl

end Cert.MlpDownIdeal.Output

namespace Cert

open Idealize.ShloMosaic Idealize.SL.Sem

/-- The reference's result: the same sum. -/
theorem MlpDownRefIdeal.output_eq (x : FVec Ideal MlpDownIdeal.S16384x4096 .f32) (h : FVec Ideal MlpDownIdeal.S16384x16384 .bf16)
    (w : FVec Ideal MlpDownIdeal.S16384x4096 .f32) :
    MlpDownRefIdeal.Read.val_main_v2 (F := Ideal) x h w = MlpDownIdeal.Output.output x h w := by
  funext i
  simp only [MlpDownRefIdeal.Read.val_main_v2_apply, MlpDownRefIdeal.Read.val_main_v1_apply, MlpDownRefIdeal.Read.val_main_v0_apply]
  have e : ∀ k, MlpDownRefIdeal.Read.lidx_main_v1 i k = ix2 (i 0) k := fun k => by rw [eq_ix2 (MlpDownRefIdeal.Read.lidx_main_v1 i k)]; rfl
  have e' : ∀ k, MlpDownRefIdeal.Read.ridx_main_v1 i k = ix2 k (i 1) := fun k => by rw [eq_ix2 (MlpDownRefIdeal.Read.ridx_main_v1 i k)]; rfl
  simp only [e, e']
  rfl

/-- The kernel's result is the reference's. -/
theorem algebraic_mlp_down : algebraic_MlpDownIdeal_MlpDownRefIdeal (hMlpDownIdeal := MlpDownIdeal.Gen.facts) (hMlpDownRefIdeal := MlpDownRefIdeal.Gen.facts) := by
  pair_intro
  · run_from MlpDownIdeal.Gen.run_main m g
  · run_from MlpDownRefIdeal.Value.run m' g'
    rw [MlpDownIdeal.Output.arr, MlpDownIdeal.Gen.V_main_arg0, MlpDownIdeal.Gen.V_main_arg1]
    refine (MlpDownRefIdeal.output_eq _ _ _).trans ?_
    exact congrArg (MlpDownIdeal.Output.output _ _) (MlpDownIdeal.Output.entry_w m c).symm

end Cert

end
-- ==== Proof.MergeGates.lean ====
module

public import proofs.«01_k».proof.Defs
public import proofs.«01_k».proof.Proof.Products
public import proofs.«01_k».proof.Proof.Gen.MergeGatesIdeal.Value
public import proofs.«01_k».proof.Proof.Gen.MergeGatesRefIdeal.Read
public import Idealize.ShloMosaic.Lib.Pipeline.ValueKit
public import Idealize.ShloMosaic.Lib.Pointwise
public import Idealize.ShloMosaic.Lib.Pipeline.ReadBack
public import Idealize.ShloMosaic.Lib.Claim

/-! The gates of the merge: the logistic function of the normed rows times the gate weights. -/

@[expose] public section

set_option maxRecDepth 16384

noncomputable section

namespace Cert.MergeGatesIdeal.Gates

open Cert.MergeGatesIdeal Cert.MergeGatesIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What the first run of the contraction leaves in the scratch: that run's partial product. -/
theorem part_apply (a : Vec Ideal S1024x2048 .bf16) (b : Vec Ideal S2048x1024 .bf16) (r : Fin 1024) (l : Fin 1024) :
    k0_pay1 (F := Ideal) a b (ix2 r l) = 0 + ∑ k : Fin 2048, a (ix2 r k) * b (ix2 k l) := by
  unfold k0_pay1
  pointwise

/-- What the second run leaves: the scratch plus that run's partial product. -/
theorem step_apply (acc : Vec Ideal S1024x1024 .f32) (a : Vec Ideal S1024x2048 .bf16) (b : Vec Ideal S2048x1024 .bf16) (r : Fin 1024) (l : Fin 1024) :
    k0_pay2 (F := Ideal) acc a b (ix2 r l) = acc (ix2 r l) + ∑ k : Fin 2048, a (ix2 r k) * b (ix2 k l) := by
  unfold k0_pay2
  pointwise

/-- The logistic function as both programs write it. -/
def logistic (a : EReal) : EReal :=
  Ideal.div 1 (1 + Ideal.exp (-a))

/-- The second run's output: the logistic function of the scratch. -/
theorem last_apply (acc : Vec Ideal S1024x1024 .f32) (i : S1024x1024.Idx) :
    k0_pay3 (F := Ideal) acc i = logistic (acc i) := by
  rw [eq_ix2 i]
  unfold k0_pay3
  pointwise
  rw [zero_sub]
  rfl

/-- Which block each operand shows at a grid point. -/
theorem idx : ∀ t : Fin grid0.N, win0_0.index t = ![t.val / 24, t.val % 2] ∧ win0_1.index t = ![t.val % 2, t.val / 2 % 12]
    ∧ win0_2.index t = ![t.val / 24, t.val / 2 % 12] := by
  decide +kernel

/-- The gates of the merge: the logistic function of the product. -/
def gates (x : S16384x4096.Idx → EReal) (w : S4096x12288.Idx → EReal) : FVec Ideal S16384x12288 .f32 := fun i =>
  logistic (Products.entry x w (i 0) (i 1))

/-- After the second run of a tile's contraction the scratch holds the whole product there. -/
theorem scratch (t : Fin cfg0.N) (hm : t.val % 2 = 1) (j : S1024x1024.Idx) : (outsAt0 m c t.val t.isLt).2 j
    = Products.entry (M := 16384) (K := 4096) (N := 12288) (V m c main_arg0) (V m c main_v0)
      (((cfg0.win 2).blk t).view.emb j 0) (((cfg0.win 2).blk t).view.emb j 1) := by
  rw [Pipeline.eq_sum_fin_of_reset_step_apply_of_flush (fun n h => (outsAt0 m c n h).2) 2 (fun _ => (0 : EReal))
      (fun t j => Products.entry (M := 1024) (K := 2048) (N := 1024) (iblk m c 0 t) (iblk m c 1 t) (j 0) (j 1))
    (fun t h j => by rw [outsAt0_A m c t h (by omega) (by omega)]; frame_out; rw [eq_ix2 j]; exact part_apply _ _ _ _)
    (fun t h j => by rw [outsAt0_B m c t h (by omega) (by omega)]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The array the call leaves. -/
theorem arr : (dats m 0 c).arrAt 2 cfg0.N = gates (V m c main_arg0) (V m c main_v0) := by
  refine (dats m 0 c).arrAt_eq_of_covers 2 _ (by decide +kernel) fun t hf y => ?_
  have hm : t.val % 2 = 1 := (flush0_2 t).mp hf
  have hs := scratch m c t hm y
  rw [outsAt0_B m c t (by omega) hm hm] at hs
  frame_out at hs
  blk_simp
  rw [after0_2, outsAt0_B m c t (by omega) hm hm]
  frame_out
  refine (last_apply _ _).trans ?_
  rw [hs]
  rfl

/-- The weights as the products read them are the weights given: a change of format is the identity here. -/
theorem entry_w : (V m c main_v0 : S4096x12288.Idx → EReal) = (m ((c.tc : Thread nD τ).loc main_arg1) : S4096x12288.Idx → EReal) := by
  unfold_abbrev_sides
  after_results
  rfl

end Cert.MergeGatesIdeal.Gates

namespace Cert

open Idealize.ShloMosaic Idealize.SL.Sem

/-- The reference's result is the same array. -/
theorem MergeGatesRefIdeal.ref_eq (x : FVec Ideal MergeGatesIdeal.S16384x4096 .bf16) (w : FVec Ideal MergeGatesIdeal.S4096x12288 .f32) :
    MergeGatesRefIdeal.Read.val_main_v7 (F := Ideal) x w = MergeGatesIdeal.Gates.gates x w := by
  funext i
  simp only [MergeGatesRefIdeal.Read.val_main_v7_apply, MergeGatesRefIdeal.Read.val_main_v6_apply, MergeGatesRefIdeal.Read.val_main_cst_0_apply, MergeGatesRefIdeal.Read.val_main_v5_apply, MergeGatesRefIdeal.Read.val_main_v4_apply, MergeGatesRefIdeal.Read.val_main_cst_apply, MergeGatesRefIdeal.Read.val_main_v3_apply, MergeGatesRefIdeal.Read.val_main_v2_apply, MergeGatesRefIdeal.Read.val_main_v1_apply, MergeGatesRefIdeal.Read.val_main_v0_apply]
  have h1 : FloatOps.ofBits (F := Ideal) FTy.f32 0x3F800000#32 = (1 : EReal) := Ideal.ofBits_one_f32
  rw [h1]
  have e : ∀ k, MergeGatesRefIdeal.Read.lidx_main_v1 i k = ix2 (i 0) k := fun k => by rw [eq_ix2 (MergeGatesRefIdeal.Read.lidx_main_v1 i k)]; rfl
  have e' : ∀ k, MergeGatesRefIdeal.Read.ridx_main_v1 i k = ix2 k (i 1) := fun k => by rw [eq_ix2 (MergeGatesRefIdeal.Read.ridx_main_v1 i k)]; rfl
  simp only [e, e']
  rfl

/-- The call and its reference leave the same array. -/
theorem algebraic_merge_gates : algebraic_MergeGatesIdeal_MergeGatesRefIdeal (hMergeGatesIdeal := MergeGatesIdeal.Gen.facts) (hMergeGatesRefIdeal := MergeGatesRefIdeal.Gen.facts) := by
  pair_intro
  · run_from MergeGatesIdeal.Gen.run_main m g
  · run_from MergeGatesRefIdeal.Value.run m' g'
    rw [MergeGatesIdeal.Gates.arr, MergeGatesIdeal.Gen.V_main_arg0]
    refine (MergeGatesRefIdeal.ref_eq _ _).trans ?_
    exact congrArg _ (MergeGatesIdeal.Gates.entry_w m c).symm

end Cert

end
-- ==== Proof.GatedMerge.lean ====
module

public import proofs.«01_k».proof.Defs
public import proofs.«01_k».proof.Proof.Products
public import proofs.«01_k».proof.Proof.Gen.GatedMergeIdeal.Value
public import proofs.«01_k».proof.Proof.Gen.GatedMergeRefIdeal.Read
public import Idealize.ShloMosaic.Lib.Pipeline.ValueKit
public import Idealize.ShloMosaic.Lib.Pointwise
public import Idealize.ShloMosaic.Lib.Pipeline.ReadBack
public import Idealize.ShloMosaic.Lib.Claim

/-! The gated merge: the three branches, each projected and times its gate, added up. -/

@[expose] public section

set_option maxRecDepth 16384

noncomputable section

namespace Cert.GatedMergeIdeal.Merge

open Cert.GatedMergeIdeal Cert.GatedMergeIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What one grid point stores: its rows and columns of the gated sum. -/
theorem block_apply (ga gb gc : Vec Ideal S512x1024 .f32) (a : Vec Ideal S512x2048 .bf16) (wa : Vec Ideal S2048x1024 .bf16)
    (b c : Vec Ideal S512x1024 .bf16) (wb wc : Vec Ideal S1024x1024 .bf16) (r : Fin 512) (l : Fin 1024) :
    k0_pay1 (F := Ideal) ga a wa gb b wb gc c wc (ix2 r l)
      = ga (ix2 r l) * Products.entry (M := 512) (K := 2048) (N := 1024) a wa r l
        + gb (ix2 r l) * Products.entry (M := 512) (K := 1024) (N := 1024) b wb r l
        + gc (ix2 r l) * Products.entry (M := 512) (K := 1024) (N := 1024) c wc r l := by
  unfold k0_pay1
  pointwise
  rfl

/-- Which block each operand shows at a grid point. -/
theorem idx : ∀ t : Fin grid0.N, win0_0.index t = ![t.val / 4, 0] ∧ win0_1.index t = ![t.val / 4, 0] ∧ win0_2.index t = ![t.val / 4, 0]
    ∧ win0_3.index t = ![0, t.val % 4] ∧ win0_4.index t = ![0, t.val % 4] ∧ win0_5.index t = ![0, t.val % 4]
    ∧ win0_6.index t = ![t.val / 4, t.val % 4] ∧ win0_7.index t = ![t.val / 4, 4 + t.val % 4] ∧ win0_8.index t = ![t.val / 4, 8 + t.val % 4]
    ∧ win0_9.index t = ![t.val / 4, t.val % 4] := by
  decide +kernel

/-- The column of a gate among the three gates' columns. -/
abbrev gateIx (o : ℕ) (ho : o ≤ 8192) (i : S16384x4096.Idx) : S16384x12288.Idx :=
  ix2 (i 0) ⟨o + (i 1).val, by have h1 : (i 1).val < 4096 := (i 1).isLt; show o + (i 1).val < 12288; omega⟩

/-- The merged branches. -/
def merged (a : S16384x2048.Idx → EReal) (b c : S16384x1024.Idx → EReal) (wa : S2048x4096.Idx → EReal) (wb wc : S1024x4096.Idx → EReal)
    (g : S16384x12288.Idx → EReal) : FVec Ideal S16384x4096 .bf16 := fun i =>
  g (gateIx 0 (by omega) i) * Products.entry a wa (i 0) (i 1)
    + g (gateIx 4096 (by omega) i) * Products.entry b wb (i 0) (i 1)
    + g (gateIx 8192 (by omega) i) * Products.entry c wc (i 0) (i 1)

set_option maxHeartbeats 2000000 in
/-- The array the call leaves. -/
theorem arr : (dats m 0 c).arrAt 9 cfg0.N = merged (V m c main_arg0) (V m c main_arg1) (V m c main_arg2)
    (V m c main_v0) (V m c main_v1) (V m c main_v2) (V m c main_arg6) := by
  refine (dats m 0 c).arrAt_eq_of_covers 9 _ (by decide +kernel) fun t hf y => ?_
  blk_simp
  rw [after0_9]
  unfold out0_9
  frame_out
  rw [eq_ix2 y]
  refine (block_apply _ _ _ _ _ _ _ _ _ _ _).trans ?_
  unfold merged Products.entry
  refine congrArg₂ (· + ·) (congrArg₂ (· + ·) (congrArg₂ (· * ·) ?_ (Finset.sum_congr rfl fun k _ => congrArg₂ (· * ·) ?_ ?_))
    (congrArg₂ (· * ·) ?_ (Finset.sum_congr rfl fun k _ => congrArg₂ (· * ·) ?_ ?_)))
    (congrArg₂ (· * ·) ?_ (Finset.sum_congr rfl fun k _ => congrArg₂ (· * ·) ?_ ?_))
  all_goals blk_ext [iblk, idx, gateIx]

/-- The first branch's weights as the product reads them are the weights given. -/
theorem entry_wa : (V m c main_v0 : S2048x4096.Idx → EReal) = (m ((c.tc : Thread nD τ).loc main_arg3) : S2048x4096.Idx → EReal) := by
  unfold_abbrev_sides
  after_results
  rfl

/-- The second branch's weights as the product reads them are the weights given. -/
theorem entry_wb : (V m c main_v1 : S1024x4096.Idx → EReal) = (m ((c.tc : Thread nD τ).loc main_arg4) : S1024x4096.Idx → EReal) := by
  unfold_abbrev_sides
  after_results
  rfl

/-- The third branch's weights as the product reads them are the weights given. -/
theorem entry_wc : (V m c main_v2 : S1024x4096.Idx → EReal) = (m ((c.tc : Thread nD τ).loc main_arg5) : S1024x4096.Idx → EReal) := by
  unfold_abbrev_sides
  after_results
  rfl

end Cert.GatedMergeIdeal.Merge

namespace Cert

open Idealize.ShloMosaic Idealize.SL.Sem

/-- The reference's result is the same array. -/
theorem GatedMergeRefIdeal.ref_eq (a : FVec Ideal GatedMergeIdeal.S16384x2048 .bf16) (b c : FVec Ideal GatedMergeIdeal.S16384x1024 .bf16)
    (wa : FVec Ideal GatedMergeIdeal.S2048x4096 .f32) (wb wc : FVec Ideal GatedMergeIdeal.S1024x4096 .f32) (g : FVec Ideal GatedMergeIdeal.S16384x12288 .f32) :
    GatedMergeRefIdeal.Read.val_main_v14 (F := Ideal) a b c wa wb wc g = GatedMergeIdeal.Merge.merged a b c wa wb wc g := by
  funext i
  open GatedMergeRefIdeal.Read in
  simp only [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply, val_main_v0_apply]
  have e4 : ∀ k, GatedMergeRefIdeal.Read.lidx_main_v4 i k = ix2 (i 0) k := fun k => by rw [eq_ix2 (GatedMergeRefIdeal.Read.lidx_main_v4 i k)]; rfl
  have e4' : ∀ k, GatedMergeRefIdeal.Read.ridx_main_v4 i k = ix2 k (i 1) := fun k => by rw [eq_ix2 (GatedMergeRefIdeal.Read.ridx_main_v4 i k)]; rfl
  have e7 : ∀ k, GatedMergeRefIdeal.Read.lidx_main_v7 i k = ix2 (i 0) k := fun k => by rw [eq_ix2 (GatedMergeRefIdeal.Read.lidx_main_v7 i k)]; rfl
  have e7' : ∀ k, GatedMergeRefIdeal.Read.ridx_main_v7 i k = ix2 k (i 1) := fun k => by rw [eq_ix2 (GatedMergeRefIdeal.Read.ridx_main_v7 i k)]; rfl
  have e11 : ∀ k, GatedMergeRefIdeal.Read.lidx_main_v11 i k = ix2 (i 0) k := fun k => by rw [eq_ix2 (GatedMergeRefIdeal.Read.lidx_main_v11 i k)]; rfl
  have e11' : ∀ k, GatedMergeRefIdeal.Read.ridx_main_v11 i k = ix2 k (i 1) := fun k => by rw [eq_ix2 (GatedMergeRefIdeal.Read.ridx_main_v11 i k)]; rfl
  have g0 : GatedMergeRefIdeal.Read.idx_main_v0 i = GatedMergeIdeal.Merge.gateIx 0 (by omega) i := by
    funext a; fin_cases a
    · rfl
    · exact Fin.ext (Nat.zero_add _).symm
  have g1 : GatedMergeRefIdeal.Read.idx_main_v1 i = GatedMergeIdeal.Merge.gateIx 4096 (by omega) i := by
    funext a; fin_cases a <;> rfl
  have g2 : GatedMergeRefIdeal.Read.idx_main_v2 i = GatedMergeIdeal.Merge.gateIx 8192 (by omega) i := by
    funext a; fin_cases a <;> rfl
  simp only [e4, e4', e7, e7', e11, e11', g0, g1, g2]
  rfl

/-- The call and its reference leave the same array. -/
theorem algebraic_gated_merge : algebraic_GatedMergeIdeal_GatedMergeRefIdeal (hGatedMergeIdeal := GatedMergeIdeal.Gen.facts) (hGatedMergeRefIdeal := GatedMergeRefIdeal.Gen.facts) := by
  pair_intro
  · run_from GatedMergeIdeal.Gen.run_main m g
  · run_from GatedMergeRefIdeal.Value.run m' g'
    rw [GatedMergeIdeal.Merge.arr, GatedMergeIdeal.Gen.V_main_arg0, GatedMergeIdeal.Gen.V_main_arg1, GatedMergeIdeal.Gen.V_main_arg2, GatedMergeIdeal.Gen.V_main_arg6]
    refine (GatedMergeRefIdeal.ref_eq _ _ _ _ _ _ _).trans ?_
    rw [GatedMergeIdeal.Merge.entry_wa, GatedMergeIdeal.Merge.entry_wb, GatedMergeIdeal.Merge.entry_wc]

end Cert

end
-- ==== Proof.OutProj.lean ====
module

public import proofs.«01_k».proof.Defs
public import proofs.«01_k».proof.Proof.Products
public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise
public import Idealize.ShloMosaic.Lib.Pipeline.ReadBack
public import Idealize.ShloMosaic.Lib.Claim

/-! The output projection: the residual plus the merged branches times the output weights. -/

@[expose] public section

set_option maxRecDepth 16384

noncomputable section

namespace Cert.OutProjIdeal.Output

open Cert.OutProjIdeal Cert.OutProjIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What the first run of the contraction leaves in the scratch: that run's partial product. -/
theorem part_apply (a : Vec Ideal S1024x2048 .bf16) (b : Vec Ideal S2048x1024 .bf16) (r : Fin 1024) (l : Fin 1024) :
    k0_pay1 (F := Ideal) a b (ix2 r l) = 0 + ∑ k : Fin 2048, a (ix2 r k) * b (ix2 k l) := by
  unfold k0_pay1
  pointwise

/-- What the second run leaves: the scratch plus that run's partial product. -/
theorem step_apply (acc : Vec Ideal S1024x1024 .f32) (a : Vec Ideal S1024x2048 .bf16) (b : Vec Ideal S2048x1024 .bf16) (r : Fin 1024) (l : Fin 1024) :
    k0_pay2 (F := Ideal) acc a b (ix2 r l) = acc (ix2 r l) + ∑ k : Fin 2048, a (ix2 r k) * b (ix2 k l) := by
  unfold k0_pay2
  pointwise

/-- The second run's output: the residual's block plus the scratch. -/
theorem last_apply (acc res : Vec Ideal S1024x1024 .f32) (i : S1024x1024.Idx) :
    k0_pay3 (F := Ideal) acc res i = res i + acc i := by
  unfold k0_pay3
  rfl

/-- Which block each operand shows at a grid point. -/
theorem idx : ∀ t : Fin grid0.N, win0_0.index t = ![t.val / 8, t.val % 2] ∧ win0_1.index t = ![t.val % 2, t.val / 2 % 4]
    ∧ win0_2.index t = ![t.val / 8, t.val / 2 % 4]
    ∧ win0_3.index t = ![t.val / 8, t.val / 2 % 4] := by
  decide +kernel

/-- The attention block's output: the residual plus the product. -/
def output (res : S16384x4096.Idx → EReal) (x : S16384x4096.Idx → EReal) (w : S4096x4096.Idx → EReal) : FVec Ideal S16384x4096 .f32 := fun i =>
  res i + Products.entry x w (i 0) (i 1)

/-- After the second run of a tile's contraction the scratch holds the whole product there. -/
theorem scratch (t : Fin cfg0.N) (hm : t.val % 2 = 1) (j : S1024x1024.Idx) : (outsAt0 m c t.val t.isLt).2 j
    = Products.entry (M := 16384) (K := 4096) (N := 4096) (V m c main_arg1) (V m c main_v0)
      (((cfg0.win 3).blk t).view.emb j 0) (((cfg0.win 3).blk t).view.emb j 1) := by
  rw [Pipeline.eq_sum_fin_of_reset_step_apply_of_flush (fun n h => (outsAt0 m c n h).2) 2 (fun _ => (0 : EReal))
      (fun t j => Products.entry (M := 1024) (K := 2048) (N := 1024) (iblk m c 0 t) (iblk m c 1 t) (j 0) (j 1))
    (fun t h j => by rw [outsAt0_A m c t h (by omega) (by omega)]; frame_out; rw [eq_ix2 j]; exact part_apply _ _ _ _)
    (fun t h j => by rw [outsAt0_B m c t h (by omega) (by omega)]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The array the call leaves. -/
theorem arr : (dats m 0 c).arrAt 3 cfg0.N = output (V m c main_arg0) (V m c main_arg1) (V m c main_v0) := by
  refine (dats m 0 c).arrAt_eq_of_covers 3 _ (by decide +kernel) fun t hf y => ?_
  have hm : t.val % 2 = 1 := (flush0_3 t).mp hf
  have hs := scratch m c t hm y
  rw [outsAt0_B m c t (by omega) hm hm] at hs
  frame_out at hs
  blk_simp
  rw [after0_3, outsAt0_B m c t (by omega) hm hm]
  frame_out
  refine (last_apply _ _ _).trans ?_
  rw [hs]
  refine congrArg (· + _) ?_
  blk_ext [iblk, idx]

/-- The weights as the products read them are the weights given: a change of format is the identity here. -/
theorem entry_w : (V m c main_v0 : S4096x4096.Idx → EReal) = (m ((c.tc : Thread nD τ).loc main_arg2) : S4096x4096.Idx → EReal) := by
  unfold_abbrev_sides
  after_results
  rfl

end Cert.OutProjIdeal.Output

namespace Cert

open Idealize.ShloMosaic Idealize.SL.Sem

/-- The reference's result is the same array. -/
theorem OutProjRefIdeal.ref_eq (res : FVec Ideal OutProjIdeal.S16384x4096 .f32) (x : FVec Ideal OutProjIdeal.S16384x4096 .bf16) (w : FVec Ideal OutProjIdeal.S4096x4096 .f32) :
    OutProjRefIdeal.Read.val_main_v2 (F := Ideal) res x w = OutProjIdeal.Output.output res x w := by
  funext i
  simp only [OutProjRefIdeal.Read.val_main_v2_apply, OutProjRefIdeal.Read.val_main_v1_apply, OutProjRefIdeal.Read.val_main_v0_apply]
  have e : ∀ k, OutProjRefIdeal.Read.lidx_main_v1 i k = ix2 (i 0) k := fun k => by rw [eq_ix2 (OutProjRefIdeal.Read.lidx_main_v1 i k)]; rfl
  have e' : ∀ k, OutProjRefIdeal.Read.ridx_main_v1 i k = ix2 k (i 1) := fun k => by rw [eq_ix2 (OutProjRefIdeal.Read.ridx_main_v1 i k)]; rfl
  simp only [e, e']
  rfl

/-- The call and its reference leave the same array. -/
theorem algebraic_out_proj : algebraic_OutProjIdeal_OutProjRefIdeal (hOutProjIdeal := OutProjIdeal.Gen.facts) (hOutProjRefIdeal := OutProjRefIdeal.Gen.facts) := by
  pair_intro
  · run_from OutProjIdeal.Gen.run_main m g
  · run_from OutProjRefIdeal.Value.run m' g'
    rw [OutProjIdeal.Output.arr, OutProjIdeal.Gen.V_main_arg0, OutProjIdeal.Gen.V_main_arg1]
    refine (OutProjRefIdeal.ref_eq _ _ _).trans ?_
    exact congrArg _ (OutProjIdeal.Output.entry_w m c).symm

end Cert

end
-- ==== Proof.Values.lean ====
module

public import proofs.«01_k».proof.Defs
public import proofs.«01_k».proof.Proof.Products
public import proofs.«01_k».proof.Proof.Gen.ValuesIdeal.Value
public import proofs.«01_k».proof.Proof.Gen.ValuesRefIdeal.Read
public import Idealize.ShloMosaic.Lib.Pipeline.ValueKit
public import Idealize.ShloMosaic.Lib.Pointwise
public import Idealize.ShloMosaic.Lib.Pipeline.ReadBack
public import Idealize.ShloMosaic.Lib.Claim

/-! The values of the attention branches: the normed rows times the value weights. -/

@[expose] public section

set_option maxRecDepth 16384

noncomputable section

namespace Cert.ValuesIdeal.Product

open Cert.ValuesIdeal Cert.ValuesIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What the first run of the contraction leaves in the scratch: that run's partial product. -/
theorem part_apply (a : Vec Ideal S1024x2048 .bf16) (b : Vec Ideal S2048x1024 .bf16) (r : Fin 1024) (l : Fin 1024) :
    k0_pay1 (F := Ideal) a b (ix2 r l) = 0 + ∑ k : Fin 2048, a (ix2 r k) * b (ix2 k l) := by
  unfold k0_pay1
  pointwise

/-- What the second run leaves: the scratch plus that run's partial product. -/
theorem step_apply (acc : Vec Ideal S1024x1024 .f32) (a : Vec Ideal S1024x2048 .bf16) (b : Vec Ideal S2048x1024 .bf16) (r : Fin 1024) (l : Fin 1024) :
    k0_pay2 (F := Ideal) acc a b (ix2 r l) = acc (ix2 r l) + ∑ k : Fin 2048, a (ix2 r k) * b (ix2 k l) := by
  unfold k0_pay2
  pointwise

/-- The second run's output: the scratch, its format changed. -/
theorem last_apply (acc : Vec Ideal S1024x1024 .f32) (i : S1024x1024.Idx) :
    k0_pay3 (F := Ideal) acc i = acc i := by
  unfold k0_pay3
  rfl

/-- Which block each operand shows at a grid point. -/
theorem idx : ∀ t : Fin grid0.N, win0_0.index t = ![t.val / 2, t.val % 2] ∧ win0_1.index t = ![t.val % 2, t.val / 2 % 1]
    ∧ win0_2.index t = ![t.val / 2, t.val / 2 % 1] := by
  decide +kernel

/-- The values: the normed rows times the value weights. -/
def product (x : S16384x4096.Idx → EReal) (w : S4096x1024.Idx → EReal) : FVec Ideal S16384x1024 .bf16 := fun i =>
  Products.entry x w (i 0) (i 1)

/-- After the second run of a tile's contraction the scratch holds the whole product there. -/
theorem scratch (t : Fin cfg0.N) (hm : t.val % 2 = 1) (j : S1024x1024.Idx) : (outsAt0 m c t.val t.isLt).2 j
    = Products.entry (M := 16384) (K := 4096) (N := 1024) (V m c main_arg0) (V m c main_v0)
      (((cfg0.win 2).blk t).view.emb j 0) (((cfg0.win 2).blk t).view.emb j 1) := by
  rw [Pipeline.eq_sum_fin_of_reset_step_apply_of_flush (fun n h => (outsAt0 m c n h).2) 2 (fun _ => (0 : EReal))
      (fun t j => Products.entry (M := 1024) (K := 2048) (N := 1024) (iblk m c 0 t) (iblk m c 1 t) (j 0) (j 1))
    (fun t h j => by rw [outsAt0_A m c t h (by omega) (by omega)]; frame_out; rw [eq_ix2 j]; exact part_apply _ _ _ _)
    (fun t h j => by rw [outsAt0_B m c t h (by omega) (by omega)]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The array the call leaves. -/
theorem arr : (dats m 0 c).arrAt 2 cfg0.N = product (V m c main_arg0) (V m c main_v0) := by
  refine (dats m 0 c).arrAt_eq_of_covers 2 _ (by decide +kernel) fun t hf y => ?_
  have hm : t.val % 2 = 1 := (flush0_2 t).mp hf
  have hs := scratch m c t hm y
  rw [outsAt0_B m c t (by omega) hm hm] at hs
  frame_out at hs
  blk_simp
  rw [after0_2, outsAt0_B m c t (by omega) hm hm]
  frame_out
  refine (last_apply _ _).trans ?_
  rw [hs]
  rfl

/-- The weights as the products read them are the weights given: a change of format is the identity here. -/
theorem entry_w : (V m c main_v0 : S4096x1024.Idx → EReal) = (m ((c.tc : Thread nD τ).loc main_arg1) : S4096x1024.Idx → EReal) := by
  unfold_abbrev_sides
  after_results
  rfl

end Cert.ValuesIdeal.Product

namespace Cert

open Idealize.ShloMosaic Idealize.SL.Sem

/-- The reference's result is the same array. -/
theorem ValuesRefIdeal.ref_eq (x : FVec Ideal ValuesIdeal.S16384x4096 .bf16) (w : FVec Ideal ValuesIdeal.S4096x1024 .f32) :
    ValuesRefIdeal.Read.val_main_v2 (F := Ideal) x w = ValuesIdeal.Product.product x w := by
  funext i
  simp only [ValuesRefIdeal.Read.val_main_v2_apply, ValuesRefIdeal.Read.val_main_v1_apply, ValuesRefIdeal.Read.val_main_v0_apply]
  have e : ∀ k, ValuesRefIdeal.Read.lidx_main_v1 i k = ix2 (i 0) k := fun k => by rw [eq_ix2 (ValuesRefIdeal.Read.lidx_main_v1 i k)]; rfl
  have e' : ∀ k, ValuesRefIdeal.Read.ridx_main_v1 i k = ix2 k (i 1) := fun k => by rw [eq_ix2 (ValuesRefIdeal.Read.ridx_main_v1 i k)]; rfl
  simp only [e, e']
  rfl

/-- The call and its reference leave the same array. -/
theorem algebraic_values : algebraic_ValuesIdeal_ValuesRefIdeal (hValuesIdeal := ValuesIdeal.Gen.facts) (hValuesRefIdeal := ValuesRefIdeal.Gen.facts) := by
  pair_intro
  · run_from ValuesIdeal.Gen.run_main m g
  · run_from ValuesRefIdeal.Value.run m' g'
    rw [ValuesIdeal.Product.arr, ValuesIdeal.Gen.V_main_arg0]
    refine (ValuesRefIdeal.ref_eq _ _).trans ?_
    exact congrArg _ (ValuesIdeal.Product.entry_w m c).symm

end Cert

end
-- ==== Proof.ChunkInputs.lean ====
module

public import proofs.«01_k».proof.Defs
public import proofs.«01_k».proof.Proof.Products
public import proofs.«01_k».proof.Proof.Gen.ChunkInputsIdeal.Value
public import proofs.«01_k».proof.Proof.Gen.ChunkInputsRefIdeal.Read
public import Idealize.ShloMosaic.Lib.Pipeline.ValueKit
public import Idealize.ShloMosaic.Lib.Pointwise
public import Idealize.ShloMosaic.Lib.Pipeline.ReadBack
public import Idealize.ShloMosaic.Lib.Claim

/-! The rows the chunk keys and values are compressed from: the normed rows times their weights. -/

@[expose] public section

set_option maxRecDepth 16384

noncomputable section

namespace Cert.ChunkInputsIdeal.Product

open Cert.ChunkInputsIdeal Cert.ChunkInputsIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What the first run of the contraction leaves in the scratch: that run's partial product. -/
theorem part_apply (a : Vec Ideal S1024x2048 .bf16) (b : Vec Ideal S2048x1024 .bf16) (r : Fin 1024) (l : Fin 1024) :
    k0_pay1 (F := Ideal) a b (ix2 r l) = 0 + ∑ k : Fin 2048, a (ix2 r k) * b (ix2 k l) := by
  unfold k0_pay1
  pointwise

/-- What the second run leaves: the scratch plus that run's partial product. -/
theorem step_apply (acc : Vec Ideal S1024x1024 .f32) (a : Vec Ideal S1024x2048 .bf16) (b : Vec Ideal S2048x1024 .bf16) (r : Fin 1024) (l : Fin 1024) :
    k0_pay2 (F := Ideal) acc a b (ix2 r l) = acc (ix2 r l) + ∑ k : Fin 2048, a (ix2 r k) * b (ix2 k l) := by
  unfold k0_pay2
  pointwise

/-- Which block each operand shows at a grid point. -/
theorem idx : ∀ t : Fin grid0.N, win0_0.index t = ![t.val / 2, t.val % 2] ∧ win0_1.index t = ![t.val % 2, t.val / 2 % 1]
    ∧ win0_2.index t = ![t.val / 2, t.val / 2 % 1] := by
  decide +kernel

/-- The rows the chunk keys and values are compressed from. -/
def product (x : S16384x4096.Idx → EReal) (w : S4096x1024.Idx → EReal) : FVec Ideal S16384x1024 .f32 := fun i =>
  Products.entry x w (i 0) (i 1)

/-- After the second run of a tile's contraction the scratch holds the whole product there. -/
theorem scratch (t : Fin cfg0.N) (hm : t.val % 2 = 1) (j : S1024x1024.Idx) : (outsAt0 m c t.val t.isLt).2 j
    = Products.entry (M := 16384) (K := 4096) (N := 1024) (V m c main_arg0) (V m c main_v0)
      (((cfg0.win 2).blk t).view.emb j 0) (((cfg0.win 2).blk t).view.emb j 1) := by
  rw [Pipeline.eq_sum_fin_of_reset_step_apply_of_flush (fun n h => (outsAt0 m c n h).2) 2 (fun _ => (0 : EReal))
      (fun t j => Products.entry (M := 1024) (K := 2048) (N := 1024) (iblk m c 0 t) (iblk m c 1 t) (j 0) (j 1))
    (fun t h j => by rw [outsAt0_A m c t h (by omega) (by omega)]; frame_out; rw [eq_ix2 j]; exact part_apply _ _ _ _)
    (fun t h j => by rw [outsAt0_B m c t h (by omega) (by omega)]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The array the call leaves. -/
theorem arr : (dats m 0 c).arrAt 2 cfg0.N = product (V m c main_arg0) (V m c main_v0) := by
  refine (dats m 0 c).arrAt_eq_of_covers 2 _ (by decide +kernel) fun t hf y => ?_
  have hm : t.val % 2 = 1 := (flush0_2 t).mp hf
  have hs := scratch m c t hm y
  rw [outsAt0_B m c t (by omega) hm hm] at hs
  frame_out at hs
  blk_simp
  rw [after0_2, outsAt0_B m c t (by omega) hm hm]
  frame_out
  exact hs

/-- The weights as the products read them are the weights given: a change of format is the identity here. -/
theorem entry_w : (V m c main_v0 : S4096x1024.Idx → EReal) = (m ((c.tc : Thread nD τ).loc main_arg1) : S4096x1024.Idx → EReal) := by
  unfold_abbrev_sides
  after_results
  rfl

end Cert.ChunkInputsIdeal.Product

namespace Cert

open Idealize.ShloMosaic Idealize.SL.Sem

/-- The reference's result is the same array. -/
theorem ChunkInputsRefIdeal.ref_eq (x : FVec Ideal ChunkInputsIdeal.S16384x4096 .bf16) (w : FVec Ideal ChunkInputsIdeal.S4096x1024 .f32) :
    ChunkInputsRefIdeal.Read.val_main_v1 (F := Ideal) x w = ChunkInputsIdeal.Product.product x w := by
  funext i
  simp only [ChunkInputsRefIdeal.Read.val_main_v1_apply, ChunkInputsRefIdeal.Read.val_main_v0_apply]
  have e : ∀ k, ChunkInputsRefIdeal.Read.lidx_main_v1 i k = ix2 (i 0) k := fun k => by rw [eq_ix2 (ChunkInputsRefIdeal.Read.lidx_main_v1 i k)]; rfl
  have e' : ∀ k, ChunkInputsRefIdeal.Read.ridx_main_v1 i k = ix2 k (i 1) := fun k => by rw [eq_ix2 (ChunkInputsRefIdeal.Read.ridx_main_v1 i k)]; rfl
  simp only [e, e']
  rfl

/-- The call and its reference leave the same array. -/
theorem algebraic_chunk_inputs : algebraic_ChunkInputsIdeal_ChunkInputsRefIdeal (hChunkInputsIdeal := ChunkInputsIdeal.Gen.facts) (hChunkInputsRefIdeal := ChunkInputsRefIdeal.Gen.facts) := by
  pair_intro
  · run_from ChunkInputsIdeal.Gen.run_main m g
  · run_from ChunkInputsRefIdeal.Value.run m' g'
    rw [ChunkInputsIdeal.Product.arr, ChunkInputsIdeal.Gen.V_main_arg0]
    refine (ChunkInputsRefIdeal.ref_eq _ _).trans ?_
    exact congrArg _ (ChunkInputsIdeal.Product.entry_w m c).symm

end Cert

end
-- ==== Proof.GatingInputs.lean ====
module

public import proofs.«01_k».proof.Defs
public import proofs.«01_k».proof.Proof.Products
public import proofs.«01_k».proof.Proof.Gen.GatingInputsIdeal.Value
public import proofs.«01_k».proof.Proof.Gen.GatingInputsRefIdeal.Read
public import Idealize.ShloMosaic.Lib.Pipeline.ValueKit
public import Idealize.ShloMosaic.Lib.Pointwise
public import Idealize.ShloMosaic.Lib.Pipeline.ReadBack
public import Idealize.ShloMosaic.Lib.Claim

/-! The spatial gating unit's input: the normed rows times its weights. -/

@[expose] public section

set_option maxRecDepth 16384

noncomputable section

namespace Cert.GatingInputsIdeal.Product

open Cert.GatingInputsIdeal Cert.GatingInputsIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What the first run of the contraction leaves in the scratch: that run's partial product. -/
theorem part_apply (a : Vec Ideal S1024x2048 .bf16) (b : Vec Ideal S2048x1024 .bf16) (r : Fin 1024) (l : Fin 1024) :
    k0_pay1 (F := Ideal) a b (ix2 r l) = 0 + ∑ k : Fin 2048, a (ix2 r k) * b (ix2 k l) := by
  unfold k0_pay1
  pointwise

/-- What the second run leaves: the scratch plus that run's partial product. -/
theorem step_apply (acc : Vec Ideal S1024x1024 .f32) (a : Vec Ideal S1024x2048 .bf16) (b : Vec Ideal S2048x1024 .bf16) (r : Fin 1024) (l : Fin 1024) :
    k0_pay2 (F := Ideal) acc a b (ix2 r l) = acc (ix2 r l) + ∑ k : Fin 2048, a (ix2 r k) * b (ix2 k l) := by
  unfold k0_pay2
  pointwise

/-- Which block each operand shows at a grid point. -/
theorem idx : ∀ t : Fin grid0.N, win0_0.index t = ![t.val / 4, t.val % 2] ∧ win0_1.index t = ![t.val % 2, t.val / 2 % 2]
    ∧ win0_2.index t = ![t.val / 4, t.val / 2 % 2] := by
  decide +kernel

/-- The two halves of the spatial gating unit's input. -/
def product (x : S16384x4096.Idx → EReal) (w : S4096x2048.Idx → EReal) : FVec Ideal S16384x2048 .f32 := fun i =>
  Products.entry x w (i 0) (i 1)

/-- After the second run of a tile's contraction the scratch holds the whole product there. -/
theorem scratch (t : Fin cfg0.N) (hm : t.val % 2 = 1) (j : S1024x1024.Idx) : (outsAt0 m c t.val t.isLt).2 j
    = Products.entry (M := 16384) (K := 4096) (N := 2048) (V m c main_arg0) (V m c main_v0)
      (((cfg0.win 2).blk t).view.emb j 0) (((cfg0.win 2).blk t).view.emb j 1) := by
  rw [Pipeline.eq_sum_fin_of_reset_step_apply_of_flush (fun n h => (outsAt0 m c n h).2) 2 (fun _ => (0 : EReal))
      (fun t j => Products.entry (M := 1024) (K := 2048) (N := 1024) (iblk m c 0 t) (iblk m c 1 t) (j 0) (j 1))
    (fun t h j => by rw [outsAt0_A m c t h (by omega) (by omega)]; frame_out; rw [eq_ix2 j]; exact part_apply _ _ _ _)
    (fun t h j => by rw [outsAt0_B m c t h (by omega) (by omega)]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The array the call leaves. -/
theorem arr : (dats m 0 c).arrAt 2 cfg0.N = product (V m c main_arg0) (V m c main_v0) := by
  refine (dats m 0 c).arrAt_eq_of_covers 2 _ (by decide +kernel) fun t hf y => ?_
  have hm : t.val % 2 = 1 := (flush0_2 t).mp hf
  have hs := scratch m c t hm y
  rw [outsAt0_B m c t (by omega) hm hm] at hs
  frame_out at hs
  blk_simp
  rw [after0_2, outsAt0_B m c t (by omega) hm hm]
  frame_out
  exact hs

/-- The weights as the products read them are the weights given: a change of format is the identity here. -/
theorem entry_w : (V m c main_v0 : S4096x2048.Idx → EReal) = (m ((c.tc : Thread nD τ).loc main_arg1) : S4096x2048.Idx → EReal) := by
  unfold_abbrev_sides
  after_results
  rfl

end Cert.GatingInputsIdeal.Product

namespace Cert

open Idealize.ShloMosaic Idealize.SL.Sem

/-- The reference's result is the same array. -/
theorem GatingInputsRefIdeal.ref_eq (x : FVec Ideal GatingInputsIdeal.S16384x4096 .bf16) (w : FVec Ideal GatingInputsIdeal.S4096x2048 .f32) :
    GatingInputsRefIdeal.Read.val_main_v1 (F := Ideal) x w = GatingInputsIdeal.Product.product x w := by
  funext i
  simp only [GatingInputsRefIdeal.Read.val_main_v1_apply, GatingInputsRefIdeal.Read.val_main_v0_apply]
  have e : ∀ k, GatingInputsRefIdeal.Read.lidx_main_v1 i k = ix2 (i 0) k := fun k => by rw [eq_ix2 (GatingInputsRefIdeal.Read.lidx_main_v1 i k)]; rfl
  have e' : ∀ k, GatingInputsRefIdeal.Read.ridx_main_v1 i k = ix2 k (i 1) := fun k => by rw [eq_ix2 (GatingInputsRefIdeal.Read.ridx_main_v1 i k)]; rfl
  simp only [e, e']
  rfl

/-- The call and its reference leave the same array. -/
theorem algebraic_gating_inputs : algebraic_GatingInputsIdeal_GatingInputsRefIdeal (hGatingInputsIdeal := GatingInputsIdeal.Gen.facts) (hGatingInputsRefIdeal := GatingInputsRefIdeal.Gen.facts) := by
  pair_intro
  · run_from GatingInputsIdeal.Gen.run_main m g
  · run_from GatingInputsRefIdeal.Value.run m' g'
    rw [GatingInputsIdeal.Product.arr, GatingInputsIdeal.Gen.V_main_arg0]
    refine (GatingInputsRefIdeal.ref_eq _ _).trans ?_
    exact congrArg _ (GatingInputsIdeal.Product.entry_w m c).symm

end Cert

end
-- ==== Proof.Rotary.lean ====
/-
  The norm of one head of 128 entries and the rotation of its halves, over the extended reals, and how eight heads
  stored side by side make up a block of 1024 columns.
-/
module

public import Idealize.ShloMosaic.Lib.Pipeline.ValueKit
public import Idealize.ShloMosaic.Lib.Pointwise

@[expose] public section

noncomputable section

namespace Cert.Rotary

open Idealize.ShloMosaic
open scoped BigOperators

/-- A head divided by its root mean square and multiplied by the gain. -/
def normed (x g : Fin 128 → EReal) (d : Fin 128) : EReal :=
  x d * Ideal.rsqrt (Ideal.div (∑ l : Fin 128, x l * x l) (Ideal.ofBits .f32 0x43000000#32) + Ideal.ofBits .f32 0x358637BD#32) * g d

/-- The entry of the other half that a rotation mixes in. -/
def partner (d : Fin 128) : Fin 128 := ⟨(d.val + 128 - 64) % 128, Nat.mod_lt _ (by norm_num)⟩

/-- A normed head turned by the angles whose cosines and signed sines are given per entry. -/
def turned (x g c s : Fin 128 → EReal) (d : Fin 128) : EReal :=
  normed x g d * c d + normed x g (partner d) * s d

/-- Place of an entry within its half. -/
def half (d : Fin 128) : Fin 64 := ⟨d.val % 64, Nat.mod_lt _ (by norm_num)⟩

/-- The sine as the rotation uses it: negative for the first half. -/
def signed (s : Fin 64 → EReal) (d : Fin 128) : EReal := if d.val < 64 then -s (half d) else s (half d)

/-- Two copies of a row of 64 entries side by side. -/
theorem halves (s : Fin 64 → EReal) (d : Fin 128) : (if h : d.val < 64 then s ⟨d.val, h⟩ else s ⟨d.val - 64, by omega⟩) = s (half d) := by
  by_cases h : d.val < 64
  · rw [dif_pos h]
    exact congrArg s (Fin.ext (by show d.val = d.val % 64; omega))
  · rw [dif_neg h]
    exact congrArg s (Fin.ext (by show d.val - 64 = d.val % 64; omega))

/-- A negated and a plain copy of a row of 64 entries side by side. -/
theorem signed_halves (s : Fin 64 → EReal) (d : Fin 128) : (if h : d.val < 64 then -s ⟨d.val, h⟩ else s ⟨d.val - 64, by omega⟩) = signed s d := by
  unfold signed
  by_cases h : d.val < 64
  · rw [dif_pos h, if_pos h]
    exact congrArg (fun k => -s k) (Fin.ext (by show d.val = d.val % 64; omega))
  · rw [dif_neg h, if_neg h]
    exact congrArg s (Fin.ext (by show d.val - 64 = d.val % 64; omega))

/-- Place of column j within its head. -/
def lane {W : ℕ} (j : Fin W) : Fin 128 := ⟨j.val % 128, Nat.mod_lt _ (by norm_num)⟩

/-- Column number of entry l of the head column j belongs to. -/
def column {W : ℕ} (hW : W % 128 = 0) (j : Fin W) (l : Fin 128) : Fin W :=
  ⟨j.val / 128 * 128 + l.val, by have := j.isLt; have := l.isLt; omega⟩

/-- Entry l of a head sits at place l within it. -/
theorem lane_column {W : ℕ} (hW : W % 128 = 0) (j : Fin W) (l : Fin 128) : lane (column hW j l) = l :=
  Fin.ext (by show (j.val / 128 * 128 + l.val) % 128 = l.val; omega)

/-- The rotation depends on its operands entry by entry. -/
theorem turned_congr {x x' g g' c c' s s' : Fin 128 → EReal} {d d' : Fin 128} (hx : ∀ l, x l = x' l) (hg : ∀ l, g l = g' l)
    (hc : ∀ l, c l = c' l) (hs : ∀ l, s l = s' l) (hd : d = d') : turned x g c s d = turned x' g' c' s' d' := by
  rw [funext hx, funext hg, funext hc, funext hs, hd]

/-- The norm depends on its operands entry by entry. -/
theorem normed_congr {x x' g g' : Fin 128 → EReal} {d d' : Fin 128} (hx : ∀ l, x l = x' l) (hg : ∀ l, g l = g' l)
    (hd : d = d') : normed x g d = normed x' g' d' := by
  rw [funext hx, funext hg, hd]

/-- A first-half entry of the rotation, as the difference of two products. -/
theorem turned_lower (x g : Fin 128 → EReal) (c s : Fin 64 → EReal) (d : Fin 128) (h : d.val < 64) :
    turned x g (fun l => c (half l)) (signed s) d
      = normed x g d * c ⟨d.val, h⟩ - normed x g ⟨d.val + 64, by omega⟩ * s ⟨d.val, h⟩ := by
  have e : half d = ⟨d.val, h⟩ := Fin.ext (Nat.mod_eq_of_lt h)
  have p : partner d = ⟨d.val + 64, by omega⟩ := Fin.ext (by show (d.val + 128 - 64) % 128 = d.val + 64; omega)
  unfold turned signed
  rw [if_pos h, p, sub_eq_add_neg, mul_neg]
  simp only [e]

/-- A second-half entry of the rotation, as the sum of two products. -/
theorem turned_upper (x g : Fin 128 → EReal) (c s : Fin 64 → EReal) (d : Fin 128) (h : ¬ d.val < 64) :
    turned x g (fun l => c (half l)) (signed s) d
      = normed x g d * c ⟨d.val - 64, by omega⟩ + normed x g ⟨d.val - 64, by omega⟩ * s ⟨d.val - 64, by omega⟩ := by
  have e : half d = ⟨d.val - 64, by omega⟩ := Fin.ext (by show d.val % 64 = d.val - 64; omega)
  have p : partner d = ⟨d.val - 64, by omega⟩ := Fin.ext (by show (d.val + 128 - 64) % 128 = d.val - 64; omega)
  unfold turned signed
  rw [if_neg h, p]
  simp only [e]

/-- Entry y of a block of eight heads: each head of the row normed and turned by the row's angles. -/
def tile (A : (⟨2, ![1024, 1024]⟩ : Shape).Idx → EReal) (G : (⟨2, ![1, 1024]⟩ : Shape).Idx → EReal)
    (C S : (⟨2, ![1024, 128]⟩ : Shape).Idx → EReal) (r j : Fin 1024) : EReal :=
  turned (fun l => A (ix2 r (column (by norm_num) j l))) (fun l => G (ix2 0 (column (by norm_num) j l)))
    (fun l => C (ix2 r l)) (fun l => S (ix2 r l)) (lane j)

/-- Entry y of a block of eight heads: each head of the row normed. -/
def plain (A : (⟨2, ![1024, 1024]⟩ : Shape).Idx → EReal) (G : (⟨2, ![1, 1024]⟩ : Shape).Idx → EReal) (r j : Fin 1024) : EReal :=
  normed (fun l => A (ix2 r (column (by norm_num) j l))) (fun l => G (ix2 0 (column (by norm_num) j l))) (lane j)

/-- Columns 0 to 127 of the block belong to head 0. -/
theorem column_0 (d l : Fin 128) (h : 0 + d.val < 1024) : column (W := 1024) (by norm_num) ⟨0 + d.val, h⟩ l = ⟨l.val, by omega⟩ :=
  Fin.ext (by show (0 + d.val) / 128 * 128 + l.val = l.val; omega)

theorem lane_0 (d : Fin 128) (h : 0 + d.val < 1024) : lane (W := 1024) ⟨0 + d.val, h⟩ = d :=
  Fin.ext (by show (0 + d.val) % 128 = d.val; omega)

/-- Columns 128 to 255 of the block belong to head 1. -/
theorem column_1 (d l : Fin 128) (h : 128 + d.val < 1024) : column (W := 1024) (by norm_num) ⟨128 + d.val, h⟩ l = ⟨128 + l.val, by omega⟩ :=
  Fin.ext (by show (128 + d.val) / 128 * 128 + l.val = 128 + l.val; omega)

theorem lane_1 (d : Fin 128) (h : 128 + d.val < 1024) : lane (W := 1024) ⟨128 + d.val, h⟩ = d :=
  Fin.ext (by show (128 + d.val) % 128 = d.val; omega)

/-- Columns 256 to 383 of the block belong to head 2. -/
theorem column_2 (d l : Fin 128) (h : 256 + d.val < 1024) : column (W := 1024) (by norm_num) ⟨256 + d.val, h⟩ l = ⟨256 + l.val, by omega⟩ :=
  Fin.ext (by show (256 + d.val) / 128 * 128 + l.val = 256 + l.val; omega)

theorem lane_2 (d : Fin 128) (h : 256 + d.val < 1024) : lane (W := 1024) ⟨256 + d.val, h⟩ = d :=
  Fin.ext (by show (256 + d.val) % 128 = d.val; omega)

/-- Columns 384 to 511 of the block belong to head 3. -/
theorem column_3 (d l : Fin 128) (h : 384 + d.val < 1024) : column (W := 1024) (by norm_num) ⟨384 + d.val, h⟩ l = ⟨384 + l.val, by omega⟩ :=
  Fin.ext (by show (384 + d.val) / 128 * 128 + l.val = 384 + l.val; omega)

theorem lane_3 (d : Fin 128) (h : 384 + d.val < 1024) : lane (W := 1024) ⟨384 + d.val, h⟩ = d :=
  Fin.ext (by show (384 + d.val) % 128 = d.val; omega)

/-- Columns 512 to 639 of the block belong to head 4. -/
theorem column_4 (d l : Fin 128) (h : 512 + d.val < 1024) : column (W := 1024) (by norm_num) ⟨512 + d.val, h⟩ l = ⟨512 + l.val, by omega⟩ :=
  Fin.ext (by show (512 + d.val) / 128 * 128 + l.val = 512 + l.val; omega)

theorem lane_4 (d : Fin 128) (h : 512 + d.val < 1024) : lane (W := 1024) ⟨512 + d.val, h⟩ = d :=
  Fin.ext (by show (512 + d.val) % 128 = d.val; omega)

/-- Columns 640 to 767 of the block belong to head 5. -/
theorem column_5 (d l : Fin 128) (h : 640 + d.val < 1024) : column (W := 1024) (by norm_num) ⟨640 + d.val, h⟩ l = ⟨640 + l.val, by omega⟩ :=
  Fin.ext (by show (640 + d.val) / 128 * 128 + l.val = 640 + l.val; omega)

theorem lane_5 (d : Fin 128) (h : 640 + d.val < 1024) : lane (W := 1024) ⟨640 + d.val, h⟩ = d :=
  Fin.ext (by show (640 + d.val) % 128 = d.val; omega)

/-- Columns 768 to 895 of the block belong to head 6. -/
theorem column_6 (d l : Fin 128) (h : 768 + d.val < 1024) : column (W := 1024) (by norm_num) ⟨768 + d.val, h⟩ l = ⟨768 + l.val, by omega⟩ :=
  Fin.ext (by show (768 + d.val) / 128 * 128 + l.val = 768 + l.val; omega)

theorem lane_6 (d : Fin 128) (h : 768 + d.val < 1024) : lane (W := 1024) ⟨768 + d.val, h⟩ = d :=
  Fin.ext (by show (768 + d.val) % 128 = d.val; omega)

/-- Columns 896 to 1023 of the block belong to head 7. -/
theorem column_7 (d l : Fin 128) (h : 896 + d.val < 1024) : column (W := 1024) (by norm_num) ⟨896 + d.val, h⟩ l = ⟨896 + l.val, by omega⟩ :=
  Fin.ext (by show (896 + d.val) / 128 * 128 + l.val = 896 + l.val; omega)

theorem lane_7 (d : Fin 128) (h : 896 + d.val < 1024) : lane (W := 1024) ⟨896 + d.val, h⟩ = d :=
  Fin.ext (by show (896 + d.val) % 128 = d.val; omega)

/-- Eight stores of 128 columns, each agreeing with one function, make a block that is this function. -/
theorem canon_heads (G : (⟨2, ![1024, 1024]⟩ : Shape).Idx → EReal)
    (P0 P1 P2 P3 P4 P5 P6 P7 : Vec Ideal (⟨2, ![1024, 128]⟩ : Shape) .bf16)
    (b0 : ∀ a, (![0, 0] : Fin 2 → Nat) a + (⟨2, ![1024, 128]⟩ : Shape).size a ≤ (⟨2, ![1024, 1024]⟩ : Shape).size a)
    (h0 : ∀ (a : Fin 1024) (d : Fin 128), P0 (ix2 a d) = G (ix2 a ⟨0 + d.val, by omega⟩))
    (b1 : ∀ a, (![0, 128] : Fin 2 → Nat) a + (⟨2, ![1024, 128]⟩ : Shape).size a ≤ (⟨2, ![1024, 1024]⟩ : Shape).size a)
    (h1 : ∀ (a : Fin 1024) (d : Fin 128), P1 (ix2 a d) = G (ix2 a ⟨128 + d.val, by omega⟩))
    (b2 : ∀ a, (![0, 256] : Fin 2 → Nat) a + (⟨2, ![1024, 128]⟩ : Shape).size a ≤ (⟨2, ![1024, 1024]⟩ : Shape).size a)
    (h2 : ∀ (a : Fin 1024) (d : Fin 128), P2 (ix2 a d) = G (ix2 a ⟨256 + d.val, by omega⟩))
    (b3 : ∀ a, (![0, 384] : Fin 2 → Nat) a + (⟨2, ![1024, 128]⟩ : Shape).size a ≤ (⟨2, ![1024, 1024]⟩ : Shape).size a)
    (h3 : ∀ (a : Fin 1024) (d : Fin 128), P3 (ix2 a d) = G (ix2 a ⟨384 + d.val, by omega⟩))
    (b4 : ∀ a, (![0, 512] : Fin 2 → Nat) a + (⟨2, ![1024, 128]⟩ : Shape).size a ≤ (⟨2, ![1024, 1024]⟩ : Shape).size a)
    (h4 : ∀ (a : Fin 1024) (d : Fin 128), P4 (ix2 a d) = G (ix2 a ⟨512 + d.val, by omega⟩))
    (b5 : ∀ a, (![0, 640] : Fin 2 → Nat) a + (⟨2, ![1024, 128]⟩ : Shape).size a ≤ (⟨2, ![1024, 1024]⟩ : Shape).size a)
    (h5 : ∀ (a : Fin 1024) (d : Fin 128), P5 (ix2 a d) = G (ix2 a ⟨640 + d.val, by omega⟩))
    (b6 : ∀ a, (![0, 768] : Fin 2 → Nat) a + (⟨2, ![1024, 128]⟩ : Shape).size a ≤ (⟨2, ![1024, 1024]⟩ : Shape).size a)
    (h6 : ∀ (a : Fin 1024) (d : Fin 128), P6 (ix2 a d) = G (ix2 a ⟨768 + d.val, by omega⟩))
    (b7 : ∀ a, (![0, 896] : Fin 2 → Nat) a + (⟨2, ![1024, 128]⟩ : Shape).size a ≤ (⟨2, ![1024, 1024]⟩ : Shape).size a)
    (h7 : ∀ (a : Fin 1024) (d : Fin 128), P7 (ix2 a d) = G (ix2 a ⟨896 + d.val, by omega⟩))
    (y : (⟨2, ![1024, 1024]⟩ : Shape).Idx) :
    View.canon (Val := Elt Ideal) (s := (⟨2, ![1024, 1024]⟩ : Shape)) (e := .bf16) [⟨Rect.unit (s := (⟨2, ![1024, 1024]⟩ : Shape)) ![0, 896] (⟨2, ![1024, 128]⟩ : Shape).size b7, P7⟩, ⟨Rect.unit (s := (⟨2, ![1024, 1024]⟩ : Shape)) ![0, 768] (⟨2, ![1024, 128]⟩ : Shape).size b6, P6⟩, ⟨Rect.unit (s := (⟨2, ![1024, 1024]⟩ : Shape)) ![0, 640] (⟨2, ![1024, 128]⟩ : Shape).size b5, P5⟩, ⟨Rect.unit (s := (⟨2, ![1024, 1024]⟩ : Shape)) ![0, 512] (⟨2, ![1024, 128]⟩ : Shape).size b4, P4⟩, ⟨Rect.unit (s := (⟨2, ![1024, 1024]⟩ : Shape)) ![0, 384] (⟨2, ![1024, 128]⟩ : Shape).size b3, P3⟩, ⟨Rect.unit (s := (⟨2, ![1024, 1024]⟩ : Shape)) ![0, 256] (⟨2, ![1024, 128]⟩ : Shape).size b2, P2⟩, ⟨Rect.unit (s := (⟨2, ![1024, 1024]⟩ : Shape)) ![0, 128] (⟨2, ![1024, 128]⟩ : Shape).size b1, P1⟩, ⟨Rect.unit (s := (⟨2, ![1024, 1024]⟩ : Shape)) ![0, 0] (⟨2, ![1024, 128]⟩ : Shape).size b0, P0⟩] y = G y := by
  have y1 : (y 1).val < 1024 := (y 1).isLt
  have y0 : (y 0).val < 1024 := (y 0).isLt
  refine View.canon_apply_of_pieces (Val := Elt Ideal) (e := .bf16) G _ ?_ y ?_
  · intro p hp x
    simp only [List.mem_cons, List.not_mem_nil, or_false] at hp
    rcases hp with rfl | rfl | rfl | rfl | rfl | rfl | rfl | rfl
    · refine (congrArg P7 (eq_ix2 x)).trans ((h7 (x 0) (x 1)).trans (congrArg G ?_))
      funext a
      match a with
      | ⟨0, _⟩ => exact Fin.ext (by show (x 0).val = 0 + 1 * (x 0).val; omega)
      | ⟨1, _⟩ => exact Fin.ext (by show 896 + (x 1).val = 896 + 1 * (x 1).val; omega)
    · refine (congrArg P6 (eq_ix2 x)).trans ((h6 (x 0) (x 1)).trans (congrArg G ?_))
      funext a
      match a with
      | ⟨0, _⟩ => exact Fin.ext (by show (x 0).val = 0 + 1 * (x 0).val; omega)
      | ⟨1, _⟩ => exact Fin.ext (by show 768 + (x 1).val = 768 + 1 * (x 1).val; omega)
    · refine (congrArg P5 (eq_ix2 x)).trans ((h5 (x 0) (x 1)).trans (congrArg G ?_))
      funext a
      match a with
      | ⟨0, _⟩ => exact Fin.ext (by show (x 0).val = 0 + 1 * (x 0).val; omega)
      | ⟨1, _⟩ => exact Fin.ext (by show 640 + (x 1).val = 640 + 1 * (x 1).val; omega)
    · refine (congrArg P4 (eq_ix2 x)).trans ((h4 (x 0) (x 1)).trans (congrArg G ?_))
      funext a
      match a with
      | ⟨0, _⟩ => exact Fin.ext (by show (x 0).val = 0 + 1 * (x 0).val; omega)
      | ⟨1, _⟩ => exact Fin.ext (by show 512 + (x 1).val = 512 + 1 * (x 1).val; omega)
    · refine (congrArg P3 (eq_ix2 x)).trans ((h3 (x 0) (x 1)).trans (congrArg G ?_))
      funext a
      match a with
      | ⟨0, _⟩ => exact Fin.ext (by show (x 0).val = 0 + 1 * (x 0).val; omega)
      | ⟨1, _⟩ => exact Fin.ext (by show 384 + (x 1).val = 384 + 1 * (x 1).val; omega)
    · refine (congrArg P2 (eq_ix2 x)).trans ((h2 (x 0) (x 1)).trans (congrArg G ?_))
      funext a
      match a with
      | ⟨0, _⟩ => exact Fin.ext (by show (x 0).val = 0 + 1 * (x 0).val; omega)
      | ⟨1, _⟩ => exact Fin.ext (by show 256 + (x 1).val = 256 + 1 * (x 1).val; omega)
    · refine (congrArg P1 (eq_ix2 x)).trans ((h1 (x 0) (x 1)).trans (congrArg G ?_))
      funext a
      match a with
      | ⟨0, _⟩ => exact Fin.ext (by show (x 0).val = 0 + 1 * (x 0).val; omega)
      | ⟨1, _⟩ => exact Fin.ext (by show 128 + (x 1).val = 128 + 1 * (x 1).val; omega)
    · refine (congrArg P0 (eq_ix2 x)).trans ((h0 (x 0) (x 1)).trans (congrArg G ?_))
      funext a
      match a with
      | ⟨0, _⟩ => exact Fin.ext (by show (x 0).val = 0 + 1 * (x 0).val; omega)
      | ⟨1, _⟩ => exact Fin.ext (by show 0 + (x 1).val = 0 + 1 * (x 1).val; omega)
  · have hc : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 := by omega
    rcases hc with h | h | h | h | h | h | h | h
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
      rw [Rect.mem_set_unit]
      intro a
      match a with
      | ⟨0, _⟩ => show 0 ≤ (y 0).val ∧ (y 0).val < 0 + 1024; omega
      | ⟨1, _⟩ => show 0 ≤ (y 1).val ∧ (y 1).val < 0 + 128; omega
    · refine ⟨_, List.mem_cons_of_mem _ (List.mem_cons_of_mem _ (List.mem_cons_of_mem _ (List.mem_cons_of_mem _ (List.mem_cons_of_mem _ (List.mem_cons_of_mem _ (List.mem_cons_self)))))), ?_⟩
      rw [Rect.mem_set_unit]
      intro a
      match a with
      | ⟨0, _⟩ => show 0 ≤ (y 0).val ∧ (y 0).val < 0 + 1024; omega
      | ⟨1, _⟩ => show 128 ≤ (y 1).val ∧ (y 1).val < 128 + 128; omega
    · refine ⟨_, List.mem_cons_of_mem _ (List.mem_cons_of_mem _ (List.mem_cons_of_mem _ (List.mem_cons_of_mem _ (List.mem_cons_of_mem _ (List.mem_cons_self))))), ?_⟩
      rw [Rect.mem_set_unit]
      intro a
      match a with
      | ⟨0, _⟩ => show 0 ≤ (y 0).val ∧ (y 0).val < 0 + 1024; omega
      | ⟨1, _⟩ => show 256 ≤ (y 1).val ∧ (y 1).val < 256 + 128; omega
    · refine ⟨_, List.mem_cons_of_mem _ (List.mem_cons_of_mem _ (List.mem_cons_of_mem _ (List.mem_cons_of_mem _ (List.mem_cons_self)))), ?_⟩
      rw [Rect.mem_set_unit]
      intro a
      match a with
      | ⟨0, _⟩ => show 0 ≤ (y 0).val ∧ (y 0).val < 0 + 1024; omega
      | ⟨1, _⟩ => show 384 ≤ (y 1).val ∧ (y 1).val < 384 + 128; omega
    · refine ⟨_, List.mem_cons_of_mem _ (List.mem_cons_of_mem _ (List.mem_cons_of_mem _ (List.mem_cons_self))), ?_⟩
      rw [Rect.mem_set_unit]
      intro a
      match a with
      | ⟨0, _⟩ => show 0 ≤ (y 0).val ∧ (y 0).val < 0 + 1024; omega
      | ⟨1, _⟩ => show 512 ≤ (y 1).val ∧ (y 1).val < 512 + 128; omega
    · refine ⟨_, List.mem_cons_of_mem _ (List.mem_cons_of_mem _ (List.mem_cons_self)), ?_⟩
      rw [Rect.mem_set_unit]
      intro a
      match a with
      | ⟨0, _⟩ => show 0 ≤ (y 0).val ∧ (y 0).val < 0 + 1024; omega
      | ⟨1, _⟩ => show 640 ≤ (y 1).val ∧ (y 1).val < 640 + 128; omega
    · refine ⟨_, List.mem_cons_of_mem _ (List.mem_cons_self), ?_⟩
      rw [Rect.mem_set_unit]
      intro a
      match a with
      | ⟨0, _⟩ => show 0 ≤ (y 0).val ∧ (y 0).val < 0 + 1024; omega
      | ⟨1, _⟩ => show 768 ≤ (y 1).val ∧ (y 1).val < 768 + 128; omega
    · refine ⟨_, List.mem_cons_self, ?_⟩
      rw [Rect.mem_set_unit]
      intro a
      match a with
      | ⟨0, _⟩ => show 0 ≤ (y 0).val ∧ (y 0).val < 0 + 1024; omega
      | ⟨1, _⟩ => show 896 ≤ (y 1).val ∧ (y 1).val < 896 + 128; omega

end Cert.Rotary

end
-- ==== Proof.MobaQueries.lean ====
module

public import proofs.«01_k».proof.Defs
public import proofs.«01_k».proof.Proof.Products
public import proofs.«01_k».proof.Proof.Rotary
public import proofs.«01_k».proof.Proof.Gen.MobaQueriesIdeal.Value
public import proofs.«01_k».proof.Proof.Gen.MobaQueriesRefIdeal.Read
public import Idealize.ShloMosaic.Lib.Pipeline.ValueKit
public import Idealize.ShloMosaic.Lib.Pointwise
public import Idealize.ShloMosaic.Lib.Pipeline.ReadBack
public import Idealize.ShloMosaic.Lib.Claim

/-! The queries of the block attention: a product, each head normed, turned by the row angles and scaled. -/

@[expose] public section

set_option maxRecDepth 16384

noncomputable section

namespace Cert.MobaQueriesIdeal.Queries

open Cert.MobaQueriesIdeal Cert.MobaQueriesIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What the first run of the contraction leaves in the scratch: that run's partial product. -/
theorem part_apply (a : Vec Ideal S1024x2048 .bf16) (b : Vec Ideal S2048x1024 .bf16) (r : Fin 1024) (l : Fin 1024) :
    k0_pay1 (F := Ideal) a b (ix2 r l) = 0 + ∑ k : Fin 2048, a (ix2 r k) * b (ix2 k l) := by
  unfold k0_pay1
  pointwise

/-- What the second run leaves: the scratch plus that run's partial product. -/
theorem step_apply (acc : Vec Ideal S1024x1024 .f32) (a : Vec Ideal S1024x2048 .bf16) (b : Vec Ideal S2048x1024 .bf16) (r : Fin 1024) (l : Fin 1024) :
    k0_pay2 (F := Ideal) acc a b (ix2 r l) = acc (ix2 r l) + ∑ k : Fin 2048, a (ix2 r k) * b (ix2 k l) := by
  unfold k0_pay2
  pointwise

/-- The scale of the queries. -/
abbrev scale : EReal := Ideal.ofBits .f32 0x3DB504F3#32

section Stores

open Cert.Rotary

variable (v9 : Vec Ideal S1024x1024 .f32) (v10 : Vec Ideal S1x1024 .f32) (v12 v14 : Vec Ideal S1024x128 .f32) (a : Fin 1024) (d : Fin 128)

/-- The store of head 0. -/
theorem store_0 : k0_pay7 (F := Ideal) v9 v10 v12 v14 (ix2 a d) = tile v9 v10 v12 v14 a ⟨0 + d.val, by omega⟩ * scale := by
  unfold tile turned normed
  simp only [column_0, lane_0]
  unfold k0_pay7 k0_pay6 k0_pay5 k0_pay4
  pointwise
  rfl

/-- The store of head 1. -/
theorem store_1 : k0_pay10 (F := Ideal) (k0_pay5 v12) (k0_pay6 v14) (k0_pay8 v10) (k0_pay9 v9) (ix2 a d) = tile v9 v10 v12 v14 a ⟨128 + d.val, by omega⟩ * scale := by
  unfold tile turned normed
  simp only [column_1, lane_1]
  unfold k0_pay10 k0_pay9 k0_pay8 k0_pay6 k0_pay5 k0_pay4
  pointwise
  rfl

/-- The store of head 2. -/
theorem store_2 : k0_pay11 (F := Ideal) v9 (k0_pay4 v10) (k0_pay5 v12) (k0_pay6 v14) (ix2 a d) = tile v9 v10 v12 v14 a ⟨256 + d.val, by omega⟩ * scale := by
  unfold tile turned normed
  simp only [column_2, lane_2]
  unfold k0_pay11 k0_pay6 k0_pay5 k0_pay4
  pointwise
  rfl

/-- The store of head 3. -/
theorem store_3 : k0_pay14 (F := Ideal) (k0_pay5 v12) (k0_pay6 v14) (k0_pay12 (k0_pay4 v10)) (k0_pay13 v9) (ix2 a d) = tile v9 v10 v12 v14 a ⟨384 + d.val, by omega⟩ * scale := by
  unfold tile turned normed
  simp only [column_3, lane_3]
  unfold k0_pay14 k0_pay13 k0_pay12 k0_pay6 k0_pay5 k0_pay4
  pointwise
  rfl

/-- The store of head 4. -/
theorem store_4 : k0_pay15 (F := Ideal) v9 (k0_pay4 v10) (k0_pay5 v12) (k0_pay6 v14) (ix2 a d) = tile v9 v10 v12 v14 a ⟨512 + d.val, by omega⟩ * scale := by
  unfold tile turned normed
  simp only [column_4, lane_4]
  unfold k0_pay15 k0_pay6 k0_pay5 k0_pay4
  pointwise
  rfl

/-- The store of head 5. -/
theorem store_5 : k0_pay18 (F := Ideal) (k0_pay5 v12) (k0_pay6 v14) (k0_pay16 (k0_pay4 v10)) (k0_pay17 v9) (ix2 a d) = tile v9 v10 v12 v14 a ⟨640 + d.val, by omega⟩ * scale := by
  unfold tile turned normed
  simp only [column_5, lane_5]
  unfold k0_pay18 k0_pay17 k0_pay16 k0_pay6 k0_pay5 k0_pay4
  pointwise
  rfl

/-- The store of head 6. -/
theorem store_6 : k0_pay19 (F := Ideal) v9 (k0_pay4 v10) (k0_pay5 v12) (k0_pay6 v14) (ix2 a d) = tile v9 v10 v12 v14 a ⟨768 + d.val, by omega⟩ * scale := by
  unfold tile turned normed
  simp only [column_6, lane_6]
  unfold k0_pay19 k0_pay6 k0_pay5 k0_pay4
  pointwise
  rfl

/-- The store of head 7. -/
theorem store_7 : k0_pay3 (F := Ideal) (k0_pay5 v12) (k0_pay6 v14) (k0_pay20 (k0_pay4 v10)) (k0_pay21 v9) (ix2 a d) = tile v9 v10 v12 v14 a ⟨896 + d.val, by omega⟩ * scale := by
  unfold tile turned normed
  simp only [column_7, lane_7]
  unfold k0_pay3 k0_pay21 k0_pay20 k0_pay6 k0_pay5 k0_pay4
  pointwise
  rfl

end Stores

/-- Which block each operand shows at a grid point. -/
theorem idx : ∀ t : Fin grid0.N, win0_0.index t = ![t.val / 2, t.val % 2] ∧ win0_1.index t = ![t.val % 2, 0]
    ∧ win0_2.index t = ![0, 0] ∧ win0_3.index t = ![t.val / 2, 0] ∧ win0_4.index t = ![t.val / 2, 0]
    ∧ win0_5.index t = ![t.val / 2, 0] := by
  decide +kernel

/-- After the second run of a tile's contraction the scratch holds the whole product there. -/
theorem scratch (t : Fin cfg0.N) (hm : t.val % 2 = 1) (j : S1024x1024.Idx) : (outsAt0 m c t.val t.isLt).2 j
    = Products.entry (M := 16384) (K := 4096) (N := 1024) (V m c main_arg0) (V m c main_v0)
      (((cfg0.win 5).blk t).view.emb j 0) (((cfg0.win 5).blk t).view.emb j 1) := by
  rw [Pipeline.eq_sum_fin_of_reset_step_apply_of_flush (fun n h => (outsAt0 m c n h).2) 2 (fun _ => (0 : EReal))
      (fun t j => Products.entry (M := 1024) (K := 2048) (N := 1024) (iblk m c 0 t) (iblk m c 1 t) (j 0) (j 1))
    (fun t h j => by rw [outsAt0_A m c t h (by omega) (by omega)]; frame_out; rw [eq_ix2 j]; exact part_apply _ _ _ _)
    (fun t h j => by rw [outsAt0_B m c t h (by omega) (by omega)]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The queries of the block attention: every head of the product normed, turned and scaled. -/
def queries (h : S16384x4096.Idx → EReal) (w : S4096x1024.Idx → EReal) (g : S128.Idx → EReal) (cos sin : S16384x64.Idx → EReal) :
    FVec Ideal S16384x1024 .bf16 := fun i =>
  Rotary.turned (fun l => Products.entry h w (i 0) (Rotary.column (W := 1024) (by norm_num) (i 1) l)) (fun l => g (ix1 l))
    (fun l => cos (ix2 (i 0) (Rotary.half l))) (Rotary.signed fun l => sin (ix2 (i 0) l)) (Rotary.lane (W := 1024) (i 1)) * scale

/-- The gain laid out once per head. -/
theorem gain (j : Fin 1024) : V m c main_v4 (ix2 (0 : Fin 1) j) = (m ((c.tc : Thread nD τ).loc main_arg2) : S128.Idx → EReal) (ix1 (Rotary.lane j)) := by
  unfold_abbrev_sides
  after_results
  pointwise
  rfl

/-- Every head reads the same gain. -/
theorem gain_column (j : Fin 1024) (l : Fin 128) : V m c main_v4 (ix2 (0 : Fin 1) (Rotary.column (by norm_num) j l))
    = (m ((c.tc : Thread nD τ).loc main_arg2) : S128.Idx → EReal) (ix1 l) := by
  rw [gain, Rotary.lane_column]

/-- The cosines laid out once per half. -/
theorem cosines (r : Fin 16384) (d : Fin 128) : V m c main_v5 (ix2 r d)
    = (m ((c.tc : Thread nD τ).loc main_arg3) : S16384x64.Idx → EReal) (ix2 r (Rotary.half d)) := by
  unfold_abbrev_sides
  after_results
  pointwise
  exact Rotary.halves (fun k => (m ((c.tc : Thread nD τ).loc main_arg3) : S16384x64.Idx → EReal) (ix2 r k)) d

/-- The sines laid out once per half, the first half negated. -/
theorem sines (r : Fin 16384) (d : Fin 128) : V m c main_v7 (ix2 r d)
    = Rotary.signed (fun l => (m ((c.tc : Thread nD τ).loc main_arg4) : S16384x64.Idx → EReal) (ix2 r l)) d := by
  unfold_abbrev_sides
  after_results
  pointwise
  exact Rotary.signed_halves (fun k => (m ((c.tc : Thread nD τ).loc main_arg4) : S16384x64.Idx → EReal) (ix2 r k)) d

/-- The weights as the products read them are the weights given: a change of format is the identity here. -/
theorem entry_w : (V m c main_v0 : S4096x1024.Idx → EReal) = (m ((c.tc : Thread nD τ).loc main_arg1) : S4096x1024.Idx → EReal) := by
  unfold_abbrev_sides
  after_results
  rfl

/-- The array the call leaves. -/
theorem arr : (dats m 0 c).arrAt 5 cfg0.N = queries (V m c main_arg0) (V m c main_v0) (m ((c.tc : Thread nD τ).loc main_arg2))
    (m ((c.tc : Thread nD τ).loc main_arg3)) (m ((c.tc : Thread nD τ).loc main_arg4)) := by
  refine (dats m 0 c).arrAt_eq_of_covers 5 _ (by decide +kernel) fun t hf y => ?_
  have hm : t.val % 2 = 1 := (flush0_5 t).mp hf
  have hs := scratch m c t hm
  rw [outsAt0_B m c t (by omega) hm hm] at hs
  frame_out at hs
  blk_simp
  rw [after0_5, outsAt0_B m c t (by omega) hm hm]
  frame_out
  simp only [read_unread_whole] at hs ⊢
  refine (Rotary.canon_heads (fun z => Rotary.tile _ _ _ _ (z 0) (z 1) * scale) _ _ _ _ _ _ _ _
    _ (fun a d => store_0 _ _ _ _ a d) _ (fun a d => store_1 _ _ _ _ a d) _ (fun a d => store_2 _ _ _ _ a d) _ (fun a d => store_3 _ _ _ _ a d)
    _ (fun a d => store_4 _ _ _ _ a d) _ (fun a d => store_5 _ _ _ _ a d) _ (fun a d => store_6 _ _ _ _ a d) _ (fun a d => store_7 _ _ _ _ a d) y).trans ?_
  have e0 : (((View.whole main_v8).slice (win0_5.rect t)).emb y 0).val = t.val / 2 * 1024 + (y 0).val := by blk_simp; simp [idx]
  have e1 : (((View.whole main_v8).slice (win0_5.rect t)).emb y 1).val = (y 1).val := by blk_simp; simp [idx]
  unfold Rotary.tile queries
  refine congrArg (· * scale) (Rotary.turned_congr (fun l => ?_) (fun l => ?_) (fun l => ?_) (fun l => ?_) ?_)
  · refine (hs _).trans (congrArg₂ (Products.entry (M := 16384) (K := 4096) (N := 1024) (V m c main_arg0) (V m c main_v0)) (Fin.ext ?_) (Fin.ext ?_))
    · refine Eq.trans ?_ e0.symm
      blk_simp; simp [idx]
    · refine Eq.trans (b := (y 1).val / 128 * 128 + l.val) ?_ (by rw [← e1]; rfl)
      blk_simp; simp [idx, Rotary.column]
  · refine Eq.trans (b := (V m c main_v4 : S1x1024.Idx → EReal) (ix2 (0 : Fin 1) (Rotary.column (W := 1024) (by norm_num) (y 1) l))) ?_ ?_
    · blk_ext [iblk, idx]
    · exact gain_column m c (y 1) l
  · refine Eq.trans ?_ (cosines m c _ l)
    blk_ext [iblk, idx]
  · refine Eq.trans ?_ (sines m c _ l)
    blk_ext [iblk, idx]
  · exact congrArg (Rotary.lane (W := 1024)) (Fin.ext e1.symm)

end Cert.MobaQueriesIdeal.Queries

namespace Cert

open Idealize.ShloMosaic Idealize.SL.Sem

section Reference

open MobaQueriesRefIdeal.Read

variable (h : FVec Ideal MobaQueriesIdeal.S16384x4096 .bf16) (w : FVec Ideal MobaQueriesIdeal.S4096x1024 .f32) (g : FVec Ideal MobaQueriesIdeal.S128 .f32)
  (cos sin : FVec Ideal MobaQueriesIdeal.S16384x64 .f32)

/-- Entry (r, n, d) of the reference's product, head n apart. -/
theorem MobaQueriesRefIdeal.ref_product (r : Fin 16384) (n : Fin 8) (d : Fin 128) : val_main_v2 (F := Ideal) h w (ix3 r n d)
    = Products.entry h w r (⟨128 * n.val + d.val, by omega⟩ : Fin 1024) := by
  simp only [val_main_v2_apply, val_main_v1_apply, val_main_v0_apply]
  have e : ∀ k, lidx_main_v1 (idx_main_v2 (ix3 r n d)) k = ix2 r k := fun k => funext fun a => Fin.ext (by
    match a with
    | ⟨0, _⟩ => show ((r.val * 8 + n.val) * 128 + d.val) / 1024 = r.val; omega
    | ⟨1, _⟩ => rfl)
  have e' : ∀ k, ridx_main_v1 (idx_main_v2 (ix3 r n d)) k = ix2 k (⟨128 * n.val + d.val, by omega⟩ : Fin 1024) := fun k => funext fun a => Fin.ext (by
    match a with
    | ⟨0, _⟩ => rfl
    | ⟨1, _⟩ => show ((r.val * 8 + n.val) * 128 + d.val) % 1024 = 128 * n.val + d.val; omega)
  simp only [e, e']
  rfl

/-- The reference's normed heads. -/
theorem MobaQueriesRefIdeal.ref_normed (r : Fin 16384) (n : Fin 8) (d : Fin 128) : val_main_v15 (F := Ideal) h w g (ix3 r n d)
    = Rotary.normed (fun l => Products.entry h w r (⟨128 * n.val + l.val, by omega⟩ : Fin 1024)) (fun l => g (ix1 l)) d := by
  simp only [val_main_v15_apply, val_main_v12_apply, val_main_v14_apply, val_main_v13_apply, val_main_v11_apply, val_main_v10_apply, val_main_v9_apply, val_main_v8_apply,
    val_main_v7_apply, val_main_v6_apply, val_main_v5_apply, val_main_v4_apply, val_main_v3_apply, val_main_cst_apply, val_main_cst_0_apply, val_main_cst_1_apply]
  have e : ∀ k, idx_main_v4 (idx_main_v5 (idx_main_v11 (ix3 r n d))) k = ix3 r n k := fun k => funext fun a => Fin.ext (by
    match a with
    | ⟨0, _⟩ => rfl
    | ⟨1, _⟩ => rfl
    | ⟨2, _⟩ => rfl)
  have e' : idx_main_v13 (idx_main_v14 (ix3 r n d)) = ix1 d := funext fun a => Fin.ext (by
    match a with
    | ⟨0, _⟩ => rfl)
  simp only [e, e', MobaQueriesRefIdeal.ref_product]
  rw [show FloatOps.ofBits (F := Ideal) FTy.f32 0#32 = (0 : EReal) from Ideal.ofBits_zero_f32, zero_add]
  rfl

/-- The reference's turned heads. -/
theorem MobaQueriesRefIdeal.ref_turned (r : Fin 16384) (n : Fin 8) (d : Fin 128) : val_main_v30 (F := Ideal) h w g cos sin (ix3 r n d)
    = Rotary.turned (fun l => Products.entry h w r (⟨128 * n.val + l.val, by omega⟩ : Fin 1024)) (fun l => g (ix1 l))
      (fun l => cos (ix2 r (Rotary.half l))) (Rotary.signed fun l => sin (ix2 r l)) d := by
  unfold val_main_v30
  pointwise
  simp only [val_main_v29_apply, val_main_v28_apply, val_main_v27_apply, val_main_v26_apply, val_main_v25_apply, val_main_v24_apply, val_main_v23_apply, val_main_v22_apply,
    val_main_v21_apply, val_main_v20_apply, val_main_v19_apply, val_main_v18_apply, val_main_v17_apply, val_main_v16_apply]
  by_cases h1 : d.val < 64
  · rw [dif_pos h1]
    refine Eq.trans ?_ (Rotary.turned_lower _ _ (fun k => cos (ix2 r k)) (fun k => sin (ix2 r k)) d h1).symm
    have a1 : idx_main_v16 (ix3 r n (⟨d.val, h1⟩ : Fin 64)) = ix3 r n d := funext fun a => Fin.ext (by
      match a with
      | ⟨0, _⟩ => rfl
      | ⟨1, _⟩ => rfl
      | ⟨2, _⟩ => rfl)
    have a2 : idx_main_v17 (ix3 r n (⟨d.val, h1⟩ : Fin 64)) = ix3 r n (⟨d.val + 64, by omega⟩ : Fin 128) := funext fun a => Fin.ext (by
      match a with
      | ⟨0, _⟩ => rfl
      | ⟨1, _⟩ => rfl
      | ⟨2, _⟩ => show 64 + d.val = d.val + 64; omega)
    have a3 : idx_main_v18 (idx_main_v20 (ix3 r n (⟨d.val, h1⟩ : Fin 64))) = ix2 r (⟨d.val, h1⟩ : Fin 64) := funext fun a => Fin.ext (by
      match a with
      | ⟨0, _⟩ => rfl
      | ⟨1, _⟩ => rfl)
    have a4 : idx_main_v19 (idx_main_v22 (ix3 r n (⟨d.val, h1⟩ : Fin 64))) = ix2 r (⟨d.val, h1⟩ : Fin 64) := funext fun a => Fin.ext (by
      match a with
      | ⟨0, _⟩ => rfl
      | ⟨1, _⟩ => rfl)
    rw [a1, a2, a3, a4, MobaQueriesRefIdeal.ref_normed, MobaQueriesRefIdeal.ref_normed]
    rfl
  · rw [dif_neg h1]
    refine Eq.trans ?_ (Rotary.turned_upper _ _ (fun k => cos (ix2 r k)) (fun k => sin (ix2 r k)) d h1).symm
    have a1 : idx_main_v16 (ix3 r n (⟨d.val - 64, by omega⟩ : Fin 64)) = ix3 r n (⟨d.val - 64, by omega⟩ : Fin 128) := funext fun a => Fin.ext (by
      match a with
      | ⟨0, _⟩ => rfl
      | ⟨1, _⟩ => rfl
      | ⟨2, _⟩ => rfl)
    have a2 : idx_main_v17 (ix3 r n (⟨d.val - 64, by omega⟩ : Fin 64)) = ix3 r n d := funext fun a => Fin.ext (by
      match a with
      | ⟨0, _⟩ => rfl
      | ⟨1, _⟩ => rfl
      | ⟨2, _⟩ => show 64 + (d.val - 64) = d.val; omega)
    have a3 : idx_main_v18 (idx_main_v25 (ix3 r n (⟨d.val - 64, by omega⟩ : Fin 64))) = ix2 r (⟨d.val - 64, by omega⟩ : Fin 64) := funext fun a => Fin.ext (by
      match a with
      | ⟨0, _⟩ => rfl
      | ⟨1, _⟩ => rfl)
    have a4 : idx_main_v19 (idx_main_v27 (ix3 r n (⟨d.val - 64, by omega⟩ : Fin 64))) = ix2 r (⟨d.val - 64, by omega⟩ : Fin 64) := funext fun a => Fin.ext (by
      match a with
      | ⟨0, _⟩ => rfl
      | ⟨1, _⟩ => rfl)
    rw [a1, a2, a3, a4, MobaQueriesRefIdeal.ref_normed, MobaQueriesRefIdeal.ref_normed]
    rfl

end Reference

/-- The reference's result is the same array. -/
theorem MobaQueriesRefIdeal.ref_eq (h : FVec Ideal MobaQueriesIdeal.S16384x4096 .bf16) (w : FVec Ideal MobaQueriesIdeal.S4096x1024 .f32) (g : FVec Ideal MobaQueriesIdeal.S128 .f32)
    (cos sin : FVec Ideal MobaQueriesIdeal.S16384x64 .f32) :
    MobaQueriesRefIdeal.Read.val_main_v34 (F := Ideal) h w g cos sin = MobaQueriesIdeal.Queries.queries h w g cos sin := by
  funext i
  rw [eq_ix2 i]
  simp only [MobaQueriesRefIdeal.Read.val_main_v34_apply, MobaQueriesRefIdeal.Read.val_main_v33_apply, MobaQueriesRefIdeal.Read.val_main_v32_apply, MobaQueriesRefIdeal.Read.val_main_v31_apply, MobaQueriesRefIdeal.Read.val_main_cst_2_apply]
  have e : MobaQueriesRefIdeal.Read.idx_main_v33 (ix2 (i 0) (i 1)) = ix3 (i 0) (⟨(i 1).val / 128, by have h1 : (i 1).val < 1024 := (i 1).isLt; omega⟩ : Fin 8) (Rotary.lane (W := 1024) (i 1)) :=
    funext fun a => Fin.ext (by
      have h1 : (i 1).val < 1024 := (i 1).isLt
      match a with
      | ⟨0, _⟩ => show ((i 0).val * 1024 + (i 1).val) / 1024 = (i 0).val; omega
      | ⟨1, _⟩ => show ((i 0).val * 1024 + (i 1).val) / 128 % 8 = (i 1).val / 128; omega
      | ⟨2, _⟩ => show ((i 0).val * 1024 + (i 1).val) % 128 = (i 1).val % 128; omega)
  rw [e]
  refine Eq.trans (congrArg (· * MobaQueriesIdeal.Queries.scale) (MobaQueriesRefIdeal.ref_turned h w g cos sin _ _ _)) ?_
  refine congrArg (· * MobaQueriesIdeal.Queries.scale) (Rotary.turned_congr (fun l => ?_) (fun l => rfl) (fun l => rfl) (fun l => rfl) rfl)
  exact congrArg (Products.entry h w (i 0)) (Fin.ext (by show 128 * ((i 1).val / 128) + l.val = (i 1).val / 128 * 128 + l.val; omega))

set_option maxRecDepth 200000 in
/-- The call and its reference leave the same array. -/
theorem algebraic_moba_queries : algebraic_MobaQueriesIdeal_MobaQueriesRefIdeal (hMobaQueriesIdeal := MobaQueriesIdeal.Gen.facts) (hMobaQueriesRefIdeal := MobaQueriesRefIdeal.Gen.facts) := by
  pair_intro
  · run_from MobaQueriesIdeal.Gen.run_main m g
  · run_from MobaQueriesRefIdeal.Value.run m' g'
    rw [MobaQueriesRefIdeal.Read.val_main_v34_eq, (hagree c).1, (hagree c).2.1, (hagree c).2.2.1, (hagree c).2.2.2.1, (hagree c).2.2.2.2,
      MobaQueriesIdeal.Queries.arr, MobaQueriesIdeal.Gen.V_main_arg0, MobaQueriesIdeal.Queries.entry_w]
    exact MobaQueriesRefIdeal.ref_eq _ _ _ _ _

end Cert

end
-- ==== Proof.MobaKeys.lean ====
module

public import proofs.«01_k».proof.Defs
public import proofs.«01_k».proof.Proof.Products
public import proofs.«01_k».proof.Proof.Rotary
public import proofs.«01_k».proof.Proof.Gen.MobaKeysIdeal.Value
public import proofs.«01_k».proof.Proof.Gen.MobaKeysRefIdeal.Read
public import Idealize.ShloMosaic.Lib.Pipeline.ValueKit
public import Idealize.ShloMosaic.Lib.Pointwise
public import Idealize.ShloMosaic.Lib.Pipeline.ReadBack
public import Idealize.ShloMosaic.Lib.Claim

/-! The keys of the block attention, with the mean key of every block: a product, each head normed and turned by the row angles, then averaged over 256 rows. -/

@[expose] public section

set_option maxRecDepth 16384

noncomputable section

namespace Cert.MobaKeysIdeal.Keys

open Cert.MobaKeysIdeal Cert.MobaKeysIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What the first run of the contraction leaves in the scratch: that run's partial product. -/
theorem part_apply (a : Vec Ideal S1024x2048 .bf16) (b : Vec Ideal S2048x1024 .bf16) (r : Fin 1024) (l : Fin 1024) :
    k0_pay1 (F := Ideal) a b (ix2 r l) = 0 + ∑ k : Fin 2048, a (ix2 r k) * b (ix2 k l) := by
  unfold k0_pay1
  pointwise

/-- What the second run leaves: the scratch plus that run's partial product. -/
theorem step_apply (acc : Vec Ideal S1024x1024 .f32) (a : Vec Ideal S1024x2048 .bf16) (b : Vec Ideal S2048x1024 .bf16) (r : Fin 1024) (l : Fin 1024) :
    k0_pay2 (F := Ideal) acc a b (ix2 r l) = acc (ix2 r l) + ∑ k : Fin 2048, a (ix2 r k) * b (ix2 k l) := by
  unfold k0_pay2
  pointwise

/-- The mean over the 256 rows of block b of column j of the turned heads. -/
def average (v9 : S1024x1024.Idx → EReal) (v10 : S1x1024.Idx → EReal) (v12 v14 : S1024x128.Idx → EReal) (b : Fin 4) (j : Fin 1024) : EReal :=
  Ideal.div (∑ s : Fin 256, Rotary.tile v9 v10 v12 v14 ⟨b.val * 256 + s.val, by omega⟩ j) (Ideal.ofBits .f32 0x43800000#32)

section Stores

open Cert.Rotary

variable (v9 : Vec Ideal S1024x1024 .f32) (v10 : Vec Ideal S1x1024 .f32) (v12 v14 : Vec Ideal S1024x128 .f32) (a : Fin 1024) (d : Fin 128)

/-- The store of head 0. -/
theorem turn_0 : k0_pay9 (F := Ideal) v9 v10 v12 v14 (ix2 a d) = tile v9 v10 v12 v14 a ⟨0 + d.val, by omega⟩ := by
  unfold tile turned normed
  simp only [column_0, lane_0]
  unfold k0_pay9 k0_pay8 k0_pay5 k0_pay6 k0_pay7
  pointwise
  rfl

/-- The store of head 1. -/
theorem turn_1 : k0_pay16 (F := Ideal) (k0_pay15 v9 (k0_pay5 v10) (k0_pay6 v12) (k0_pay7 v14)) (ix2 a d) = tile v9 v10 v12 v14 a ⟨128 + d.val, by omega⟩ := by
  unfold tile turned normed
  simp only [column_1, lane_1]
  unfold k0_pay16 k0_pay15 k0_pay5 k0_pay6 k0_pay7
  pointwise
  rfl

/-- The store of head 2. -/
theorem turn_2 : k0_pay22 (F := Ideal) v9 (k0_pay5 v10) (k0_pay6 v12) (k0_pay7 v14) (ix2 a d) = tile v9 v10 v12 v14 a ⟨256 + d.val, by omega⟩ := by
  unfold tile turned normed
  simp only [column_2, lane_2]
  unfold k0_pay22 k0_pay5 k0_pay6 k0_pay7 k0_pay21
  pointwise
  rfl

/-- The store of head 3. -/
theorem turn_3 : k0_pay29 (F := Ideal) v9 (k0_pay5 v10) (k0_pay6 v12) (k0_pay7 v14) (ix2 a d) = tile v9 v10 v12 v14 a ⟨384 + d.val, by omega⟩ := by
  unfold tile turned normed
  simp only [column_3, lane_3]
  unfold k0_pay29 k0_pay5 k0_pay6 k0_pay7 k0_pay28
  pointwise
  rfl

/-- The store of head 4. -/
theorem turn_4 : k0_pay39 (F := Ideal) (k0_pay6 v12) (k0_pay7 v14) (k0_pay35 v9) (k0_pay36 (k0_pay5 v10)) (k0_pay37 v9) (ix2 a d) = tile v9 v10 v12 v14 a ⟨512 + d.val, by omega⟩ := by
  unfold tile turned normed
  simp only [column_4, lane_4]
  unfold k0_pay39 k0_pay6 k0_pay7 k0_pay36 k0_pay5 k0_pay37 k0_pay35 k0_pay38
  pointwise
  rfl

/-- The store of head 5. -/
theorem turn_5 : k0_pay46 (F := Ideal) v9 (k0_pay5 v10) (k0_pay6 v12) (k0_pay7 v14) (ix2 a d) = tile v9 v10 v12 v14 a ⟨640 + d.val, by omega⟩ := by
  unfold tile turned normed
  simp only [column_5, lane_5]
  unfold k0_pay46 k0_pay5 k0_pay6 k0_pay7 k0_pay45
  pointwise
  rfl

/-- The store of head 6. -/
theorem turn_6 : k0_pay53 (F := Ideal) v9 (k0_pay5 v10) (k0_pay6 v12) (k0_pay7 v14) (ix2 a d) = tile v9 v10 v12 v14 a ⟨768 + d.val, by omega⟩ := by
  unfold tile turned normed
  simp only [column_6, lane_6]
  unfold k0_pay53 k0_pay5 k0_pay6 k0_pay7 k0_pay52
  pointwise
  rfl

/-- The store of head 7. -/
theorem turn_7 : k0_pay62 (F := Ideal) (k0_pay6 v12) (k0_pay7 v14) (k0_pay58 v9) (k0_pay59 (k0_pay5 v10)) (k0_pay60 v9) (ix2 a d) = tile v9 v10 v12 v14 a ⟨896 + d.val, by omega⟩ := by
  unfold tile turned normed
  simp only [column_7, lane_7]
  unfold k0_pay62 k0_pay6 k0_pay7 k0_pay59 k0_pay5 k0_pay60 k0_pay58 k0_pay61
  pointwise
  rfl

/-- The mean of head 0 over block 0. -/
theorem mean_0_0 : k0_pay10 (F := Ideal) v9 v10 v12 v14 (ix3 (0 : Fin 1) (0 : Fin 1) d) = average v9 v10 v12 v14 0 ⟨0 + d.val, by omega⟩ := by
  unfold average tile turned normed
  simp only [column_0, lane_0]
  unfold k0_pay10 k0_pay8 k0_pay5 k0_pay6 k0_pay7
  pointwise
  rfl

/-- The mean of head 0 over block 1. -/
theorem mean_0_1 : k0_pay12 (F := Ideal) (k0_pay11 v9 v10 v12 v14) (ix3 (0 : Fin 1) (0 : Fin 1) d) = average v9 v10 v12 v14 1 ⟨0 + d.val, by omega⟩ := by
  unfold average tile turned normed
  simp only [column_0, lane_0]
  unfold k0_pay12 k0_pay11 k0_pay8 k0_pay5 k0_pay6 k0_pay7
  pointwise
  rfl

/-- The mean of head 0 over block 2. -/
theorem mean_0_2 : k0_pay13 (F := Ideal) (k0_pay8 v9 v10 v12 v14) (ix3 (0 : Fin 1) (0 : Fin 1) d) = average v9 v10 v12 v14 2 ⟨0 + d.val, by omega⟩ := by
  unfold average tile turned normed
  simp only [column_0, lane_0]
  unfold k0_pay13 k0_pay8 k0_pay5 k0_pay6 k0_pay7
  pointwise
  rfl

/-- The mean of head 0 over block 3. -/
theorem mean_0_3 : k0_pay14 (F := Ideal) (k0_pay8 v9 v10 v12 v14) (ix3 (0 : Fin 1) (0 : Fin 1) d) = average v9 v10 v12 v14 3 ⟨0 + d.val, by omega⟩ := by
  unfold average tile turned normed
  simp only [column_0, lane_0]
  unfold k0_pay14 k0_pay8 k0_pay5 k0_pay6 k0_pay7
  pointwise
  rfl

/-- The mean of head 1 over block 0. -/
theorem mean_1_0 : k0_pay17 (F := Ideal) (k0_pay15 v9 (k0_pay5 v10) (k0_pay6 v12) (k0_pay7 v14)) (ix3 (0 : Fin 1) (0 : Fin 1) d) = average v9 v10 v12 v14 0 ⟨128 + d.val, by omega⟩ := by
  unfold average tile turned normed
  simp only [column_1, lane_1]
  unfold k0_pay17 k0_pay15 k0_pay5 k0_pay6 k0_pay7
  pointwise
  rfl

/-- The mean of head 1 over block 1. -/
theorem mean_1_1 : k0_pay18 (F := Ideal) (k0_pay15 v9 (k0_pay5 v10) (k0_pay6 v12) (k0_pay7 v14)) (ix3 (0 : Fin 1) (0 : Fin 1) d) = average v9 v10 v12 v14 1 ⟨128 + d.val, by omega⟩ := by
  unfold average tile turned normed
  simp only [column_1, lane_1]
  unfold k0_pay18 k0_pay15 k0_pay5 k0_pay6 k0_pay7
  pointwise
  rfl

/-- The mean of head 1 over block 2. -/
theorem mean_1_2 : k0_pay19 (F := Ideal) (k0_pay15 v9 (k0_pay5 v10) (k0_pay6 v12) (k0_pay7 v14)) (ix3 (0 : Fin 1) (0 : Fin 1) d) = average v9 v10 v12 v14 2 ⟨128 + d.val, by omega⟩ := by
  unfold average tile turned normed
  simp only [column_1, lane_1]
  unfold k0_pay19 k0_pay15 k0_pay5 k0_pay6 k0_pay7
  pointwise
  rfl

/-- The mean of head 1 over block 3. -/
theorem mean_1_3 : k0_pay20 (F := Ideal) (k0_pay15 v9 (k0_pay5 v10) (k0_pay6 v12) (k0_pay7 v14)) (ix3 (0 : Fin 1) (0 : Fin 1) d) = average v9 v10 v12 v14 3 ⟨128 + d.val, by omega⟩ := by
  unfold average tile turned normed
  simp only [column_1, lane_1]
  unfold k0_pay20 k0_pay15 k0_pay5 k0_pay6 k0_pay7
  pointwise
  rfl

/-- The mean of head 2 over block 0. -/
theorem mean_2_0 : k0_pay23 (F := Ideal) v9 (k0_pay5 v10) (k0_pay6 v12) (k0_pay7 v14) (ix3 (0 : Fin 1) (0 : Fin 1) d) = average v9 v10 v12 v14 0 ⟨256 + d.val, by omega⟩ := by
  unfold average tile turned normed
  simp only [column_2, lane_2]
  unfold k0_pay23 k0_pay5 k0_pay6 k0_pay7 k0_pay21
  pointwise
  rfl

/-- The mean of head 2 over block 1. -/
theorem mean_2_1 : k0_pay24 (F := Ideal) v9 (k0_pay5 v10) (k0_pay6 v12) (k0_pay7 v14) (ix3 (0 : Fin 1) (0 : Fin 1) d) = average v9 v10 v12 v14 1 ⟨256 + d.val, by omega⟩ := by
  unfold average tile turned normed
  simp only [column_2, lane_2]
  unfold k0_pay24 k0_pay5 k0_pay6 k0_pay7 k0_pay21
  pointwise
  rfl

/-- The mean of head 2 over block 2. -/
theorem mean_2_2 : k0_pay26 (F := Ideal) (k0_pay25 v9 (k0_pay5 v10) (k0_pay6 v12) (k0_pay7 v14)) (ix3 (0 : Fin 1) (0 : Fin 1) d) = average v9 v10 v12 v14 2 ⟨256 + d.val, by omega⟩ := by
  unfold average tile turned normed
  simp only [column_2, lane_2]
  unfold k0_pay26 k0_pay25 k0_pay5 k0_pay6 k0_pay7 k0_pay21
  pointwise
  rfl

/-- The mean of head 2 over block 3. -/
theorem mean_2_3 : k0_pay27 (F := Ideal) (k0_pay21 v9 (k0_pay5 v10) (k0_pay6 v12) (k0_pay7 v14)) (ix3 (0 : Fin 1) (0 : Fin 1) d) = average v9 v10 v12 v14 3 ⟨256 + d.val, by omega⟩ := by
  unfold average tile turned normed
  simp only [column_2, lane_2]
  unfold k0_pay27 k0_pay21 k0_pay5 k0_pay6 k0_pay7
  pointwise
  rfl

/-- The mean of head 3 over block 0. -/
theorem mean_3_0 : k0_pay31 (F := Ideal) (k0_pay30 v9 (k0_pay5 v10) (k0_pay6 v12) (k0_pay7 v14)) (ix3 (0 : Fin 1) (0 : Fin 1) d) = average v9 v10 v12 v14 0 ⟨384 + d.val, by omega⟩ := by
  unfold average tile turned normed
  simp only [column_3, lane_3]
  unfold k0_pay31 k0_pay30 k0_pay5 k0_pay6 k0_pay7 k0_pay28
  pointwise
  rfl

/-- The mean of head 3 over block 1. -/
theorem mean_3_1 : k0_pay32 (F := Ideal) (k0_pay28 v9 (k0_pay5 v10) (k0_pay6 v12) (k0_pay7 v14)) (ix3 (0 : Fin 1) (0 : Fin 1) d) = average v9 v10 v12 v14 1 ⟨384 + d.val, by omega⟩ := by
  unfold average tile turned normed
  simp only [column_3, lane_3]
  unfold k0_pay32 k0_pay28 k0_pay5 k0_pay6 k0_pay7
  pointwise
  rfl

/-- The mean of head 3 over block 2. -/
theorem mean_3_2 : k0_pay33 (F := Ideal) (k0_pay28 v9 (k0_pay5 v10) (k0_pay6 v12) (k0_pay7 v14)) (ix3 (0 : Fin 1) (0 : Fin 1) d) = average v9 v10 v12 v14 2 ⟨384 + d.val, by omega⟩ := by
  unfold average tile turned normed
  simp only [column_3, lane_3]
  unfold k0_pay33 k0_pay28 k0_pay5 k0_pay6 k0_pay7
  pointwise
  rfl

/-- The mean of head 3 over block 3. -/
theorem mean_3_3 : k0_pay34 (F := Ideal) (k0_pay28 v9 (k0_pay5 v10) (k0_pay6 v12) (k0_pay7 v14)) (ix3 (0 : Fin 1) (0 : Fin 1) d) = average v9 v10 v12 v14 3 ⟨384 + d.val, by omega⟩ := by
  unfold average tile turned normed
  simp only [column_3, lane_3]
  unfold k0_pay34 k0_pay28 k0_pay5 k0_pay6 k0_pay7
  pointwise
  rfl

/-- The mean of head 4 over block 0. -/
theorem mean_4_0 : k0_pay40 (F := Ideal) (k0_pay6 v12) (k0_pay7 v14) (k0_pay35 v9) (k0_pay36 (k0_pay5 v10)) (k0_pay37 v9) (ix3 (0 : Fin 1) (0 : Fin 1) d) = average v9 v10 v12 v14 0 ⟨512 + d.val, by omega⟩ := by
  unfold average tile turned normed
  simp only [column_4, lane_4]
  unfold k0_pay40 k0_pay6 k0_pay7 k0_pay36 k0_pay5 k0_pay37 k0_pay35 k0_pay38
  pointwise
  rfl

/-- The mean of head 4 over block 1. -/
theorem mean_4_1 : k0_pay41 (F := Ideal) (k0_pay6 v12) (k0_pay7 v14) (k0_pay35 v9) (k0_pay36 (k0_pay5 v10)) (k0_pay37 v9) (ix3 (0 : Fin 1) (0 : Fin 1) d) = average v9 v10 v12 v14 1 ⟨512 + d.val, by omega⟩ := by
  unfold average tile turned normed
  simp only [column_4, lane_4]
  unfold k0_pay41 k0_pay6 k0_pay7 k0_pay36 k0_pay5 k0_pay37 k0_pay35 k0_pay38
  pointwise
  rfl

/-- The mean of head 4 over block 2. -/
theorem mean_4_2 : k0_pay42 (F := Ideal) (k0_pay6 v12) (k0_pay7 v14) (k0_pay35 v9) (k0_pay36 (k0_pay5 v10)) (k0_pay37 v9) (ix3 (0 : Fin 1) (0 : Fin 1) d) = average v9 v10 v12 v14 2 ⟨512 + d.val, by omega⟩ := by
  unfold average tile turned normed
  simp only [column_4, lane_4]
  unfold k0_pay42 k0_pay6 k0_pay7 k0_pay36 k0_pay5 k0_pay37 k0_pay35 k0_pay38
  pointwise
  rfl

/-- The mean of head 4 over block 3. -/
theorem mean_4_3 : k0_pay44 (F := Ideal) (k0_pay43 (k0_pay6 v12) (k0_pay7 v14) (k0_pay35 v9) (k0_pay36 (k0_pay5 v10)) (k0_pay37 v9)) (ix3 (0 : Fin 1) (0 : Fin 1) d) = average v9 v10 v12 v14 3 ⟨512 + d.val, by omega⟩ := by
  unfold average tile turned normed
  simp only [column_4, lane_4]
  unfold k0_pay44 k0_pay43 k0_pay6 k0_pay7 k0_pay36 k0_pay5 k0_pay37 k0_pay35 k0_pay38
  pointwise
  rfl

/-- The mean of head 5 over block 0. -/
theorem mean_5_0 : k0_pay47 (F := Ideal) v9 (k0_pay5 v10) (k0_pay6 v12) (k0_pay7 v14) (ix3 (0 : Fin 1) (0 : Fin 1) d) = average v9 v10 v12 v14 0 ⟨640 + d.val, by omega⟩ := by
  unfold average tile turned normed
  simp only [column_5, lane_5]
  unfold k0_pay47 k0_pay5 k0_pay6 k0_pay7 k0_pay45
  pointwise
  rfl

/-- The mean of head 5 over block 1. -/
theorem mean_5_1 : k0_pay49 (F := Ideal) (k0_pay48 v9 (k0_pay5 v10) (k0_pay6 v12) (k0_pay7 v14)) (ix3 (0 : Fin 1) (0 : Fin 1) d) = average v9 v10 v12 v14 1 ⟨640 + d.val, by omega⟩ := by
  unfold average tile turned normed
  simp only [column_5, lane_5]
  unfold k0_pay49 k0_pay48 k0_pay5 k0_pay6 k0_pay7 k0_pay45
  pointwise
  rfl

/-- The mean of head 5 over block 2. -/
theorem mean_5_2 : k0_pay50 (F := Ideal) (k0_pay45 v9 (k0_pay5 v10) (k0_pay6 v12) (k0_pay7 v14)) (ix3 (0 : Fin 1) (0 : Fin 1) d) = average v9 v10 v12 v14 2 ⟨640 + d.val, by omega⟩ := by
  unfold average tile turned normed
  simp only [column_5, lane_5]
  unfold k0_pay50 k0_pay45 k0_pay5 k0_pay6 k0_pay7
  pointwise
  rfl

/-- The mean of head 5 over block 3. -/
theorem mean_5_3 : k0_pay51 (F := Ideal) (k0_pay45 v9 (k0_pay5 v10) (k0_pay6 v12) (k0_pay7 v14)) (ix3 (0 : Fin 1) (0 : Fin 1) d) = average v9 v10 v12 v14 3 ⟨640 + d.val, by omega⟩ := by
  unfold average tile turned normed
  simp only [column_5, lane_5]
  unfold k0_pay51 k0_pay45 k0_pay5 k0_pay6 k0_pay7
  pointwise
  rfl

/-- The mean of head 6 over block 0. -/
theorem mean_6_0 : k0_pay54 (F := Ideal) (k0_pay52 v9 (k0_pay5 v10) (k0_pay6 v12) (k0_pay7 v14)) (ix3 (0 : Fin 1) (0 : Fin 1) d) = average v9 v10 v12 v14 0 ⟨768 + d.val, by omega⟩ := by
  unfold average tile turned normed
  simp only [column_6, lane_6]
  unfold k0_pay54 k0_pay52 k0_pay5 k0_pay6 k0_pay7
  pointwise
  rfl

/-- The mean of head 6 over block 1. -/
theorem mean_6_1 : k0_pay55 (F := Ideal) (k0_pay52 v9 (k0_pay5 v10) (k0_pay6 v12) (k0_pay7 v14)) (ix3 (0 : Fin 1) (0 : Fin 1) d) = average v9 v10 v12 v14 1 ⟨768 + d.val, by omega⟩ := by
  unfold average tile turned normed
  simp only [column_6, lane_6]
  unfold k0_pay55 k0_pay52 k0_pay5 k0_pay6 k0_pay7
  pointwise
  rfl

/-- The mean of head 6 over block 2. -/
theorem mean_6_2 : k0_pay56 (F := Ideal) (k0_pay52 v9 (k0_pay5 v10) (k0_pay6 v12) (k0_pay7 v14)) (ix3 (0 : Fin 1) (0 : Fin 1) d) = average v9 v10 v12 v14 2 ⟨768 + d.val, by omega⟩ := by
  unfold average tile turned normed
  simp only [column_6, lane_6]
  unfold k0_pay56 k0_pay52 k0_pay5 k0_pay6 k0_pay7
  pointwise
  rfl

/-- The mean of head 6 over block 3. -/
theorem mean_6_3 : k0_pay57 (F := Ideal) (k0_pay52 v9 (k0_pay5 v10) (k0_pay6 v12) (k0_pay7 v14)) (ix3 (0 : Fin 1) (0 : Fin 1) d) = average v9 v10 v12 v14 3 ⟨768 + d.val, by omega⟩ := by
  unfold average tile turned normed
  simp only [column_6, lane_6]
  unfold k0_pay57 k0_pay52 k0_pay5 k0_pay6 k0_pay7
  pointwise
  rfl

/-- The mean of head 7 over block 0. -/
theorem mean_7_0 : k0_pay63 (F := Ideal) (k0_pay6 v12) (k0_pay7 v14) (k0_pay58 v9) (k0_pay59 (k0_pay5 v10)) (k0_pay60 v9) (ix3 (0 : Fin 1) (0 : Fin 1) d) = average v9 v10 v12 v14 0 ⟨896 + d.val, by omega⟩ := by
  unfold average tile turned normed
  simp only [column_7, lane_7]
  unfold k0_pay63 k0_pay6 k0_pay7 k0_pay59 k0_pay5 k0_pay60 k0_pay58 k0_pay61
  pointwise
  rfl

/-- The mean of head 7 over block 1. -/
theorem mean_7_1 : k0_pay64 (F := Ideal) (k0_pay6 v12) (k0_pay7 v14) (k0_pay58 v9) (k0_pay59 (k0_pay5 v10)) (k0_pay60 v9) (ix3 (0 : Fin 1) (0 : Fin 1) d) = average v9 v10 v12 v14 1 ⟨896 + d.val, by omega⟩ := by
  unfold average tile turned normed
  simp only [column_7, lane_7]
  unfold k0_pay64 k0_pay6 k0_pay7 k0_pay59 k0_pay5 k0_pay60 k0_pay58 k0_pay61
  pointwise
  rfl

/-- The mean of head 7 over block 2. -/
theorem mean_7_2 : k0_pay3 (F := Ideal) (k0_pay65 (k0_pay6 v12) (k0_pay7 v14) (k0_pay58 v9) (k0_pay59 (k0_pay5 v10)) (k0_pay60 v9)) (ix3 (0 : Fin 1) (0 : Fin 1) d) = average v9 v10 v12 v14 2 ⟨896 + d.val, by omega⟩ := by
  unfold average tile turned normed
  simp only [column_7, lane_7]
  unfold k0_pay3 k0_pay65 k0_pay6 k0_pay7 k0_pay59 k0_pay5 k0_pay60 k0_pay58 k0_pay61
  pointwise
  rfl

/-- The mean of head 7 over block 3. -/
theorem mean_7_3 : k0_pay4 (F := Ideal) (k0_pay61 (k0_pay6 v12) (k0_pay7 v14) (k0_pay58 v9) (k0_pay59 (k0_pay5 v10)) (k0_pay60 v9)) (ix3 (0 : Fin 1) (0 : Fin 1) d) = average v9 v10 v12 v14 3 ⟨896 + d.val, by omega⟩ := by
  unfold average tile turned normed
  simp only [column_7, lane_7]
  unfold k0_pay4 k0_pay61 k0_pay6 k0_pay7 k0_pay59 k0_pay5 k0_pay60 k0_pay58
  pointwise
  rfl

end Stores

/-- One more store of a block's head on top of the stores of the blocks and heads before it. -/
theorem canon_mean (G : S1x4x1024.Idx → EReal) (Q : Vec Ideal S1x1x128 .f32) (b n o : ℕ) (h4 : b < 4) (h8 : n < 8) (ho : o = 128 * n)
    (hb : ∀ a, (![0, b, o] : Fin 3 → Nat) a + S1x1x128.size a ≤ S1x4x1024.size a)
    (hQ : ∀ d : Fin 128, Q (ix3 (0 : Fin 1) (0 : Fin 1) d) = G (ix3 (0 : Fin 1) (⟨b, h4⟩ : Fin 4) (⟨o + d.val, by omega⟩ : Fin 1024)))
    (L : List (View.Piece (Elt Ideal) S1x4x1024 .f32)) (y : S1x4x1024.Idx) (hy : (y 2).val / 128 * 4 + (y 1).val < n * 4 + b + 1)
    (rest : (y 2).val / 128 * 4 + (y 1).val < n * 4 + b → View.canon L y = G y) :
    View.canon (Val := Elt Ideal) (⟨Rect.unit (s := S1x4x1024) ![0, b, o] S1x1x128.size hb, Q⟩ :: L) y = G y := by
  have y0 : (y 0).val < 1 := (y 0).isLt
  have y1 : (y 1).val < 4 := (y 1).isLt
  by_cases h : (y 2).val / 128 * 4 + (y 1).val < n * 4 + b
  · refine (View.canon_cons_of_not_mem _ _ fun hm => ?_).trans (rest h)
    have hm' := (Rect.mem_set_unit (inb := hb)).mp hm
    have h1 : b ≤ (y 1).val ∧ (y 1).val < b + 1 := hm' 1
    have h2 : o ≤ (y 2).val ∧ (y 2).val < o + 128 := hm' 2
    omega
  · refine (congrArg _ ?_).trans ((View.canon_cons_emb (Rect.unit (s := S1x4x1024) ![0, b, o] S1x1x128.size hb) Q L (ix3 (0 : Fin 1) (0 : Fin 1) (⟨(y 2).val - o, by omega⟩ : Fin 128))).trans ((hQ _).trans (congrArg G ?_)))
    · funext a
      match a with
      | ⟨0, _⟩ => exact Fin.ext (by show (y 0).val = 0 + 1 * 0; omega)
      | ⟨1, _⟩ => exact Fin.ext (by show (y 1).val = b + 1 * 0; omega)
      | ⟨2, _⟩ => exact Fin.ext (by show (y 2).val = o + 1 * ((y 2).val - o); omega)
    · funext a
      match a with
      | ⟨0, _⟩ => exact Fin.ext (by show 0 = (y 0).val; omega)
      | ⟨1, _⟩ => exact Fin.ext (by show b = (y 1).val; omega)
      | ⟨2, _⟩ => exact Fin.ext (by show o + ((y 2).val - o) = (y 2).val; omega)

/-- Which block each operand shows at a grid point. -/
theorem idx : ∀ t : Fin grid0.N, win0_0.index t = ![t.val / 2, t.val % 2] ∧ win0_1.index t = ![t.val % 2, 0]
    ∧ win0_2.index t = ![0, 0] ∧ win0_3.index t = ![t.val / 2, 0] ∧ win0_4.index t = ![t.val / 2, 0]
    ∧ win0_5.index t = ![t.val / 2, 0] ∧ win0_6.index t = ![t.val / 2, 0, 0] := by
  decide +kernel

/-- After the second run of a tile's contraction the scratch holds the whole product there. -/
theorem scratch (t : Fin cfg0.N) (hm : t.val % 2 = 1) (j : S1024x1024.Idx) : (outsAt0 m c t.val t.isLt).2.2 j
    = Products.entry (M := 16384) (K := 4096) (N := 1024) (V m c main_arg0) (V m c main_v0)
      (((cfg0.win 5).blk t).view.emb j 0) (((cfg0.win 5).blk t).view.emb j 1) := by
  rw [Pipeline.eq_sum_fin_of_reset_step_apply_of_flush (fun n h => (outsAt0 m c n h).2.2) 2 (fun _ => (0 : EReal))
      (fun t j => Products.entry (M := 1024) (K := 2048) (N := 1024) (iblk m c 0 t) (iblk m c 1 t) (j 0) (j 1))
    (fun t h j => by rw [outsAt0_A m c t h (by omega) (by omega)]; frame_out; rw [eq_ix2 j]; exact part_apply _ _ _ _)
    (fun t h j => by rw [outsAt0_B m c t h (by omega) (by omega)]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The keys: every head of the product normed and turned. -/
def keys (h : S16384x4096.Idx → EReal) (w : S4096x1024.Idx → EReal) (g : S128.Idx → EReal) (cos sin : S16384x64.Idx → EReal) :
    FVec Ideal S16384x1024 .bf16 := fun i =>
  Rotary.turned (fun l => Products.entry h w (i 0) (Rotary.column (W := 1024) (by norm_num) (i 1) l)) (fun l => g (ix1 l))
    (fun l => cos (ix2 (i 0) (Rotary.half l))) (Rotary.signed fun l => sin (ix2 (i 0) l)) (Rotary.lane (W := 1024) (i 1))

/-- Row s of block b of the rows' tile a. -/
def row (a : Fin 16) (b : Fin 4) (s : Fin 256) : Fin 16384 := ⟨(a.val * 4 + b.val) * 256 + s.val, by omega⟩

/-- The mean key of every block of 256 rows. -/
def means (h : S16384x4096.Idx → EReal) (w : S4096x1024.Idx → EReal) (g : S128.Idx → EReal) (cos sin : S16384x64.Idx → EReal) :
    FVec Ideal S16x4x1024 .f32 := fun i =>
  Ideal.div (∑ s : Fin 256, keys h w g cos sin (ix2 (row (i 0) (i 1) s) (i 2))) (Ideal.ofBits .f32 0x43800000#32)

/-- The gain laid out once per head. -/
theorem gain (j : Fin 1024) : V m c main_v4 (ix2 (0 : Fin 1) j) = (m ((c.tc : Thread nD τ).loc main_arg2) : S128.Idx → EReal) (ix1 (Rotary.lane j)) := by
  unfold_abbrev_sides
  after_results
  pointwise
  rfl

/-- Every head reads the same gain. -/
theorem gain_column (j : Fin 1024) (l : Fin 128) : V m c main_v4 (ix2 (0 : Fin 1) (Rotary.column (by norm_num) j l))
    = (m ((c.tc : Thread nD τ).loc main_arg2) : S128.Idx → EReal) (ix1 l) := by
  rw [gain, Rotary.lane_column]

/-- The cosines laid out once per half. -/
theorem cosines (r : Fin 16384) (d : Fin 128) : V m c main_v5 (ix2 r d)
    = (m ((c.tc : Thread nD τ).loc main_arg3) : S16384x64.Idx → EReal) (ix2 r (Rotary.half d)) := by
  unfold_abbrev_sides
  after_results
  pointwise
  exact Rotary.halves (fun k => (m ((c.tc : Thread nD τ).loc main_arg3) : S16384x64.Idx → EReal) (ix2 r k)) d

/-- The sines laid out once per half, the first half negated. -/
theorem sines (r : Fin 16384) (d : Fin 128) : V m c main_v7 (ix2 r d)
    = Rotary.signed (fun l => (m ((c.tc : Thread nD τ).loc main_arg4) : S16384x64.Idx → EReal) (ix2 r l)) d := by
  unfold_abbrev_sides
  after_results
  pointwise
  exact Rotary.signed_halves (fun k => (m ((c.tc : Thread nD τ).loc main_arg4) : S16384x64.Idx → EReal) (ix2 r k)) d

/-- The weights as the products read them are the weights given: a change of format is the identity here. -/
theorem entry_w : (V m c main_v0 : S4096x1024.Idx → EReal) = (m ((c.tc : Thread nD τ).loc main_arg1) : S4096x1024.Idx → EReal) := by
  unfold_abbrev_sides
  after_results
  rfl

/-- The turned heads of a tile are the keys of its rows. -/
theorem tile_keys (t : Fin cfg0.N) (v9 : S1024x1024.Idx → EReal) (hs : ∀ j, v9 j = Products.entry (M := 16384) (K := 4096) (N := 1024) (V m c main_arg0) (V m c main_v0)
      (((cfg0.win 5).blk t).view.emb j 0) (((cfg0.win 5).blk t).view.emb j 1)) (a j : Fin 1024) (r : Fin 16384) (k : Fin 1024)
    (hr : r.val = t.val / 2 * 1024 + a.val) (hk : k.val = j.val) :
    Rotary.tile v9 (iblk m c 2 t) (iblk m c 3 t) (iblk m c 4 t) a j = keys (V m c main_arg0) (V m c main_v0) (m ((c.tc : Thread nD τ).loc main_arg2))
    (m ((c.tc : Thread nD τ).loc main_arg3)) (m ((c.tc : Thread nD τ).loc main_arg4)) (ix2 r k) := by
  obtain rfl : k = j := Fin.ext hk
  have ht : t.val / 2 * 1024 + a.val < 16384 := by have := r.isLt; omega
  obtain rfl : r = ⟨t.val / 2 * 1024 + a.val, ht⟩ := Fin.ext hr
  unfold Rotary.tile keys
  refine Rotary.turned_congr (fun l => ?_) (fun l => ?_) (fun l => ?_) (fun l => ?_) rfl
  · refine (hs _).trans (congrArg₂ (Products.entry (M := 16384) (K := 4096) (N := 1024) (V m c main_arg0) (V m c main_v0)) (Fin.ext ?_) (Fin.ext ?_))
    · blk_simp; simp [idx]
    · blk_simp; simp [idx, Rotary.column]
  · refine Eq.trans ?_ (gain_column m c k l)
    blk_ext [iblk, idx]
  · refine Eq.trans ?_ (cosines m c _ l)
    blk_ext [iblk, idx]
  · refine Eq.trans ?_ (sines m c _ l)
    blk_ext [iblk, idx]

/-- The array of keys the call leaves. -/
theorem arr_keys : (dats m 0 c).arrAt 5 cfg0.N = keys (V m c main_arg0) (V m c main_v0) (m ((c.tc : Thread nD τ).loc main_arg2))
    (m ((c.tc : Thread nD τ).loc main_arg3)) (m ((c.tc : Thread nD τ).loc main_arg4)) := by
  refine (dats m 0 c).arrAt_eq_of_covers 5 _ (by decide +kernel) fun t hf y => ?_
  have hm : t.val % 2 = 1 := (flush0_5 t).mp hf
  have hs := scratch m c t hm
  rw [outsAt0_B m c t (by omega) hm hm] at hs
  frame_out at hs
  blk_simp
  rw [after0_5, outsAt0_B m c t (by omega) hm hm]
  frame_out
  simp only [read_unread_whole] at hs ⊢
  refine (Rotary.canon_heads (fun z => Rotary.tile _ _ _ _ (z 0) (z 1)) _ _ _ _ _ _ _ _
    _ (fun a d => turn_0 _ _ _ _ a d)
    _ (fun a d => turn_1 _ _ _ _ a d)
    _ (fun a d => turn_2 _ _ _ _ a d)
    _ (fun a d => turn_3 _ _ _ _ a d)
    _ (fun a d => turn_4 _ _ _ _ a d)
    _ (fun a d => turn_5 _ _ _ _ a d)
    _ (fun a d => turn_6 _ _ _ _ a d)
    _ (fun a d => turn_7 _ _ _ _ a d) y).trans ?_
  have e0 : (((View.whole main_v8_0).slice (win0_5.rect t)).emb y 0).val = t.val / 2 * 1024 + (y 0).val := by blk_simp; simp [idx]
  have e1 : (((View.whole main_v8_0).slice (win0_5.rect t)).emb y 1).val = (y 1).val := by blk_simp; simp [idx]
  exact tile_keys m c t _ hs (y 0) (y 1) _ _ e0 e1

/-- The array of mean keys the call leaves. -/
theorem arr_means : (dats m 0 c).arrAt 6 cfg0.N = means (V m c main_arg0) (V m c main_v0) (m ((c.tc : Thread nD τ).loc main_arg2))
    (m ((c.tc : Thread nD τ).loc main_arg3)) (m ((c.tc : Thread nD τ).loc main_arg4)) := by
  refine (dats m 0 c).arrAt_eq_of_covers 6 _ (by decide +kernel) fun t hf y => ?_
  have hm : t.val % 2 = 1 := (flush0_6 t).mp hf
  have hs := scratch m c t hm
  rw [outsAt0_B m c t (by omega) hm hm] at hs
  frame_out at hs
  blk_simp
  rw [after0_6, outsAt0_B m c t (by omega) hm hm]
  frame_out
  simp only [read_unread_whole] at hs ⊢
  generalize k0_pay2 (F := Ideal) (outsAt0 m c _ _).2.2 (iblk m c 0 t) (iblk m c 1 t) = v9 at hs ⊢
  have y1 : (y 1).val < 4 := (y 1).isLt
  have y2 : (y 2).val < 1024 := (y 2).isLt
  have k32 : (y 2).val / 128 * 4 + (y 1).val < 7 * 4 + 3 + 1 := by omega
  refine Eq.trans (b := average v9 (iblk m c 2 t) (iblk m c 3 t) (iblk m c 4 t) (y 1) (y 2)) ?_ ?_
  · refine canon_mean (fun z => average v9 (iblk m c 2 t) (iblk m c 3 t) (iblk m c 4 t) (z 1) (z 2)) _ 3 7 896 (by norm_num) (by norm_num) rfl _ (fun d => mean_7_3 _ _ _ _ d) _ y k32 fun k31 => ?_
    refine canon_mean (fun z => average v9 (iblk m c 2 t) (iblk m c 3 t) (iblk m c 4 t) (z 1) (z 2)) _ 2 7 896 (by norm_num) (by norm_num) rfl _ (fun d => mean_7_2 _ _ _ _ d) _ y k31 fun k30 => ?_
    refine canon_mean (fun z => average v9 (iblk m c 2 t) (iblk m c 3 t) (iblk m c 4 t) (z 1) (z 2)) _ 1 7 896 (by norm_num) (by norm_num) rfl _ (fun d => mean_7_1 _ _ _ _ d) _ y k30 fun k29 => ?_
    refine canon_mean (fun z => average v9 (iblk m c 2 t) (iblk m c 3 t) (iblk m c 4 t) (z 1) (z 2)) _ 0 7 896 (by norm_num) (by norm_num) rfl _ (fun d => mean_7_0 _ _ _ _ d) _ y k29 fun k28 => ?_
    refine canon_mean (fun z => average v9 (iblk m c 2 t) (iblk m c 3 t) (iblk m c 4 t) (z 1) (z 2)) _ 3 6 768 (by norm_num) (by norm_num) rfl _ (fun d => mean_6_3 _ _ _ _ d) _ y k28 fun k27 => ?_
    refine canon_mean (fun z => average v9 (iblk m c 2 t) (iblk m c 3 t) (iblk m c 4 t) (z 1) (z 2)) _ 2 6 768 (by norm_num) (by norm_num) rfl _ (fun d => mean_6_2 _ _ _ _ d) _ y k27 fun k26 => ?_
    refine canon_mean (fun z => average v9 (iblk m c 2 t) (iblk m c 3 t) (iblk m c 4 t) (z 1) (z 2)) _ 1 6 768 (by norm_num) (by norm_num) rfl _ (fun d => mean_6_1 _ _ _ _ d) _ y k26 fun k25 => ?_
    refine canon_mean (fun z => average v9 (iblk m c 2 t) (iblk m c 3 t) (iblk m c 4 t) (z 1) (z 2)) _ 0 6 768 (by norm_num) (by norm_num) rfl _ (fun d => mean_6_0 _ _ _ _ d) _ y k25 fun k24 => ?_
    refine canon_mean (fun z => average v9 (iblk m c 2 t) (iblk m c 3 t) (iblk m c 4 t) (z 1) (z 2)) _ 3 5 640 (by norm_num) (by norm_num) rfl _ (fun d => mean_5_3 _ _ _ _ d) _ y k24 fun k23 => ?_
    refine canon_mean (fun z => average v9 (iblk m c 2 t) (iblk m c 3 t) (iblk m c 4 t) (z 1) (z 2)) _ 2 5 640 (by norm_num) (by norm_num) rfl _ (fun d => mean_5_2 _ _ _ _ d) _ y k23 fun k22 => ?_
    refine canon_mean (fun z => average v9 (iblk m c 2 t) (iblk m c 3 t) (iblk m c 4 t) (z 1) (z 2)) _ 1 5 640 (by norm_num) (by norm_num) rfl _ (fun d => mean_5_1 _ _ _ _ d) _ y k22 fun k21 => ?_
    refine canon_mean (fun z => average v9 (iblk m c 2 t) (iblk m c 3 t) (iblk m c 4 t) (z 1) (z 2)) _ 0 5 640 (by norm_num) (by norm_num) rfl _ (fun d => mean_5_0 _ _ _ _ d) _ y k21 fun k20 => ?_
    refine canon_mean (fun z => average v9 (iblk m c 2 t) (iblk m c 3 t) (iblk m c 4 t) (z 1) (z 2)) _ 3 4 512 (by norm_num) (by norm_num) rfl _ (fun d => mean_4_3 _ _ _ _ d) _ y k20 fun k19 => ?_
    refine canon_mean (fun z => average v9 (iblk m c 2 t) (iblk m c 3 t) (iblk m c 4 t) (z 1) (z 2)) _ 2 4 512 (by norm_num) (by norm_num) rfl _ (fun d => mean_4_2 _ _ _ _ d) _ y k19 fun k18 => ?_
    refine canon_mean (fun z => average v9 (iblk m c 2 t) (iblk m c 3 t) (iblk m c 4 t) (z 1) (z 2)) _ 1 4 512 (by norm_num) (by norm_num) rfl _ (fun d => mean_4_1 _ _ _ _ d) _ y k18 fun k17 => ?_
    refine canon_mean (fun z => average v9 (iblk m c 2 t) (iblk m c 3 t) (iblk m c 4 t) (z 1) (z 2)) _ 0 4 512 (by norm_num) (by norm_num) rfl _ (fun d => mean_4_0 _ _ _ _ d) _ y k17 fun k16 => ?_
    refine canon_mean (fun z => average v9 (iblk m c 2 t) (iblk m c 3 t) (iblk m c 4 t) (z 1) (z 2)) _ 3 3 384 (by norm_num) (by norm_num) rfl _ (fun d => mean_3_3 _ _ _ _ d) _ y k16 fun k15 => ?_
    refine canon_mean (fun z => average v9 (iblk m c 2 t) (iblk m c 3 t) (iblk m c 4 t) (z 1) (z 2)) _ 2 3 384 (by norm_num) (by norm_num) rfl _ (fun d => mean_3_2 _ _ _ _ d) _ y k15 fun k14 => ?_
    refine canon_mean (fun z => average v9 (iblk m c 2 t) (iblk m c 3 t) (iblk m c 4 t) (z 1) (z 2)) _ 1 3 384 (by norm_num) (by norm_num) rfl _ (fun d => mean_3_1 _ _ _ _ d) _ y k14 fun k13 => ?_
    refine canon_mean (fun z => average v9 (iblk m c 2 t) (iblk m c 3 t) (iblk m c 4 t) (z 1) (z 2)) _ 0 3 384 (by norm_num) (by norm_num) rfl _ (fun d => mean_3_0 _ _ _ _ d) _ y k13 fun k12 => ?_
    refine canon_mean (fun z => average v9 (iblk m c 2 t) (iblk m c 3 t) (iblk m c 4 t) (z 1) (z 2)) _ 3 2 256 (by norm_num) (by norm_num) rfl _ (fun d => mean_2_3 _ _ _ _ d) _ y k12 fun k11 => ?_
    refine canon_mean (fun z => average v9 (iblk m c 2 t) (iblk m c 3 t) (iblk m c 4 t) (z 1) (z 2)) _ 2 2 256 (by norm_num) (by norm_num) rfl _ (fun d => mean_2_2 _ _ _ _ d) _ y k11 fun k10 => ?_
    refine canon_mean (fun z => average v9 (iblk m c 2 t) (iblk m c 3 t) (iblk m c 4 t) (z 1) (z 2)) _ 1 2 256 (by norm_num) (by norm_num) rfl _ (fun d => mean_2_1 _ _ _ _ d) _ y k10 fun k9 => ?_
    refine canon_mean (fun z => average v9 (iblk m c 2 t) (iblk m c 3 t) (iblk m c 4 t) (z 1) (z 2)) _ 0 2 256 (by norm_num) (by norm_num) rfl _ (fun d => mean_2_0 _ _ _ _ d) _ y k9 fun k8 => ?_
    refine canon_mean (fun z => average v9 (iblk m c 2 t) (iblk m c 3 t) (iblk m c 4 t) (z 1) (z 2)) _ 3 1 128 (by norm_num) (by norm_num) rfl _ (fun d => mean_1_3 _ _ _ _ d) _ y k8 fun k7 => ?_
    refine canon_mean (fun z => average v9 (iblk m c 2 t) (iblk m c 3 t) (iblk m c 4 t) (z 1) (z 2)) _ 2 1 128 (by norm_num) (by norm_num) rfl _ (fun d => mean_1_2 _ _ _ _ d) _ y k7 fun k6 => ?_
    refine canon_mean (fun z => average v9 (iblk m c 2 t) (iblk m c 3 t) (iblk m c 4 t) (z 1) (z 2)) _ 1 1 128 (by norm_num) (by norm_num) rfl _ (fun d => mean_1_1 _ _ _ _ d) _ y k6 fun k5 => ?_
    refine canon_mean (fun z => average v9 (iblk m c 2 t) (iblk m c 3 t) (iblk m c 4 t) (z 1) (z 2)) _ 0 1 128 (by norm_num) (by norm_num) rfl _ (fun d => mean_1_0 _ _ _ _ d) _ y k5 fun k4 => ?_
    refine canon_mean (fun z => average v9 (iblk m c 2 t) (iblk m c 3 t) (iblk m c 4 t) (z 1) (z 2)) _ 3 0 0 (by norm_num) (by norm_num) rfl _ (fun d => mean_0_3 _ _ _ _ d) _ y k4 fun k3 => ?_
    refine canon_mean (fun z => average v9 (iblk m c 2 t) (iblk m c 3 t) (iblk m c 4 t) (z 1) (z 2)) _ 2 0 0 (by norm_num) (by norm_num) rfl _ (fun d => mean_0_2 _ _ _ _ d) _ y k3 fun k2 => ?_
    refine canon_mean (fun z => average v9 (iblk m c 2 t) (iblk m c 3 t) (iblk m c 4 t) (z 1) (z 2)) _ 1 0 0 (by norm_num) (by norm_num) rfl _ (fun d => mean_0_1 _ _ _ _ d) _ y k2 fun k1 => ?_
    refine canon_mean (fun z => average v9 (iblk m c 2 t) (iblk m c 3 t) (iblk m c 4 t) (z 1) (z 2)) _ 0 0 0 (by norm_num) (by norm_num) rfl _ (fun d => mean_0_0 _ _ _ _ d) _ y k1 fun k0 => ?_
    omega
  · have e0 : (((View.whole main_v8_1).slice (win0_6.rect t)).emb y 0).val = t.val / 2 := by blk_simp; simp [idx]
    have e1 : (((View.whole main_v8_1).slice (win0_6.rect t)).emb y 1).val = (y 1).val := by blk_simp; simp [idx]
    have e2 : (((View.whole main_v8_1).slice (win0_6.rect t)).emb y 2).val = (y 2).val := by blk_simp; simp [idx]
    unfold average means
    refine congrArg (fun x => Ideal.div x (Ideal.ofBits .f32 0x43800000#32)) (Finset.sum_congr rfl fun s _ => ?_)
    refine tile_keys m c t _ hs _ (y 2) _ _ ?_ e2
    refine (congrArg₂ (fun p q => (p * 4 + q) * 256 + s.val) e0 e1).trans ?_
    show (t.val / 2 * 4 + (y 1).val) * 256 + s.val = t.val / 2 * 1024 + ((y 1).val * 256 + s.val)
    omega

end Cert.MobaKeysIdeal.Keys

namespace Cert

open Idealize.ShloMosaic Idealize.SL.Sem
open scoped BigOperators

section Reference

open MobaKeysRefIdeal.Read

variable (h : FVec Ideal MobaKeysIdeal.S16384x4096 .bf16) (w : FVec Ideal MobaKeysIdeal.S4096x1024 .f32) (g : FVec Ideal MobaKeysIdeal.S128 .f32)
  (cos sin : FVec Ideal MobaKeysIdeal.S16384x64 .f32)

/-- Entry (r, n, d) of the reference's product, head n apart. -/
theorem MobaKeysRefIdeal.ref_product (r : Fin 16384) (n : Fin 8) (d : Fin 128) : val_main_v2 (F := Ideal) h w (ix3 r n d)
    = Products.entry h w r (⟨128 * n.val + d.val, by omega⟩ : Fin 1024) := by
  simp only [val_main_v2_apply, val_main_v1_apply, val_main_v0_apply]
  have e : ∀ k, lidx_main_v1 (idx_main_v2 (ix3 r n d)) k = ix2 r k := fun k => funext fun a => Fin.ext (by
    match a with
    | ⟨0, _⟩ => show ((r.val * 8 + n.val) * 128 + d.val) / 1024 = r.val; omega
    | ⟨1, _⟩ => rfl)
  have e' : ∀ k, ridx_main_v1 (idx_main_v2 (ix3 r n d)) k = ix2 k (⟨128 * n.val + d.val, by omega⟩ : Fin 1024) := fun k => funext fun a => Fin.ext (by
    match a with
    | ⟨0, _⟩ => rfl
    | ⟨1, _⟩ => show ((r.val * 8 + n.val) * 128 + d.val) % 1024 = 128 * n.val + d.val; omega)
  simp only [e, e']
  rfl

/-- The reference's normed heads. -/
theorem MobaKeysRefIdeal.ref_normed (r : Fin 16384) (n : Fin 8) (d : Fin 128) : val_main_v15 (F := Ideal) h w g (ix3 r n d)
    = Rotary.normed (fun l => Products.entry h w r (⟨128 * n.val + l.val, by omega⟩ : Fin 1024)) (fun l => g (ix1 l)) d := by
  simp only [val_main_v15_apply, val_main_v12_apply, val_main_v14_apply, val_main_v13_apply, val_main_v11_apply, val_main_v10_apply, val_main_v9_apply, val_main_v8_apply, val_main_v7_apply, val_main_v6_apply, val_main_v5_apply, val_main_v4_apply, val_main_v3_apply, val_main_cst_apply, val_main_cst_0_apply, val_main_cst_1_apply]
  have e : ∀ k, idx_main_v4 (idx_main_v5 (idx_main_v11 (ix3 r n d))) k = ix3 r n k := fun k => funext fun a => Fin.ext (by
    match a with
    | ⟨0, _⟩ => rfl
    | ⟨1, _⟩ => rfl
    | ⟨2, _⟩ => rfl)
  have e' : idx_main_v13 (idx_main_v14 (ix3 r n d)) = ix1 d := funext fun a => Fin.ext (by
    match a with
    | ⟨0, _⟩ => rfl)
  simp only [e, e', MobaKeysRefIdeal.ref_product]
  rw [show FloatOps.ofBits (F := Ideal) FTy.f32 0#32 = (0 : EReal) from Ideal.ofBits_zero_f32, zero_add]
  rfl

/-- The reference's turned heads. -/
theorem MobaKeysRefIdeal.ref_turned (r : Fin 16384) (n : Fin 8) (d : Fin 128) : val_main_v30 (F := Ideal) h w g cos sin (ix3 r n d)
    = Rotary.turned (fun l => Products.entry h w r (⟨128 * n.val + l.val, by omega⟩ : Fin 1024)) (fun l => g (ix1 l))
      (fun l => cos (ix2 r (Rotary.half l))) (Rotary.signed fun l => sin (ix2 r l)) d := by
  unfold val_main_v30
  pointwise
  simp only [val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply]
  by_cases h1 : d.val < 64
  · rw [dif_pos h1]
    refine Eq.trans ?_ (Rotary.turned_lower _ _ (fun k => cos (ix2 r k)) (fun k => sin (ix2 r k)) d h1).symm
    have a1 : idx_main_v16 (ix3 r n (⟨d.val, h1⟩ : Fin 64)) = ix3 r n d := funext fun a => Fin.ext (by
      match a with
      | ⟨0, _⟩ => rfl
      | ⟨1, _⟩ => rfl
      | ⟨2, _⟩ => rfl)
    have a2 : idx_main_v17 (ix3 r n (⟨d.val, h1⟩ : Fin 64)) = ix3 r n (⟨d.val + 64, by omega⟩ : Fin 128) := funext fun a => Fin.ext (by
      match a with
      | ⟨0, _⟩ => rfl
      | ⟨1, _⟩ => rfl
      | ⟨2, _⟩ => show 64 + d.val = d.val + 64; omega)
    have a3 : idx_main_v18 (idx_main_v20 (ix3 r n (⟨d.val, h1⟩ : Fin 64))) = ix2 r (⟨d.val, h1⟩ : Fin 64) := funext fun a => Fin.ext (by
      match a with
      | ⟨0, _⟩ => rfl
      | ⟨1, _⟩ => rfl)
    have a4 : idx_main_v19 (idx_main_v22 (ix3 r n (⟨d.val, h1⟩ : Fin 64))) = ix2 r (⟨d.val, h1⟩ : Fin 64) := funext fun a => Fin.ext (by
      match a with
      | ⟨0, _⟩ => rfl
      | ⟨1, _⟩ => rfl)
    rw [a1, a2, a3, a4, MobaKeysRefIdeal.ref_normed, MobaKeysRefIdeal.ref_normed]
    rfl
  · rw [dif_neg h1]
    refine Eq.trans ?_ (Rotary.turned_upper _ _ (fun k => cos (ix2 r k)) (fun k => sin (ix2 r k)) d h1).symm
    have a1 : idx_main_v16 (ix3 r n (⟨d.val - 64, by omega⟩ : Fin 64)) = ix3 r n (⟨d.val - 64, by omega⟩ : Fin 128) := funext fun a => Fin.ext (by
      match a with
      | ⟨0, _⟩ => rfl
      | ⟨1, _⟩ => rfl
      | ⟨2, _⟩ => rfl)
    have a2 : idx_main_v17 (ix3 r n (⟨d.val - 64, by omega⟩ : Fin 64)) = ix3 r n d := funext fun a => Fin.ext (by
      match a with
      | ⟨0, _⟩ => rfl
      | ⟨1, _⟩ => rfl
      | ⟨2, _⟩ => show 64 + (d.val - 64) = d.val; omega)
    have a3 : idx_main_v18 (idx_main_v25 (ix3 r n (⟨d.val - 64, by omega⟩ : Fin 64))) = ix2 r (⟨d.val - 64, by omega⟩ : Fin 64) := funext fun a => Fin.ext (by
      match a with
      | ⟨0, _⟩ => rfl
      | ⟨1, _⟩ => rfl)
    have a4 : idx_main_v19 (idx_main_v27 (ix3 r n (⟨d.val - 64, by omega⟩ : Fin 64))) = ix2 r (⟨d.val - 64, by omega⟩ : Fin 64) := funext fun a => Fin.ext (by
      match a with
      | ⟨0, _⟩ => rfl
      | ⟨1, _⟩ => rfl)
    rw [a1, a2, a3, a4, MobaKeysRefIdeal.ref_normed, MobaKeysRefIdeal.ref_normed]
    rfl

/-- The reference's turned heads side by side. -/
theorem MobaKeysRefIdeal.ref_flat (i : MobaKeysIdeal.S16384x1024.Idx) : val_main_v31 (F := Ideal) h w g cos sin i = MobaKeysIdeal.Keys.keys h w g cos sin i := by
  rw [eq_ix2 i]
  simp only [val_main_v31_apply]
  have e : MobaKeysRefIdeal.Read.idx_main_v31 (ix2 (i 0) (i 1)) = ix3 (i 0) (⟨(i 1).val / 128, by have h1 : (i 1).val < 1024 := (i 1).isLt; omega⟩ : Fin 8) (Rotary.lane (W := 1024) (i 1)) := funext fun a => Fin.ext (by
    match a with
    | ⟨0, _⟩ => have h1 : (i 1).val < 1024 := (i 1).isLt; show ((i 0).val * 1024 + (i 1).val) / 1024 = (i 0).val; omega
    | ⟨1, _⟩ => have h1 : (i 1).val < 1024 := (i 1).isLt; show ((i 0).val * 1024 + (i 1).val) / 128 % 8 = (i 1).val / 128; omega
    | ⟨2, _⟩ => have h1 : (i 1).val < 1024 := (i 1).isLt; show ((i 0).val * 1024 + (i 1).val) % 128 = (i 1).val % 128; omega)
  rw [e]
  refine Eq.trans (MobaKeysRefIdeal.ref_turned h w g cos sin _ _ _) (Rotary.turned_congr (fun l => ?_) (fun l => rfl) (fun l => rfl) (fun l => rfl) rfl)
  exact congrArg (Products.entry h w (i 0)) (Fin.ext (by show 128 * ((i 1).val / 128) + l.val = (i 1).val / 128 * 128 + l.val; omega))

/-- The reference's keys are the same array. -/
theorem MobaKeysRefIdeal.ref_keys_eq : val_main_v36 (F := Ideal) h w g cos sin = MobaKeysIdeal.Keys.keys h w g cos sin := by
  funext i
  exact MobaKeysRefIdeal.ref_flat h w g cos sin i

/-- The reference's mean keys are the same array. -/
theorem MobaKeysRefIdeal.ref_means_eq : val_main_v35 (F := Ideal) h w g cos sin = MobaKeysIdeal.Keys.means h w g cos sin := by
  funext i
  rw [eq_ix3 i]
  simp only [val_main_v35_apply, val_main_v34_apply, val_main_v33_apply, val_main_v32_apply, val_main_cst_2_apply, val_main_cst_3_apply]
  have e : ∀ k, idx_main_v32 (idx_main_v33 (ix3 (i 0) (i 1) (i 2)) k) = ix2 (MobaKeysIdeal.Keys.row (i 0) (i 1) k) (i 2) := fun k => funext fun a => Fin.ext (by
    match a with
    | ⟨0, _⟩ => have h3 : (i 2).val < 1024 := (i 2).isLt; show ((((i 0).val * 4 + (i 1).val) * 256 + k.val) * 1024 + (i 2).val) / 1024 = ((i 0).val * 4 + (i 1).val) * 256 + k.val; omega
    | ⟨1, _⟩ => have h3 : (i 2).val < 1024 := (i 2).isLt; show ((((i 0).val * 4 + (i 1).val) * 256 + k.val) * 1024 + (i 2).val) % 1024 = (i 2).val; omega)
  simp only [e]
  rw [show FloatOps.ofBits (F := Ideal) FTy.f32 0#32 = (0 : EReal) from Ideal.ofBits_zero_f32, zero_add]
  exact congrArg (fun x => Ideal.div x (Ideal.ofBits .f32 0x43800000#32)) (Finset.sum_congr rfl fun k _ => MobaKeysRefIdeal.ref_flat h w g cos sin _)

end Reference

set_option maxRecDepth 200000 in
/-- The call and its reference leave the same arrays. -/
theorem algebraic_moba_keys : algebraic_MobaKeysIdeal_MobaKeysRefIdeal (hMobaKeysIdeal := MobaKeysIdeal.Gen.facts) (hMobaKeysRefIdeal := MobaKeysRefIdeal.Gen.facts) := by
  pair_intro
  · run_from MobaKeysIdeal.Gen.run_main m g
  · run_from MobaKeysRefIdeal.Value.run m' g'
    · rw [MobaKeysRefIdeal.Read.val_main_v36_eq, (hagree c).1, (hagree c).2.1, (hagree c).2.2.1, (hagree c).2.2.2.1, (hagree c).2.2.2.2,
        MobaKeysIdeal.Keys.arr_keys, MobaKeysIdeal.Gen.V_main_arg0, MobaKeysIdeal.Keys.entry_w]
      exact MobaKeysRefIdeal.ref_keys_eq _ _ _ _ _
    · rw [MobaKeysRefIdeal.Read.val_main_v35_eq, (hagree c).1, (hagree c).2.1, (hagree c).2.2.1, (hagree c).2.2.2.1, (hagree c).2.2.2.2,
        MobaKeysIdeal.Keys.arr_means, MobaKeysIdeal.Gen.V_main_arg0, MobaKeysIdeal.Keys.entry_w]
      exact MobaKeysRefIdeal.ref_means_eq _ _ _ _ _

end Cert

end
-- ==== Proof.SparseKeys.lean ====
module

public import proofs.«01_k».proof.Defs
public import proofs.«01_k».proof.Proof.Products
public import proofs.«01_k».proof.Proof.Rotary
public import proofs.«01_k».proof.Proof.Gen.SparseKeysIdeal.Value
public import proofs.«01_k».proof.Proof.Gen.SparseKeysRefIdeal.Read
public import Idealize.ShloMosaic.Lib.Pipeline.ValueKit
public import Idealize.ShloMosaic.Lib.Pointwise
public import Idealize.ShloMosaic.Lib.Pipeline.ReadBack
public import Idealize.ShloMosaic.Lib.Claim

/-! The keys of the selected and of the window attention: a product, each head normed by its branch and turned by the row angles. -/

@[expose] public section

set_option maxRecDepth 16384

noncomputable section

namespace Cert.SparseKeysIdeal.Keys

open Cert.SparseKeysIdeal Cert.SparseKeysIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What the first run of the contraction leaves in the scratch: that run's partial product. -/
theorem part_apply (a : Vec Ideal S1024x2048 .bf16) (b : Vec Ideal S2048x1024 .bf16) (r : Fin 1024) (l : Fin 1024) :
    k0_pay1 (F := Ideal) a b (ix2 r l) = 0 + ∑ k : Fin 2048, a (ix2 r k) * b (ix2 k l) := by
  unfold k0_pay1
  pointwise

/-- What the second run leaves: the scratch plus that run's partial product. -/
theorem step_apply (acc : Vec Ideal S1024x1024 .f32) (a : Vec Ideal S1024x2048 .bf16) (b : Vec Ideal S2048x1024 .bf16) (r : Fin 1024) (l : Fin 1024) :
    k0_pay2 (F := Ideal) acc a b (ix2 r l) = acc (ix2 r l) + ∑ k : Fin 2048, a (ix2 r k) * b (ix2 k l) := by
  unfold k0_pay2
  pointwise

section Stores

open Cert.Rotary

variable (v9 : Vec Ideal S1024x1024 .f32) (v10 : Vec Ideal S1x1024 .f32) (v12 v14 : Vec Ideal S1024x128 .f32) (a : Fin 1024) (d : Fin 128)

/-- The store of head 0. -/
theorem turn_0 : k0_pay8 (F := Ideal) v9 v10 v12 v14 (ix2 a d) = tile v9 v10 v12 v14 a ⟨0 + d.val, by omega⟩ := by
  unfold tile turned normed
  simp only [column_0, lane_0]
  unfold k0_pay8 k0_pay5 k0_pay6 k0_pay7
  pointwise
  rfl

/-- The store of head 1. -/
theorem turn_1 : k0_pay11 (F := Ideal) (k0_pay7 v14) (k0_pay9 v9 v10) (k0_pay10 v9 v10 v12) (ix2 a d) = tile v9 v10 v12 v14 a ⟨128 + d.val, by omega⟩ := by
  unfold tile turned normed
  simp only [column_1, lane_1]
  unfold k0_pay11 k0_pay7 k0_pay10 k0_pay9 k0_pay5 k0_pay6
  pointwise
  rfl

/-- The store of head 2. -/
theorem turn_2 : k0_pay12 (F := Ideal) v9 (k0_pay5 v10) (k0_pay6 v12) (k0_pay7 v14) (ix2 a d) = tile v9 v10 v12 v14 a ⟨256 + d.val, by omega⟩ := by
  unfold tile turned normed
  simp only [column_2, lane_2]
  unfold k0_pay12 k0_pay5 k0_pay6 k0_pay7
  pointwise
  rfl

/-- The store of head 3. -/
theorem turn_3 : k0_pay13 (F := Ideal) v9 (k0_pay5 v10) (k0_pay6 v12) (k0_pay7 v14) (ix2 a d) = tile v9 v10 v12 v14 a ⟨384 + d.val, by omega⟩ := by
  unfold tile turned normed
  simp only [column_3, lane_3]
  unfold k0_pay13 k0_pay5 k0_pay6 k0_pay7
  pointwise
  rfl

/-- The store of head 4. -/
theorem turn_4 : k0_pay14 (F := Ideal) v9 (k0_pay5 v10) (k0_pay6 v12) (k0_pay7 v14) (ix2 a d) = tile v9 v10 v12 v14 a ⟨512 + d.val, by omega⟩ := by
  unfold tile turned normed
  simp only [column_4, lane_4]
  unfold k0_pay14 k0_pay5 k0_pay6 k0_pay7
  pointwise
  rfl

/-- The store of head 5. -/
theorem turn_5 : k0_pay15 (F := Ideal) v9 (k0_pay5 v10) (k0_pay6 v12) (k0_pay7 v14) (ix2 a d) = tile v9 v10 v12 v14 a ⟨640 + d.val, by omega⟩ := by
  unfold tile turned normed
  simp only [column_5, lane_5]
  unfold k0_pay15 k0_pay5 k0_pay6 k0_pay7
  pointwise
  rfl

/-- The store of head 6. -/
theorem turn_6 : k0_pay3 (F := Ideal) (k0_pay6 v12) (k0_pay7 v14) (k0_pay16 v9) (k0_pay17 (k0_pay5 v10)) (k0_pay18 v9) (ix2 a d) = tile v9 v10 v12 v14 a ⟨768 + d.val, by omega⟩ := by
  unfold tile turned normed
  simp only [column_6, lane_6]
  unfold k0_pay3 k0_pay6 k0_pay7 k0_pay17 k0_pay5 k0_pay18 k0_pay16
  pointwise
  rfl

/-- The store of head 7. -/
theorem turn_7 : k0_pay4 (F := Ideal) v9 (k0_pay5 v10) (k0_pay6 v12) (k0_pay7 v14) (ix2 a d) = tile v9 v10 v12 v14 a ⟨896 + d.val, by omega⟩ := by
  unfold tile turned normed
  simp only [column_7, lane_7]
  unfold k0_pay4 k0_pay5 k0_pay6 k0_pay7
  pointwise
  rfl

end Stores

/-- Which block each operand shows at a grid point. -/
theorem idx : ∀ t : Fin grid0.N, win0_0.index t = ![t.val / 2, t.val % 2] ∧ win0_1.index t = ![t.val % 2, 0]
    ∧ win0_2.index t = ![0, 0] ∧ win0_3.index t = ![t.val / 2, 0] ∧ win0_4.index t = ![t.val / 2, 0]
    ∧ win0_5.index t = ![t.val / 2, 0] := by
  decide +kernel

/-- After the second run of a tile's contraction the scratch holds the whole product there. -/
theorem scratch (t : Fin cfg0.N) (hm : t.val % 2 = 1) (j : S1024x1024.Idx) : (outsAt0 m c t.val t.isLt).2 j
    = Products.entry (M := 16384) (K := 4096) (N := 1024) (V m c main_arg0) (V m c main_v0)
      (((cfg0.win 5).blk t).view.emb j 0) (((cfg0.win 5).blk t).view.emb j 1) := by
  rw [Pipeline.eq_sum_fin_of_reset_step_apply_of_flush (fun n h => (outsAt0 m c n h).2) 2 (fun _ => (0 : EReal))
      (fun t j => Products.entry (M := 1024) (K := 2048) (N := 1024) (iblk m c 0 t) (iblk m c 1 t) (j 0) (j 1))
    (fun t h j => by rw [outsAt0_A m c t h (by omega) (by omega)]; frame_out; rw [eq_ix2 j]; exact part_apply _ _ _ _)
    (fun t h j => by rw [outsAt0_B m c t h (by omega) (by omega)]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The keys of both branches side by side: every head of the product normed by its branch's gain and turned. -/
def keys (h : S16384x4096.Idx → EReal) (w : S4096x1024.Idx → EReal) (gs gw : S128.Idx → EReal) (cos sin : S16384x64.Idx → EReal) :
    FVec Ideal S16384x1024 .bf16 := fun i =>
  Rotary.turned (fun l => Products.entry h w (i 0) (Rotary.column (W := 1024) (by norm_num) (i 1) l)) (fun l => if (i 1).val < 512 then gs (ix1 l) else gw (ix1 l))
    (fun l => cos (ix2 (i 0) (Rotary.half l))) (Rotary.signed fun l => sin (ix2 (i 0) l)) (Rotary.lane (W := 1024) (i 1))

/-- A row over both branches reads, at a column of the first half, the first branch's gain, and otherwise the second's. -/
theorem branch (f g : S128.Idx → EReal) (j : Fin 1024) (h1 : j.val % 128 < 128) (h2 : (j.val - 512) % 128 < 128) :
    (if _ : j.val < 512 then f (ix1 ⟨j.val % 128, h1⟩) else g (ix1 ⟨(j.val - 512) % 128, h2⟩))
      = if j.val < 512 then f (ix1 (Rotary.lane j)) else g (ix1 (Rotary.lane j)) := by
  have e : (⟨(j.val - 512) % 128, h2⟩ : Fin 128) = if j.val < 512 then ⟨(j.val - 512) % 128, h2⟩ else Rotary.lane j := by
    split
    · rfl
    · exact Fin.ext (by show (j.val - 512) % 128 = j.val % 128; omega)
  by_cases h : j.val < 512
  · rw [dif_pos h, if_pos h]
    rfl
  · rw [dif_neg h, if_neg h, e, if_neg h]

/-- The gains laid out once per head, one branch after the other. -/
theorem gain (j : Fin 1024) : V m c main_v9 (ix2 (0 : Fin 1) j) = if j.val < 512 then (m ((c.tc : Thread nD τ).loc main_arg2) : S128.Idx → EReal) (ix1 (Rotary.lane j))
    else (m ((c.tc : Thread nD τ).loc main_arg3) : S128.Idx → EReal) (ix1 (Rotary.lane j)) := by
  unfold_abbrev_sides
  after_results
  pointwise
  exact branch (m ((c.tc : Thread nD τ).loc main_arg2) : S128.Idx → EReal) (m ((c.tc : Thread nD τ).loc main_arg3) : S128.Idx → EReal) j (Nat.mod_lt _ (by norm_num)) (Nat.mod_lt _ (by norm_num))

/-- Every head of a branch reads the branch's gain. -/
theorem gain_column (j : Fin 1024) (l : Fin 128) : V m c main_v9 (ix2 (0 : Fin 1) (Rotary.column (by norm_num) j l))
    = if j.val < 512 then (m ((c.tc : Thread nD τ).loc main_arg2) : S128.Idx → EReal) (ix1 l) else (m ((c.tc : Thread nD τ).loc main_arg3) : S128.Idx → EReal) (ix1 l) := by
  rw [gain, Rotary.lane_column]
  have e : (Rotary.column (W := 1024) (by norm_num) j l).val < 512 ↔ j.val < 512 := by
    show j.val / 128 * 128 + l.val < 512 ↔ j.val < 512
    omega
  simp only [e]

/-- The cosines laid out once per half. -/
theorem cosines (r : Fin 16384) (d : Fin 128) : V m c main_v10 (ix2 r d)
    = (m ((c.tc : Thread nD τ).loc main_arg4) : S16384x64.Idx → EReal) (ix2 r (Rotary.half d)) := by
  unfold_abbrev_sides
  after_results
  pointwise
  exact Rotary.halves (fun k => (m ((c.tc : Thread nD τ).loc main_arg4) : S16384x64.Idx → EReal) (ix2 r k)) d

/-- The sines laid out once per half, the first half negated. -/
theorem sines (r : Fin 16384) (d : Fin 128) : V m c main_v12 (ix2 r d)
    = Rotary.signed (fun l => (m ((c.tc : Thread nD τ).loc main_arg5) : S16384x64.Idx → EReal) (ix2 r l)) d := by
  unfold_abbrev_sides
  after_results
  pointwise
  exact Rotary.signed_halves (fun k => (m ((c.tc : Thread nD τ).loc main_arg5) : S16384x64.Idx → EReal) (ix2 r k)) d

/-- The weights as the products read them are the weights given: a change of format is the identity here. -/
theorem entry_w : (V m c main_v0 : S4096x1024.Idx → EReal) = (m ((c.tc : Thread nD τ).loc main_arg1) : S4096x1024.Idx → EReal) := by
  unfold_abbrev_sides
  after_results
  rfl

/-- The array the call leaves. -/
theorem arr : (dats m 0 c).arrAt 5 cfg0.N = keys (V m c main_arg0) (V m c main_v0) (m ((c.tc : Thread nD τ).loc main_arg2)) (m ((c.tc : Thread nD τ).loc main_arg3))
    (m ((c.tc : Thread nD τ).loc main_arg4)) (m ((c.tc : Thread nD τ).loc main_arg5)) := by
  refine (dats m 0 c).arrAt_eq_of_covers 5 _ (by decide +kernel) fun t hf y => ?_
  have hm : t.val % 2 = 1 := (flush0_5 t).mp hf
  have hs := scratch m c t hm
  rw [outsAt0_B m c t (by omega) hm hm] at hs
  frame_out at hs
  blk_simp
  rw [after0_5, outsAt0_B m c t (by omega) hm hm]
  frame_out
  simp only [read_unread_whole] at hs ⊢
  refine (Rotary.canon_heads (fun z => Rotary.tile _ _ _ _ (z 0) (z 1)) _ _ _ _ _ _ _ _
    _ (fun a d => turn_0 _ _ _ _ a d)
    _ (fun a d => turn_1 _ _ _ _ a d)
    _ (fun a d => turn_2 _ _ _ _ a d)
    _ (fun a d => turn_3 _ _ _ _ a d)
    _ (fun a d => turn_4 _ _ _ _ a d)
    _ (fun a d => turn_5 _ _ _ _ a d)
    _ (fun a d => turn_6 _ _ _ _ a d)
    _ (fun a d => turn_7 _ _ _ _ a d) y).trans ?_
  have y1 : (y 1).val < 1024 := (y 1).isLt
  have e0 : (((View.whole main_v13).slice (win0_5.rect t)).emb y 0).val = t.val / 2 * 1024 + (y 0).val := by blk_simp; simp [idx]
  have e1 : (((View.whole main_v13).slice (win0_5.rect t)).emb y 1).val = (y 1).val := by blk_simp; simp [idx]
  unfold Rotary.tile keys
  refine Rotary.turned_congr (fun l => ?_) (fun l => ?_) (fun l => ?_) (fun l => ?_) ?_
  · refine (hs _).trans (congrArg₂ (Products.entry (M := 16384) (K := 4096) (N := 1024) (V m c main_arg0) (V m c main_v0)) (Fin.ext ?_) (Fin.ext ?_))
    · refine Eq.trans ?_ e0.symm
      blk_simp; simp [idx]
    · refine Eq.trans (b := ((y 1).val / 128 * 128 + l.val)) ?_ ?_
      · blk_simp; simp [idx, Rotary.column]
      · refine Eq.trans ?_ (congrArg (fun k => k / 128 * 128 + l.val) e1.symm)
        show ((y 1).val / 128 * 128 + l.val) = ((y 1).val) / 128 * 128 + l.val
        omega
  · have e : (((View.whole main_v13).slice (win0_5.rect t)).emb y 1).val < 512 ↔ (y 1).val < 512 := by rw [e1]
    refine Eq.trans (b := (V m c main_v9 : S1x1024.Idx → EReal) (ix2 (0 : Fin 1) (Rotary.column (W := 1024) (by norm_num) (y 1) l))) ?_ ?_
    · blk_ext [iblk, idx]
    · refine (gain_column m c (y 1) l).trans ?_
      exact if_congr e.symm rfl rfl
  · refine Eq.trans ?_ (cosines m c _ l)
    blk_ext [iblk, idx]
  · refine Eq.trans ?_ (sines m c _ l)
    blk_ext [iblk, idx]
  · refine Fin.ext (Eq.trans ?_ (congrArg (· % 128) e1.symm))
    show (y 1).val % 128 = ((y 1).val) % 128
    omega

end Cert.SparseKeysIdeal.Keys

namespace Cert

open Idealize.ShloMosaic Idealize.SL.Sem

section Reference

open SparseKeysRefIdeal.Read

variable (h : FVec Ideal SparseKeysIdeal.S16384x4096 .bf16) (w : FVec Ideal SparseKeysIdeal.S4096x1024 .f32) (gs gw : FVec Ideal SparseKeysIdeal.S128 .f32)
  (cos sin : FVec Ideal SparseKeysIdeal.S16384x64 .f32)

/-- Entry (r, n, d) of the reference's product, head n apart. -/
theorem SparseKeysRefIdeal.ref_product_selected (r : Fin 16384) (n : Fin 4) (d : Fin 128) : val_main_v4 (F := Ideal) h w (ix3 r n d)
    = Products.entry h w r (⟨128 * n.val + d.val, by omega⟩ : Fin 1024) := by
  simp only [val_main_v4_apply, val_main_v2_apply, val_main_v1_apply, val_main_v0_apply]
  have e : ∀ k, lidx_main_v1 (idx_main_v2 (idx_main_v4 (ix3 r n d))) k = ix2 r k := fun k => funext fun a => Fin.ext (by
    match a with
    | ⟨0, _⟩ => show ((r.val * 4 + n.val) * 128 + d.val) / 512 = r.val; omega
    | ⟨1, _⟩ => rfl)
  have e' : ∀ k, ridx_main_v1 (idx_main_v2 (idx_main_v4 (ix3 r n d))) k = ix2 k (⟨128 * n.val + d.val, by omega⟩ : Fin 1024) := fun k => funext fun a => Fin.ext (by
    match a with
    | ⟨0, _⟩ => rfl
    | ⟨1, _⟩ => show ((r.val * 4 + n.val) * 128 + d.val) % 512 = 128 * n.val + d.val; omega)
  simp only [e, e']
  rfl

/-- The reference's normed heads. -/
theorem SparseKeysRefIdeal.ref_normed_selected (r : Fin 16384) (n : Fin 4) (d : Fin 128) : val_main_v17 (F := Ideal) h w gs (ix3 r n d)
    = Rotary.normed (fun l => Products.entry h w r (⟨128 * n.val + l.val, by omega⟩ : Fin 1024)) (fun l => gs (ix1 l)) d := by
  simp only [val_main_v17_apply, val_main_v14_apply, val_main_v16_apply, val_main_v15_apply, val_main_v13_apply, val_main_v12_apply, val_main_v11_apply, val_main_v10_apply, val_main_v9_apply, val_main_v8_apply, val_main_v7_apply, val_main_v6_apply, val_main_v5_apply, val_main_cst_apply, val_main_cst_0_apply, val_main_cst_1_apply]
  have e : ∀ k, idx_main_v6 (idx_main_v7 (idx_main_v13 (ix3 r n d))) k = ix3 r n k := fun k => funext fun a => Fin.ext (by
    match a with
    | ⟨0, _⟩ => rfl
    | ⟨1, _⟩ => rfl
    | ⟨2, _⟩ => rfl)
  have e' : idx_main_v15 (idx_main_v16 (ix3 r n d)) = ix1 d := funext fun a => Fin.ext (by
    match a with
    | ⟨0, _⟩ => rfl)
  simp only [e, e', SparseKeysRefIdeal.ref_product_selected]
  rw [show FloatOps.ofBits (F := Ideal) FTy.f32 0#32 = (0 : EReal) from Ideal.ofBits_zero_f32, zero_add]
  rfl

/-- The reference's turned heads. -/
theorem SparseKeysRefIdeal.ref_turned_selected (r : Fin 16384) (n : Fin 4) (d : Fin 128) : val_main_v32 (F := Ideal) h w gs cos sin (ix3 r n d)
    = Rotary.turned (fun l => Products.entry h w r (⟨128 * n.val + l.val, by omega⟩ : Fin 1024)) (fun l => gs (ix1 l))
      (fun l => cos (ix2 r (Rotary.half l))) (Rotary.signed fun l => sin (ix2 r l)) d := by
  unfold val_main_v32
  pointwise
  simp only [val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply]
  by_cases h1 : d.val < 64
  · rw [dif_pos h1]
    refine Eq.trans ?_ (Rotary.turned_lower _ _ (fun k => cos (ix2 r k)) (fun k => sin (ix2 r k)) d h1).symm
    have a1 : idx_main_v18 (ix3 r n (⟨d.val, h1⟩ : Fin 64)) = ix3 r n d := funext fun a => Fin.ext (by
      match a with
      | ⟨0, _⟩ => rfl
      | ⟨1, _⟩ => rfl
      | ⟨2, _⟩ => rfl)
    have a2 : idx_main_v19 (ix3 r n (⟨d.val, h1⟩ : Fin 64)) = ix3 r n (⟨d.val + 64, by omega⟩ : Fin 128) := funext fun a => Fin.ext (by
      match a with
      | ⟨0, _⟩ => rfl
      | ⟨1, _⟩ => rfl
      | ⟨2, _⟩ => show 64 + d.val = d.val + 64; omega)
    have a3 : idx_main_v20 (idx_main_v22 (ix3 r n (⟨d.val, h1⟩ : Fin 64))) = ix2 r (⟨d.val, h1⟩ : Fin 64) := funext fun a => Fin.ext (by
      match a with
      | ⟨0, _⟩ => rfl
      | ⟨1, _⟩ => rfl)
    have a4 : idx_main_v21 (idx_main_v24 (ix3 r n (⟨d.val, h1⟩ : Fin 64))) = ix2 r (⟨d.val, h1⟩ : Fin 64) := funext fun a => Fin.ext (by
      match a with
      | ⟨0, _⟩ => rfl
      | ⟨1, _⟩ => rfl)
    rw [a1, a2, a3, a4, SparseKeysRefIdeal.ref_normed_selected, SparseKeysRefIdeal.ref_normed_selected]
    rfl
  · rw [dif_neg h1]
    refine Eq.trans ?_ (Rotary.turned_upper _ _ (fun k => cos (ix2 r k)) (fun k => sin (ix2 r k)) d h1).symm
    have a1 : idx_main_v18 (ix3 r n (⟨d.val - 64, by omega⟩ : Fin 64)) = ix3 r n (⟨d.val - 64, by omega⟩ : Fin 128) := funext fun a => Fin.ext (by
      match a with
      | ⟨0, _⟩ => rfl
      | ⟨1, _⟩ => rfl
      | ⟨2, _⟩ => rfl)
    have a2 : idx_main_v19 (ix3 r n (⟨d.val - 64, by omega⟩ : Fin 64)) = ix3 r n d := funext fun a => Fin.ext (by
      match a with
      | ⟨0, _⟩ => rfl
      | ⟨1, _⟩ => rfl
      | ⟨2, _⟩ => show 64 + (d.val - 64) = d.val; omega)
    have a3 : idx_main_v20 (idx_main_v27 (ix3 r n (⟨d.val - 64, by omega⟩ : Fin 64))) = ix2 r (⟨d.val - 64, by omega⟩ : Fin 64) := funext fun a => Fin.ext (by
      match a with
      | ⟨0, _⟩ => rfl
      | ⟨1, _⟩ => rfl)
    have a4 : idx_main_v21 (idx_main_v29 (ix3 r n (⟨d.val - 64, by omega⟩ : Fin 64))) = ix2 r (⟨d.val - 64, by omega⟩ : Fin 64) := funext fun a => Fin.ext (by
      match a with
      | ⟨0, _⟩ => rfl
      | ⟨1, _⟩ => rfl)
    rw [a1, a2, a3, a4, SparseKeysRefIdeal.ref_normed_selected, SparseKeysRefIdeal.ref_normed_selected]
    rfl

/-- Entry (r, n, d) of the reference's product, head n apart. -/
theorem SparseKeysRefIdeal.ref_product_window (r : Fin 16384) (n : Fin 4) (d : Fin 128) : val_main_v33 (F := Ideal) h w (ix3 r n d)
    = Products.entry h w r (⟨512 + 128 * n.val + d.val, by omega⟩ : Fin 1024) := by
  simp only [val_main_v33_apply, val_main_v3_apply, val_main_v1_apply, val_main_v0_apply]
  have e : ∀ k, lidx_main_v1 (idx_main_v3 (idx_main_v33 (ix3 r n d))) k = ix2 r k := fun k => funext fun a => Fin.ext (by
    match a with
    | ⟨0, _⟩ => show ((r.val * 4 + n.val) * 128 + d.val) / 512 = r.val; omega
    | ⟨1, _⟩ => rfl)
  have e' : ∀ k, ridx_main_v1 (idx_main_v3 (idx_main_v33 (ix3 r n d))) k = ix2 k (⟨512 + 128 * n.val + d.val, by omega⟩ : Fin 1024) := fun k => funext fun a => Fin.ext (by
    match a with
    | ⟨0, _⟩ => rfl
    | ⟨1, _⟩ => show 512 + ((r.val * 4 + n.val) * 128 + d.val) % 512 = 512 + 128 * n.val + d.val; omega)
  simp only [e, e']
  rfl

/-- The reference's normed heads. -/
theorem SparseKeysRefIdeal.ref_normed_window (r : Fin 16384) (n : Fin 4) (d : Fin 128) : val_main_v46 (F := Ideal) h w gw (ix3 r n d)
    = Rotary.normed (fun l => Products.entry h w r (⟨512 + 128 * n.val + l.val, by omega⟩ : Fin 1024)) (fun l => gw (ix1 l)) d := by
  simp only [val_main_v46_apply, val_main_v43_apply, val_main_v45_apply, val_main_v44_apply, val_main_v42_apply, val_main_v41_apply, val_main_v40_apply, val_main_v39_apply, val_main_v38_apply, val_main_v37_apply, val_main_v36_apply, val_main_v35_apply, val_main_v34_apply, val_main_cst_2_apply, val_main_cst_3_apply, val_main_cst_4_apply]
  have e : ∀ k, idx_main_v35 (idx_main_v36 (idx_main_v42 (ix3 r n d))) k = ix3 r n k := fun k => funext fun a => Fin.ext (by
    match a with
    | ⟨0, _⟩ => rfl
    | ⟨1, _⟩ => rfl
    | ⟨2, _⟩ => rfl)
  have e' : idx_main_v44 (idx_main_v45 (ix3 r n d)) = ix1 d := funext fun a => Fin.ext (by
    match a with
    | ⟨0, _⟩ => rfl)
  simp only [e, e', SparseKeysRefIdeal.ref_product_window]
  rw [show FloatOps.ofBits (F := Ideal) FTy.f32 0#32 = (0 : EReal) from Ideal.ofBits_zero_f32, zero_add]
  rfl

/-- The reference's turned heads. -/
theorem SparseKeysRefIdeal.ref_turned_window (r : Fin 16384) (n : Fin 4) (d : Fin 128) : val_main_v61 (F := Ideal) h w gw cos sin (ix3 r n d)
    = Rotary.turned (fun l => Products.entry h w r (⟨512 + 128 * n.val + l.val, by omega⟩ : Fin 1024)) (fun l => gw (ix1 l))
      (fun l => cos (ix2 r (Rotary.half l))) (Rotary.signed fun l => sin (ix2 r l)) d := by
  unfold val_main_v61
  pointwise
  simp only [val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply]
  by_cases h1 : d.val < 64
  · rw [dif_pos h1]
    refine Eq.trans ?_ (Rotary.turned_lower _ _ (fun k => cos (ix2 r k)) (fun k => sin (ix2 r k)) d h1).symm
    have a1 : idx_main_v47 (ix3 r n (⟨d.val, h1⟩ : Fin 64)) = ix3 r n d := funext fun a => Fin.ext (by
      match a with
      | ⟨0, _⟩ => rfl
      | ⟨1, _⟩ => rfl
      | ⟨2, _⟩ => rfl)
    have a2 : idx_main_v48 (ix3 r n (⟨d.val, h1⟩ : Fin 64)) = ix3 r n (⟨d.val + 64, by omega⟩ : Fin 128) := funext fun a => Fin.ext (by
      match a with
      | ⟨0, _⟩ => rfl
      | ⟨1, _⟩ => rfl
      | ⟨2, _⟩ => show 64 + d.val = d.val + 64; omega)
    have a3 : idx_main_v49 (idx_main_v51 (ix3 r n (⟨d.val, h1⟩ : Fin 64))) = ix2 r (⟨d.val, h1⟩ : Fin 64) := funext fun a => Fin.ext (by
      match a with
      | ⟨0, _⟩ => rfl
      | ⟨1, _⟩ => rfl)
    have a4 : idx_main_v50 (idx_main_v53 (ix3 r n (⟨d.val, h1⟩ : Fin 64))) = ix2 r (⟨d.val, h1⟩ : Fin 64) := funext fun a => Fin.ext (by
      match a with
      | ⟨0, _⟩ => rfl
      | ⟨1, _⟩ => rfl)
    rw [a1, a2, a3, a4, SparseKeysRefIdeal.ref_normed_window, SparseKeysRefIdeal.ref_normed_window]
    rfl
  · rw [dif_neg h1]
    refine Eq.trans ?_ (Rotary.turned_upper _ _ (fun k => cos (ix2 r k)) (fun k => sin (ix2 r k)) d h1).symm
    have a1 : idx_main_v47 (ix3 r n (⟨d.val - 64, by omega⟩ : Fin 64)) = ix3 r n (⟨d.val - 64, by omega⟩ : Fin 128) := funext fun a => Fin.ext (by
      match a with
      | ⟨0, _⟩ => rfl
      | ⟨1, _⟩ => rfl
      | ⟨2, _⟩ => rfl)
    have a2 : idx_main_v48 (ix3 r n (⟨d.val - 64, by omega⟩ : Fin 64)) = ix3 r n d := funext fun a => Fin.ext (by
      match a with
      | ⟨0, _⟩ => rfl
      | ⟨1, _⟩ => rfl
      | ⟨2, _⟩ => show 64 + (d.val - 64) = d.val; omega)
    have a3 : idx_main_v49 (idx_main_v56 (ix3 r n (⟨d.val - 64, by omega⟩ : Fin 64))) = ix2 r (⟨d.val - 64, by omega⟩ : Fin 64) := funext fun a => Fin.ext (by
      match a with
      | ⟨0, _⟩ => rfl
      | ⟨1, _⟩ => rfl)
    have a4 : idx_main_v50 (idx_main_v58 (ix3 r n (⟨d.val - 64, by omega⟩ : Fin 64))) = ix2 r (⟨d.val - 64, by omega⟩ : Fin 64) := funext fun a => Fin.ext (by
      match a with
      | ⟨0, _⟩ => rfl
      | ⟨1, _⟩ => rfl)
    rw [a1, a2, a3, a4, SparseKeysRefIdeal.ref_normed_window, SparseKeysRefIdeal.ref_normed_window]
    rfl

/-- The reference's result is the same array. -/
theorem SparseKeysRefIdeal.ref_eq : val_main_v64 (F := Ideal) h w gs gw cos sin = SparseKeysIdeal.Keys.keys h w gs gw cos sin := by
  funext i
  rw [eq_ix2 i]
  simp only [val_main_v64_apply, val_main_v63_apply]
  have e : SparseKeysRefIdeal.Read.idx_main_v63 (ix2 (i 0) (i 1)) = ix3 (i 0) (⟨(i 1).val / 128, by have h1 : (i 1).val < 1024 := (i 1).isLt; omega⟩ : Fin 8) (Rotary.lane (W := 1024) (i 1)) := funext fun a => Fin.ext (by
    match a with
    | ⟨0, _⟩ => have h1 : (i 1).val < 1024 := (i 1).isLt; show ((i 0).val * 1024 + (i 1).val) / 1024 = (i 0).val; omega
    | ⟨1, _⟩ => have h1 : (i 1).val < 1024 := (i 1).isLt; show ((i 0).val * 1024 + (i 1).val) / 128 % 8 = (i 1).val / 128; omega
    | ⟨2, _⟩ => have h1 : (i 1).val < 1024 := (i 1).isLt; show ((i 0).val * 1024 + (i 1).val) % 128 = (i 1).val % 128; omega)
  rw [e]
  have y1 : (i 1).val < 1024 := (i 1).isLt
  unfold val_main_v62
  pointwise
  by_cases h1 : (i 1).val / 128 < 4
  · rw [dif_pos h1]
    refine Eq.trans (SparseKeysRefIdeal.ref_turned_selected h w gs cos sin _ _ _) (Rotary.turned_congr (fun l => ?_) (fun l => (if_pos ?_).symm) (fun l => rfl) (fun l => rfl) rfl)
    · exact congrArg (Products.entry h w (i 0)) (Fin.ext (by show 128 * ((i 1).val / 128) + l.val = (i 1).val / 128 * 128 + l.val; omega))
    · show (i 1).val < 512
      omega
  · rw [dif_neg h1]
    refine Eq.trans (SparseKeysRefIdeal.ref_turned_window h w gw cos sin _ _ _) (Rotary.turned_congr (fun l => ?_) (fun l => (if_neg ?_).symm) (fun l => rfl) (fun l => rfl) rfl)
    · exact congrArg (Products.entry h w (i 0)) (Fin.ext (by show 512 + 128 * ((i 1).val / 128 - 4) + l.val = (i 1).val / 128 * 128 + l.val; omega))
    · show ¬ (i 1).val < 512
      omega

end Reference

set_option maxRecDepth 200000 in
/-- The call and its reference leave the same array. -/
theorem algebraic_sparse_keys : algebraic_SparseKeysIdeal_SparseKeysRefIdeal (hSparseKeysIdeal := SparseKeysIdeal.Gen.facts) (hSparseKeysRefIdeal := SparseKeysRefIdeal.Gen.facts) := by
  pair_intro
  · run_from SparseKeysIdeal.Gen.run_main m g
  · run_from SparseKeysRefIdeal.Value.run m' g'
    rw [SparseKeysRefIdeal.Read.val_main_v64_eq, (hagree c).1, (hagree c).2.1, (hagree c).2.2.1, (hagree c).2.2.2.1, (hagree c).2.2.2.2.1, (hagree c).2.2.2.2.2,
      SparseKeysIdeal.Keys.arr, SparseKeysIdeal.Gen.V_main_arg0, SparseKeysIdeal.Keys.entry_w]
    exact SparseKeysRefIdeal.ref_eq _ _ _ _ _ _

end Cert

end
-- ==== Proof.SparseQueries.lean ====
module

public import proofs.«01_k».proof.Defs
public import proofs.«01_k».proof.Proof.Products
public import proofs.«01_k».proof.Proof.Rotary
public import proofs.«01_k».proof.Proof.Gen.SparseQueriesIdeal.Value
public import proofs.«01_k».proof.Proof.Gen.SparseQueriesRefIdeal.Read
public import Idealize.ShloMosaic.Lib.Pipeline.ValueKit
public import Idealize.ShloMosaic.Lib.Pointwise
public import Idealize.ShloMosaic.Lib.Pipeline.ReadBack
public import Idealize.ShloMosaic.Lib.Claim

/-! The queries of the sparse attention: a product, each head normed and scaled, once as it is and once turned by the row angles. -/

@[expose] public section

set_option maxRecDepth 16384

noncomputable section

namespace Cert.SparseQueriesIdeal.Queries

open Cert.SparseQueriesIdeal Cert.SparseQueriesIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What the first run of the contraction leaves in the scratch: that run's partial product. -/
theorem part_apply (a : Vec Ideal S1024x2048 .bf16) (b : Vec Ideal S2048x1024 .bf16) (r : Fin 1024) (l : Fin 1024) :
    k0_pay1 (F := Ideal) a b (ix2 r l) = 0 + ∑ k : Fin 2048, a (ix2 r k) * b (ix2 k l) := by
  unfold k0_pay1
  pointwise

/-- What the second run leaves: the scratch plus that run's partial product. -/
theorem step_apply (acc : Vec Ideal S1024x1024 .f32) (a : Vec Ideal S1024x2048 .bf16) (b : Vec Ideal S2048x1024 .bf16) (r : Fin 1024) (l : Fin 1024) :
    k0_pay2 (F := Ideal) acc a b (ix2 r l) = acc (ix2 r l) + ∑ k : Fin 2048, a (ix2 r k) * b (ix2 k l) := by
  unfold k0_pay2
  pointwise

/-- The scale of the queries. -/
abbrev scale : EReal := Ideal.ofBits .f32 0x3DB504F3#32

section Stores

open Cert.Rotary

variable (v9 : Vec Ideal S1024x1024 .f32) (v10 : Vec Ideal S1x1024 .f32) (v12 v14 : Vec Ideal S1024x128 .f32) (a : Fin 1024) (d : Fin 128)

/-- The store of head 0. -/
theorem flat_0 : k0_pay9 (F := Ideal) v9 v10 (ix2 a d) = plain v9 v10 a ⟨0 + d.val, by omega⟩ * scale := by
  unfold plain normed
  simp only [column_0, lane_0]
  unfold k0_pay9 k0_pay8 k0_pay5
  pointwise

/-- The store of head 1. -/
theorem flat_1 : k0_pay15 (F := Ideal) (k0_pay11 v9) (k0_pay12 v10) (k0_pay13 v9) (FloatOps.ofBits (F := Ideal) FTy.f32 1124073472#32) (ix2 a d) = plain v9 v10 a ⟨128 + d.val, by omega⟩ * scale := by
  unfold plain normed
  simp only [column_1, lane_1]
  unfold k0_pay15 k0_pay12 k0_pay13 k0_pay11 k0_pay14 k0_pay5
  pointwise

/-- The store of head 2. -/
theorem flat_2 : k0_pay18 (F := Ideal) v9 (k0_pay5 v10) (ix2 a d) = plain v9 v10 a ⟨256 + d.val, by omega⟩ * scale := by
  unfold plain normed
  simp only [column_2, lane_2]
  unfold k0_pay18 k0_pay5 k0_pay17
  pointwise

/-- The store of head 3. -/
theorem flat_3 : k0_pay23 (F := Ideal) v9 (k0_pay5 v10) (ix2 a d) = plain v9 v10 a ⟨384 + d.val, by omega⟩ * scale := by
  unfold plain normed
  simp only [column_3, lane_3]
  unfold k0_pay23 k0_pay5 k0_pay22
  pointwise

/-- The store of head 4. -/
theorem flat_4 : k0_pay29 (F := Ideal) (k0_pay25 v9) (k0_pay26 (k0_pay5 v10)) (k0_pay27 v9) (ix2 a d) = plain v9 v10 a ⟨512 + d.val, by omega⟩ * scale := by
  unfold plain normed
  simp only [column_4, lane_4]
  unfold k0_pay29 k0_pay26 k0_pay5 k0_pay27 k0_pay25 k0_pay28
  pointwise

/-- The store of head 5. -/
theorem flat_5 : k0_pay32 (F := Ideal) v9 (k0_pay5 v10) (ix2 a d) = plain v9 v10 a ⟨640 + d.val, by omega⟩ * scale := by
  unfold plain normed
  simp only [column_5, lane_5]
  unfold k0_pay32 k0_pay5 k0_pay31
  pointwise

/-- The store of head 6. -/
theorem flat_6 : k0_pay35 (F := Ideal) v9 (k0_pay5 v10) (ix2 a d) = plain v9 v10 a ⟨768 + d.val, by omega⟩ * scale := by
  unfold plain normed
  simp only [column_6, lane_6]
  unfold k0_pay35 k0_pay5 k0_pay34
  pointwise

/-- The store of head 7. -/
theorem flat_7 : k0_pay3 (F := Ideal) (k0_pay37 v9 (k0_pay5 v10)) k0_pay38 (ix2 a d) = plain v9 v10 a ⟨896 + d.val, by omega⟩ * scale := by
  unfold plain normed
  simp only [column_7, lane_7]
  unfold k0_pay3 k0_pay37 k0_pay5 k0_pay38
  pointwise

/-- The store of head 0. -/
theorem turn_0 : k0_pay10 (F := Ideal) v9 v10 v12 v14 (ix2 a d) = tile v9 v10 v12 v14 a ⟨0 + d.val, by omega⟩ * scale := by
  unfold tile turned normed
  simp only [column_0, lane_0]
  unfold k0_pay10 k0_pay8 k0_pay6 k0_pay7 k0_pay5
  pointwise
  rfl

/-- The store of head 1. -/
theorem turn_1 : k0_pay16 (F := Ideal) (k0_pay6 v12) (k0_pay7 v14) (k0_pay11 v9) (k0_pay12 v10) (k0_pay13 v9) (FloatOps.ofBits (F := Ideal) FTy.f32 1124073472#32) (ix2 a d) = tile v9 v10 v12 v14 a ⟨128 + d.val, by omega⟩ * scale := by
  unfold tile turned normed
  simp only [column_1, lane_1]
  unfold k0_pay16 k0_pay6 k0_pay7 k0_pay12 k0_pay13 k0_pay11 k0_pay14 k0_pay5
  pointwise
  rfl

/-- The store of head 2. -/
theorem turn_2 : k0_pay21 (F := Ideal) (k0_pay19 v9 (k0_pay5 v10) (k0_pay6 v12)) (k0_pay20 v9 (k0_pay5 v10) (k0_pay7 v14)) (ix2 a d) = tile v9 v10 v12 v14 a ⟨256 + d.val, by omega⟩ * scale := by
  unfold tile turned normed
  simp only [column_2, lane_2]
  unfold k0_pay21 k0_pay19 k0_pay5 k0_pay6 k0_pay20 k0_pay7 k0_pay17
  pointwise
  rfl

/-- The store of head 3. -/
theorem turn_3 : k0_pay24 (F := Ideal) v9 (k0_pay5 v10) (k0_pay6 v12) (k0_pay7 v14) (ix2 a d) = tile v9 v10 v12 v14 a ⟨384 + d.val, by omega⟩ * scale := by
  unfold tile turned normed
  simp only [column_3, lane_3]
  unfold k0_pay24 k0_pay5 k0_pay6 k0_pay7 k0_pay22
  pointwise
  rfl

/-- The store of head 4. -/
theorem turn_4 : k0_pay30 (F := Ideal) (k0_pay6 v12) (k0_pay7 v14) (k0_pay25 v9) (k0_pay26 (k0_pay5 v10)) (k0_pay27 v9) (ix2 a d) = tile v9 v10 v12 v14 a ⟨512 + d.val, by omega⟩ * scale := by
  unfold tile turned normed
  simp only [column_4, lane_4]
  unfold k0_pay30 k0_pay6 k0_pay7 k0_pay26 k0_pay5 k0_pay27 k0_pay25 k0_pay28
  pointwise
  rfl

/-- The store of head 5. -/
theorem turn_5 : k0_pay33 (F := Ideal) v9 (k0_pay5 v10) (k0_pay6 v12) (k0_pay7 v14) (ix2 a d) = tile v9 v10 v12 v14 a ⟨640 + d.val, by omega⟩ * scale := by
  unfold tile turned normed
  simp only [column_5, lane_5]
  unfold k0_pay33 k0_pay5 k0_pay6 k0_pay7 k0_pay31
  pointwise
  rfl

/-- The store of head 6. -/
theorem turn_6 : k0_pay36 (F := Ideal) v9 (k0_pay5 v10) (k0_pay6 v12) (k0_pay7 v14) (ix2 a d) = tile v9 v10 v12 v14 a ⟨768 + d.val, by omega⟩ * scale := by
  unfold tile turned normed
  simp only [column_6, lane_6]
  unfold k0_pay36 k0_pay5 k0_pay6 k0_pay7 k0_pay34
  pointwise
  rfl

/-- The store of head 7. -/
theorem turn_7 : k0_pay4 (F := Ideal) (k0_pay6 v12) (k0_pay7 v14) (k0_pay37 v9 (k0_pay5 v10)) (ix2 a d) = tile v9 v10 v12 v14 a ⟨896 + d.val, by omega⟩ * scale := by
  unfold tile turned normed
  simp only [column_7, lane_7]
  unfold k0_pay4 k0_pay6 k0_pay7 k0_pay37 k0_pay5
  pointwise
  rfl

end Stores

/-- Which block each operand shows at a grid point. -/
theorem idx : ∀ t : Fin grid0.N, win0_0.index t = ![t.val / 4, t.val % 2] ∧ win0_1.index t = ![t.val % 2, t.val / 2 % 2]
    ∧ win0_2.index t = ![0, t.val / 2 % 2] ∧ win0_3.index t = ![t.val / 4, 0] ∧ win0_4.index t = ![t.val / 4, 0]
    ∧ win0_5.index t = ![t.val / 4, t.val / 2 % 2] ∧ win0_6.index t = ![t.val / 4, t.val / 2 % 2] := by
  decide +kernel

/-- After the second run of a tile's contraction the scratch holds the whole product there. -/
theorem scratch (t : Fin cfg0.N) (hm : t.val % 2 = 1) (j : S1024x1024.Idx) : (outsAt0 m c t.val t.isLt).2.2 j
    = Products.entry (M := 16384) (K := 4096) (N := 2048) (V m c main_arg0) (V m c main_v0)
      (((cfg0.win 5).blk t).view.emb j 0) (((cfg0.win 5).blk t).view.emb j 1) := by
  rw [Pipeline.eq_sum_fin_of_reset_step_apply_of_flush (fun n h => (outsAt0 m c n h).2.2) 2 (fun _ => (0 : EReal))
      (fun t j => Products.entry (M := 1024) (K := 2048) (N := 1024) (iblk m c 0 t) (iblk m c 1 t) (j 0) (j 1))
    (fun t h j => by rw [outsAt0_A m c t h (by omega) (by omega)]; frame_out; rw [eq_ix2 j]; exact part_apply _ _ _ _)
    (fun t h j => by rw [outsAt0_B m c t h (by omega) (by omega)]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The queries before any turn: every head of the product normed and scaled. -/
def straight (h : S16384x4096.Idx → EReal) (w : S4096x2048.Idx → EReal) (g : S128.Idx → EReal) : FVec Ideal S16384x2048 .bf16 := fun i =>
  Rotary.normed (fun l => Products.entry h w (i 0) (Rotary.column (W := 2048) (by norm_num) (i 1) l)) (fun l => g (ix1 l)) (Rotary.lane (W := 2048) (i 1)) * scale

/-- The turned queries: every head of the product normed, turned and scaled. -/
def queries (h : S16384x4096.Idx → EReal) (w : S4096x2048.Idx → EReal) (g : S128.Idx → EReal) (cos sin : S16384x64.Idx → EReal) :
    FVec Ideal S16384x2048 .bf16 := fun i =>
  Rotary.turned (fun l => Products.entry h w (i 0) (Rotary.column (W := 2048) (by norm_num) (i 1) l)) (fun l => g (ix1 l))
    (fun l => cos (ix2 (i 0) (Rotary.half l))) (Rotary.signed fun l => sin (ix2 (i 0) l)) (Rotary.lane (W := 2048) (i 1)) * scale

/-- The gain laid out once per head. -/
theorem gain (j : Fin 2048) : V m c main_v4 (ix2 (0 : Fin 1) j) = (m ((c.tc : Thread nD τ).loc main_arg2) : S128.Idx → EReal) (ix1 (Rotary.lane j)) := by
  unfold_abbrev_sides
  after_results
  pointwise
  rfl

/-- Every head reads the same gain. -/
theorem gain_block (k j : ℕ) (hk : k * 1024 + j < 2048) (l : Fin 128) (hl : j % 128 = l.val) : V m c main_v4 (ix2 (0 : Fin 1) (⟨k * 1024 + j, hk⟩ : Fin 2048))
    = (m ((c.tc : Thread nD τ).loc main_arg2) : S128.Idx → EReal) (ix1 l) := by
  rw [gain]
  exact congrArg (fun q => (m ((c.tc : Thread nD τ).loc main_arg2) : S128.Idx → EReal) (ix1 q)) (Fin.ext (by show (k * 1024 + j) % 128 = l.val; omega))

/-- The cosines laid out once per half. -/
theorem cosines (r : Fin 16384) (d : Fin 128) : V m c main_v5 (ix2 r d)
    = (m ((c.tc : Thread nD τ).loc main_arg3) : S16384x64.Idx → EReal) (ix2 r (Rotary.half d)) := by
  unfold_abbrev_sides
  after_results
  pointwise
  exact Rotary.halves (fun k => (m ((c.tc : Thread nD τ).loc main_arg3) : S16384x64.Idx → EReal) (ix2 r k)) d

/-- The sines laid out once per half, the first half negated. -/
theorem sines (r : Fin 16384) (d : Fin 128) : V m c main_v7 (ix2 r d)
    = Rotary.signed (fun l => (m ((c.tc : Thread nD τ).loc main_arg4) : S16384x64.Idx → EReal) (ix2 r l)) d := by
  unfold_abbrev_sides
  after_results
  pointwise
  exact Rotary.signed_halves (fun k => (m ((c.tc : Thread nD τ).loc main_arg4) : S16384x64.Idx → EReal) (ix2 r k)) d

/-- The weights as the products read them are the weights given: a change of format is the identity here. -/
theorem entry_w : (V m c main_v0 : S4096x2048.Idx → EReal) = (m ((c.tc : Thread nD τ).loc main_arg1) : S4096x2048.Idx → EReal) := by
  unfold_abbrev_sides
  after_results
  rfl

/-- The first array the call leaves. -/
theorem arr_straight : (dats m 0 c).arrAt 5 cfg0.N = straight (V m c main_arg0) (V m c main_v0) (m ((c.tc : Thread nD τ).loc main_arg2)) := by
  refine (dats m 0 c).arrAt_eq_of_covers 5 _ (by decide +kernel) fun t hf y => ?_
  have hm : t.val % 2 = 1 := (flush0_5 t).mp hf
  have hs := scratch m c t hm
  rw [outsAt0_B m c t (by omega) hm hm] at hs
  frame_out at hs
  blk_simp
  rw [after0_5, outsAt0_B m c t (by omega) hm hm]
  frame_out
  simp only [read_unread_whole] at hs ⊢
  refine (Rotary.canon_heads (fun z => Rotary.plain _ _ (z 0) (z 1) * scale) _ _ _ _ _ _ _ _
    _ (fun a d => flat_0 _ _ a d)
    _ (fun a d => flat_1 _ _ a d)
    _ (fun a d => flat_2 _ _ a d)
    _ (fun a d => flat_3 _ _ a d)
    _ (fun a d => flat_4 _ _ a d)
    _ (fun a d => flat_5 _ _ a d)
    _ (fun a d => flat_6 _ _ a d)
    _ (fun a d => flat_7 _ _ a d) y).trans ?_
  have y1 : (y 1).val < 1024 := (y 1).isLt
  have e0 : (((View.whole main_v8_0).slice (win0_5.rect t)).emb y 0).val = t.val / 4 * 1024 + (y 0).val := by blk_simp; simp [idx]
  have e1 : (((View.whole main_v8_0).slice (win0_5.rect t)).emb y 1).val = t.val / 2 % 2 * 1024 + (y 1).val := by blk_simp; simp [idx]
  unfold Rotary.plain straight
  refine congrArg (· * scale) (Rotary.normed_congr (fun l => ?_) (fun l => ?_) ?_)
  · refine (hs _).trans (congrArg₂ (Products.entry (M := 16384) (K := 4096) (N := 2048) (V m c main_arg0) (V m c main_v0)) (Fin.ext ?_) (Fin.ext ?_))
    · refine Eq.trans ?_ e0.symm
      blk_simp; simp [idx]
    · refine Eq.trans (b := t.val / 2 % 2 * 1024 + ((y 1).val / 128 * 128 + l.val)) ?_ ?_
      · blk_simp; simp [idx, Rotary.column]
      · refine Eq.trans ?_ (congrArg (fun k => k / 128 * 128 + l.val) e1.symm)
        show t.val / 2 % 2 * 1024 + ((y 1).val / 128 * 128 + l.val) = (t.val / 2 % 2 * 1024 + (y 1).val) / 128 * 128 + l.val
        omega
  · have hl : (y 1).val / 128 * 128 + l.val < 1024 := by omega
    have hk : t.val / 2 % 2 * 1024 + ((y 1).val / 128 * 128 + l.val) < 2048 := by omega
    refine Eq.trans ?_ (gain_block m c (t.val / 2 % 2) ((y 1).val / 128 * 128 + l.val) hk l (by omega))
    blk_ext [iblk, idx, Rotary.column]
  · refine Fin.ext (Eq.trans ?_ (congrArg (· % 128) e1.symm))
    show (y 1).val % 128 = (t.val / 2 % 2 * 1024 + (y 1).val) % 128
    omega

/-- The second array the call leaves. -/
theorem arr_turned : (dats m 0 c).arrAt 6 cfg0.N = queries (V m c main_arg0) (V m c main_v0) (m ((c.tc : Thread nD τ).loc main_arg2))
    (m ((c.tc : Thread nD τ).loc main_arg3)) (m ((c.tc : Thread nD τ).loc main_arg4)) := by
  refine (dats m 0 c).arrAt_eq_of_covers 6 _ (by decide +kernel) fun t hf y => ?_
  have hm : t.val % 2 = 1 := (flush0_6 t).mp hf
  have hs := scratch m c t hm
  rw [outsAt0_B m c t (by omega) hm hm] at hs
  frame_out at hs
  blk_simp
  rw [after0_6, outsAt0_B m c t (by omega) hm hm]
  frame_out
  simp only [read_unread_whole] at hs ⊢
  refine (Rotary.canon_heads (fun z => Rotary.tile _ _ _ _ (z 0) (z 1) * scale) _ _ _ _ _ _ _ _
    _ (fun a d => turn_0 _ _ _ _ a d)
    _ (fun a d => turn_1 _ _ _ _ a d)
    _ (fun a d => turn_2 _ _ _ _ a d)
    _ (fun a d => turn_3 _ _ _ _ a d)
    _ (fun a d => turn_4 _ _ _ _ a d)
    _ (fun a d => turn_5 _ _ _ _ a d)
    _ (fun a d => turn_6 _ _ _ _ a d)
    _ (fun a d => turn_7 _ _ _ _ a d) y).trans ?_
  have y1 : (y 1).val < 1024 := (y 1).isLt
  have e0 : (((View.whole main_v8_1).slice (win0_6.rect t)).emb y 0).val = t.val / 4 * 1024 + (y 0).val := by blk_simp; simp [idx]
  have e1 : (((View.whole main_v8_1).slice (win0_6.rect t)).emb y 1).val = t.val / 2 % 2 * 1024 + (y 1).val := by blk_simp; simp [idx]
  unfold Rotary.tile queries
  refine congrArg (· * scale) (Rotary.turned_congr (fun l => ?_) (fun l => ?_) (fun l => ?_) (fun l => ?_) ?_)
  · refine (hs _).trans (congrArg₂ (Products.entry (M := 16384) (K := 4096) (N := 2048) (V m c main_arg0) (V m c main_v0)) (Fin.ext ?_) (Fin.ext ?_))
    · refine Eq.trans ?_ e0.symm
      blk_simp; simp [idx]
    · refine Eq.trans (b := t.val / 2 % 2 * 1024 + ((y 1).val / 128 * 128 + l.val)) ?_ ?_
      · blk_simp; simp [idx, Rotary.column]
      · refine Eq.trans ?_ (congrArg (fun k => k / 128 * 128 + l.val) e1.symm)
        show t.val / 2 % 2 * 1024 + ((y 1).val / 128 * 128 + l.val) = (t.val / 2 % 2 * 1024 + (y 1).val) / 128 * 128 + l.val
        omega
  · have hl : (y 1).val / 128 * 128 + l.val < 1024 := by omega
    have hk : t.val / 2 % 2 * 1024 + ((y 1).val / 128 * 128 + l.val) < 2048 := by omega
    refine Eq.trans ?_ (gain_block m c (t.val / 2 % 2) ((y 1).val / 128 * 128 + l.val) hk l (by omega))
    blk_ext [iblk, idx, Rotary.column]
  · refine Eq.trans ?_ (cosines m c _ l)
    blk_ext [iblk, idx]
  · refine Eq.trans ?_ (sines m c _ l)
    blk_ext [iblk, idx]
  · refine Fin.ext (Eq.trans ?_ (congrArg (· % 128) e1.symm))
    show (y 1).val % 128 = (t.val / 2 % 2 * 1024 + (y 1).val) % 128
    omega

end Cert.SparseQueriesIdeal.Queries

namespace Cert

open Idealize.ShloMosaic Idealize.SL.Sem

section Reference

open SparseQueriesRefIdeal.Read

variable (h : FVec Ideal SparseQueriesIdeal.S16384x4096 .bf16) (w : FVec Ideal SparseQueriesIdeal.S4096x2048 .f32) (g : FVec Ideal SparseQueriesIdeal.S128 .f32)
  (cos sin : FVec Ideal SparseQueriesIdeal.S16384x64 .f32)

/-- Entry (r, n, d) of the reference's product, head n apart. -/
theorem SparseQueriesRefIdeal.ref_product (r : Fin 16384) (n : Fin 16) (d : Fin 128) : val_main_v2 (F := Ideal) h w (ix3 r n d)
    = Products.entry h w r (⟨128 * n.val + d.val, by omega⟩ : Fin 2048) := by
  simp only [val_main_v2_apply, val_main_v1_apply, val_main_v0_apply]
  have e : ∀ k, lidx_main_v1 (idx_main_v2 (ix3 r n d)) k = ix2 r k := fun k => funext fun a => Fin.ext (by
    match a with
    | ⟨0, _⟩ => show ((r.val * 16 + n.val) * 128 + d.val) / 2048 = r.val; omega
    | ⟨1, _⟩ => rfl)
  have e' : ∀ k, ridx_main_v1 (idx_main_v2 (ix3 r n d)) k = ix2 k (⟨128 * n.val + d.val, by omega⟩ : Fin 2048) := fun k => funext fun a => Fin.ext (by
    match a with
    | ⟨0, _⟩ => rfl
    | ⟨1, _⟩ => show ((r.val * 16 + n.val) * 128 + d.val) % 2048 = 128 * n.val + d.val; omega)
  simp only [e, e']
  rfl

/-- The reference's normed heads. -/
theorem SparseQueriesRefIdeal.ref_normed (r : Fin 16384) (n : Fin 16) (d : Fin 128) : val_main_v15 (F := Ideal) h w g (ix3 r n d)
    = Rotary.normed (fun l => Products.entry h w r (⟨128 * n.val + l.val, by omega⟩ : Fin 2048)) (fun l => g (ix1 l)) d := by
  simp only [val_main_v15_apply, val_main_v12_apply, val_main_v14_apply, val_main_v13_apply, val_main_v11_apply, val_main_v10_apply, val_main_v9_apply, val_main_v8_apply, val_main_v7_apply, val_main_v6_apply, val_main_v5_apply, val_main_v4_apply, val_main_v3_apply, val_main_cst_apply, val_main_cst_0_apply, val_main_cst_1_apply]
  have e : ∀ k, idx_main_v4 (idx_main_v5 (idx_main_v11 (ix3 r n d))) k = ix3 r n k := fun k => funext fun a => Fin.ext (by
    match a with
    | ⟨0, _⟩ => rfl
    | ⟨1, _⟩ => rfl
    | ⟨2, _⟩ => rfl)
  have e' : idx_main_v13 (idx_main_v14 (ix3 r n d)) = ix1 d := funext fun a => Fin.ext (by
    match a with
    | ⟨0, _⟩ => rfl)
  simp only [e, e', SparseQueriesRefIdeal.ref_product]
  rw [show FloatOps.ofBits (F := Ideal) FTy.f32 0#32 = (0 : EReal) from Ideal.ofBits_zero_f32, zero_add]
  rfl

/-- The reference's turned heads. -/
theorem SparseQueriesRefIdeal.ref_turned (r : Fin 16384) (n : Fin 16) (d : Fin 128) : val_main_v34 (F := Ideal) h w g cos sin (ix3 r n d)
    = Rotary.turned (fun l => Products.entry h w r (⟨128 * n.val + l.val, by omega⟩ : Fin 2048)) (fun l => g (ix1 l))
      (fun l => cos (ix2 r (Rotary.half l))) (Rotary.signed fun l => sin (ix2 r l)) d := by
  unfold val_main_v34
  pointwise
  simp only [val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply]
  by_cases h1 : d.val < 64
  · rw [dif_pos h1]
    refine Eq.trans ?_ (Rotary.turned_lower _ _ (fun k => cos (ix2 r k)) (fun k => sin (ix2 r k)) d h1).symm
    have a1 : idx_main_v20 (ix3 r n (⟨d.val, h1⟩ : Fin 64)) = ix3 r n d := funext fun a => Fin.ext (by
      match a with
      | ⟨0, _⟩ => rfl
      | ⟨1, _⟩ => rfl
      | ⟨2, _⟩ => rfl)
    have a2 : idx_main_v21 (ix3 r n (⟨d.val, h1⟩ : Fin 64)) = ix3 r n (⟨d.val + 64, by omega⟩ : Fin 128) := funext fun a => Fin.ext (by
      match a with
      | ⟨0, _⟩ => rfl
      | ⟨1, _⟩ => rfl
      | ⟨2, _⟩ => show 64 + d.val = d.val + 64; omega)
    have a3 : idx_main_v22 (idx_main_v24 (ix3 r n (⟨d.val, h1⟩ : Fin 64))) = ix2 r (⟨d.val, h1⟩ : Fin 64) := funext fun a => Fin.ext (by
      match a with
      | ⟨0, _⟩ => rfl
      | ⟨1, _⟩ => rfl)
    have a4 : idx_main_v23 (idx_main_v26 (ix3 r n (⟨d.val, h1⟩ : Fin 64))) = ix2 r (⟨d.val, h1⟩ : Fin 64) := funext fun a => Fin.ext (by
      match a with
      | ⟨0, _⟩ => rfl
      | ⟨1, _⟩ => rfl)
    rw [a1, a2, a3, a4, SparseQueriesRefIdeal.ref_normed, SparseQueriesRefIdeal.ref_normed]
    rfl
  · rw [dif_neg h1]
    refine Eq.trans ?_ (Rotary.turned_upper _ _ (fun k => cos (ix2 r k)) (fun k => sin (ix2 r k)) d h1).symm
    have a1 : idx_main_v20 (ix3 r n (⟨d.val - 64, by omega⟩ : Fin 64)) = ix3 r n (⟨d.val - 64, by omega⟩ : Fin 128) := funext fun a => Fin.ext (by
      match a with
      | ⟨0, _⟩ => rfl
      | ⟨1, _⟩ => rfl
      | ⟨2, _⟩ => rfl)
    have a2 : idx_main_v21 (ix3 r n (⟨d.val - 64, by omega⟩ : Fin 64)) = ix3 r n d := funext fun a => Fin.ext (by
      match a with
      | ⟨0, _⟩ => rfl
      | ⟨1, _⟩ => rfl
      | ⟨2, _⟩ => show 64 + (d.val - 64) = d.val; omega)
    have a3 : idx_main_v22 (idx_main_v29 (ix3 r n (⟨d.val - 64, by omega⟩ : Fin 64))) = ix2 r (⟨d.val - 64, by omega⟩ : Fin 64) := funext fun a => Fin.ext (by
      match a with
      | ⟨0, _⟩ => rfl
      | ⟨1, _⟩ => rfl)
    have a4 : idx_main_v23 (idx_main_v31 (ix3 r n (⟨d.val - 64, by omega⟩ : Fin 64))) = ix2 r (⟨d.val - 64, by omega⟩ : Fin 64) := funext fun a => Fin.ext (by
      match a with
      | ⟨0, _⟩ => rfl
      | ⟨1, _⟩ => rfl)
    rw [a1, a2, a3, a4, SparseQueriesRefIdeal.ref_normed, SparseQueriesRefIdeal.ref_normed]
    rfl

/-- The reference's straight result is the same array. -/
theorem SparseQueriesRefIdeal.ref_straight_eq : val_main_v19 (F := Ideal) h w g = SparseQueriesIdeal.Queries.straight h w g := by
  funext i
  rw [eq_ix2 i]
  simp only [val_main_v19_apply, val_main_v18_apply, val_main_v17_apply, val_main_v16_apply, val_main_cst_2_apply]
  have e : SparseQueriesRefIdeal.Read.idx_main_v18 (ix2 (i 0) (i 1)) = ix3 (i 0) (⟨(i 1).val / 128, by have h1 : (i 1).val < 2048 := (i 1).isLt; omega⟩ : Fin 16) (Rotary.lane (W := 2048) (i 1)) := funext fun a => Fin.ext (by
    match a with
    | ⟨0, _⟩ => have h1 : (i 1).val < 2048 := (i 1).isLt; show ((i 0).val * 2048 + (i 1).val) / 2048 = (i 0).val; omega
    | ⟨1, _⟩ => have h1 : (i 1).val < 2048 := (i 1).isLt; show ((i 0).val * 2048 + (i 1).val) / 128 % 16 = (i 1).val / 128; omega
    | ⟨2, _⟩ => have h1 : (i 1).val < 2048 := (i 1).isLt; show ((i 0).val * 2048 + (i 1).val) % 128 = (i 1).val % 128; omega)
  rw [e]
  refine Eq.trans (congrArg (· * SparseQueriesIdeal.Queries.scale) (SparseQueriesRefIdeal.ref_normed h w g _ _ _)) ?_
  refine congrArg (· * SparseQueriesIdeal.Queries.scale) (Rotary.normed_congr (fun l => ?_) (fun l => rfl) rfl)
  exact congrArg (Products.entry h w (i 0)) (Fin.ext (by show 128 * ((i 1).val / 128) + l.val = (i 1).val / 128 * 128 + l.val; omega))

/-- The reference's turned result is the same array. -/
theorem SparseQueriesRefIdeal.ref_queries_eq : val_main_v38 (F := Ideal) h w g cos sin = SparseQueriesIdeal.Queries.queries h w g cos sin := by
  funext i
  rw [eq_ix2 i]
  simp only [val_main_v38_apply, val_main_v37_apply, val_main_v36_apply, val_main_v35_apply, val_main_cst_3_apply]
  have e : SparseQueriesRefIdeal.Read.idx_main_v37 (ix2 (i 0) (i 1)) = ix3 (i 0) (⟨(i 1).val / 128, by have h1 : (i 1).val < 2048 := (i 1).isLt; omega⟩ : Fin 16) (Rotary.lane (W := 2048) (i 1)) := funext fun a => Fin.ext (by
    match a with
    | ⟨0, _⟩ => have h1 : (i 1).val < 2048 := (i 1).isLt; show ((i 0).val * 2048 + (i 1).val) / 2048 = (i 0).val; omega
    | ⟨1, _⟩ => have h1 : (i 1).val < 2048 := (i 1).isLt; show ((i 0).val * 2048 + (i 1).val) / 128 % 16 = (i 1).val / 128; omega
    | ⟨2, _⟩ => have h1 : (i 1).val < 2048 := (i 1).isLt; show ((i 0).val * 2048 + (i 1).val) % 128 = (i 1).val % 128; omega)
  rw [e]
  refine Eq.trans (congrArg (· * SparseQueriesIdeal.Queries.scale) (SparseQueriesRefIdeal.ref_turned h w g cos sin _ _ _)) ?_
  refine congrArg (· * SparseQueriesIdeal.Queries.scale) (Rotary.turned_congr (fun l => ?_) (fun l => rfl) (fun l => rfl) (fun l => rfl) rfl)
  exact congrArg (Products.entry h w (i 0)) (Fin.ext (by show 128 * ((i 1).val / 128) + l.val = (i 1).val / 128 * 128 + l.val; omega))

end Reference

set_option maxRecDepth 200000 in
/-- The call and its reference leave the same arrays. -/
theorem algebraic_sparse_queries : algebraic_SparseQueriesIdeal_SparseQueriesRefIdeal (hSparseQueriesIdeal := SparseQueriesIdeal.Gen.facts) (hSparseQueriesRefIdeal := SparseQueriesRefIdeal.Gen.facts) := by
  pair_intro
  · run_from SparseQueriesIdeal.Gen.run_main m g
  · run_from SparseQueriesRefIdeal.Value.run m' g'
    · refine ((SparseQueriesRefIdeal.Read.val_main_v19_eq _ _ _).trans (SparseQueriesRefIdeal.ref_straight_eq _ _ _)).trans ?_
      rw [SparseQueriesIdeal.Queries.arr_straight, SparseQueriesIdeal.Gen.V_main_arg0, SparseQueriesIdeal.Queries.entry_w]
    · rw [SparseQueriesRefIdeal.Read.val_main_v38_eq, (hagree c).1, (hagree c).2.1, (hagree c).2.2.1, (hagree c).2.2.2.1, (hagree c).2.2.2.2,
        SparseQueriesIdeal.Queries.arr_turned, SparseQueriesIdeal.Gen.V_main_arg0, SparseQueriesIdeal.Queries.entry_w]
      exact SparseQueriesRefIdeal.ref_queries_eq _ _ _ _ _

end Cert

end
-- ==== Proof.RowNorm.lean ====
module

public import proofs.«01_k».proof.Defs
public import proofs.«01_k».proof.Proof.Gen.RowNormIdeal.Value
public import proofs.«01_k».proof.Proof.Gen.RowNormRefIdeal.Read
public import Idealize.ShloMosaic.Lib.Pipeline.ValueKit
public import Idealize.ShloMosaic.Lib.Pointwise
public import Idealize.ShloMosaic.Lib.Pipeline.ReadBack
public import Idealize.ShloMosaic.Lib.Claim

/-! The norm of the rows: each row divided by the root of its mean square, times the gain. -/

@[expose] public section

set_option maxRecDepth 16384

noncomputable section

namespace Cert.RowNormIdeal.Rows

open Cert.RowNormIdeal Cert.RowNormIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- One entry of a normed row: the entry over the root of the row's mean square, times its gain. -/
def normed (x g : Fin 4096 → EReal) (d : Fin 4096) : EReal :=
  x d * Ideal.rsqrt (Ideal.div (∑ l : Fin 4096, x l * x l) (Ideal.ofBits .f32 0x45800000#32) + Ideal.ofBits .f32 0x358637BD#32) * g d

/-- What a grid point leaves: its rows, normed. -/
theorem block_apply (x : Vec Ideal S256x4096 .f32) (g : Vec Ideal S1x4096 .f32) (r : Fin 256) (d : Fin 4096) :
    k0_pay1 (F := Ideal) x g (ix2 r d) = normed (fun l => x (ix2 r l)) (fun l => g (ix2 (0 : Fin 1) l)) d := by
  unfold k0_pay1
  pointwise
  rfl

/-- Which block each operand shows at a grid point. -/
theorem idx : ∀ t : Fin grid0.N, win0_0.index t = ![t.val, 0] ∧ win0_1.index t = ![0, 0] ∧ win0_2.index t = ![t.val, 0] := by
  decide +kernel

/-- The normed rows. -/
def rows (x : S16384x4096.Idx → EReal) (g : S4096.Idx → EReal) : FVec Ideal S16384x4096 .bf16 := fun i =>
  normed (fun l => x (ix2 (i 0) l)) (fun l => g (ix1 l)) (i 1)

/-- The gain as the call reads it is the gain given, as one row. -/
theorem gain (l : Fin 4096) : V m c main_v0 (ix2 (0 : Fin 1) l) = (m ((c.tc : Thread nD τ).loc main_arg1) : S4096.Idx → EReal) (ix1 l) := by
  unfold_abbrev_sides
  after_results
  pointwise

/-- Equal rows and gains are normed to equal entries. -/
theorem normed_congr {x x' g g' : Fin 4096 → EReal} {d d' : Fin 4096} (hx : ∀ l, x l = x' l) (hg : ∀ l, g l = g' l) (hd : d = d') :
    normed x g d = normed x' g' d' := by
  rw [funext hx, funext hg, hd]

/-- The array the call leaves. -/
theorem arr : (dats m 0 c).arrAt 2 cfg0.N = rows (V m c main_arg0) (m ((c.tc : Thread nD τ).loc main_arg1)) := by
  refine (dats m 0 c).arrAt_eq_of_covers 2 _ (by decide +kernel) fun t hf y => ?_
  blk_simp
  rw [after0_2]
  unfold out0_2
  frame_out
  rw [eq_ix2 y]
  refine (block_apply _ _ _ _).trans ?_
  unfold rows
  refine normed_congr (fun l => ?_) (fun l => ?_) ?_
  · blk_ext [iblk, idx]
  · refine Eq.trans ?_ (gain m c _)
    blk_ext [iblk, idx]
  · refine Fin.ext ?_
    blk_simp; simp [idx]

end Cert.RowNormIdeal.Rows

namespace Cert

open Idealize.ShloMosaic Idealize.SL.Sem

open RowNormRefIdeal.Read in
/-- The reference's result is the same array. -/
theorem RowNormRefIdeal.ref_eq (x : FVec Ideal RowNormIdeal.S16384x4096 .f32) (g : FVec Ideal RowNormIdeal.S4096 .f32) :
    val_main_v13 (F := Ideal) x g = RowNormIdeal.Rows.rows x g := by
  funext i
  rw [eq_ix2 i]
  simp only [val_main_v13_apply, val_main_v12_apply, val_main_v11_apply, val_main_v10_apply, val_main_v9_apply, val_main_v8_apply, val_main_v7_apply, val_main_v6_apply, val_main_v5_apply,
    val_main_v4_apply, val_main_v3_apply, val_main_v2_apply, val_main_v1_apply, val_main_v0_apply, val_main_cst_apply, val_main_cst_0_apply, val_main_cst_1_apply]
  have e : ∀ k, idx_main_v1 (idx_main_v2 (idx_main_v8 (ix2 (i 0) (i 1)))) k = ix2 (i 0) k := fun k => funext fun a => Fin.ext (by
    match a with
    | ⟨0, _⟩ => rfl
    | ⟨1, _⟩ => rfl)
  have e2 : idx_main_v10 (idx_main_v11 (ix2 (i 0) (i 1))) = ix1 (i 1) := funext fun a => Fin.ext (by
    match a with
    | ⟨0, _⟩ => rfl)
  simp only [e, e2]
  rw [show FloatOps.ofBits (F := Ideal) FTy.f32 0#32 = (0 : EReal) from Ideal.ofBits_zero_f32, zero_add]
  rfl

/-- The call and its reference leave the same array. -/
theorem algebraic_row_norm : algebraic_RowNormIdeal_RowNormRefIdeal (hRowNormIdeal := RowNormIdeal.Gen.facts) (hRowNormRefIdeal := RowNormRefIdeal.Gen.facts) := by
  pair_intro
  · run_from RowNormIdeal.Gen.run_main m g
  · run_from RowNormRefIdeal.Value.run m' g'
    rw [RowNormIdeal.Rows.arr, RowNormIdeal.Gen.V_main_arg0]
    exact RowNormRefIdeal.ref_eq _ _

end Cert

end
-- ==== Proof.BranchGates.lean ====
module

public import proofs.«01_k».proof.Defs
public import proofs.«01_k».proof.Proof.Products
public import proofs.«01_k».proof.Proof.Gen.BranchGatesIdeal.Value
public import proofs.«01_k».proof.Proof.Gen.BranchGatesRefIdeal.Read
public import Idealize.ShloMosaic.Lib.Pipeline.ValueKit
public import Idealize.ShloMosaic.Lib.Pointwise
public import Idealize.ShloMosaic.Lib.Pipeline.ReadBack
public import Idealize.ShloMosaic.Lib.Claim

/-! The gates of the sparse attention's three branches: the logistic function of the normed rows times the gate weights plus a bias. -/

@[expose] public section

set_option maxRecDepth 16384

noncomputable section

namespace Cert.BranchGatesIdeal.Gates

open Cert.BranchGatesIdeal Cert.BranchGatesIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What the first run of the contraction leaves in the scratch: that run's partial product. -/
theorem part_apply (a : Vec Ideal S1024x2048 .bf16) (b : Vec Ideal S2048x128 .bf16) (r : Fin 1024) (l : Fin 128) :
    k0_pay1 (F := Ideal) a b (ix2 r l) = 0 + ∑ k : Fin 2048, a (ix2 r k) * b (ix2 k l) := by
  unfold k0_pay1
  pointwise

/-- What the second run leaves: the scratch plus that run's partial product. -/
theorem step_apply (acc : Vec Ideal S1024x128 .f32) (a : Vec Ideal S1024x2048 .bf16) (b : Vec Ideal S2048x128 .bf16) (r : Fin 1024) (l : Fin 128) :
    k0_pay2 (F := Ideal) acc a b (ix2 r l) = acc (ix2 r l) + ∑ k : Fin 2048, a (ix2 r k) * b (ix2 k l) := by
  unfold k0_pay2
  pointwise

/-- The logistic function as both programs write it. -/
def logistic (a : EReal) : EReal :=
  Ideal.div 1 (1 + Ideal.exp (-a))

/-- The second run's output: the logistic function of the scratch plus the bias. -/
theorem last_apply (acc : Vec Ideal S1024x128 .f32) (b : Vec Ideal S1x128 .f32) (r : Fin 1024) (l : Fin 128) :
    k0_pay3 (F := Ideal) acc b (ix2 r l) = logistic (acc (ix2 r l) + b (ix2 (0 : Fin 1) l)) := by
  unfold k0_pay3
  pointwise
  rw [zero_sub]
  rfl

/-- Which block each operand shows at a grid point. -/
theorem idx : ∀ t : Fin grid0.N, win0_0.index t = ![t.val / 2, t.val % 2] ∧ win0_1.index t = ![t.val % 2, 0]
    ∧ win0_2.index t = ![0, 0] ∧ win0_3.index t = ![t.val / 2, 0] := by
  decide +kernel

/-- The gates: the logistic function of the product plus the bias. -/
def gates (x : S16384x4096.Idx → EReal) (w : S4096x128.Idx → EReal) (b : S128.Idx → EReal) : FVec Ideal S16384x128 .f32 := fun i =>
  logistic (Products.entry x w (i 0) (i 1) + b (ix1 (i 1)))

/-- After the second run of a tile's contraction the scratch holds the whole product there. -/
theorem scratch (t : Fin cfg0.N) (hm : t.val % 2 = 1) (j : S1024x128.Idx) : (outsAt0 m c t.val t.isLt).2 j
    = Products.entry (M := 16384) (K := 4096) (N := 128) (V m c main_arg0) (V m c main_v0)
      (((cfg0.win 3).blk t).view.emb j 0) (((cfg0.win 3).blk t).view.emb j 1) := by
  rw [Pipeline.eq_sum_fin_of_reset_step_apply_of_flush (fun n h => (outsAt0 m c n h).2) 2 (fun _ => (0 : EReal))
      (fun t j => Products.entry (M := 1024) (K := 2048) (N := 128) (iblk m c 0 t) (iblk m c 1 t) (j 0) (j 1))
    (fun t h j => by rw [outsAt0_A m c t h (by omega) (by omega)]; frame_out; rw [eq_ix2 j]; exact part_apply _ _ _ _)
    (fun t h j => by rw [outsAt0_B m c t h (by omega) (by omega)]; frame_out; simp only [read_unread_whole]; rw [eq_ix2 j]; exact step_apply _ _ _ _ _) t hm j]
  rw [zero_add]
  unfold Products.entry
  refine Fin.sum_mul_add_congr fun s k hl => ?_
  congr 1 <;> blk_ext [iblk, idx]

/-- The bias as the call reads it is the bias given, as one row. -/
theorem bias (l : Fin 128) : V m c main_v1 (ix2 (0 : Fin 1) l) = (m ((c.tc : Thread nD τ).loc main_arg2) : S128.Idx → EReal) (ix1 l) := by
  unfold_abbrev_sides
  after_results
  pointwise

/-- The array the call leaves. -/
theorem arr : (dats m 0 c).arrAt 3 cfg0.N = gates (V m c main_arg0) (V m c main_v0) (m ((c.tc : Thread nD τ).loc main_arg2)) := by
  refine (dats m 0 c).arrAt_eq_of_covers 3 _ (by decide +kernel) fun t hf y => ?_
  have hm : t.val % 2 = 1 := (flush0_3 t).mp hf
  have hs := scratch m c t hm y
  rw [outsAt0_B m c t (by omega) hm hm] at hs
  frame_out at hs
  blk_simp
  rw [after0_3, outsAt0_B m c t (by omega) hm hm]
  frame_out
  rw [eq_ix2 y] at hs ⊢
  refine (last_apply _ _ _ _).trans ?_
  rw [hs]
  unfold gates
  refine congrArg logistic (congrArg₂ (· + ·) rfl ?_)
  refine Eq.trans ?_ (bias m c _)
  blk_ext [iblk, idx]

/-- The weights as the products read them are the weights given: a change of format is the identity here. -/
theorem entry_w : (V m c main_v0 : S4096x128.Idx → EReal) = (m ((c.tc : Thread nD τ).loc main_arg1) : S4096x128.Idx → EReal) := by
  unfold_abbrev_sides
  after_results
  rfl

end Cert.BranchGatesIdeal.Gates

namespace Cert

open Idealize.ShloMosaic Idealize.SL.Sem

open BranchGatesRefIdeal.Read in
/-- The reference's result is the same array. -/
theorem BranchGatesRefIdeal.ref_eq (x : FVec Ideal BranchGatesIdeal.S16384x4096 .bf16) (w : FVec Ideal BranchGatesIdeal.S4096x128 .f32) (b : FVec Ideal BranchGatesIdeal.S128 .f32) :
    val_main_v10 (F := Ideal) x w b = BranchGatesIdeal.Gates.gates x w b := by
  funext i
  simp only [val_main_v10_apply, val_main_v9_apply, val_main_cst_0_apply, val_main_v8_apply, val_main_v7_apply, val_main_cst_apply, val_main_v6_apply, val_main_v5_apply,
    val_main_v4_apply, val_main_v3_apply, val_main_v2_apply, val_main_v1_apply, val_main_v0_apply]
  have h1 : FloatOps.ofBits (F := Ideal) FTy.f32 0x3F800000#32 = (1 : EReal) := Ideal.ofBits_one_f32
  rw [h1]
  have e : ∀ k, lidx_main_v1 i k = ix2 (i 0) k := fun k => by rw [eq_ix2 (lidx_main_v1 i k)]; rfl
  have e' : ∀ k, ridx_main_v1 i k = ix2 k (i 1) := fun k => by rw [eq_ix2 (ridx_main_v1 i k)]; rfl
  have e2 : idx_main_v2 (idx_main_v3 i) = ix1 (i 1) := funext fun a => Fin.ext (by
    match a with
    | ⟨0, _⟩ => rfl)
  simp only [e, e', e2]
  rfl

/-- The call and its reference leave the same array. -/
theorem algebraic_branch_gates : algebraic_BranchGatesIdeal_BranchGatesRefIdeal (hBranchGatesIdeal := BranchGatesIdeal.Gen.facts) (hBranchGatesRefIdeal := BranchGatesRefIdeal.Gen.facts) := by
  pair_intro
  · run_from BranchGatesIdeal.Gen.run_main m g
  · run_from BranchGatesRefIdeal.Value.run m' g'
    rw [BranchGatesIdeal.Gates.arr, BranchGatesIdeal.Gen.V_main_arg0, BranchGatesIdeal.Gates.entry_w]
    exact BranchGatesRefIdeal.ref_eq _ _ _

end Cert

end
-- ==== Proof.BranchSum.lean ====
module

public import proofs.«01_k».proof.Defs
public import proofs.«01_k».proof.Proof.Gen.BranchSumIdeal.Value
public import proofs.«01_k».proof.Proof.Gen.BranchSumRefIdeal.Read
public import Idealize.ShloMosaic.Lib.Pipeline.ValueKit
public import Idealize.ShloMosaic.Lib.Pointwise
public import Idealize.ShloMosaic.Lib.Pipeline.ReadBack
public import Idealize.ShloMosaic.Lib.Claim

/-! The three branches of the sparse attention, each head of each times its gate, added up. -/

@[expose] public section

set_option maxRecDepth 16384

noncomputable section

namespace Cert.BranchSumIdeal.Sums

open Cert.BranchSumIdeal Cert.BranchSumIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

section Heads

variable (g a b e : Vec Ideal S512x128 .f32) (r : Fin 512) (d : Fin 128)

/-- The first head. -/
theorem head_0 : k0_pay3 (F := Ideal) g a b e (ix2 r d)
    = g (ix2 r (⟨0, by norm_num⟩ : Fin 128)) * a (ix2 r d) + g (ix2 r (⟨16, by norm_num⟩ : Fin 128)) * b (ix2 r d) + g (ix2 r (⟨32, by norm_num⟩ : Fin 128)) * e (ix2 r d) := by
  unfold k0_pay3
  pointwise

/-- The second head. -/
theorem head_1 : k0_pay4 (F := Ideal) g a b e (ix2 r d)
    = g (ix2 r (⟨1, by norm_num⟩ : Fin 128)) * a (ix2 r d) + g (ix2 r (⟨17, by norm_num⟩ : Fin 128)) * b (ix2 r d) + g (ix2 r (⟨33, by norm_num⟩ : Fin 128)) * e (ix2 r d) := by
  unfold k0_pay4
  pointwise

/-- The third head. -/
theorem head_2 : k0_pay6 (F := Ideal) g (k0_pay5 g a) b e (ix2 r d)
    = g (ix2 r (⟨2, by norm_num⟩ : Fin 128)) * a (ix2 r d) + g (ix2 r (⟨18, by norm_num⟩ : Fin 128)) * b (ix2 r d) + g (ix2 r (⟨34, by norm_num⟩ : Fin 128)) * e (ix2 r d) := by
  unfold k0_pay5 k0_pay6
  pointwise

/-- The fourth head. -/
theorem head_3 : k0_pay7 (F := Ideal) g a b e (ix2 r d)
    = g (ix2 r (⟨3, by norm_num⟩ : Fin 128)) * a (ix2 r d) + g (ix2 r (⟨19, by norm_num⟩ : Fin 128)) * b (ix2 r d) + g (ix2 r (⟨35, by norm_num⟩ : Fin 128)) * e (ix2 r d) := by
  unfold k0_pay7
  pointwise

/-- The fifth head. -/
theorem head_4 : k0_pay10 (F := Ideal) (k0_pay8 g a b) (k0_pay9 g) e (ix2 r d)
    = g (ix2 r (⟨4, by norm_num⟩ : Fin 128)) * a (ix2 r d) + g (ix2 r (⟨20, by norm_num⟩ : Fin 128)) * b (ix2 r d) + g (ix2 r (⟨36, by norm_num⟩ : Fin 128)) * e (ix2 r d) := by
  unfold k0_pay8 k0_pay9 k0_pay10
  pointwise

/-- The sixth head. -/
theorem head_5 : k0_pay11 (F := Ideal) g a b e (ix2 r d)
    = g (ix2 r (⟨5, by norm_num⟩ : Fin 128)) * a (ix2 r d) + g (ix2 r (⟨21, by norm_num⟩ : Fin 128)) * b (ix2 r d) + g (ix2 r (⟨37, by norm_num⟩ : Fin 128)) * e (ix2 r d) := by
  unfold k0_pay11
  pointwise

/-- The seventh head. -/
theorem head_6 : k0_pay12 (F := Ideal) g a b e (ix2 r d)
    = g (ix2 r (⟨6, by norm_num⟩ : Fin 128)) * a (ix2 r d) + g (ix2 r (⟨22, by norm_num⟩ : Fin 128)) * b (ix2 r d) + g (ix2 r (⟨38, by norm_num⟩ : Fin 128)) * e (ix2 r d) := by
  unfold k0_pay12
  pointwise

/-- The eighth head. -/
theorem head_7 : k0_pay14 (F := Ideal) g (k0_pay13 g) a b e (ix2 r d)
    = g (ix2 r (⟨7, by norm_num⟩ : Fin 128)) * a (ix2 r d) + g (ix2 r (⟨23, by norm_num⟩ : Fin 128)) * b (ix2 r d) + g (ix2 r (⟨39, by norm_num⟩ : Fin 128)) * e (ix2 r d) := by
  unfold k0_pay13 k0_pay14
  pointwise

/-- The ninth head. -/
theorem head_8 : k0_pay15 (F := Ideal) g a b e (ix2 r d)
    = g (ix2 r (⟨8, by norm_num⟩ : Fin 128)) * a (ix2 r d) + g (ix2 r (⟨24, by norm_num⟩ : Fin 128)) * b (ix2 r d) + g (ix2 r (⟨40, by norm_num⟩ : Fin 128)) * e (ix2 r d) := by
  unfold k0_pay15
  pointwise

/-- The tenth head. -/
theorem head_9 : k0_pay18 (F := Ideal) g (k0_pay16 g a) b (k0_pay17 g) e (ix2 r d)
    = g (ix2 r (⟨9, by norm_num⟩ : Fin 128)) * a (ix2 r d) + g (ix2 r (⟨25, by norm_num⟩ : Fin 128)) * b (ix2 r d) + g (ix2 r (⟨41, by norm_num⟩ : Fin 128)) * e (ix2 r d) := by
  unfold k0_pay16 k0_pay17 k0_pay18
  pointwise

/-- The eleventh head. -/
theorem head_10 : k0_pay19 (F := Ideal) g a b e (ix2 r d)
    = g (ix2 r (⟨10, by norm_num⟩ : Fin 128)) * a (ix2 r d) + g (ix2 r (⟨26, by norm_num⟩ : Fin 128)) * b (ix2 r d) + g (ix2 r (⟨42, by norm_num⟩ : Fin 128)) * e (ix2 r d) := by
  unfold k0_pay19
  pointwise

/-- The twelfth head. -/
theorem head_11 : k0_pay20 (F := Ideal) g a b e (ix2 r d)
    = g (ix2 r (⟨11, by norm_num⟩ : Fin 128)) * a (ix2 r d) + g (ix2 r (⟨27, by norm_num⟩ : Fin 128)) * b (ix2 r d) + g (ix2 r (⟨43, by norm_num⟩ : Fin 128)) * e (ix2 r d) := by
  unfold k0_pay20
  pointwise

/-- The thirteenth head. -/
theorem head_12 : k0_pay21 (F := Ideal) g a b e (ix2 r d)
    = g (ix2 r (⟨12, by norm_num⟩ : Fin 128)) * a (ix2 r d) + g (ix2 r (⟨28, by norm_num⟩ : Fin 128)) * b (ix2 r d) + g (ix2 r (⟨44, by norm_num⟩ : Fin 128)) * e (ix2 r d) := by
  unfold k0_pay21
  pointwise

/-- The fourteenth head. -/
theorem head_13 : k0_pay22 (F := Ideal) g a b e (ix2 r d)
    = g (ix2 r (⟨13, by norm_num⟩ : Fin 128)) * a (ix2 r d) + g (ix2 r (⟨29, by norm_num⟩ : Fin 128)) * b (ix2 r d) + g (ix2 r (⟨45, by norm_num⟩ : Fin 128)) * e (ix2 r d) := by
  unfold k0_pay22
  pointwise

/-- The fifteenth head. -/
theorem head_14 : k0_pay1 (F := Ideal) g (k0_pay23 g a) b e (ix2 r d)
    = g (ix2 r (⟨14, by norm_num⟩ : Fin 128)) * a (ix2 r d) + g (ix2 r (⟨30, by norm_num⟩ : Fin 128)) * b (ix2 r d) + g (ix2 r (⟨46, by norm_num⟩ : Fin 128)) * e (ix2 r d) := by
  unfold k0_pay1 k0_pay23
  pointwise

/-- The sixteenth head. -/
theorem head_15 : k0_pay2 (F := Ideal) g a b e (ix2 r d)
    = g (ix2 r (⟨15, by norm_num⟩ : Fin 128)) * a (ix2 r d) + g (ix2 r (⟨31, by norm_num⟩ : Fin 128)) * b (ix2 r d) + g (ix2 r (⟨47, by norm_num⟩ : Fin 128)) * e (ix2 r d) := by
  unfold k0_pay2
  pointwise

end Heads

/-- Which block each operand shows at a grid point. -/
theorem idx : ∀ t : Fin grid0.N, win0_0.index t = ![t.val, 0] ∧ win0_1.index t = ![t.val, 0] ∧ win0_2.index t = ![t.val, 0] ∧ win0_3.index t = ![t.val, 0] ∧ win0_4.index t = ![t.val, 0] := by
  decide +kernel

/-- The gate of branch s for the head that column j lies in. -/
def gateIx (s : Fin 3) (j : Fin 2048) : Fin 128 := ⟨16 * s.val + j.val / 128, by omega⟩

/-- The gated sum of three arrays of rows: every head's columns times the head's gate of that branch. -/
def mixed {M : ℕ} (A B E : (⟨2, ![M, 2048]⟩ : Shape).Idx → EReal) (G : (⟨2, ![M, 128]⟩ : Shape).Idx → EReal) (r : Fin M) (j : Fin 2048) : EReal :=
  G (ix2 r (gateIx 0 j)) * A (ix2 r j) + G (ix2 r (gateIx 1 j)) * B (ix2 r j) + G (ix2 r (gateIx 2 j)) * E (ix2 r j)

/-- The sum the call leaves. -/
def sums (A B E : S16384x2048.Idx → EReal) (G : S16384x128.Idx → EReal) : FVec Ideal S16384x2048 .bf16 := fun i => mixed A B E G (i 0) (i 1)

/-- A head of a gated sum, read at its columns. -/
theorem mixed_head (A B E : Vec Ideal S512x2048 .f32) (G : Vec Ideal S512x128 .f32) (o : Nat) (n : Fin 16) (ho : o = n.val * 128)
    (hb : ∀ a, (![0, o] : Fin 2 → Nat) a + S512x128.size a ≤ S512x2048.size a) (x : S512x128.Idx) (v : EReal)
    (hv : v = G (ix2 (x 0) (⟨n.val, by omega⟩ : Fin 128)) * View.ld (Val := Elt Ideal) (e' := .f32) A (Rect.unit (s := S512x2048) ![0, o] S512x128.size hb) (ix2 (x 0) (x 1))
      + G (ix2 (x 0) (⟨16 + n.val, by omega⟩ : Fin 128)) * View.ld (Val := Elt Ideal) (e' := .f32) B (Rect.unit (s := S512x2048) ![0, o] S512x128.size hb) (ix2 (x 0) (x 1))
      + G (ix2 (x 0) (⟨32 + n.val, by omega⟩ : Fin 128)) * View.ld (Val := Elt Ideal) (e' := .f32) E (Rect.unit (s := S512x2048) ![0, o] S512x128.size hb) (ix2 (x 0) (x 1))) :
    v = mixed (M := 512) A B E G ((Rect.unit (s := S512x2048) ![0, o] S512x128.size hb).emb x 0) ((Rect.unit (s := S512x2048) ![0, o] S512x128.size hb).emb x 1) := by
  subst ho
  rw [hv]
  have hx : (x 1).val < 128 := (x 1).isLt
  have e0 : ((Rect.unit (s := S512x2048) ![0, n.val * 128] S512x128.size hb).emb x 0 : Fin 512) = x 0 := Fin.ext (by show 0 + 1 * (x 0).val = (x 0).val; omega)
  have hl : ∀ M : Vec Ideal S512x2048 .f32, View.ld (Val := Elt Ideal) (e' := .f32) M (Rect.unit (s := S512x2048) ![0, n.val * 128] S512x128.size hb) (ix2 (x 0) (x 1))
      = M (ix2 ((Rect.unit (s := S512x2048) ![0, n.val * 128] S512x128.size hb).emb x 0) ((Rect.unit (s := S512x2048) ![0, n.val * 128] S512x128.size hb).emb x 1)) := fun M =>
    congrArg M (funext fun a => by
      match a with
      | ⟨0, _⟩ => rfl
      | ⟨1, _⟩ => rfl)
  have hg : ∀ (s : Fin 3) (h : 16 * s.val + n.val < 128), (ix2 (x 0) (⟨16 * s.val + n.val, h⟩ : Fin 128) : S512x128.Idx)
      = ix2 ((Rect.unit (s := S512x2048) ![0, n.val * 128] S512x128.size hb).emb x 0) (gateIx s ((Rect.unit (s := S512x2048) ![0, n.val * 128] S512x128.size hb).emb x 1)) := fun s h =>
    funext fun a => Fin.ext (by
      match a with
      | ⟨0, _⟩ => show (x 0).val = 0 + 1 * (x 0).val; omega
      | ⟨1, _⟩ => show 16 * s.val + n.val = 16 * s.val + (n.val * 128 + 1 * (x 1).val) / 128; omega)
  unfold mixed
  refine congrArg₂ (· + ·) (congrArg₂ (· + ·) (congrArg₂ (· * ·) ?_ (hl A)) (congrArg₂ (· * ·) ?_ (hl B))) (congrArg₂ (· * ·) ?_ (hl E))
  · refine Eq.trans (congrArg G ?_) (congrArg G (hg 0 (by have := n.isLt; show 16 * 0 + n.val < 128; omega)))
    exact congrArg (ix2 (x 0)) (Fin.ext (by show n.val = 16 * 0 + n.val; omega))
  · exact congrArg G (hg 1 (by have := n.isLt; show 16 * 1 + n.val < 128; omega))
  · exact congrArg G (hg 2 (by have := n.isLt; show 16 * 2 + n.val < 128; omega))

/-- What a grid point leaves: the gated sum of its rows. -/
theorem block_apply (A B E : Vec Ideal S512x2048 .f32) (G : Vec Ideal S512x128 .f32) (y : S512x2048.Idx) : out0_4 (F := Ideal) A B E G y = mixed (M := 512) A B E G (y 0) (y 1) := by
  have hG : View.ld (Val := Elt Ideal) (e' := .f32) G r0_0 = G := by
    funext x
    refine congrArg G (funext fun a => Fin.ext ?_)
    match a with
    | ⟨0, _⟩ => show 0 + 1 * (x 0).val = (x 0).val; omega
    | ⟨1, _⟩ => show 0 + 1 * (x 1).val = (x 1).val; omega
  unfold out0_4
  rw [hG]
  refine View.canon_apply_of_pieces (Val := Elt Ideal) (e := .bf16) (fun y => mixed (M := 512) A B E G (y 0) (y 1)) _ ?_ y (cover0_4 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact mixed_head A B E G _ 15 rfl _ x _ ((congrArg _ (eq_ix2 x)).trans (head_15 G _ _ _ (x 0) (x 1)))
  · exact mixed_head A B E G _ 14 rfl _ x _ ((congrArg _ (eq_ix2 x)).trans (head_14 G _ _ _ (x 0) (x 1)))
  · exact mixed_head A B E G _ 13 rfl _ x _ ((congrArg _ (eq_ix2 x)).trans (head_13 G _ _ _ (x 0) (x 1)))
  · exact mixed_head A B E G _ 12 rfl _ x _ ((congrArg _ (eq_ix2 x)).trans (head_12 G _ _ _ (x 0) (x 1)))
  · exact mixed_head A B E G _ 11 rfl _ x _ ((congrArg _ (eq_ix2 x)).trans (head_11 G _ _ _ (x 0) (x 1)))
  · exact mixed_head A B E G _ 10 rfl _ x _ ((congrArg _ (eq_ix2 x)).trans (head_10 G _ _ _ (x 0) (x 1)))
  · exact mixed_head A B E G _ 9 rfl _ x _ ((congrArg _ (eq_ix2 x)).trans (head_9 G _ _ _ (x 0) (x 1)))
  · exact mixed_head A B E G _ 8 rfl _ x _ ((congrArg _ (eq_ix2 x)).trans (head_8 G _ _ _ (x 0) (x 1)))
  · exact mixed_head A B E G _ 7 rfl _ x _ ((congrArg _ (eq_ix2 x)).trans (head_7 G _ _ _ (x 0) (x 1)))
  · exact mixed_head A B E G _ 6 rfl _ x _ ((congrArg _ (eq_ix2 x)).trans (head_6 G _ _ _ (x 0) (x 1)))
  · exact mixed_head A B E G _ 5 rfl _ x _ ((congrArg _ (eq_ix2 x)).trans (head_5 G _ _ _ (x 0) (x 1)))
  · exact mixed_head A B E G _ 4 rfl _ x _ ((congrArg _ (eq_ix2 x)).trans (head_4 G _ _ _ (x 0) (x 1)))
  · exact mixed_head A B E G _ 3 rfl _ x _ ((congrArg _ (eq_ix2 x)).trans (head_3 G _ _ _ (x 0) (x 1)))
  · exact mixed_head A B E G _ 2 rfl _ x _ ((congrArg _ (eq_ix2 x)).trans (head_2 G _ _ _ (x 0) (x 1)))
  · exact mixed_head A B E G _ 1 rfl _ x _ ((congrArg _ (eq_ix2 x)).trans (head_1 G _ _ _ (x 0) (x 1)))
  · exact mixed_head A B E G _ 0 rfl _ x _ ((congrArg _ (eq_ix2 x)).trans (head_0 G _ _ _ (x 0) (x 1)))

/-- The array the call leaves. -/
theorem arr : (dats m 0 c).arrAt 4 cfg0.N = sums (V m c main_arg0) (V m c main_arg1) (V m c main_arg2) (V m c main_arg3) := by
  refine (dats m 0 c).arrAt_eq_of_covers 4 _ (by decide +kernel) fun t hf y => ?_
  blk_simp
  rw [after0_4]
  refine (block_apply _ _ _ _ y).trans ?_
  unfold sums mixed
  refine congrArg₂ (· + ·) (congrArg₂ (· + ·) (congrArg₂ (· * ·) ?_ ?_) (congrArg₂ (· * ·) ?_ ?_)) (congrArg₂ (· * ·) ?_ ?_)
  all_goals blk_ext [iblk, idx, gateIx]

end Cert.BranchSumIdeal.Sums

namespace Cert

open Idealize.ShloMosaic Idealize.SL.Sem

section Reference

open BranchSumRefIdeal.Read

variable (A B E : FVec Ideal BranchSumIdeal.S16384x2048 .f32) (G : FVec Ideal BranchSumIdeal.S16384x128 .f32)

/-- The first branch's gates as the reference lays them out. -/
theorem BranchSumRefIdeal.ref_gate_first (r : Fin 16384) (n : Fin 16) (d : Fin 128) : val_main_v6 (F := Ideal) G (ix3 r n d) = G (ix2 r (⟨16 * 0 + n.val, by omega⟩ : Fin 128)) := by
  simp only [val_main_v6_apply, val_main_v4_apply, val_main_v3_apply, val_main_v2_apply, val_main_v1_apply, val_main_v0_apply]
  refine congrArg G (funext fun a => Fin.ext ?_)
  match a with
  | ⟨0, _⟩ => show (((r.val * 16 + n.val) / 16 * 3 + 0) * 16 + (r.val * 16 + n.val) % 16) / 48 = r.val; omega
  | ⟨1, _⟩ => show (((r.val * 16 + n.val) / 16 * 3 + 0) * 16 + (r.val * 16 + n.val) % 16) % 48 = 16 * 0 + n.val; omega

/-- The second branch's gates as the reference lays them out. -/
theorem BranchSumRefIdeal.ref_gate_second (r : Fin 16384) (n : Fin 16) (d : Fin 128) : val_main_v12 (F := Ideal) G (ix3 r n d) = G (ix2 r (⟨16 * 1 + n.val, by omega⟩ : Fin 128)) := by
  simp only [val_main_v12_apply, val_main_v10_apply, val_main_v9_apply, val_main_v8_apply, val_main_v1_apply, val_main_v0_apply]
  refine congrArg G (funext fun a => Fin.ext ?_)
  match a with
  | ⟨0, _⟩ => show (((r.val * 16 + n.val) / 16 * 3 + (1 + 0)) * 16 + (r.val * 16 + n.val) % 16) / 48 = r.val; omega
  | ⟨1, _⟩ => show (((r.val * 16 + n.val) / 16 * 3 + (1 + 0)) * 16 + (r.val * 16 + n.val) % 16) % 48 = 16 * 1 + n.val; omega

/-- The third branch's gates as the reference lays them out. -/
theorem BranchSumRefIdeal.ref_gate_third (r : Fin 16384) (n : Fin 16) (d : Fin 128) : val_main_v19 (F := Ideal) G (ix3 r n d) = G (ix2 r (⟨16 * 2 + n.val, by omega⟩ : Fin 128)) := by
  simp only [val_main_v19_apply, val_main_v17_apply, val_main_v16_apply, val_main_v15_apply, val_main_v1_apply, val_main_v0_apply]
  refine congrArg G (funext fun a => Fin.ext ?_)
  match a with
  | ⟨0, _⟩ => show (((r.val * 16 + n.val) / 16 * 3 + (2 + 0)) * 16 + (r.val * 16 + n.val) % 16) / 48 = r.val; omega
  | ⟨1, _⟩ => show (((r.val * 16 + n.val) / 16 * 3 + (2 + 0)) * 16 + (r.val * 16 + n.val) % 16) % 48 = 16 * 2 + n.val; omega

/-- An array of rows with its heads apart. -/
theorem BranchSumRefIdeal.ref_heads (r : Fin 16384) (n : Fin 16) (d : Fin 128) : val_main_v5 (F := Ideal) A (ix3 r n d) = A (ix2 r (⟨n.val * 128 + d.val, by omega⟩ : Fin 2048)) := by
  rw [val_main_v5_apply]
  refine congrArg A (funext fun a => Fin.ext ?_)
  match a with
  | ⟨0, _⟩ => show ((r.val * 16 + n.val) * 128 + d.val) / 2048 = r.val; omega
  | ⟨1, _⟩ => show ((r.val * 16 + n.val) * 128 + d.val) % 2048 = n.val * 128 + d.val; omega

/-- The reference's gated sum, head by head. -/
theorem BranchSumRefIdeal.ref_sum (r : Fin 16384) (n : Fin 16) (d : Fin 128) : val_main_v21 (F := Ideal) A B E G (ix3 r n d)
    = G (ix2 r (⟨16 * 0 + n.val, by omega⟩ : Fin 128)) * A (ix2 r (⟨n.val * 128 + d.val, by omega⟩ : Fin 2048))
      + G (ix2 r (⟨16 * 1 + n.val, by omega⟩ : Fin 128)) * B (ix2 r (⟨n.val * 128 + d.val, by omega⟩ : Fin 2048))
      + G (ix2 r (⟨16 * 2 + n.val, by omega⟩ : Fin 128)) * E (ix2 r (⟨n.val * 128 + d.val, by omega⟩ : Fin 2048)) := by
  rw [← BranchSumRefIdeal.ref_gate_first G r n d, ← BranchSumRefIdeal.ref_gate_second G r n d, ← BranchSumRefIdeal.ref_gate_third G r n d,
    ← BranchSumRefIdeal.ref_heads A r n d, ← BranchSumRefIdeal.ref_heads B r n d, ← BranchSumRefIdeal.ref_heads E r n d]
  rfl

/-- The reference's result is the same array. -/
theorem BranchSumRefIdeal.ref_eq : val_main_v23 (F := Ideal) A B E G = BranchSumIdeal.Sums.sums A B E G := by
  funext i
  have h1 : (i 1).val < 2048 := (i 1).isLt
  rw [val_main_v23_apply, val_main_v22_apply]
  have e : idx_main_v22 i = ix3 (i 0) (⟨(i 1).val / 128, by omega⟩ : Fin 16) (⟨(i 1).val % 128, Nat.mod_lt _ (by norm_num)⟩ : Fin 128) := funext fun a => Fin.ext (by
    match a with
    | ⟨0, _⟩ => show ((i 0).val * 2048 + (i 1).val) / 2048 = (i 0).val; omega
    | ⟨1, _⟩ => show ((i 0).val * 2048 + (i 1).val) / 128 % 16 = (i 1).val / 128; omega
    | ⟨2, _⟩ => show ((i 0).val * 2048 + (i 1).val) % 128 = (i 1).val % 128; omega)
  rw [e]
  have hc : ∀ h, (⟨(i 1).val / 128 * 128 + (i 1).val % 128, h⟩ : Fin 2048) = i 1 := fun h => Fin.ext (by show (i 1).val / 128 * 128 + (i 1).val % 128 = (i 1).val; omega)
  refine (BranchSumRefIdeal.ref_sum A B E G (i 0) (⟨(i 1).val / 128, by omega⟩ : Fin 16) (⟨(i 1).val % 128, Nat.mod_lt _ (by norm_num)⟩ : Fin 128)).trans ?_
  simp only [hc]
  rfl

end Reference

/-- The call and its reference leave the same array. -/
theorem algebraic_branch_sum : algebraic_BranchSumIdeal_BranchSumRefIdeal (hBranchSumIdeal := BranchSumIdeal.Gen.facts) (hBranchSumRefIdeal := BranchSumRefIdeal.Gen.facts) := by
  pair_intro
  · run_from BranchSumIdeal.Gen.run_main m g
  · run_from BranchSumRefIdeal.Value.run m' g'
    rw [BranchSumIdeal.Sums.arr, BranchSumIdeal.Gen.V_main_arg0, BranchSumIdeal.Gen.V_main_arg1, BranchSumIdeal.Gen.V_main_arg2, BranchSumIdeal.Gen.V_main_arg3]
    exact BranchSumRefIdeal.ref_eq _ _ _ _

end Cert

end
-- ==== Proof.Compress.lean ====
/-
  The compression of a block of 32 rows of one group to one row: two chunks of 16 rows side by side, each entry plus its
  position's embedding, times the first weights, through the smooth rectifier, times the second weights.
-/
module

public import Idealize.ShloMosaic.Lib.Pipeline.ValueKit
public import Idealize.ShloMosaic.Lib.Pointwise

@[expose] public section

noncomputable section

namespace Cert.Compress

open Idealize.ShloMosaic
open scoped BigOperators

/-- The smooth rectifier (gelu) in its hyperbolic form. -/
def gelu (x : EReal) : EReal :=
  Ideal.ofBits .f32 0x3F000000#32 * x
    * (1 + Ideal.tanh (Ideal.ofBits .f32 0x3F4C422A#32 * (x + Ideal.ofBits .f32 0x3D372713#32 * (x * x * x))))

/-- The chunk after a given one, the first after the last. -/
def following (n : Fin 1024) : Fin 1024 := ⟨(n.val + 1024 - 1023) % 1024, Nat.mod_lt _ (by norm_num)⟩

/-- The products of a chunk and of the one after it with their halves of a column of weights, added up. -/
def summed (a : Fin 1024 → Fin 2048 → EReal) (p q w v : Fin 2048 → EReal) (n : Fin 1024) : EReal :=
  (∑ k : Fin 2048, (a n k + p k) * w k) + ∑ k : Fin 2048, (a (following n) k + q k) * v k

/-- Position k of the lower half of a block. -/
def low (k : Fin 2048) : Fin 4096 := ⟨k.val, by omega⟩

/-- Position k of the upper half of a block. -/
def high (k : Fin 2048) : Fin 4096 := ⟨2048 + k.val, by omega⟩

/-- The embedding of a position of a block, read row by row. -/
def embedding (P : (⟨2, ![32, 128]⟩ : Shape).Idx → EReal) (k : Fin 4096) : EReal :=
  P (ix2 (⟨k.val / 128, by omega⟩ : Fin 32) (⟨k.val % 128, Nat.mod_lt _ (by norm_num)⟩ : Fin 128))

/-- One hidden entry of a block before the rectifier. -/
def hidden (A : (⟨3, ![4, 1024, 2048]⟩ : Shape).Idx → EReal) (P : (⟨2, ![32, 128]⟩ : Shape).Idx → EReal)
    (W : (⟨2, ![4096, 512]⟩ : Shape).Idx → EReal) (g : Fin 4) (n : Fin 1024) (h : Fin 512) : EReal :=
  summed (fun n k => A (ix3 g n k)) (fun k => embedding P (low k)) (fun k => embedding P (high k))
    (fun k => W (ix2 (low k) h)) (fun k => W (ix2 (high k) h)) n

/-- One entry of the compressed row. -/
def compressed (A : (⟨3, ![4, 1024, 2048]⟩ : Shape).Idx → EReal) (P : (⟨2, ![32, 128]⟩ : Shape).Idx → EReal)
    (W : (⟨2, ![4096, 512]⟩ : Shape).Idx → EReal) (U : (⟨2, ![512, 128]⟩ : Shape).Idx → EReal) (g : Fin 4) (n : Fin 1024) (d : Fin 128) : EReal :=
  ∑ h : Fin 512, gelu (hidden A P W g n h) * U (ix2 h d)

/-- A sum over a block is the sum over its two halves. -/
theorem sum_halves (f : Fin 4096 → EReal) : ∑ k : Fin 4096, f k = (∑ k : Fin 2048, f (low k)) + ∑ k : Fin 2048, f (high k) :=
  Fin.sum_univ_add (a := 2048) (b := 2048) f

/-- Equal inputs give equal sums. -/
theorem summed_congr {a a' : Fin 1024 → Fin 2048 → EReal} {p p' q q' w w' v v' : Fin 2048 → EReal} {n n' : Fin 1024}
    (ha : ∀ n k, a n k = a' n k) (hp : ∀ k, p k = p' k) (hq : ∀ k, q k = q' k) (hw : ∀ k, w k = w' k) (hv : ∀ k, v k = v' k) (hn : n = n') :
    summed a p q w v n = summed a' p' q' w' v' n' := by
  rw [funext fun n => funext (ha n), funext hp, funext hq, funext hw, funext hv, hn]

/-- The rectifier with its factors in the other order. -/
theorem gelu_eq (x : EReal) : x * (Ideal.ofBits .f32 0x3F000000#32
    * (1 + Ideal.tanh (Ideal.ofBits .f32 0x3F4C422A#32 * (x + Ideal.ofBits .f32 0x3D372713#32 * (x * x * x))))) = gelu x := by
  unfold gelu
  rw [← mul_assoc, mul_comm x]

end Cert.Compress

end
-- ==== Proof.CompressValues.lean ====
module

public import proofs.«01_k».proof.Defs
public import proofs.«01_k».proof.Proof.Compress
public import proofs.«01_k».proof.Proof.Gen.CompressValuesIdeal.Value
public import proofs.«01_k».proof.Proof.Gen.CompressValuesRefIdeal.Read
public import Idealize.ShloMosaic.Lib.Pipeline.ValueKit
public import Idealize.ShloMosaic.Lib.Pointwise
public import Idealize.ShloMosaic.Lib.Pipeline.ReadBack
public import Idealize.ShloMosaic.Lib.Claim

/-! The compressed values of the sparse attention: every block of 32 rows of a group brought to one row. -/

@[expose] public section

set_option maxRecDepth 16384

noncomputable section

namespace Cert.CompressValuesIdeal.Blocks

open Cert.CompressValuesIdeal Cert.CompressValuesIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What a grid point's products give: the compressed rows of its group, from the two halves of the embedding and of the weights. -/
theorem core_apply (x : Vec Ideal S1x1024x2048 .f32) (p q : Vec Ideal S1x2048 .f32) (w v : Vec Ideal S2048x512 .bf16) (u : Vec Ideal S512x128 .bf16)
    (n : Fin 1024) (d : Fin 128) : k0_pay2 (F := Ideal) x p q w v u (ix2 n d)
    = ∑ h : Fin 512, Compress.gelu (Compress.summed (fun n k => x (ix3 (0 : Fin 1) n k)) (fun k => p (ix2 (0 : Fin 1) k)) (fun k => q (ix2 (0 : Fin 1) k))
      (fun k => w (ix2 k h)) (fun k => v (ix2 k h)) n) * u (ix2 h d) := by
  unfold k0_pay2
  pointwise
  rfl

/-- Which block each operand shows at a grid point. -/
theorem idx : ∀ t : Fin grid0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] := by
  decide +kernel

/-- The compressed values. -/
def values (A : S4x1024x2048.Idx → EReal) (P : S32x128.Idx → EReal) (W : S4096x512.Idx → EReal) (U : S512x128.Idx → EReal) : FVec Ideal S4x1024x128 .bf16 := fun i =>
  Compress.compressed A P W U (i 0) (i 1) (i 2)

/-- The output is the compressed rows with a leading axis of one. -/
theorem store_apply (v : FVec Ideal S1024x128 .bf16) (n : Fin 1024) (d : Fin 128) : k0_pay1 (F := Ideal) v (ix3 (0 : Fin 1) n d) = v (ix2 n d) := by
  unfold k0_pay1
  pointwise

/-- The embedding as the call reads it: its rows one after another. -/
theorem embedded (k : Fin 4096) : V m c main_v0 (ix2 (0 : Fin 1) k) = Compress.embedding (m ((c.tc : Thread nD τ).loc main_arg1)) k := by
  unfold_abbrev_sides
  after_results
  pointwise
  rfl

/-- The first weights as the products read them are the weights given: a change of format is the identity here. -/
theorem entry_w : (V m c main_v1 : S4096x512.Idx → EReal) = (m ((c.tc : Thread nD τ).loc main_arg2) : S4096x512.Idx → EReal) := by
  unfold_abbrev_sides
  after_results
  rfl

/-- So are the second weights. -/
theorem entry_u : (V m c main_v2 : S512x128.Idx → EReal) = (m ((c.tc : Thread nD τ).loc main_arg3) : S512x128.Idx → EReal) := by
  unfold_abbrev_sides
  after_results
  rfl

/-- A load of the lower half of the embedding. -/
theorem ld_low (A : Vec Ideal S1x4096 .f32) (k : Fin 2048) : View.ld (Val := Elt Ideal) (e' := .f32) A r0_1 (ix2 (0 : Fin 1) k) = A (ix2 (0 : Fin 1) (Compress.low k)) := by
  refine congrArg A (funext fun a => Fin.ext ?_)
  match a with
  | ⟨0, _⟩ => rfl
  | ⟨1, _⟩ => show 0 + 1 * k.val = k.val; omega

/-- A load of its upper half. -/
theorem ld_high (A : Vec Ideal S1x4096 .f32) (k : Fin 2048) : View.ld (Val := Elt Ideal) (e' := .f32) A r0_2 (ix2 (0 : Fin 1) k) = A (ix2 (0 : Fin 1) (Compress.high k)) := by
  refine congrArg A (funext fun a => Fin.ext ?_)
  match a with
  | ⟨0, _⟩ => rfl
  | ⟨1, _⟩ => show 2048 + 1 * k.val = 2048 + k.val; omega

/-- A load of the lower half of the first weights. -/
theorem ld_weights_low (A : Vec Ideal S4096x512 .bf16) (k : Fin 2048) (h : Fin 512) : View.ld (Val := Elt Ideal) (e' := .bf16) A r0_3 (ix2 k h) = A (ix2 (Compress.low k) h) := by
  refine congrArg A (funext fun a => Fin.ext ?_)
  match a with
  | ⟨0, _⟩ => show 0 + 1 * k.val = k.val; omega
  | ⟨1, _⟩ => show 0 + 1 * h.val = h.val; omega

/-- A load of their upper half. -/
theorem ld_weights_high (A : Vec Ideal S4096x512 .bf16) (k : Fin 2048) (h : Fin 512) : View.ld (Val := Elt Ideal) (e' := .bf16) A r0_4 (ix2 k h) = A (ix2 (Compress.high k) h) := by
  refine congrArg A (funext fun a => Fin.ext ?_)
  match a with
  | ⟨0, _⟩ => show 2048 + 1 * k.val = 2048 + k.val; omega
  | ⟨1, _⟩ => show 0 + 1 * h.val = h.val; omega

/-- The embedding's block is the whole embedding. -/
theorem embedding_block (t : Fin cfg0.N) (k : Fin 4096) : (iblk m c 1 t : S1x4096.Idx → EReal) (ix2 (0 : Fin 1) k) = V m c main_v0 (ix2 (0 : Fin 1) k) := by
  blk_ext [iblk, idx]

/-- The first weights' block is all of them. -/
theorem weights_block (t : Fin cfg0.N) (k : Fin 4096) (h : Fin 512) : (iblk m c 2 t : S4096x512.Idx → EReal) (ix2 k h) = V m c main_v1 (ix2 k h) := by
  blk_ext [iblk, idx]

/-- The array the call leaves. -/
theorem arr : (dats m 0 c).arrAt 5 cfg0.N = values (V m c main_arg0) (m ((c.tc : Thread nD τ).loc main_arg1)) (V m c main_v1) (V m c main_v2) := by
  refine (dats m 0 c).arrAt_eq_of_covers 5 _ (by decide +kernel) fun t hf y => ?_
  blk_simp
  rw [after0_5]
  unfold out0_5
  frame_out
  have hy : y = ix3 (0 : Fin 1) (y 1) (y 2) := by
    funext a
    match a with
    | ⟨0, _⟩ => exact Fin.ext (by have := (y 0).isLt; show (y 0).val = 0; change (y 0).val < 1 at this; omega)
    | ⟨1, _⟩ => rfl
    | ⟨2, _⟩ => rfl
  rw [hy]
  refine (store_apply _ _ _).trans ((core_apply _ _ _ _ _ _ _ _).trans ?_)
  unfold values Compress.compressed Compress.hidden
  refine Finset.sum_congr rfl fun h _ => congrArg₂ (· * ·) (congrArg Compress.gelu (Compress.summed_congr (fun n k => ?_) (fun k => ?_) (fun k => ?_) (fun k => ?_) (fun k => ?_) ?_)) ?_
  · blk_ext [iblk, idx]
  · exact (ld_low _ k).trans ((embedding_block m c t _).trans (embedded m c _))
  · exact (ld_high _ k).trans ((embedding_block m c t _).trans (embedded m c _))
  · exact (ld_weights_low _ k h).trans (weights_block m c t _ h)
  · exact (ld_weights_high _ k h).trans (weights_block m c t _ h)
  · refine Fin.ext ?_
    blk_simp; simp [idx]
  · blk_ext [iblk, idx]

end Cert.CompressValuesIdeal.Blocks

namespace Cert

open Idealize.ShloMosaic Idealize.SL.Sem
open scoped BigOperators

section Reference

open CompressValuesRefIdeal.Read

variable (A : FVec Ideal CompressValuesIdeal.S4x1024x2048 .f32) (P : FVec Ideal CompressValuesIdeal.S32x128 .f32)
  (W : FVec Ideal CompressValuesIdeal.S4096x512 .f32) (U : FVec Ideal CompressValuesIdeal.S512x128 .f32)

/-- The reference's second chunks: the chunks moved up by one. -/
theorem CompressValuesRefIdeal.ref_following (g : Fin 4) (n : Fin 1024) (k : Fin 2048) : val_main_v2 (F := Ideal) A (ix3 g n k) = A (ix3 g (Compress.following n) k) := by
  have hn : n.val < 1024 := n.isLt
  unfold val_main_v2
  pointwise
  by_cases h1 : n.val < 1023
  · rw [dif_pos h1, val_main_v0_apply]
    refine congrArg A (funext fun a => Fin.ext ?_)
    match a with
    | ⟨0, _⟩ => rfl
    | ⟨1, _⟩ => show 1 + n.val = (n.val + 1024 - 1023) % 1024; omega
    | ⟨2, _⟩ => rfl
  · rw [dif_neg h1, val_main_v1_apply]
    refine congrArg A (funext fun a => Fin.ext ?_)
    match a with
    | ⟨0, _⟩ => rfl
    | ⟨1, _⟩ => show n.val - 1023 = (n.val + 1024 - 1023) % 1024; omega
    | ⟨2, _⟩ => rfl

/-- The lower half of the reference's blocks. -/
theorem CompressValuesRefIdeal.ref_low (g : Fin 4) (n : Fin 1024) (k : Fin 2048) : val_main_v3 (F := Ideal) A (ix3 g n (Compress.low k)) = A (ix3 g n k) := by
  have hk : (Compress.low k).val < 2048 := k.isLt
  unfold val_main_v3
  pointwise
  rw [dif_pos hk]
  rfl

/-- Their upper half. -/
theorem CompressValuesRefIdeal.ref_high (g : Fin 4) (n : Fin 1024) (k : Fin 2048) : val_main_v3 (F := Ideal) A (ix3 g n (Compress.high k)) = A (ix3 g (Compress.following n) k) := by
  have hk : ¬ (Compress.high k).val < 2048 := by show ¬ 2048 + k.val < 2048; omega
  unfold val_main_v3
  pointwise
  rw [dif_neg hk]
  refine Eq.trans ?_ (CompressValuesRefIdeal.ref_following A g n k)
  refine congrArg (val_main_v2 (F := Ideal) A) (funext fun a => Fin.ext ?_)
  match a with
  | ⟨0, _⟩ => rfl
  | ⟨1, _⟩ => rfl
  | ⟨2, _⟩ => show 2048 + k.val - 2048 = k.val; omega

/-- The embedding the reference adds. -/
theorem CompressValuesRefIdeal.ref_embedding (g : Fin 4) (n : Fin 1024) (k : Fin 4096) : val_main_v6 (F := Ideal) P (ix3 g n k) = Compress.embedding P k := by
  rw [val_main_v6_apply, val_main_v5_apply, val_main_v4_apply]
  refine congrArg P (funext fun a => Fin.ext ?_)
  match a with
  | ⟨0, _⟩ => rfl
  | ⟨1, _⟩ => rfl

/-- The reference's hidden entries before the rectifier. -/
theorem CompressValuesRefIdeal.ref_hidden (g : Fin 4) (n : Fin 1024) (h : Fin 512) : val_main_v8 (F := Ideal) A P W (ix3 g n h) = Compress.hidden A P W g n h := by
  rw [val_main_v8_apply]
  have e : ∀ k, lidx_main_v8 (ix3 g n h) k = ix3 g n k := fun k => funext fun a => Fin.ext (by
    match a with
    | ⟨0, _⟩ => rfl
    | ⟨1, _⟩ => rfl
    | ⟨2, _⟩ => rfl)
  have e' : ∀ k, ridx_main_v8 (ix3 g n h) k = ix2 k h := fun k => funext fun a => Fin.ext (by
    match a with
    | ⟨0, _⟩ => rfl
    | ⟨1, _⟩ => rfl)
  simp only [e, e', val_main_v7_apply]
  refine (Compress.sum_halves _).trans ?_
  simp only [CompressValuesRefIdeal.ref_low, CompressValuesRefIdeal.ref_high, CompressValuesRefIdeal.ref_embedding]
  rfl

/-- The reference's hidden entries after the rectifier. -/
theorem CompressValuesRefIdeal.ref_rectified (g : Fin 4) (n : Fin 1024) (h : Fin 512) : val_main_v21 (F := Ideal) A P W (ix3 g n h) = Compress.gelu (Compress.hidden A P W g n h) := by
  simp only [val_main_v21_apply, val_main_v20_apply, val_main_v19_apply, val_main_v18_apply, val_main_v17_apply, val_main_v16_apply, val_main_v15_apply, val_main_v14_apply,
    val_main_v13_apply, val_main_v12_apply, val_main_v11_apply, val_main_v10_apply, val_main_v9_apply, val_main_cst_apply, val_main_cst_0_apply, val_main_cst_1_apply, val_main_cst_2_apply,
    CompressValuesRefIdeal.ref_hidden]
  rw [show FloatOps.ofBits (F := Ideal) FTy.f32 0x3F800000#32 = (1 : EReal) from Ideal.ofBits_one_f32]
  exact Compress.gelu_eq _

/-- The reference's compressed rows. -/
theorem CompressValuesRefIdeal.ref_compressed (g : Fin 4) (n : Fin 1024) (d : Fin 128) : val_main_v22 (F := Ideal) A P W U (ix3 g n d) = Compress.compressed A P W U g n d := by
  rw [val_main_v22_apply]
  have e : ∀ k, lidx_main_v22 (ix3 g n d) k = ix3 g n k := fun k => funext fun a => Fin.ext (by
    match a with
    | ⟨0, _⟩ => rfl
    | ⟨1, _⟩ => rfl
    | ⟨2, _⟩ => rfl)
  have e' : ∀ k, ridx_main_v22 (ix3 g n d) k = ix2 k d := fun k => funext fun a => Fin.ext (by
    match a with
    | ⟨0, _⟩ => rfl
    | ⟨1, _⟩ => rfl)
  simp only [e, e', CompressValuesRefIdeal.ref_rectified]
  rfl

/-- The reference's result is the same array. -/
theorem CompressValuesRefIdeal.ref_eq : val_main_v23 (F := Ideal) A P W U = CompressValuesIdeal.Blocks.values A P W U := by
  funext i
  rw [eq_ix3 i]
  exact CompressValuesRefIdeal.ref_compressed A P W U (i 0) (i 1) (i 2)

end Reference

/-- The call and its reference leave the same array. -/
theorem algebraic_compress_values : algebraic_CompressValuesIdeal_CompressValuesRefIdeal (hCompressValuesIdeal := CompressValuesIdeal.Gen.facts) (hCompressValuesRefIdeal := CompressValuesRefIdeal.Gen.facts) := by
  pair_intro
  · run_from CompressValuesIdeal.Gen.run_main m g
  · run_from CompressValuesRefIdeal.Value.run m' g'
    rw [CompressValuesRefIdeal.Read.val_main_v23_eq, (hagree c).1, (hagree c).2.1, (hagree c).2.2.1, (hagree c).2.2.2.1,
      CompressValuesIdeal.Blocks.arr, CompressValuesIdeal.Gen.V_main_arg0, CompressValuesIdeal.Blocks.entry_w, CompressValuesIdeal.Blocks.entry_u]
    exact CompressValuesRefIdeal.ref_eq _ _ _ _

end Cert

end
-- ==== Proof.CompressKeys.lean ====
module

public import proofs.«01_k».proof.Defs
public import proofs.«01_k».proof.Proof.Compress
public import proofs.«01_k».proof.Proof.Rotary
public import proofs.«01_k».proof.Proof.Gen.CompressKeysIdeal.Value
public import proofs.«01_k».proof.Proof.Gen.CompressKeysRefIdeal.Read
public import Idealize.ShloMosaic.Lib.Pipeline.ValueKit
public import Idealize.ShloMosaic.Lib.Pointwise
public import Idealize.ShloMosaic.Lib.Pipeline.ReadBack
public import Idealize.ShloMosaic.Lib.Claim

/-! The compressed keys of the sparse attention: every block of 32 rows of a group brought to one row. -/

@[expose] public section

set_option maxRecDepth 16384

noncomputable section

namespace Cert.CompressKeysIdeal.Blocks

open Cert.CompressKeysIdeal Cert.CompressKeysIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- What a grid point's products give: the compressed rows of its group, from the two halves of the embedding and of the weights. -/
theorem core_apply (x : Vec Ideal S1x1024x2048 .f32) (p q : Vec Ideal S1x2048 .f32) (w v : Vec Ideal S2048x512 .bf16) (u : Vec Ideal S512x128 .bf16)
    (n : Fin 1024) (d : Fin 128) : k0_pay2 (F := Ideal) x p q w v u (ix2 n d)
    = ∑ h : Fin 512, Compress.gelu (Compress.summed (fun n k => x (ix3 (0 : Fin 1) n k)) (fun k => p (ix2 (0 : Fin 1) k)) (fun k => q (ix2 (0 : Fin 1) k))
      (fun k => w (ix2 k h)) (fun k => v (ix2 k h)) n) * u (ix2 h d) := by
  unfold k0_pay2
  pointwise
  rfl

/-- Which block each operand shows at a grid point. -/
theorem idx : ∀ t : Fin grid0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] := by
  decide +kernel

/-- The compressed keys. -/
def keys (A : S4x1024x2048.Idx → EReal) (P : S32x128.Idx → EReal) (W : S4096x512.Idx → EReal) (U : S512x128.Idx → EReal) (G : S128.Idx → EReal) :
    FVec Ideal S4x1024x128 .bf16 := fun i =>
  Rotary.normed (fun l => Compress.compressed A P W U (i 0) (i 1) l) (fun l => G (ix1 l)) (i 2)

/-- The output is the compressed rows, each normed, with a leading axis of one. -/
theorem store_apply (v : FVec Ideal S1024x128 .f32) (g : Vec Ideal S1x128 .f32) (n : Fin 1024) (d : Fin 128) : k0_pay1 (F := Ideal) v g (ix3 (0 : Fin 1) n d)
    = Rotary.normed (fun l => v (ix2 n l)) (fun l => g (ix2 (0 : Fin 1) l)) d := by
  unfold k0_pay1
  pointwise
  rfl

/-- The gain as the call reads it is the gain given, as one row. -/
theorem gain (l : Fin 128) : V m c main_v3 (ix2 (0 : Fin 1) l) = (m ((c.tc : Thread nD τ).loc main_arg4) : S128.Idx → EReal) (ix1 l) := by
  unfold_abbrev_sides
  after_results
  pointwise

/-- The gain's block is the whole gain. -/
theorem gain_block (t : Fin cfg0.N) (l : Fin 128) : (iblk m c 4 t : S1x128.Idx → EReal) (ix2 (0 : Fin 1) l) = V m c main_v3 (ix2 (0 : Fin 1) l) := by
  blk_ext [iblk, idx]

/-- The embedding as the call reads it: its rows one after another. -/
theorem embedded (k : Fin 4096) : V m c main_v0 (ix2 (0 : Fin 1) k) = Compress.embedding (m ((c.tc : Thread nD τ).loc main_arg1)) k := by
  unfold_abbrev_sides
  after_results
  pointwise
  rfl

/-- The first weights as the products read them are the weights given: a change of format is the identity here. -/
theorem entry_w : (V m c main_v1 : S4096x512.Idx → EReal) = (m ((c.tc : Thread nD τ).loc main_arg2) : S4096x512.Idx → EReal) := by
  unfold_abbrev_sides
  after_results
  rfl

/-- So are the second weights. -/
theorem entry_u : (V m c main_v2 : S512x128.Idx → EReal) = (m ((c.tc : Thread nD τ).loc main_arg3) : S512x128.Idx → EReal) := by
  unfold_abbrev_sides
  after_results
  rfl

/-- A load of the lower half of the embedding. -/
theorem ld_low (A : Vec Ideal S1x4096 .f32) (k : Fin 2048) : View.ld (Val := Elt Ideal) (e' := .f32) A r0_1 (ix2 (0 : Fin 1) k) = A (ix2 (0 : Fin 1) (Compress.low k)) := by
  refine congrArg A (funext fun a => Fin.ext ?_)
  match a with
  | ⟨0, _⟩ => rfl
  | ⟨1, _⟩ => show 0 + 1 * k.val = k.val; omega

/-- A load of its upper half. -/
theorem ld_high (A : Vec Ideal S1x4096 .f32) (k : Fin 2048) : View.ld (Val := Elt Ideal) (e' := .f32) A r0_2 (ix2 (0 : Fin 1) k) = A (ix2 (0 : Fin 1) (Compress.high k)) := by
  refine congrArg A (funext fun a => Fin.ext ?_)
  match a with
  | ⟨0, _⟩ => rfl
  | ⟨1, _⟩ => show 2048 + 1 * k.val = 2048 + k.val; omega

/-- A load of the lower half of the first weights. -/
theorem ld_weights_low (A : Vec Ideal S4096x512 .bf16) (k : Fin 2048) (h : Fin 512) : View.ld (Val := Elt Ideal) (e' := .bf16) A r0_3 (ix2 k h) = A (ix2 (Compress.low k) h) := by
  refine congrArg A (funext fun a => Fin.ext ?_)
  match a with
  | ⟨0, _⟩ => show 0 + 1 * k.val = k.val; omega
  | ⟨1, _⟩ => show 0 + 1 * h.val = h.val; omega

/-- A load of their upper half. -/
theorem ld_weights_high (A : Vec Ideal S4096x512 .bf16) (k : Fin 2048) (h : Fin 512) : View.ld (Val := Elt Ideal) (e' := .bf16) A r0_4 (ix2 k h) = A (ix2 (Compress.high k) h) := by
  refine congrArg A (funext fun a => Fin.ext ?_)
  match a with
  | ⟨0, _⟩ => show 2048 + 1 * k.val = 2048 + k.val; omega
  | ⟨1, _⟩ => show 0 + 1 * h.val = h.val; omega

/-- The embedding's block is the whole embedding. -/
theorem embedding_block (t : Fin cfg0.N) (k : Fin 4096) : (iblk m c 1 t : S1x4096.Idx → EReal) (ix2 (0 : Fin 1) k) = V m c main_v0 (ix2 (0 : Fin 1) k) := by
  blk_ext [iblk, idx]

/-- The first weights' block is all of them. -/
theorem weights_block (t : Fin cfg0.N) (k : Fin 4096) (h : Fin 512) : (iblk m c 2 t : S4096x512.Idx → EReal) (ix2 k h) = V m c main_v1 (ix2 k h) := by
  blk_ext [iblk, idx]

/-- The array the call leaves. -/
theorem arr : (dats m 0 c).arrAt 5 cfg0.N = keys (V m c main_arg0) (m ((c.tc : Thread nD τ).loc main_arg1)) (V m c main_v1) (V m c main_v2)
    (m ((c.tc : Thread nD τ).loc main_arg4)) := by
  refine (dats m 0 c).arrAt_eq_of_covers 5 _ (by decide +kernel) fun t hf y => ?_
  blk_simp
  rw [after0_5]
  unfold out0_5
  frame_out
  have hy : y = ix3 (0 : Fin 1) (y 1) (y 2) := by
    funext a
    match a with
    | ⟨0, _⟩ => exact Fin.ext (by have := (y 0).isLt; show (y 0).val = 0; change (y 0).val < 1 at this; omega)
    | ⟨1, _⟩ => rfl
    | ⟨2, _⟩ => rfl
  rw [hy]
  refine (store_apply _ _ _ _).trans ?_
  unfold keys
  refine Rotary.normed_congr (fun l => ?_) (fun l => (gain_block m c t l).trans (gain m c l)) (Fin.ext ?_)
  rotate_left
  · blk_simp; simp [idx]
  refine (core_apply _ _ _ _ _ _ _ _).trans ?_
  unfold Compress.compressed Compress.hidden
  refine Finset.sum_congr rfl fun h _ => congrArg₂ (· * ·) (congrArg Compress.gelu (Compress.summed_congr (fun n k => ?_) (fun k => ?_) (fun k => ?_) (fun k => ?_) (fun k => ?_) ?_)) ?_
  · blk_ext [iblk, idx]
  · exact (ld_low _ k).trans ((embedding_block m c t _).trans (embedded m c _))
  · exact (ld_high _ k).trans ((embedding_block m c t _).trans (embedded m c _))
  · exact (ld_weights_low _ k h).trans (weights_block m c t _ h)
  · exact (ld_weights_high _ k h).trans (weights_block m c t _ h)
  · refine Fin.ext ?_
    blk_simp; simp [idx]
  · blk_ext [iblk, idx]

end Cert.CompressKeysIdeal.Blocks

namespace Cert

open Idealize.ShloMosaic Idealize.SL.Sem
open scoped BigOperators

section Reference

open CompressKeysRefIdeal.Read

variable (A : FVec Ideal CompressKeysIdeal.S4x1024x2048 .f32) (P : FVec Ideal CompressKeysIdeal.S32x128 .f32)
  (W : FVec Ideal CompressKeysIdeal.S4096x512 .f32) (U : FVec Ideal CompressKeysIdeal.S512x128 .f32) (G : FVec Ideal CompressKeysIdeal.S128 .f32)

/-- The reference's second chunks: the chunks moved up by one. -/
theorem CompressKeysRefIdeal.ref_following (g : Fin 4) (n : Fin 1024) (k : Fin 2048) : val_main_v2 (F := Ideal) A (ix3 g n k) = A (ix3 g (Compress.following n) k) := by
  have hn : n.val < 1024 := n.isLt
  unfold val_main_v2
  pointwise
  by_cases h1 : n.val < 1023
  · rw [dif_pos h1, val_main_v0_apply]
    refine congrArg A (funext fun a => Fin.ext ?_)
    match a with
    | ⟨0, _⟩ => rfl
    | ⟨1, _⟩ => show 1 + n.val = (n.val + 1024 - 1023) % 1024; omega
    | ⟨2, _⟩ => rfl
  · rw [dif_neg h1, val_main_v1_apply]
    refine congrArg A (funext fun a => Fin.ext ?_)
    match a with
    | ⟨0, _⟩ => rfl
    | ⟨1, _⟩ => show n.val - 1023 = (n.val + 1024 - 1023) % 1024; omega
    | ⟨2, _⟩ => rfl

/-- The lower half of the reference's blocks. -/
theorem CompressKeysRefIdeal.ref_low (g : Fin 4) (n : Fin 1024) (k : Fin 2048) : val_main_v3 (F := Ideal) A (ix3 g n (Compress.low k)) = A (ix3 g n k) := by
  have hk : (Compress.low k).val < 2048 := k.isLt
  unfold val_main_v3
  pointwise
  rw [dif_pos hk]
  rfl

/-- Their upper half. -/
theorem CompressKeysRefIdeal.ref_high (g : Fin 4) (n : Fin 1024) (k : Fin 2048) : val_main_v3 (F := Ideal) A (ix3 g n (Compress.high k)) = A (ix3 g (Compress.following n) k) := by
  have hk : ¬ (Compress.high k).val < 2048 := by show ¬ 2048 + k.val < 2048; omega
  unfold val_main_v3
  pointwise
  rw [dif_neg hk]
  refine Eq.trans ?_ (CompressKeysRefIdeal.ref_following A g n k)
  refine congrArg (val_main_v2 (F := Ideal) A) (funext fun a => Fin.ext ?_)
  match a with
  | ⟨0, _⟩ => rfl
  | ⟨1, _⟩ => rfl
  | ⟨2, _⟩ => show 2048 + k.val - 2048 = k.val; omega

/-- The embedding the reference adds. -/
theorem CompressKeysRefIdeal.ref_embedding (g : Fin 4) (n : Fin 1024) (k : Fin 4096) : val_main_v6 (F := Ideal) P (ix3 g n k) = Compress.embedding P k := by
  rw [val_main_v6_apply, val_main_v5_apply, val_main_v4_apply]
  refine congrArg P (funext fun a => Fin.ext ?_)
  match a with
  | ⟨0, _⟩ => rfl
  | ⟨1, _⟩ => rfl

/-- The reference's hidden entries before the rectifier. -/
theorem CompressKeysRefIdeal.ref_hidden (g : Fin 4) (n : Fin 1024) (h : Fin 512) : val_main_v8 (F := Ideal) A P W (ix3 g n h) = Compress.hidden A P W g n h := by
  rw [val_main_v8_apply]
  have e : ∀ k, lidx_main_v8 (ix3 g n h) k = ix3 g n k := fun k => funext fun a => Fin.ext (by
    match a with
    | ⟨0, _⟩ => rfl
    | ⟨1, _⟩ => rfl
    | ⟨2, _⟩ => rfl)
  have e' : ∀ k, ridx_main_v8 (ix3 g n h) k = ix2 k h := fun k => funext fun a => Fin.ext (by
    match a with
    | ⟨0, _⟩ => rfl
    | ⟨1, _⟩ => rfl)
  simp only [e, e', val_main_v7_apply]
  refine (Compress.sum_halves _).trans ?_
  simp only [CompressKeysRefIdeal.ref_low, CompressKeysRefIdeal.ref_high, CompressKeysRefIdeal.ref_embedding]
  rfl

/-- The reference's hidden entries after the rectifier. -/
theorem CompressKeysRefIdeal.ref_rectified (g : Fin 4) (n : Fin 1024) (h : Fin 512) : val_main_v21 (F := Ideal) A P W (ix3 g n h) = Compress.gelu (Compress.hidden A P W g n h) := by
  simp only [val_main_v21_apply, val_main_v20_apply, val_main_v19_apply, val_main_v18_apply, val_main_v17_apply, val_main_v16_apply, val_main_v15_apply, val_main_v14_apply,
    val_main_v13_apply, val_main_v12_apply, val_main_v11_apply, val_main_v10_apply, val_main_v9_apply, val_main_cst_apply, val_main_cst_0_apply, val_main_cst_1_apply, val_main_cst_2_apply,
    CompressKeysRefIdeal.ref_hidden]
  rw [show FloatOps.ofBits (F := Ideal) FTy.f32 0x3F800000#32 = (1 : EReal) from Ideal.ofBits_one_f32]
  exact Compress.gelu_eq _

/-- The reference's compressed rows. -/
theorem CompressKeysRefIdeal.ref_compressed (g : Fin 4) (n : Fin 1024) (d : Fin 128) : val_main_v22 (F := Ideal) A P W U (ix3 g n d) = Compress.compressed A P W U g n d := by
  rw [val_main_v22_apply]
  have e : ∀ k, lidx_main_v22 (ix3 g n d) k = ix3 g n k := fun k => funext fun a => Fin.ext (by
    match a with
    | ⟨0, _⟩ => rfl
    | ⟨1, _⟩ => rfl
    | ⟨2, _⟩ => rfl)
  have e' : ∀ k, ridx_main_v22 (ix3 g n d) k = ix2 k d := fun k => funext fun a => Fin.ext (by
    match a with
    | ⟨0, _⟩ => rfl
    | ⟨1, _⟩ => rfl)
  simp only [e, e', CompressKeysRefIdeal.ref_rectified]
  rfl

/-- The reference's result is the same array. -/
theorem CompressKeysRefIdeal.ref_eq : val_main_v36 (F := Ideal) A P W U G = CompressKeysIdeal.Blocks.keys A P W U G := by
  funext i
  rw [eq_ix3 i]
  simp only [val_main_v36_apply, val_main_v35_apply, val_main_v34_apply, val_main_v33_apply, val_main_v32_apply, val_main_v31_apply, val_main_v30_apply, val_main_v29_apply,
    val_main_v28_apply, val_main_v27_apply, val_main_v26_apply, val_main_v25_apply, val_main_v24_apply, val_main_v23_apply, val_main_cst_3_apply, val_main_cst_4_apply, val_main_cst_5_apply]
  have e : ∀ k, idx_main_v24 (idx_main_v25 (idx_main_v31 (ix3 (i 0) (i 1) (i 2)))) k = ix3 (i 0) (i 1) k := fun k => funext fun a => Fin.ext (by
    match a with
    | ⟨0, _⟩ => rfl
    | ⟨1, _⟩ => rfl
    | ⟨2, _⟩ => rfl)
  have e' : idx_main_v33 (idx_main_v34 (ix3 (i 0) (i 1) (i 2))) = ix1 (i 2) := funext fun a => Fin.ext (by
    match a with
    | ⟨0, _⟩ => rfl)
  simp only [e, e']
  rw [show FloatOps.ofBits (F := Ideal) FTy.f32 0#32 = (0 : EReal) from Ideal.ofBits_zero_f32, zero_add]
  have r : ∀ d : Fin 128, val_main_v22 (F := Ideal) A P W U (ix3 (i 0) (i 1) d) = Compress.compressed A P W U (i 0) (i 1) d := fun d =>
    CompressKeysRefIdeal.ref_compressed A P W U (i 0) (i 1) d
  refine Eq.trans (b := Rotary.normed (fun d => val_main_v22 (F := Ideal) A P W U (ix3 (i 0) (i 1) d)) (fun l => G (ix1 l)) (i 2)) rfl ?_
  exact Rotary.normed_congr r (fun _ => rfl) rfl

end Reference

/-- The call and its reference leave the same array. -/
theorem algebraic_compress_keys : algebraic_CompressKeysIdeal_CompressKeysRefIdeal (hCompressKeysIdeal := CompressKeysIdeal.Gen.facts) (hCompressKeysRefIdeal := CompressKeysRefIdeal.Gen.facts) := by
  pair_intro
  · run_from CompressKeysIdeal.Gen.run_main m g
  · run_from CompressKeysRefIdeal.Value.run m' g'
    rw [CompressKeysRefIdeal.Read.val_main_v36_eq, (hagree c).1, (hagree c).2.1, (hagree c).2.2.1, (hagree c).2.2.2.1, (hagree c).2.2.2.2,
      CompressKeysIdeal.Blocks.arr, CompressKeysIdeal.Gen.V_main_arg0, CompressKeysIdeal.Blocks.entry_w, CompressKeysIdeal.Blocks.entry_u]
    exact CompressKeysRefIdeal.ref_eq _ _ _ _ _

end Cert

end
-- ==== Proof.lean ====
/- The claims of the programs, put together: every frame from the generated runs, every value claim from its own module. -/
module

public import proofs.«01_k».proof.Defs
public import proofs.«01_k».proof.Proof.Gen.Window
public import proofs.«01_k».proof.Proof.Gen.Window.Skeleton
public import proofs.«01_k».proof.Proof.Gen.Window.Launch
public import proofs.«01_k».proof.Proof.Gen.Window.Points
public import proofs.«01_k».proof.Proof.Gen.Window.Frame
public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Gen.WindowIdeal.Value
public import proofs.«01_k».proof.Proof.Gen.WindowRefIdeal
public import proofs.«01_k».proof.Proof.Gen.WindowRefIdeal.Run
public import proofs.«01_k».proof.Proof.Gen.WindowRefIdeal.Read
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownIdeal.Value
public import proofs.«01_k».proof.Proof.Gen.MlpDownRefIdeal
public import proofs.«01_k».proof.Proof.Gen.MlpDownRefIdeal.Run
public import proofs.«01_k».proof.Proof.Gen.MlpDownRefIdeal.Read
public import proofs.«01_k».proof.Proof.Gen.MergeGates
public import proofs.«01_k».proof.Proof.Gen.MergeGates.Skeleton
public import proofs.«01_k».proof.Proof.Gen.MergeGates.Launch
public import proofs.«01_k».proof.Proof.Gen.MergeGates.Points
public import proofs.«01_k».proof.Proof.Gen.MergeGates.Frame
public import proofs.«01_k».proof.Proof.Gen.MergeGatesIdeal
public import proofs.«01_k».proof.Proof.Gen.MergeGatesIdeal.Skeleton
public import proofs.«01_k».proof.Proof.Gen.MergeGatesIdeal.Launch
public import proofs.«01_k».proof.Proof.Gen.MergeGatesIdeal.Points
public import proofs.«01_k».proof.Proof.Gen.MergeGatesIdeal.Frame
public import proofs.«01_k».proof.Proof.Gen.MergeGatesIdeal.Value
public import proofs.«01_k».proof.Proof.Gen.MergeGatesRefIdeal
public import proofs.«01_k».proof.Proof.Gen.MergeGatesRefIdeal.Run
public import proofs.«01_k».proof.Proof.Gen.MergeGatesRefIdeal.Read
public import proofs.«01_k».proof.Proof.Gen.GatedMerge
public import proofs.«01_k».proof.Proof.Gen.GatedMerge.Skeleton
public import proofs.«01_k».proof.Proof.Gen.GatedMerge.Launch
public import proofs.«01_k».proof.Proof.Gen.GatedMerge.Points
public import proofs.«01_k».proof.Proof.Gen.GatedMerge.Frame
public import proofs.«01_k».proof.Proof.Gen.GatedMergeIdeal
public import proofs.«01_k».proof.Proof.Gen.GatedMergeIdeal.Skeleton
public import proofs.«01_k».proof.Proof.Gen.GatedMergeIdeal.Launch
public import proofs.«01_k».proof.Proof.Gen.GatedMergeIdeal.Points
public import proofs.«01_k».proof.Proof.Gen.GatedMergeIdeal.Frame
public import proofs.«01_k».proof.Proof.Gen.GatedMergeIdeal.Value
public import proofs.«01_k».proof.Proof.Gen.GatedMergeRefIdeal
public import proofs.«01_k».proof.Proof.Gen.GatedMergeRefIdeal.Run
public import proofs.«01_k».proof.Proof.Gen.GatedMergeRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Values
public import proofs.«01_k».proof.Proof.Gen.Values.Skeleton
public import proofs.«01_k».proof.Proof.Gen.Values.Launch
public import proofs.«01_k».proof.Proof.Gen.Values.Points
public import proofs.«01_k».proof.Proof.Gen.Values.Frame
public import proofs.«01_k».proof.Proof.Gen.ValuesIdeal
public import proofs.«01_k».proof.Proof.Gen.ValuesIdeal.Skeleton
public import proofs.«01_k».proof.Proof.Gen.ValuesIdeal.Launch
public import proofs.«01_k».proof.Proof.Gen.ValuesIdeal.Points
public import proofs.«01_k».proof.Proof.Gen.ValuesIdeal.Frame
public import proofs.«01_k».proof.Proof.Gen.ValuesIdeal.Value
public import proofs.«01_k».proof.Proof.Gen.ValuesRefIdeal
public import proofs.«01_k».proof.Proof.Gen.ValuesRefIdeal.Run
public import proofs.«01_k».proof.Proof.Gen.ValuesRefIdeal.Read
public import proofs.«01_k».proof.Proof.Gen.ChunkInputs
public import proofs.«01_k».proof.Proof.Gen.ChunkInputs.Skeleton
public import proofs.«01_k».proof.Proof.Gen.ChunkInputs.Launch
public import proofs.«01_k».proof.Proof.Gen.ChunkInputs.Points
public import proofs.«01_k».proof.Proof.Gen.ChunkInputs.Frame
public import proofs.«01_k».proof.Proof.Gen.ChunkInputsIdeal
public import proofs.«01_k».proof.Proof.Gen.ChunkInputsIdeal.Skeleton
public import proofs.«01_k».proof.Proof.Gen.ChunkInputsIdeal.Launch
public import proofs.«01_k».proof.Proof.Gen.ChunkInputsIdeal.Points
public import proofs.«01_k».proof.Proof.Gen.ChunkInputsIdeal.Frame
public import proofs.«01_k».proof.Proof.Gen.ChunkInputsIdeal.Value
public import proofs.«01_k».proof.Proof.Gen.ChunkInputsRefIdeal
public import proofs.«01_k».proof.Proof.Gen.ChunkInputsRefIdeal.Run
public import proofs.«01_k».proof.Proof.Gen.ChunkInputsRefIdeal.Read
public import proofs.«01_k».proof.Proof.Gen.GatingInputs
public import proofs.«01_k».proof.Proof.Gen.GatingInputs.Skeleton
public import proofs.«01_k».proof.Proof.Gen.GatingInputs.Launch
public import proofs.«01_k».proof.Proof.Gen.GatingInputs.Points
public import proofs.«01_k».proof.Proof.Gen.GatingInputs.Frame
public import proofs.«01_k».proof.Proof.Gen.GatingInputsIdeal
public import proofs.«01_k».proof.Proof.Gen.GatingInputsIdeal.Skeleton
public import proofs.«01_k».proof.Proof.Gen.GatingInputsIdeal.Launch
public import proofs.«01_k».proof.Proof.Gen.GatingInputsIdeal.Points
public import proofs.«01_k».proof.Proof.Gen.GatingInputsIdeal.Frame
public import proofs.«01_k».proof.Proof.Gen.GatingInputsIdeal.Value
public import proofs.«01_k».proof.Proof.Gen.GatingInputsRefIdeal
public import proofs.«01_k».proof.Proof.Gen.GatingInputsRefIdeal.Run
public import proofs.«01_k».proof.Proof.Gen.GatingInputsRefIdeal.Read
public import proofs.«01_k».proof.Proof.Gen.MobaQueries
public import proofs.«01_k».proof.Proof.Gen.MobaQueries.Skeleton
public import proofs.«01_k».proof.Proof.Gen.MobaQueries.Launch
public import proofs.«01_k».proof.Proof.Gen.MobaQueries.Points
public import proofs.«01_k».proof.Proof.Gen.MobaQueries.Frame
public import proofs.«01_k».proof.Proof.Gen.MobaQueriesIdeal
public import proofs.«01_k».proof.Proof.Gen.MobaQueriesIdeal.Skeleton
public import proofs.«01_k».proof.Proof.Gen.MobaQueriesIdeal.Launch
public import proofs.«01_k».proof.Proof.Gen.MobaQueriesIdeal.Points
public import proofs.«01_k».proof.Proof.Gen.MobaQueriesIdeal.Frame
public import proofs.«01_k».proof.Proof.Gen.MobaQueriesIdeal.Value
public import proofs.«01_k».proof.Proof.Gen.MobaQueriesRefIdeal
public import proofs.«01_k».proof.Proof.Gen.MobaQueriesRefIdeal.Run
public import proofs.«01_k».proof.Proof.Gen.MobaQueriesRefIdeal.Read
public import proofs.«01_k».proof.Proof.Gen.MobaKeys
public import proofs.«01_k».proof.Proof.Gen.MobaKeys.Skeleton
public import proofs.«01_k».proof.Proof.Gen.MobaKeys.Launch
public import proofs.«01_k».proof.Proof.Gen.MobaKeys.Points
public import proofs.«01_k».proof.Proof.Gen.MobaKeys.Frame
public import proofs.«01_k».proof.Proof.Gen.MobaKeysIdeal
public import proofs.«01_k».proof.Proof.Gen.MobaKeysIdeal.Skeleton
public import proofs.«01_k».proof.Proof.Gen.MobaKeysIdeal.Launch
public import proofs.«01_k».proof.Proof.Gen.MobaKeysIdeal.Points
public import proofs.«01_k».proof.Proof.Gen.MobaKeysIdeal.Frame
public import proofs.«01_k».proof.Proof.Gen.MobaKeysIdeal.Value
public import proofs.«01_k».proof.Proof.Gen.MobaKeysRefIdeal
public import proofs.«01_k».proof.Proof.Gen.MobaKeysRefIdeal.Run
public import proofs.«01_k».proof.Proof.Gen.MobaKeysRefIdeal.Read
public import proofs.«01_k».proof.Proof.Gen.SparseKeys
public import proofs.«01_k».proof.Proof.Gen.SparseKeys.Skeleton
public import proofs.«01_k».proof.Proof.Gen.SparseKeys.Launch
public import proofs.«01_k».proof.Proof.Gen.SparseKeys.Points
public import proofs.«01_k».proof.Proof.Gen.SparseKeys.Frame
public import proofs.«01_k».proof.Proof.Gen.SparseKeysIdeal
public import proofs.«01_k».proof.Proof.Gen.SparseKeysIdeal.Skeleton
public import proofs.«01_k».proof.Proof.Gen.SparseKeysIdeal.Launch
public import proofs.«01_k».proof.Proof.Gen.SparseKeysIdeal.Points
public import proofs.«01_k».proof.Proof.Gen.SparseKeysIdeal.Frame
public import proofs.«01_k».proof.Proof.Gen.SparseKeysIdeal.Value
public import proofs.«01_k».proof.Proof.Gen.SparseKeysRefIdeal
public import proofs.«01_k».proof.Proof.Gen.SparseKeysRefIdeal.Run
public import proofs.«01_k».proof.Proof.Gen.SparseKeysRefIdeal.Read
public import proofs.«01_k».proof.Proof.Gen.SparseQueries
public import proofs.«01_k».proof.Proof.Gen.SparseQueries.Skeleton
public import proofs.«01_k».proof.Proof.Gen.SparseQueries.Launch
public import proofs.«01_k».proof.Proof.Gen.SparseQueries.Points
public import proofs.«01_k».proof.Proof.Gen.SparseQueries.Frame
public import proofs.«01_k».proof.Proof.Gen.SparseQueriesIdeal
public import proofs.«01_k».proof.Proof.Gen.SparseQueriesIdeal.Skeleton
public import proofs.«01_k».proof.Proof.Gen.SparseQueriesIdeal.Launch
public import proofs.«01_k».proof.Proof.Gen.SparseQueriesIdeal.Points
public import proofs.«01_k».proof.Proof.Gen.SparseQueriesIdeal.Frame
public import proofs.«01_k».proof.Proof.Gen.SparseQueriesIdeal.Value
public import proofs.«01_k».proof.Proof.Gen.SparseQueriesRefIdeal
public import proofs.«01_k».proof.Proof.Gen.SparseQueriesRefIdeal.Run
public import proofs.«01_k».proof.Proof.Gen.SparseQueriesRefIdeal.Read
public import proofs.«01_k».proof.Proof.Gen.RowNorm
public import proofs.«01_k».proof.Proof.Gen.RowNorm.Skeleton
public import proofs.«01_k».proof.Proof.Gen.RowNorm.Launch
public import proofs.«01_k».proof.Proof.Gen.RowNorm.Points
public import proofs.«01_k».proof.Proof.Gen.RowNorm.Frame
public import proofs.«01_k».proof.Proof.Gen.RowNormIdeal
public import proofs.«01_k».proof.Proof.Gen.RowNormIdeal.Skeleton
public import proofs.«01_k».proof.Proof.Gen.RowNormIdeal.Launch
public import proofs.«01_k».proof.Proof.Gen.RowNormIdeal.Points
public import proofs.«01_k».proof.Proof.Gen.RowNormIdeal.Frame
public import proofs.«01_k».proof.Proof.Gen.RowNormIdeal.Value
public import proofs.«01_k».proof.Proof.Gen.RowNormRefIdeal
public import proofs.«01_k».proof.Proof.Gen.RowNormRefIdeal.Run
public import proofs.«01_k».proof.Proof.Gen.RowNormRefIdeal.Read
public import proofs.«01_k».proof.Proof.Gen.BranchGates
public import proofs.«01_k».proof.Proof.Gen.BranchGates.Skeleton
public import proofs.«01_k».proof.Proof.Gen.BranchGates.Launch
public import proofs.«01_k».proof.Proof.Gen.BranchGates.Points
public import proofs.«01_k».proof.Proof.Gen.BranchGates.Frame
public import proofs.«01_k».proof.Proof.Gen.BranchGatesIdeal
public import proofs.«01_k».proof.Proof.Gen.BranchGatesIdeal.Skeleton
public import proofs.«01_k».proof.Proof.Gen.BranchGatesIdeal.Launch
public import proofs.«01_k».proof.Proof.Gen.BranchGatesIdeal.Points
public import proofs.«01_k».proof.Proof.Gen.BranchGatesIdeal.Frame
public import proofs.«01_k».proof.Proof.Gen.BranchGatesIdeal.Value
public import proofs.«01_k».proof.Proof.Gen.BranchGatesRefIdeal
public import proofs.«01_k».proof.Proof.Gen.BranchGatesRefIdeal.Run
public import proofs.«01_k».proof.Proof.Gen.BranchGatesRefIdeal.Read
public import proofs.«01_k».proof.Proof.Gen.BranchSum
public import proofs.«01_k».proof.Proof.Gen.BranchSum.Skeleton
public import proofs.«01_k».proof.Proof.Gen.BranchSum.Launch
public import proofs.«01_k».proof.Proof.Gen.BranchSum.Points
public import proofs.«01_k».proof.Proof.Gen.BranchSum.Frame
public import proofs.«01_k».proof.Proof.Gen.BranchSumIdeal
public import proofs.«01_k».proof.Proof.Gen.BranchSumIdeal.Skeleton
public import proofs.«01_k».proof.Proof.Gen.BranchSumIdeal.Launch
public import proofs.«01_k».proof.Proof.Gen.BranchSumIdeal.Points
public import proofs.«01_k».proof.Proof.Gen.BranchSumIdeal.Frame
public import proofs.«01_k».proof.Proof.Gen.BranchSumIdeal.Value
public import proofs.«01_k».proof.Proof.Gen.BranchSumRefIdeal
public import proofs.«01_k».proof.Proof.Gen.BranchSumRefIdeal.Run
public import proofs.«01_k».proof.Proof.Gen.BranchSumRefIdeal.Read
public import proofs.«01_k».proof.Proof.Gen.CompressValues
public import proofs.«01_k».proof.Proof.Gen.CompressValues.Skeleton
public import proofs.«01_k».proof.Proof.Gen.CompressValues.Launch
public import proofs.«01_k».proof.Proof.Gen.CompressValues.Points
public import proofs.«01_k».proof.Proof.Gen.CompressValues.Frame
public import proofs.«01_k».proof.Proof.Gen.CompressValuesIdeal
public import proofs.«01_k».proof.Proof.Gen.CompressValuesIdeal.Skeleton
public import proofs.«01_k».proof.Proof.Gen.CompressValuesIdeal.Launch
public import proofs.«01_k».proof.Proof.Gen.CompressValuesIdeal.Points
public import proofs.«01_k».proof.Proof.Gen.CompressValuesIdeal.Frame
public import proofs.«01_k».proof.Proof.Gen.CompressValuesIdeal.Value
public import proofs.«01_k».proof.Proof.Gen.CompressValuesRefIdeal
public import proofs.«01_k».proof.Proof.Gen.CompressValuesRefIdeal.Run
public import proofs.«01_k».proof.Proof.Gen.CompressValuesRefIdeal.Read
public import proofs.«01_k».proof.Proof.Gen.CompressKeys
public import proofs.«01_k».proof.Proof.Gen.CompressKeys.Skeleton
public import proofs.«01_k».proof.Proof.Gen.CompressKeys.Launch
public import proofs.«01_k».proof.Proof.Gen.CompressKeys.Points
public import proofs.«01_k».proof.Proof.Gen.CompressKeys.Frame
public import proofs.«01_k».proof.Proof.Gen.CompressKeysIdeal
public import proofs.«01_k».proof.Proof.Gen.CompressKeysIdeal.Skeleton
public import proofs.«01_k».proof.Proof.Gen.CompressKeysIdeal.Launch
public import proofs.«01_k».proof.Proof.Gen.CompressKeysIdeal.Points
public import proofs.«01_k».proof.Proof.Gen.CompressKeysIdeal.Frame
public import proofs.«01_k».proof.Proof.Gen.CompressKeysIdeal.Value
public import proofs.«01_k».proof.Proof.Gen.CompressKeysRefIdeal
public import proofs.«01_k».proof.Proof.Gen.CompressKeysRefIdeal.Run
public import proofs.«01_k».proof.Proof.Gen.CompressKeysRefIdeal.Read
public import proofs.«01_k».proof.Proof.Gen.Pre_finite_scores
public import Idealize.ShloMosaic.Adequacy
public import Idealize.ShloMosaic.Init
public import proofs.«01_k».proof.Proof.Window
public import proofs.«01_k».proof.Proof.MlpUp
public import proofs.«01_k».proof.Proof.MlpDown
public import proofs.«01_k».proof.Proof.MergeGates
public import proofs.«01_k».proof.Proof.GatedMerge
public import proofs.«01_k».proof.Proof.OutProj
public import proofs.«01_k».proof.Proof.Values
public import proofs.«01_k».proof.Proof.ChunkInputs
public import proofs.«01_k».proof.Proof.GatingInputs
public import proofs.«01_k».proof.Proof.MobaQueries
public import proofs.«01_k».proof.Proof.MobaKeys
public import proofs.«01_k».proof.Proof.SparseKeys
public import proofs.«01_k».proof.Proof.SparseQueries
public import proofs.«01_k».proof.Proof.RowNorm
public import proofs.«01_k».proof.Proof.BranchGates
public import proofs.«01_k».proof.Proof.BranchSum
public import proofs.«01_k».proof.Proof.CompressValues
public import proofs.«01_k».proof.Proof.CompressKeys

@[expose] public section

noncomputable section

namespace Cert.Proof

open Idealize.ShloMosaic Idealize.SL.Sem

/-- Every claim of the certificate. -/
theorem claim : Cert.Claim := ⟨Cert.Window.Gen.facts, Cert.WindowIdeal.Gen.facts, Cert.WindowRefIdeal.Gen.facts, Cert.MlpUp.Gen.facts, Cert.MlpUpIdeal.Gen.facts, Cert.MlpUpRefIdeal.Gen.facts, Cert.MlpDown.Gen.facts, Cert.MlpDownIdeal.Gen.facts, Cert.MlpDownRefIdeal.Gen.facts, Cert.MergeGates.Gen.facts, Cert.MergeGatesIdeal.Gen.facts, Cert.MergeGatesRefIdeal.Gen.facts, Cert.GatedMerge.Gen.facts, Cert.GatedMergeIdeal.Gen.facts, Cert.GatedMergeRefIdeal.Gen.facts, Cert.OutProj.Gen.facts, Cert.OutProjIdeal.Gen.facts, Cert.OutProjRefIdeal.Gen.facts, Cert.Values.Gen.facts, Cert.ValuesIdeal.Gen.facts, Cert.ValuesRefIdeal.Gen.facts, Cert.ChunkInputs.Gen.facts, Cert.ChunkInputsIdeal.Gen.facts, Cert.ChunkInputsRefIdeal.Gen.facts, Cert.GatingInputs.Gen.facts, Cert.GatingInputsIdeal.Gen.facts, Cert.GatingInputsRefIdeal.Gen.facts, Cert.MobaQueries.Gen.facts, Cert.MobaQueriesIdeal.Gen.facts, Cert.MobaQueriesRefIdeal.Gen.facts, Cert.MobaKeys.Gen.facts, Cert.MobaKeysIdeal.Gen.facts, Cert.MobaKeysRefIdeal.Gen.facts, Cert.SparseKeys.Gen.facts, Cert.SparseKeysIdeal.Gen.facts, Cert.SparseKeysRefIdeal.Gen.facts, Cert.SparseQueries.Gen.facts, Cert.SparseQueriesIdeal.Gen.facts, Cert.SparseQueriesRefIdeal.Gen.facts, Cert.RowNorm.Gen.facts, Cert.RowNormIdeal.Gen.facts, Cert.RowNormRefIdeal.Gen.facts, Cert.BranchGates.Gen.facts, Cert.BranchGatesIdeal.Gen.facts, Cert.BranchGatesRefIdeal.Gen.facts, Cert.BranchSum.Gen.facts, Cert.BranchSumIdeal.Gen.facts, Cert.BranchSumRefIdeal.Gen.facts, Cert.CompressValues.Gen.facts, Cert.CompressValuesIdeal.Gen.facts, Cert.CompressValuesRefIdeal.Gen.facts, Cert.CompressKeys.Gen.facts, Cert.CompressKeysIdeal.Gen.facts, Cert.CompressKeysRefIdeal.Gen.facts, Cert.Pre_finite_scores.Gen.facts,
  fun m ρ _ => Cert.Window.Gen.frame m ρ,
  fun m ρ _ => Cert.WindowIdeal.Gen.frame m ρ,
  fun m ρ _ => Cert.WindowIdeal.Gen.frame m ρ,
  fun m ρ _ => (θ_run Cert.WindowRefIdeal.defs _ _).mono (fun r h => ⟨fun c => (h c).2, sem_eq_zero_of_no_sems (by decide) r.2⟩) (Cert.WindowRefIdeal.Value.run (F := Ideal) m ρ),
  fun m ρ _ => (θ_run Cert.WindowRefIdeal.defs _ _).mono (fun r h => ⟨fun c => (h c).2, sem_eq_zero_of_no_sems (by decide) r.2⟩) (Cert.WindowRefIdeal.Value.run (F := Ideal) m ρ),
  fun m ρ _ => Cert.MlpUp.Gen.frame m ρ,
  fun m ρ _ => Cert.MlpUpIdeal.Gen.frame m ρ,
  fun m ρ _ => (θ_run Cert.MlpUpRefIdeal.defs _ _).mono (fun r h => ⟨fun c => (h c).2, sem_eq_zero_of_no_sems (by decide) r.2⟩) (Cert.MlpUpRefIdeal.Value.run (F := Ideal) m ρ),
  fun m ρ _ => Cert.MlpDown.Gen.frame m ρ,
  fun m ρ _ => Cert.MlpDownIdeal.Gen.frame m ρ,
  fun m ρ _ => (θ_run Cert.MlpDownRefIdeal.defs _ _).mono (fun r h => ⟨fun c => (h c).2, sem_eq_zero_of_no_sems (by decide) r.2⟩) (Cert.MlpDownRefIdeal.Value.run (F := Ideal) m ρ),
  fun m ρ _ => Cert.MergeGates.Gen.frame m ρ,
  fun m ρ _ => Cert.MergeGatesIdeal.Gen.frame m ρ,
  fun m ρ _ => (θ_run Cert.MergeGatesRefIdeal.defs _ _).mono (fun r h => ⟨fun c => (h c).2, sem_eq_zero_of_no_sems (by decide) r.2⟩) (Cert.MergeGatesRefIdeal.Value.run (F := Ideal) m ρ),
  fun m ρ _ => Cert.GatedMerge.Gen.frame m ρ,
  fun m ρ _ => Cert.GatedMergeIdeal.Gen.frame m ρ,
  fun m ρ _ => (θ_run Cert.GatedMergeRefIdeal.defs _ _).mono (fun r h => ⟨fun c => (h c).2, sem_eq_zero_of_no_sems (by decide) r.2⟩) (Cert.GatedMergeRefIdeal.Value.run (F := Ideal) m ρ),
  fun m ρ _ => Cert.OutProj.Gen.frame m ρ,
  fun m ρ _ => Cert.OutProjIdeal.Gen.frame m ρ,
  fun m ρ _ => (θ_run Cert.OutProjRefIdeal.defs _ _).mono (fun r h => ⟨fun c => (h c).2, sem_eq_zero_of_no_sems (by decide) r.2⟩) (Cert.OutProjRefIdeal.Value.run (F := Ideal) m ρ),
  fun m ρ _ => Cert.Values.Gen.frame m ρ,
  fun m ρ _ => Cert.ValuesIdeal.Gen.frame m ρ,
  fun m ρ _ => (θ_run Cert.ValuesRefIdeal.defs _ _).mono (fun r h => ⟨fun c => (h c).2, sem_eq_zero_of_no_sems (by decide) r.2⟩) (Cert.ValuesRefIdeal.Value.run (F := Ideal) m ρ),
  fun m ρ _ => Cert.ChunkInputs.Gen.frame m ρ,
  fun m ρ _ => Cert.ChunkInputsIdeal.Gen.frame m ρ,
  fun m ρ _ => (θ_run Cert.ChunkInputsRefIdeal.defs _ _).mono (fun r h => ⟨fun c => (h c).2, sem_eq_zero_of_no_sems (by decide) r.2⟩) (Cert.ChunkInputsRefIdeal.Value.run (F := Ideal) m ρ),
  fun m ρ _ => Cert.GatingInputs.Gen.frame m ρ,
  fun m ρ _ => Cert.GatingInputsIdeal.Gen.frame m ρ,
  fun m ρ _ => (θ_run Cert.GatingInputsRefIdeal.defs _ _).mono (fun r h => ⟨fun c => (h c).2, sem_eq_zero_of_no_sems (by decide) r.2⟩) (Cert.GatingInputsRefIdeal.Value.run (F := Ideal) m ρ),
  fun m ρ _ => Cert.MobaQueries.Gen.frame m ρ,
  fun m ρ _ => Cert.MobaQueriesIdeal.Gen.frame m ρ,
  fun m ρ _ => (θ_run Cert.MobaQueriesRefIdeal.defs _ _).mono (fun r h => ⟨fun c => (h c).2, sem_eq_zero_of_no_sems (by decide) r.2⟩) (Cert.MobaQueriesRefIdeal.Value.run (F := Ideal) m ρ),
  fun m ρ _ => Cert.MobaKeys.Gen.frame m ρ,
  fun m ρ _ => Cert.MobaKeysIdeal.Gen.frame m ρ,
  fun m ρ _ => (θ_run Cert.MobaKeysRefIdeal.defs _ _).mono (fun r h => ⟨fun c => (h c).2.2, sem_eq_zero_of_no_sems (by decide) r.2⟩) (Cert.MobaKeysRefIdeal.Value.run (F := Ideal) m ρ),
  fun m ρ _ => Cert.SparseKeys.Gen.frame m ρ,
  fun m ρ _ => Cert.SparseKeysIdeal.Gen.frame m ρ,
  fun m ρ _ => (θ_run Cert.SparseKeysRefIdeal.defs _ _).mono (fun r h => ⟨fun c => (h c).2, sem_eq_zero_of_no_sems (by decide) r.2⟩) (Cert.SparseKeysRefIdeal.Value.run (F := Ideal) m ρ),
  fun m ρ _ => Cert.SparseQueries.Gen.frame m ρ,
  fun m ρ _ => Cert.SparseQueriesIdeal.Gen.frame m ρ,
  fun m ρ _ => (θ_run Cert.SparseQueriesRefIdeal.defs _ _).mono (fun r h => ⟨fun c => (h c).2.2, sem_eq_zero_of_no_sems (by decide) r.2⟩) (Cert.SparseQueriesRefIdeal.Value.run (F := Ideal) m ρ),
  fun m ρ _ => Cert.RowNorm.Gen.frame m ρ,
  fun m ρ _ => Cert.RowNormIdeal.Gen.frame m ρ,
  fun m ρ _ => (θ_run Cert.RowNormRefIdeal.defs _ _).mono (fun r h => ⟨fun c => (h c).2, sem_eq_zero_of_no_sems (by decide) r.2⟩) (Cert.RowNormRefIdeal.Value.run (F := Ideal) m ρ),
  fun m ρ _ => Cert.BranchGates.Gen.frame m ρ,
  fun m ρ _ => Cert.BranchGatesIdeal.Gen.frame m ρ,
  fun m ρ _ => (θ_run Cert.BranchGatesRefIdeal.defs _ _).mono (fun r h => ⟨fun c => (h c).2, sem_eq_zero_of_no_sems (by decide) r.2⟩) (Cert.BranchGatesRefIdeal.Value.run (F := Ideal) m ρ),
  fun m ρ _ => Cert.BranchSum.Gen.frame m ρ,
  fun m ρ _ => Cert.BranchSumIdeal.Gen.frame m ρ,
  fun m ρ _ => (θ_run Cert.BranchSumRefIdeal.defs _ _).mono (fun r h => ⟨fun c => (h c).2, sem_eq_zero_of_no_sems (by decide) r.2⟩) (Cert.BranchSumRefIdeal.Value.run (F := Ideal) m ρ),
  fun m ρ _ => Cert.CompressValues.Gen.frame m ρ,
  fun m ρ _ => Cert.CompressValuesIdeal.Gen.frame m ρ,
  fun m ρ _ => (θ_run Cert.CompressValuesRefIdeal.defs _ _).mono (fun r h => ⟨fun c => (h c).2, sem_eq_zero_of_no_sems (by decide) r.2⟩) (Cert.CompressValuesRefIdeal.Value.run (F := Ideal) m ρ),
  fun m ρ _ => Cert.CompressKeys.Gen.frame m ρ,
  fun m ρ _ => Cert.CompressKeysIdeal.Gen.frame m ρ,
  fun m ρ _ => (θ_run Cert.CompressKeysRefIdeal.defs _ _).mono (fun r h => ⟨fun c => (h c).2, sem_eq_zero_of_no_sems (by decide) r.2⟩) (Cert.CompressKeysRefIdeal.Value.run (F := Ideal) m ρ),
  IdealRules.named_const.statement Cert.WindowIdeal.κ "mask" .f32 0xF149F2CA#32 ⊥ rfl,
  algebraic_window,
  trivial,
  algebraic_mlp_up,
  trivial,
  algebraic_mlp_down,
  trivial,
  algebraic_merge_gates,
  trivial,
  algebraic_gated_merge,
  trivial,
  algebraic_out_proj,
  trivial,
  algebraic_values,
  trivial,
  algebraic_chunk_inputs,
  trivial,
  algebraic_gating_inputs,
  trivial,
  algebraic_moba_queries,
  trivial,
  algebraic_moba_keys,
  trivial,
  algebraic_sparse_keys,
  trivial,
  algebraic_sparse_queries,
  trivial,
  algebraic_row_norm,
  trivial,
  algebraic_branch_gates,
  trivial,
  algebraic_branch_sum,
  trivial,
  algebraic_compress_values,
  trivial,
  algebraic_compress_keys⟩

end Cert.Proof

end
